-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruReferenceIdeal (m : (ℓ : Loc Cert.LruReferenceIdeal.nD Cert.LruReferenceIdeal.τ Cert.LruReferenceIdeal.sig) → Buf (Elt Ideal) ℓ) : Prop :=
  True

def Pre_Ffn [hPre_experts_exist : Cert.Pre_experts_exist.Facts] (m : (ℓ : Loc Cert.Ffn.nD Cert.Ffn.τ Cert.Ffn.sig) → Buf (Elt Bits) ℓ) : Prop :=
  ∀ c : Dev Cert.Ffn.nD,
    (Cert.Pre_experts_exist.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_experts_exist : Cert.Pre_experts_exist.Facts] (m : (ℓ : Loc Cert.FfnIdeal.nD Cert.FfnIdeal.τ Cert.FfnIdeal.sig) → Buf (Elt Ideal) ℓ) : Prop :=
  ∀ c : Dev Cert.FfnIdeal.nD,
    (Cert.Pre_experts_exist.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_experts_exist [hPre_experts_exist : Cert.Pre_experts_exist.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_experts_exist.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_InProjOdd (m : (ℓ : Loc Cert.InProjOdd.nD Cert.InProjOdd.τ Cert.InProjOdd.sig) → Buf (Elt Bits) ℓ) : Prop :=
  True

def Pre_InProjOddIdeal (m : (ℓ : Loc Cert.InProjOddIdeal.nD Cert.InProjOddIdeal.τ Cert.InProjOddIdeal.sig) → Buf (Elt Ideal) ℓ) : Prop :=
  True

def Pre_InProjOddReferenceIdeal (m : (ℓ : Loc Cert.InProjOddReferenceIdeal.nD Cert.InProjOddReferenceIdeal.τ Cert.InProjOddReferenceIdeal.sig) → Buf (Elt Ideal) ℓ) : Prop :=
  True

def Pre_OutProjOdd (m : (ℓ : Loc Cert.OutProjOdd.nD Cert.OutProjOdd.τ Cert.OutProjOdd.sig) → Buf (Elt Bits) ℓ) : Prop :=
  True

def Pre_OutProjOddIdeal (m : (ℓ : Loc Cert.OutProjOddIdeal.nD Cert.OutProjOddIdeal.τ Cert.OutProjOddIdeal.sig) → Buf (Elt Ideal) ℓ) : Prop :=
  True

def Pre_OutProjOddReferenceIdeal (m : (ℓ : Loc Cert.OutProjOddReferenceIdeal.nD Cert.OutProjOddReferenceIdeal.τ Cert.OutProjOddReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_LruReferenceIdeal [hLruReferenceIdeal : Cert.LruReferenceIdeal.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1)
      ∧ r.2.mem ((c.tc : Thread Cert.LruReferenceIdeal.nD Cert.LruReferenceIdeal.τ).loc Cert.LruReferenceIdeal.main_arg2) = m ((c.tc : Thread Cert.LruReferenceIdeal.nD Cert.LruReferenceIdeal.τ).loc Cert.LruReferenceIdeal.main_arg2)
      ∧ r.2.mem ((c.tc : Thread Cert.LruReferenceIdeal.nD Cert.LruReferenceIdeal.τ).loc Cert.LruReferenceIdeal.main_arg3) = m ((c.tc : Thread Cert.LruReferenceIdeal.nD Cert.LruReferenceIdeal.τ).loc Cert.LruReferenceIdeal.main_arg3)
      ∧ r.2.mem ((c.tc : Thread Cert.LruReferenceIdeal.nD Cert.LruReferenceIdeal.τ).loc Cert.LruReferenceIdeal.main_arg4) = m ((c.tc : Thread Cert.LruReferenceIdeal.nD Cert.LruReferenceIdeal.τ).loc Cert.LruReferenceIdeal.main_arg4)
      ∧ r.2.mem ((c.tc : Thread Cert.LruReferenceIdeal.nD Cert.LruReferenceIdeal.τ).loc Cert.LruReferenceIdeal.main_arg5) = m ((c.tc : Thread Cert.LruReferenceIdeal.nD Cert.LruReferenceIdeal.τ).loc Cert.LruReferenceIdeal.main_arg5)
      ∧ r.2.mem ((c.tc : Thread Cert.LruReferenceIdeal.nD Cert.LruReferenceIdeal.τ).loc Cert.LruReferenceIdeal.main_arg6) = m ((c.tc : Thread Cert.LruReferenceIdeal.nD Cert.LruReferenceIdeal.τ).loc Cert.LruReferenceIdeal.main_arg6)
      ∧ r.2.mem ((c.tc : Thread Cert.LruReferenceIdeal.nD Cert.LruReferenceIdeal.τ).loc Cert.LruReferenceIdeal.main_arg7) = m ((c.tc : Thread Cert.LruReferenceIdeal.nD Cert.LruReferenceIdeal.τ).loc Cert.LruReferenceIdeal.main_arg7)
      ∧ r.2.mem ((c.tc : Thread Cert.LruReferenceIdeal.nD Cert.LruReferenceIdeal.τ).loc Cert.LruReferenceIdeal.main_arg8) = m ((c.tc : Thread Cert.LruReferenceIdeal.nD Cert.LruReferenceIdeal.τ).loc Cert.LruReferenceIdeal.main_arg8))
      ∧ r.2.sem = fun _ => 0)

def quiescent_Ffn [hFfn : Cert.Ffn.Facts] [hPre_experts_exist : Cert.Pre_experts_exist.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_experts_exist : Cert.Pre_experts_exist.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_experts_exist [hFfnReferenceIdeal : Cert.FfnReferenceIdeal.Facts] [hPre_experts_exist : Cert.Pre_experts_exist.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_experts_exist m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_InProjOdd [hInProjOdd : Cert.InProjOdd.Facts] : Prop :=
  ∀ (m : (ℓ : Loc Cert.InProjOdd.nD Cert.InProjOdd.τ Cert.InProjOdd.sig) → Buf (Elt Bits) ℓ) (g : Dev Cert.InProjOdd.nD → PrngReg), Pre_InProjOdd m →
    θ_run (Cert.InProjOdd.defs (F := Bits)) (onTc (τ := Cert.InProjOdd.τ) (Cert.InProjOdd.main (F := Bits))) ⟨m, fun _ => 0, g⟩ (fun r => (∀ c : Dev Cert.InProjOdd.nD,
      r.2.mem ((c.tc : Thread Cert.InProjOdd.nD Cert.InProjOdd.τ).loc Cert.InProjOdd.main_arg0) = m ((c.tc : Thread Cert.InProjOdd.nD Cert.InProjOdd.τ).loc Cert.InProjOdd.main_arg0)
      ∧ r.2.mem ((c.tc : Thread Cert.InProjOdd.nD Cert.InProjOdd.τ).loc Cert.InProjOdd.main_arg1) = m ((c.tc : Thread Cert.InProjOdd.nD Cert.InProjOdd.τ).loc Cert.InProjOdd.main_arg1)
      ∧ r.2.mem ((c.tc : Thread Cert.InProjOdd.nD Cert.InProjOdd.τ).loc Cert.InProjOdd.main_arg2) = m ((c.tc : Thread Cert.InProjOdd.nD Cert.InProjOdd.τ).loc Cert.InProjOdd.main_arg2))
      ∧ r.2.sem = fun _ => 0)

def quiescent_InProjOddIdeal [hInProjOddIdeal : Cert.InProjOddIdeal.Facts] : Prop :=
  ∀ (m : (ℓ : Loc Cert.InProjOddIdeal.nD Cert.InProjOddIdeal.τ Cert.InProjOddIdeal.sig) → Buf (Elt Ideal) ℓ) (g : Dev Cert.InProjOddIdeal.nD → PrngReg), Pre_InProjOddIdeal m →
    θ_run (Cert.InProjOddIdeal.defs (F := Ideal)) (onTc (τ := Cert.InProjOddIdeal.τ) (Cert.InProjOddIdeal.main (F := Ideal))) ⟨m, fun _ => 0, g⟩ (fun r => (∀ c : Dev Cert.InProjOddIdeal.nD,
      r.2.mem ((c.tc : Thread Cert.InProjOddIdeal.nD Cert.InProjOddIdeal.τ).loc Cert.InProjOddIdeal.main_arg0) = m ((c.tc : Thread Cert.InProjOddIdeal.nD Cert.InProjOddIdeal.τ).loc Cert.InProjOddIdeal.main_arg0)
      ∧ r.2.mem ((c.tc : Thread Cert.InProjOddIdeal.nD Cert.InProjOddIdeal.τ).loc Cert.InProjOddIdeal.main_arg1) = m ((c.tc : Thread Cert.InProjOddIdeal.nD Cert.InProjOddIdeal.τ).loc Cert.InProjOddIdeal.main_arg1)
      ∧ r.2.mem ((c.tc : Thread Cert.InProjOddIdeal.nD Cert.InProjOddIdeal.τ).loc Cert.InProjOddIdeal.main_arg2) = m ((c.tc : Thread Cert.InProjOddIdeal.nD Cert.InProjOddIdeal.τ).loc Cert.InProjOddIdeal.main_arg2))
      ∧ r.2.sem = fun _ => 0)

def quiescent_InProjOddReferenceIdeal [hInProjOddReferenceIdeal : Cert.InProjOddReferenceIdeal.Facts] : Prop :=
  ∀ (m : (ℓ : Loc Cert.InProjOddReferenceIdeal.nD Cert.InProjOddReferenceIdeal.τ Cert.InProjOddReferenceIdeal.sig) → Buf (Elt Ideal) ℓ) (g : Dev Cert.InProjOddReferenceIdeal.nD → PrngReg), Pre_InProjOddReferenceIdeal m →
    θ_run (Cert.InProjOddReferenceIdeal.defs (F := Ideal)) (onTc (τ := Cert.InProjOddReferenceIdeal.τ) (Cert.InProjOddReferenceIdeal.main (F := Ideal))) ⟨m, fun _ => 0, g⟩ (fun r => (∀ c : Dev Cert.InProjOddReferenceIdeal.nD,
      r.2.mem ((c.tc : Thread Cert.InProjOddReferenceIdeal.nD Cert.InProjOddReferenceIdeal.τ).loc Cert.InProjOddReferenceIdeal.main_arg0) = m ((c.tc : Thread Cert.InProjOddReferenceIdeal.nD Cert.InProjOddReferenceIdeal.τ).loc Cert.InProjOddReferenceIdeal.main_arg0)
      ∧ r.2.mem ((c.tc : Thread Cert.InProjOddReferenceIdeal.nD Cert.InProjOddReferenceIdeal.τ).loc Cert.InProjOddReferenceIdeal.main_arg1) = m ((c.tc : Thread Cert.InProjOddReferenceIdeal.nD Cert.InProjOddReferenceIdeal.τ).loc Cert.InProjOddReferenceIdeal.main_arg1)
      ∧ r.2.mem ((c.tc : Thread Cert.InProjOddReferenceIdeal.nD Cert.InProjOddReferenceIdeal.τ).loc Cert.InProjOddReferenceIdeal.main_arg2) = m ((c.tc : Thread Cert.InProjOddReferenceIdeal.nD Cert.InProjOddReferenceIdeal.τ).loc Cert.InProjOddReferenceIdeal.main_arg2))
      ∧ r.2.sem = fun _ => 0)

def quiescent_OutProjOdd [hOutProjOdd : Cert.OutProjOdd.Facts] : Prop :=
  ∀ (m : (ℓ : Loc Cert.OutProjOdd.nD Cert.OutProjOdd.τ Cert.OutProjOdd.sig) → Buf (Elt Bits) ℓ) (g : Dev Cert.OutProjOdd.nD → PrngReg), Pre_OutProjOdd m →
    θ_run (Cert.OutProjOdd.defs (F := Bits)) (onTc (τ := Cert.OutProjOdd.τ) (Cert.OutProjOdd.main (F := Bits))) ⟨m, fun _ => 0, g⟩ (fun r => (∀ c : Dev Cert.OutProjOdd.nD,
      r.2.mem ((c.tc : Thread Cert.OutProjOdd.nD Cert.OutProjOdd.τ).loc Cert.OutProjOdd.main_arg0) = m ((c.tc : Thread Cert.OutProjOdd.nD Cert.OutProjOdd.τ).loc Cert.OutProjOdd.main_arg0)
      ∧ r.2.mem ((c.tc : Thread Cert.OutProjOdd.nD Cert.OutProjOdd.τ).loc Cert.OutProjOdd.main_arg1) = m ((c.tc : Thread Cert.OutProjOdd.nD Cert.OutProjOdd.τ).loc Cert.OutProjOdd.main_arg1)
      ∧ r.2.mem ((c.tc : Thread Cert.OutProjOdd.nD Cert.OutProjOdd.τ).loc Cert.OutProjOdd.main_arg2) = m ((c.tc : Thread Cert.OutProjOdd.nD Cert.OutProjOdd.τ).loc Cert.OutProjOdd.main_arg2))
      ∧ r.2.sem = fun _ => 0)

def quiescent_OutProjOddIdeal [hOutProjOddIdeal : Cert.OutProjOddIdeal.Facts] : Prop :=
  ∀ (m : (ℓ : Loc Cert.OutProjOddIdeal.nD Cert.OutProjOddIdeal.τ Cert.OutProjOddIdeal.sig) → Buf (Elt Ideal) ℓ) (g : Dev Cert.OutProjOddIdeal.nD → PrngReg), Pre_OutProjOddIdeal m →
    θ_run (Cert.OutProjOddIdeal.defs (F := Ideal)) (onTc (τ := Cert.OutProjOddIdeal.τ) (Cert.OutProjOddIdeal.main (F := Ideal))) ⟨m, fun _ => 0, g⟩ (fun r => (∀ c : Dev Cert.OutProjOddIdeal.nD,
      r.2.mem ((c.tc : Thread Cert.OutProjOddIdeal.nD Cert.OutProjOddIdeal.τ).loc Cert.OutProjOddIdeal.main_arg0) = m ((c.tc : Thread Cert.OutProjOddIdeal.nD Cert.OutProjOddIdeal.τ).loc Cert.OutProjOddIdeal.main_arg0)
      ∧ r.2.mem ((c.tc : Thread Cert.OutProjOddIdeal.nD Cert.OutProjOddIdeal.τ).loc Cert.OutProjOddIdeal.main_arg1) = m ((c.tc : Thread Cert.OutProjOddIdeal.nD Cert.OutProjOddIdeal.τ).loc Cert.OutProjOddIdeal.main_arg1)
      ∧ r.2.mem ((c.tc : Thread Cert.OutProjOddIdeal.nD Cert.OutProjOddIdeal.τ).loc Cert.OutProjOddIdeal.main_arg2) = m ((c.tc : Thread Cert.OutProjOddIdeal.nD Cert.OutProjOddIdeal.τ).loc Cert.OutProjOddIdeal.main_arg2))
      ∧ r.2.sem = fun _ => 0)

def quiescent_OutProjOddReferenceIdeal [hOutProjOddReferenceIdeal : Cert.OutProjOddReferenceIdeal.Facts] : Prop :=
  ∀ (m : (ℓ : Loc Cert.OutProjOddReferenceIdeal.nD Cert.OutProjOddReferenceIdeal.τ Cert.OutProjOddReferenceIdeal.sig) → Buf (Elt Ideal) ℓ) (g : Dev Cert.OutProjOddReferenceIdeal.nD → PrngReg), Pre_OutProjOddReferenceIdeal m →
    θ_run (Cert.OutProjOddReferenceIdeal.defs (F := Ideal)) (onTc (τ := Cert.OutProjOddReferenceIdeal.τ) (Cert.OutProjOddReferenceIdeal.main (F := Ideal))) ⟨m, fun _ => 0, g⟩ (fun r => (∀ c : Dev Cert.OutProjOddReferenceIdeal.nD,
      r.2.mem ((c.tc : Thread Cert.OutProjOddReferenceIdeal.nD Cert.OutProjOddReferenceIdeal.τ).loc Cert.OutProjOddReferenceIdeal.main_arg0) = m ((c.tc : Thread Cert.OutProjOddReferenceIdeal.nD Cert.OutProjOddReferenceIdeal.τ).loc Cert.OutProjOddReferenceIdeal.main_arg0)
      ∧ r.2.mem ((c.tc : Thread Cert.OutProjOddReferenceIdeal.nD Cert.OutProjOddReferenceIdeal.τ).loc Cert.OutProjOddReferenceIdeal.main_arg1) = m ((c.tc : Thread Cert.OutProjOddReferenceIdeal.nD Cert.OutProjOddReferenceIdeal.τ).loc Cert.OutProjOddReferenceIdeal.main_arg1)
      ∧ r.2.mem ((c.tc : Thread Cert.OutProjOddReferenceIdeal.nD Cert.OutProjOddReferenceIdeal.τ).loc Cert.OutProjOddReferenceIdeal.main_arg2) = m ((c.tc : Thread Cert.OutProjOddReferenceIdeal.nD Cert.OutProjOddReferenceIdeal.τ).loc Cert.OutProjOddReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9))
      ∧ r.2.sem = fun _ => 0)

def preserves_Lru_LruIdeal : Prop :=
  True

def algebraic_LruIdeal_LruReferenceIdeal [hLruIdeal : Cert.LruIdeal.Facts] [hLruReferenceIdeal : Cert.LruReferenceIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruReferenceIdeal.nD Cert.LruReferenceIdeal.τ Cert.LruReferenceIdeal.sig) → Buf (Elt Ideal) ℓ) (g' : Dev Cert.LruReferenceIdeal.nD → PrngReg), Pre_LruIdeal m →
    (∀ c : Dev Cert.LruIdeal.nD,
      m' ((c.tc : Thread Cert.LruReferenceIdeal.nD Cert.LruReferenceIdeal.τ).loc Cert.LruReferenceIdeal.main_arg0) = m ((c.tc : Thread Cert.LruIdeal.nD Cert.LruIdeal.τ).loc Cert.LruIdeal.main_arg0)
      ∧ m' ((c.tc : Thread Cert.LruReferenceIdeal.nD Cert.LruReferenceIdeal.τ).loc Cert.LruReferenceIdeal.main_arg1) = m ((c.tc : Thread Cert.LruIdeal.nD Cert.LruIdeal.τ).loc Cert.LruIdeal.main_arg1)
      ∧ m' ((c.tc : Thread Cert.LruReferenceIdeal.nD Cert.LruReferenceIdeal.τ).loc Cert.LruReferenceIdeal.main_arg2) = m ((c.tc : Thread Cert.LruIdeal.nD Cert.LruIdeal.τ).loc Cert.LruIdeal.main_arg2)
      ∧ m' ((c.tc : Thread Cert.LruReferenceIdeal.nD Cert.LruReferenceIdeal.τ).loc Cert.LruReferenceIdeal.main_arg3) = m ((c.tc : Thread Cert.LruIdeal.nD Cert.LruIdeal.τ).loc Cert.LruIdeal.main_arg3)
      ∧ m' ((c.tc : Thread Cert.LruReferenceIdeal.nD Cert.LruReferenceIdeal.τ).loc Cert.LruReferenceIdeal.main_arg4) = m ((c.tc : Thread Cert.LruIdeal.nD Cert.LruIdeal.τ).loc Cert.LruIdeal.main_arg4)
      ∧ m' ((c.tc : Thread Cert.LruReferenceIdeal.nD Cert.LruReferenceIdeal.τ).loc Cert.LruReferenceIdeal.main_arg5) = m ((c.tc : Thread Cert.LruIdeal.nD Cert.LruIdeal.τ).loc Cert.LruIdeal.main_arg5)
      ∧ m' ((c.tc : Thread Cert.LruReferenceIdeal.nD Cert.LruReferenceIdeal.τ).loc Cert.LruReferenceIdeal.main_arg6) = m ((c.tc : Thread Cert.LruIdeal.nD Cert.LruIdeal.τ).loc Cert.LruIdeal.main_arg6)
      ∧ m' ((c.tc : Thread Cert.LruReferenceIdeal.nD Cert.LruReferenceIdeal.τ).loc Cert.LruReferenceIdeal.main_arg7) = m ((c.tc : Thread Cert.LruIdeal.nD Cert.LruIdeal.τ).loc Cert.LruIdeal.main_arg7)
      ∧ m' ((c.tc : Thread Cert.LruReferenceIdeal.nD Cert.LruReferenceIdeal.τ).loc Cert.LruReferenceIdeal.main_arg8) = m ((c.tc : Thread Cert.LruIdeal.nD Cert.LruIdeal.τ).loc Cert.LruIdeal.main_arg8)) →
    ∃ (v0 : (c : Dev Cert.LruIdeal.nD) → Buf (Elt Ideal) ((c.tc : Thread Cert.LruIdeal.nD Cert.LruIdeal.τ).loc Cert.LruIdeal.main_v104)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v104) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ θ_run (Cert.LruReferenceIdeal.defs (F := Ideal)) (onTc (τ := Cert.LruReferenceIdeal.τ) (Cert.LruReferenceIdeal.main (F := Ideal))) ⟨m', fun _ => 0, g'⟩ (fun r => ∀ c : Dev Cert.LruReferenceIdeal.nD,
          r.2.mem ((c.tc : Thread Cert.LruReferenceIdeal.nD Cert.LruReferenceIdeal.τ).loc Cert.LruReferenceIdeal.main_v96) = v0 c
          ∧ r.2.mem ((c.tc : Thread Cert.LruReferenceIdeal.nD Cert.LruReferenceIdeal.τ).loc Cert.LruReferenceIdeal.main_arg0) = m' ((c.tc : Thread Cert.LruReferenceIdeal.nD Cert.LruReferenceIdeal.τ).loc Cert.LruReferenceIdeal.main_arg0)
          ∧ r.2.mem ((c.tc : Thread Cert.LruReferenceIdeal.nD Cert.LruReferenceIdeal.τ).loc Cert.LruReferenceIdeal.main_arg1) = m' ((c.tc : Thread Cert.LruReferenceIdeal.nD Cert.LruReferenceIdeal.τ).loc Cert.LruReferenceIdeal.main_arg1)
          ∧ r.2.mem ((c.tc : Thread Cert.LruReferenceIdeal.nD Cert.LruReferenceIdeal.τ).loc Cert.LruReferenceIdeal.main_arg2) = m' ((c.tc : Thread Cert.LruReferenceIdeal.nD Cert.LruReferenceIdeal.τ).loc Cert.LruReferenceIdeal.main_arg2)
          ∧ r.2.mem ((c.tc : Thread Cert.LruReferenceIdeal.nD Cert.LruReferenceIdeal.τ).loc Cert.LruReferenceIdeal.main_arg3) = m' ((c.tc : Thread Cert.LruReferenceIdeal.nD Cert.LruReferenceIdeal.τ).loc Cert.LruReferenceIdeal.main_arg3)
          ∧ r.2.mem ((c.tc : Thread Cert.LruReferenceIdeal.nD Cert.LruReferenceIdeal.τ).loc Cert.LruReferenceIdeal.main_arg4) = m' ((c.tc : Thread Cert.LruReferenceIdeal.nD Cert.LruReferenceIdeal.τ).loc Cert.LruReferenceIdeal.main_arg4)
          ∧ r.2.mem ((c.tc : Thread Cert.LruReferenceIdeal.nD Cert.LruReferenceIdeal.τ).loc Cert.LruReferenceIdeal.main_arg5) = m' ((c.tc : Thread Cert.LruReferenceIdeal.nD Cert.LruReferenceIdeal.τ).loc Cert.LruReferenceIdeal.main_arg5)
          ∧ r.2.mem ((c.tc : Thread Cert.LruReferenceIdeal.nD Cert.LruReferenceIdeal.τ).loc Cert.LruReferenceIdeal.main_arg6) = m' ((c.tc : Thread Cert.LruReferenceIdeal.nD Cert.LruReferenceIdeal.τ).loc Cert.LruReferenceIdeal.main_arg6)
          ∧ r.2.mem ((c.tc : Thread Cert.LruReferenceIdeal.nD Cert.LruReferenceIdeal.τ).loc Cert.LruReferenceIdeal.main_arg7) = m' ((c.tc : Thread Cert.LruReferenceIdeal.nD Cert.LruReferenceIdeal.τ).loc Cert.LruReferenceIdeal.main_arg7)
          ∧ r.2.mem ((c.tc : Thread Cert.LruReferenceIdeal.nD Cert.LruReferenceIdeal.τ).loc Cert.LruReferenceIdeal.main_arg8) = m' ((c.tc : Thread Cert.LruReferenceIdeal.nD Cert.LruReferenceIdeal.τ).loc Cert.LruReferenceIdeal.main_arg8))

def preserves_Ffn_FfnIdeal : Prop :=
  True

def algebraic_FfnIdeal_FfnReferenceIdeal [hFfnIdeal : Cert.FfnIdeal.Facts] [hFfnReferenceIdeal : Cert.FfnReferenceIdeal.Facts] [hPre_experts_exist : Cert.Pre_experts_exist.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v27) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v14) = v0 c
          ∧ r.2.mem ((c.tc : Thread Cert.InProjReferenceIdeal.nD Cert.InProjReferenceIdeal.τ).loc Cert.InProjReferenceIdeal.main_v15) = v1 c
          ∧ r.2.mem ((c.tc : Thread Cert.InProjReferenceIdeal.nD Cert.InProjReferenceIdeal.τ).loc Cert.InProjReferenceIdeal.main_v16) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_InProjOdd_InProjOddIdeal : Prop :=
  True

def algebraic_InProjOddIdeal_InProjOddReferenceIdeal [hInProjOddIdeal : Cert.InProjOddIdeal.Facts] [hInProjOddReferenceIdeal : Cert.InProjOddReferenceIdeal.Facts] : Prop :=
  ∀ (m : (ℓ : Loc Cert.InProjOddIdeal.nD Cert.InProjOddIdeal.τ Cert.InProjOddIdeal.sig) → Buf (Elt Ideal) ℓ) (g : Dev Cert.InProjOddIdeal.nD → PrngReg)
    (m' : (ℓ : Loc Cert.InProjOddReferenceIdeal.nD Cert.InProjOddReferenceIdeal.τ Cert.InProjOddReferenceIdeal.sig) → Buf (Elt Ideal) ℓ) (g' : Dev Cert.InProjOddReferenceIdeal.nD → PrngReg), Pre_InProjOddIdeal m →
    (∀ c : Dev Cert.InProjOddIdeal.nD,
      m' ((c.tc : Thread Cert.InProjOddReferenceIdeal.nD Cert.InProjOddReferenceIdeal.τ).loc Cert.InProjOddReferenceIdeal.main_arg0) = m ((c.tc : Thread Cert.InProjOddIdeal.nD Cert.InProjOddIdeal.τ).loc Cert.InProjOddIdeal.main_arg0)
      ∧ m' ((c.tc : Thread Cert.InProjOddReferenceIdeal.nD Cert.InProjOddReferenceIdeal.τ).loc Cert.InProjOddReferenceIdeal.main_arg1) = m ((c.tc : Thread Cert.InProjOddIdeal.nD Cert.InProjOddIdeal.τ).loc Cert.InProjOddIdeal.main_arg1)
      ∧ m' ((c.tc : Thread Cert.InProjOddReferenceIdeal.nD Cert.InProjOddReferenceIdeal.τ).loc Cert.InProjOddReferenceIdeal.main_arg2) = m ((c.tc : Thread Cert.InProjOddIdeal.nD Cert.InProjOddIdeal.τ).loc Cert.InProjOddIdeal.main_arg2)) →
    ∃ (v0 : (c : Dev Cert.InProjOddIdeal.nD) → Buf (Elt Ideal) ((c.tc : Thread Cert.InProjOddIdeal.nD Cert.InProjOddIdeal.τ).loc Cert.InProjOddIdeal.main_v7_0)) (v1 : (c : Dev Cert.InProjOddIdeal.nD) → Buf (Elt Ideal) ((c.tc : Thread Cert.InProjOddIdeal.nD Cert.InProjOddIdeal.τ).loc Cert.InProjOddIdeal.main_v7_1)) (v2 : (c : Dev Cert.InProjOddIdeal.nD) → Buf (Elt Ideal) ((c.tc : Thread Cert.InProjOddIdeal.nD Cert.InProjOddIdeal.τ).loc Cert.InProjOddIdeal.main_v7_2)) (v3 : (c : Dev Cert.InProjOddIdeal.nD) → Buf (Elt Ideal) ((c.tc : Thread Cert.InProjOddIdeal.nD Cert.InProjOddIdeal.τ).loc Cert.InProjOddIdeal.main_v7_3)) (v4 : (c : Dev Cert.InProjOddIdeal.nD) → Buf (Elt Ideal) ((c.tc : Thread Cert.InProjOddIdeal.nD Cert.InProjOddIdeal.τ).loc Cert.InProjOddIdeal.main_v7_4)),
      θ_run (Cert.InProjOddIdeal.defs (F := Ideal)) (onTc (τ := Cert.InProjOddIdeal.τ) (Cert.InProjOddIdeal.main (F := Ideal))) ⟨m, fun _ => 0, g⟩ (fun r => ∀ c : Dev Cert.InProjOddIdeal.nD,
          r.2.mem ((c.tc : Thread Cert.InProjOddIdeal.nD Cert.InProjOddIdeal.τ).loc Cert.InProjOddIdeal.main_v7_0) = v0 c
          ∧ r.2.mem ((c.tc : Thread Cert.InProjOddIdeal.nD Cert.InProjOddIdeal.τ).loc Cert.InProjOddIdeal.main_v7_1) = v1 c
          ∧ r.2.mem ((c.tc : Thread Cert.InProjOddIdeal.nD Cert.InProjOddIdeal.τ).loc Cert.InProjOddIdeal.main_v7_2) = v2 c
          ∧ r.2.mem ((c.tc : Thread Cert.InProjOddIdeal.nD Cert.InProjOddIdeal.τ).loc Cert.InProjOddIdeal.main_v7_3) = v3 c
          ∧ r.2.mem ((c.tc : Thread Cert.InProjOddIdeal.nD Cert.InProjOddIdeal.τ).loc Cert.InProjOddIdeal.main_v7_4) = v4 c
          ∧ r.2.mem ((c.tc : Thread Cert.InProjOddIdeal.nD Cert.InProjOddIdeal.τ).loc Cert.InProjOddIdeal.main_arg0) = m ((c.tc : Thread Cert.InProjOddIdeal.nD Cert.InProjOddIdeal.τ).loc Cert.InProjOddIdeal.main_arg0)
          ∧ r.2.mem ((c.tc : Thread Cert.InProjOddIdeal.nD Cert.InProjOddIdeal.τ).loc Cert.InProjOddIdeal.main_arg1) = m ((c.tc : Thread Cert.InProjOddIdeal.nD Cert.InProjOddIdeal.τ).loc Cert.InProjOddIdeal.main_arg1)
          ∧ r.2.mem ((c.tc : Thread Cert.InProjOddIdeal.nD Cert.InProjOddIdeal.τ).loc Cert.InProjOddIdeal.main_arg2) = m ((c.tc : Thread Cert.InProjOddIdeal.nD Cert.InProjOddIdeal.τ).loc Cert.InProjOddIdeal.main_arg2))
      ∧ θ_run (Cert.InProjOddReferenceIdeal.defs (F := Ideal)) (onTc (τ := Cert.InProjOddReferenceIdeal.τ) (Cert.InProjOddReferenceIdeal.main (F := Ideal))) ⟨m', fun _ => 0, g'⟩ (fun r => ∀ c : Dev Cert.InProjOddReferenceIdeal.nD,
          r.2.mem ((c.tc : Thread Cert.InProjOddReferenceIdeal.nD Cert.InProjOddReferenceIdeal.τ).loc Cert.InProjOddReferenceIdeal.main_v14) = v0 c
          ∧ r.2.mem ((c.tc : Thread Cert.InProjOddReferenceIdeal.nD Cert.InProjOddReferenceIdeal.τ).loc Cert.InProjOddReferenceIdeal.main_v15) = v1 c
          ∧ r.2.mem ((c.tc : Thread Cert.InProjOddReferenceIdeal.nD Cert.InProjOddReferenceIdeal.τ).loc Cert.InProjOddReferenceIdeal.main_v16) = v2 c
          ∧ r.2.mem ((c.tc : Thread Cert.InProjOddReferenceIdeal.nD Cert.InProjOddReferenceIdeal.τ).loc Cert.InProjOddReferenceIdeal.main_v18) = v3 c
          ∧ r.2.mem ((c.tc : Thread Cert.InProjOddReferenceIdeal.nD Cert.InProjOddReferenceIdeal.τ).loc Cert.InProjOddReferenceIdeal.main_v19) = v4 c
          ∧ r.2.mem ((c.tc : Thread Cert.InProjOddReferenceIdeal.nD Cert.InProjOddReferenceIdeal.τ).loc Cert.InProjOddReferenceIdeal.main_arg0) = m' ((c.tc : Thread Cert.InProjOddReferenceIdeal.nD Cert.InProjOddReferenceIdeal.τ).loc Cert.InProjOddReferenceIdeal.main_arg0)
          ∧ r.2.mem ((c.tc : Thread Cert.InProjOddReferenceIdeal.nD Cert.InProjOddReferenceIdeal.τ).loc Cert.InProjOddReferenceIdeal.main_arg1) = m' ((c.tc : Thread Cert.InProjOddReferenceIdeal.nD Cert.InProjOddReferenceIdeal.τ).loc Cert.InProjOddReferenceIdeal.main_arg1)
          ∧ r.2.mem ((c.tc : Thread Cert.InProjOddReferenceIdeal.nD Cert.InProjOddReferenceIdeal.τ).loc Cert.InProjOddReferenceIdeal.main_arg2) = m' ((c.tc : Thread Cert.InProjOddReferenceIdeal.nD Cert.InProjOddReferenceIdeal.τ).loc Cert.InProjOddReferenceIdeal.main_arg2))

def preserves_OutProjOdd_OutProjOddIdeal : Prop :=
  True

def algebraic_OutProjOddIdeal_OutProjOddReferenceIdeal [hOutProjOddIdeal : Cert.OutProjOddIdeal.Facts] [hOutProjOddReferenceIdeal : Cert.OutProjOddReferenceIdeal.Facts] : Prop :=
  ∀ (m : (ℓ : Loc Cert.OutProjOddIdeal.nD Cert.OutProjOddIdeal.τ Cert.OutProjOddIdeal.sig) → Buf (Elt Ideal) ℓ) (g : Dev Cert.OutProjOddIdeal.nD → PrngReg)
    (m' : (ℓ : Loc Cert.OutProjOddReferenceIdeal.nD Cert.OutProjOddReferenceIdeal.τ Cert.OutProjOddReferenceIdeal.sig) → Buf (Elt Ideal) ℓ) (g' : Dev Cert.OutProjOddReferenceIdeal.nD → PrngReg), Pre_OutProjOddIdeal m →
    (∀ c : Dev Cert.OutProjOddIdeal.nD,
      m' ((c.tc : Thread Cert.OutProjOddReferenceIdeal.nD Cert.OutProjOddReferenceIdeal.τ).loc Cert.OutProjOddReferenceIdeal.main_arg0) = m ((c.tc : Thread Cert.OutProjOddIdeal.nD Cert.OutProjOddIdeal.τ).loc Cert.OutProjOddIdeal.main_arg0)
      ∧ m' ((c.tc : Thread Cert.OutProjOddReferenceIdeal.nD Cert.OutProjOddReferenceIdeal.τ).loc Cert.OutProjOddReferenceIdeal.main_arg1) = m ((c.tc : Thread Cert.OutProjOddIdeal.nD Cert.OutProjOddIdeal.τ).loc Cert.OutProjOddIdeal.main_arg1)
      ∧ m' ((c.tc : Thread Cert.OutProjOddReferenceIdeal.nD Cert.OutProjOddReferenceIdeal.τ).loc Cert.OutProjOddReferenceIdeal.main_arg2) = m ((c.tc : Thread Cert.OutProjOddIdeal.nD Cert.OutProjOddIdeal.τ).loc Cert.OutProjOddIdeal.main_arg2)) →
    ∃ (v0 : (c : Dev Cert.OutProjOddIdeal.nD) → Buf (Elt Ideal) ((c.tc : Thread Cert.OutProjOddIdeal.nD Cert.OutProjOddIdeal.τ).loc Cert.OutProjOddIdeal.main_v1)),
      θ_run (Cert.OutProjOddIdeal.defs (F := Ideal)) (onTc (τ := Cert.OutProjOddIdeal.τ) (Cert.OutProjOddIdeal.main (F := Ideal))) ⟨m, fun _ => 0, g⟩ (fun r => ∀ c : Dev Cert.OutProjOddIdeal.nD,
          r.2.mem ((c.tc : Thread Cert.OutProjOddIdeal.nD Cert.OutProjOddIdeal.τ).loc Cert.OutProjOddIdeal.main_v1) = v0 c
          ∧ r.2.mem ((c.tc : Thread Cert.OutProjOddIdeal.nD Cert.OutProjOddIdeal.τ).loc Cert.OutProjOddIdeal.main_arg0) = m ((c.tc : Thread Cert.OutProjOddIdeal.nD Cert.OutProjOddIdeal.τ).loc Cert.OutProjOddIdeal.main_arg0)
          ∧ r.2.mem ((c.tc : Thread Cert.OutProjOddIdeal.nD Cert.OutProjOddIdeal.τ).loc Cert.OutProjOddIdeal.main_arg1) = m ((c.tc : Thread Cert.OutProjOddIdeal.nD Cert.OutProjOddIdeal.τ).loc Cert.OutProjOddIdeal.main_arg1)
          ∧ r.2.mem ((c.tc : Thread Cert.OutProjOddIdeal.nD Cert.OutProjOddIdeal.τ).loc Cert.OutProjOddIdeal.main_arg2) = m ((c.tc : Thread Cert.OutProjOddIdeal.nD Cert.OutProjOddIdeal.τ).loc Cert.OutProjOddIdeal.main_arg2))
      ∧ θ_run (Cert.OutProjOddReferenceIdeal.defs (F := Ideal)) (onTc (τ := Cert.OutProjOddReferenceIdeal.τ) (Cert.OutProjOddReferenceIdeal.main (F := Ideal))) ⟨m', fun _ => 0, g'⟩ (fun r => ∀ c : Dev Cert.OutProjOddReferenceIdeal.nD,
          r.2.mem ((c.tc : Thread Cert.OutProjOddReferenceIdeal.nD Cert.OutProjOddReferenceIdeal.τ).loc Cert.OutProjOddReferenceIdeal.main_v2) = v0 c
          ∧ r.2.mem ((c.tc : Thread Cert.OutProjOddReferenceIdeal.nD Cert.OutProjOddReferenceIdeal.τ).loc Cert.OutProjOddReferenceIdeal.main_arg0) = m' ((c.tc : Thread Cert.OutProjOddReferenceIdeal.nD Cert.OutProjOddReferenceIdeal.τ).loc Cert.OutProjOddReferenceIdeal.main_arg0)
          ∧ r.2.mem ((c.tc : Thread Cert.OutProjOddReferenceIdeal.nD Cert.OutProjOddReferenceIdeal.τ).loc Cert.OutProjOddReferenceIdeal.main_arg1) = m' ((c.tc : Thread Cert.OutProjOddReferenceIdeal.nD Cert.OutProjOddReferenceIdeal.τ).loc Cert.OutProjOddReferenceIdeal.main_arg1)
          ∧ r.2.mem ((c.tc : Thread Cert.OutProjOddReferenceIdeal.nD Cert.OutProjOddReferenceIdeal.τ).loc Cert.OutProjOddReferenceIdeal.main_arg2) = m' ((c.tc : Thread Cert.OutProjOddReferenceIdeal.nD Cert.OutProjOddReferenceIdeal.τ).loc Cert.OutProjOddReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)
      ∧ m' ((c.tc : Thread Cert.PrepReferenceIdeal.nD Cert.PrepReferenceIdeal.τ).loc Cert.PrepReferenceIdeal.main_arg7) = m ((c.tc : Thread Cert.PrepIdeal.nD Cert.PrepIdeal.τ).loc Cert.PrepIdeal.main_arg7)
      ∧ m' ((c.tc : Thread Cert.PrepReferenceIdeal.nD Cert.PrepReferenceIdeal.τ).loc Cert.PrepReferenceIdeal.main_arg8) = m ((c.tc : Thread Cert.PrepIdeal.nD Cert.PrepIdeal.τ).loc Cert.PrepIdeal.main_arg8)
      ∧ m' ((c.tc : Thread Cert.PrepReferenceIdeal.nD Cert.PrepReferenceIdeal.τ).loc Cert.PrepReferenceIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v23_0)) (v1 : (c : Dev Cert.PrepIdeal.nD) → Buf (Elt Ideal) ((c.tc : Thread Cert.PrepIdeal.nD Cert.PrepIdeal.τ).loc Cert.PrepIdeal.main_v23_1)) (v2 : (c : Dev Cert.PrepIdeal.nD) → Buf (Elt Ideal) ((c.tc : Thread Cert.PrepIdeal.nD Cert.PrepIdeal.τ).loc Cert.PrepIdeal.main_v23_2)) (v3 : (c : Dev Cert.PrepIdeal.nD) → Buf (Elt Ideal) ((c.tc : Thread Cert.PrepIdeal.nD Cert.PrepIdeal.τ).loc Cert.PrepIdeal.main_v23_3)) (v4 : (c : Dev Cert.PrepIdeal.nD) → Buf (Elt Ideal) ((c.tc : Thread Cert.PrepIdeal.nD Cert.PrepIdeal.τ).loc Cert.PrepIdeal.main_v23_4)) (v5 : (c : Dev Cert.PrepIdeal.nD) → Buf (Elt Ideal) ((c.tc : Thread Cert.PrepIdeal.nD Cert.PrepIdeal.τ).loc Cert.PrepIdeal.main_v23_5)) (v6 : (c : Dev Cert.PrepIdeal.nD) → Buf (Elt Ideal) ((c.tc : Thread Cert.PrepIdeal.nD Cert.PrepIdeal.τ).loc Cert.PrepIdeal.main_v23_6)) (v7 : (c : Dev Cert.PrepIdeal.nD) → Buf (Elt Ideal) ((c.tc : Thread Cert.PrepIdeal.nD Cert.PrepIdeal.τ).loc Cert.PrepIdeal.main_v23_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v23_0) = v0 c
          ∧ r.2.mem ((c.tc : Thread Cert.PrepIdeal.nD Cert.PrepIdeal.τ).loc Cert.PrepIdeal.main_v23_1) = v1 c
          ∧ r.2.mem ((c.tc : Thread Cert.PrepIdeal.nD Cert.PrepIdeal.τ).loc Cert.PrepIdeal.main_v23_2) = v2 c
          ∧ r.2.mem ((c.tc : Thread Cert.PrepIdeal.nD Cert.PrepIdeal.τ).loc Cert.PrepIdeal.main_v23_3) = v3 c
          ∧ r.2.mem ((c.tc : Thread Cert.PrepIdeal.nD Cert.PrepIdeal.τ).loc Cert.PrepIdeal.main_v23_4) = v4 c
          ∧ r.2.mem ((c.tc : Thread Cert.PrepIdeal.nD Cert.PrepIdeal.τ).loc Cert.PrepIdeal.main_v23_5) = v5 c
          ∧ r.2.mem ((c.tc : Thread Cert.PrepIdeal.nD Cert.PrepIdeal.τ).loc Cert.PrepIdeal.main_v23_6) = v6 c
          ∧ r.2.mem ((c.tc : Thread Cert.PrepIdeal.nD Cert.PrepIdeal.τ).loc Cert.PrepIdeal.main_v23_7) = v7 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v72) = v0 c
          ∧ r.2.mem ((c.tc : Thread Cert.PrepReferenceIdeal.nD Cert.PrepReferenceIdeal.τ).loc Cert.PrepReferenceIdeal.main_v73) = v1 c
          ∧ r.2.mem ((c.tc : Thread Cert.PrepReferenceIdeal.nD Cert.PrepReferenceIdeal.τ).loc Cert.PrepReferenceIdeal.main_v74) = v2 c
          ∧ r.2.mem ((c.tc : Thread Cert.PrepReferenceIdeal.nD Cert.PrepReferenceIdeal.τ).loc Cert.PrepReferenceIdeal.main_v75) = v3 c
          ∧ r.2.mem ((c.tc : Thread Cert.PrepReferenceIdeal.nD Cert.PrepReferenceIdeal.τ).loc Cert.PrepReferenceIdeal.main_v76) = v4 c
          ∧ r.2.mem ((c.tc : Thread Cert.PrepReferenceIdeal.nD Cert.PrepReferenceIdeal.τ).loc Cert.PrepReferenceIdeal.main_v79) = v5 c
          ∧ r.2.mem ((c.tc : Thread Cert.PrepReferenceIdeal.nD Cert.PrepReferenceIdeal.τ).loc Cert.PrepReferenceIdeal.main_v80) = v6 c
          ∧ r.2.mem ((c.tc : Thread Cert.PrepReferenceIdeal.nD Cert.PrepReferenceIdeal.τ).loc Cert.PrepReferenceIdeal.main_v81) = v7 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8)
          ∧ r.2.mem ((c.tc : Thread Cert.PrepReferenceIdeal.nD Cert.PrepReferenceIdeal.τ).loc Cert.PrepReferenceIdeal.main_arg9) = m' ((c.tc : Thread Cert.PrepReferenceIdeal.nD Cert.PrepReferenceIdeal.τ).loc Cert.PrepReferenceIdeal.main_arg9))

def Claim : Prop :=
  ∃ (hLru : Cert.Lru.Facts) (hLruIdeal : Cert.LruIdeal.Facts) (hLruReferenceIdeal : Cert.LruReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hInProjOdd : Cert.InProjOdd.Facts) (hInProjOddIdeal : Cert.InProjOddIdeal.Facts) (hInProjOddReferenceIdeal : Cert.InProjOddReferenceIdeal.Facts) (hOutProjOdd : Cert.OutProjOdd.Facts) (hOutProjOddIdeal : Cert.OutProjOddIdeal.Facts) (hOutProjOddReferenceIdeal : Cert.OutProjOddReferenceIdeal.Facts) (hPrep : Cert.Prep.Facts) (hPrepIdeal : Cert.PrepIdeal.Facts) (hPrepReferenceIdeal : Cert.PrepReferenceIdeal.Facts) (hPre_experts_exist : Cert.Pre_experts_exist.Facts),
    quiescent_Lru (hLru := hLru)
    ∧ quiescent_LruIdeal (hLruIdeal := hLruIdeal)
    ∧ quiescent_LruReferenceIdeal (hLruReferenceIdeal := hLruReferenceIdeal)
    ∧ quiescent_Ffn (hFfn := hFfn) (hPre_experts_exist := hPre_experts_exist)
    ∧ quiescent_FfnIdeal (hFfnIdeal := hFfnIdeal) (hPre_experts_exist := hPre_experts_exist)
    ∧ quiescent_FfnReferenceIdeal (hFfnReferenceIdeal := hFfnReferenceIdeal)
    ∧ quiescent_FfnReferenceIdeal_pre_experts_exist (hFfnReferenceIdeal := hFfnReferenceIdeal) (hPre_experts_exist := hPre_experts_exist)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_InProjOdd (hInProjOdd := hInProjOdd)
    ∧ quiescent_InProjOddIdeal (hInProjOddIdeal := hInProjOddIdeal)
    ∧ quiescent_InProjOddReferenceIdeal (hInProjOddReferenceIdeal := hInProjOddReferenceIdeal)
    ∧ quiescent_OutProjOdd (hOutProjOdd := hOutProjOdd)
    ∧ quiescent_OutProjOddIdeal (hOutProjOddIdeal := hOutProjOddIdeal)
    ∧ quiescent_OutProjOddReferenceIdeal (hOutProjOddReferenceIdeal := hOutProjOddReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ preserves_Lru_LruIdeal
    ∧ algebraic_LruIdeal_LruReferenceIdeal (hLruIdeal := hLruIdeal) (hLruReferenceIdeal := hLruReferenceIdeal)
    ∧ preserves_Ffn_FfnIdeal
    ∧ algebraic_FfnIdeal_FfnReferenceIdeal (hFfnIdeal := hFfnIdeal) (hFfnReferenceIdeal := hFfnReferenceIdeal) (hPre_experts_exist := hPre_experts_exist)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_InProjOdd_InProjOddIdeal
    ∧ algebraic_InProjOddIdeal_InProjOddReferenceIdeal (hInProjOddIdeal := hInProjOddIdeal) (hInProjOddReferenceIdeal := hInProjOddReferenceIdeal)
    ∧ preserves_OutProjOdd_OutProjOddIdeal
    ∧ algebraic_OutProjOddIdeal_OutProjOddReferenceIdeal (hOutProjOddIdeal := hOutProjOddIdeal) (hOutProjOddReferenceIdeal := hOutProjOddReferenceIdeal)
    ∧ preserves_Prep_PrepIdeal
    ∧ algebraic_PrepIdeal_PrepReferenceIdeal (hPrepIdeal := hPrepIdeal) (hPrepReferenceIdeal := hPrepReferenceIdeal)
-- ==== Pre_experts_exist.lean ====
abbrev S545 : Shape := ⟨1, ![545]⟩
abbrev S139520x1024 : Shape := ⟨2, ![139520, 1024]⟩
abbrev S1024 : Shape := ⟨1, ![1024]⟩
abbrev S32x1024x256 : Shape := ⟨3, ![32, 1024, 256]⟩
abbrev S32x256x1024 : Shape := ⟨3, ![32, 256, 1024]⟩
abbrev S_ : Shape := ⟨0, ![]⟩

class Facts : Prop where
  bcast_S_S545 : S_.BroadcastsInDim S545 (![] : Fin 0 → Fin S545.rank)

variable [Facts]

def fn {F : FTy → Type} [FloatOps F] (main_arg0 : IVec S545 32) (main_arg1 : FVec F S139520x1024 .f32) (main_arg2 : FVec F S1024 .f32) (main_arg3 : FVec F S32x1024x256 .f32) (main_arg4 : FVec F S32x1024x256 .f32) (main_arg5 : FVec F S32x256x1024 .f32) : IVec S545 1 :=
  let main_c : IVec S_ 32 := constantI S_ 32 0#32
  let main_v0 : IVec S545 32 := broadcastInDim S545 ![] bcast_S_S545 main_c
  let main_v1 : IVec S545 1 := cmpi .sge main_arg0 main_v0
  let main_c_0 : IVec S_ 32 := constantI S_ 32 32#32
  let main_v2 : IVec S545 32 := broadcastInDim S545 ![] bcast_S_S545 main_c_0
  let main_v3 : IVec S545 1 := cmpi .slt main_arg0 main_v2
  let main_v4 : IVec S545 1 := andi main_v1 main_v3
  main_v4
-- ==== Lru.lean ====
abbrev S65664x512 : Shape := ⟨2, ![65664, 512]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S_ : Shape := ⟨0, ![]⟩
abbrev S512x512 : Shape := ⟨2, ![512, 512]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S432x512 : Shape := ⟨2, ![432, 512]⟩
abbrev S8x512 : Shape := ⟨2, ![8, 512]⟩
abbrev S8x1 : Shape := ⟨2, ![8, 1]⟩
abbrev S424x512 : Shape := ⟨2, ![424, 512]⟩

abbrev nBuf : Space → Nat
  | .hbm => 148
  | .vmem => 17
  | .smem => 0
  | _ => 0

abbrev hbmTy0_0 (i : Nat) : BufTy := match i % 128 with
  | 0 => ⟨S65664x512, .f32⟩
  | 1 => ⟨S65664x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S1x512, .f32⟩
  | 10 => ⟨S_, .f32⟩
  | 11 => ⟨S512x512, .f32⟩
  | 12 => ⟨S1x64x64, .f32⟩
  | 13 => ⟨S64x64, .f32⟩
  | 14 => ⟨S_, .i32⟩
  | 15 => ⟨S1, .i32⟩
  | 16 => ⟨S_, .i32⟩
  | 17 => ⟨S1, .i32⟩
  | 18 => ⟨S2, .i32⟩
  | 19 => ⟨S512x512, .f32⟩
  | 20 => ⟨S1x64x64, .f32⟩
  | 21 => ⟨S64x64, .f32⟩
  | 22 => ⟨S_, .i32⟩
  | 23 => ⟨S1, .i32⟩
  | 24 => ⟨S_, .i32⟩
  | 25 => ⟨S1, .i32⟩
  | 26 => ⟨S2, .i32⟩
  | 27 => ⟨S512x512, .f32⟩
  | 28 => ⟨S1x64x64, .f32⟩
  | 29 => ⟨S64x64, .f32⟩
  | 30 => ⟨S_, .i32⟩
  | 31 => ⟨S1, .i32⟩
  | 32 => ⟨S_, .i32⟩
  | 33 => ⟨S1, .i32⟩
  | 34 => ⟨S2, .i32⟩
  | 35 => ⟨S512x512, .f32⟩
  | 36 => ⟨S1x64x64, .f32⟩
  | 37 => ⟨S64x64, .f32⟩
  | 38 => ⟨S_, .i32⟩
  | 39 => ⟨S1, .i32⟩
  | 40 => ⟨S_, .i32⟩
  | 41 => ⟨S1, .i32⟩
  | 42 => ⟨S2, .i32⟩
  | 43 => ⟨S512x512, .f32⟩
  | 44 => ⟨S1x64x64, .f32⟩
  | 45 => ⟨S64x64, .f32⟩
  | 46 => ⟨S_, .i32⟩
  | 47 => ⟨S1, .i32⟩
  | 48 => ⟨S_, .i32⟩
  | 49 => ⟨S1, .i32⟩
  | 50 => ⟨S2, .i32⟩
  | 51 => ⟨S512x512, .f32⟩
  | 52 => ⟨S1x64x64, .f32⟩
  | 53 => ⟨S64x64, .f32⟩
  | 54 => ⟨S_, .i32⟩
  | 55 => ⟨S1, .i32⟩
  | 56 => ⟨S_, .i32⟩
  | 57 => ⟨S1, .i32⟩
  | 58 => ⟨S2, .i32⟩
  | 59 => ⟨S512x512, .f32⟩
  | 60 => ⟨S1x64x64, .f32⟩
  | 61 => ⟨S64x64, .f32⟩
  | 62 => ⟨S_, .i32⟩
  | 63 => ⟨S1, .i32⟩
  | 64 => ⟨S_, .i32⟩
  | 65 => ⟨S1, .i32⟩
  | 66 => ⟨S2, .i32⟩
  | 67 => ⟨S512x512, .f32⟩
  | 68 => ⟨S1x64x64, .f32⟩
  | 69 => ⟨S64x64, .f32⟩
  | 70 => ⟨S_, .i32⟩
  | 71 => ⟨S1, .i32⟩
  | 72 => ⟨S_, .i32⟩
  | 73 => ⟨S1, .i32⟩
  | 74 => ⟨S2, .i32⟩
  | 75 => ⟨S512x512, .f32⟩
  | 76 => ⟨S512x512, .bf16⟩
  | 77 => ⟨S1x512, .f32⟩
  | 78 => ⟨S_, .f32⟩
  | 79 => ⟨S512x512, .f32⟩
  | 80 => ⟨S1x64x64, .f32⟩
  | 81 => ⟨S64x64, .f32⟩
  | 82 => ⟨S_, .i32⟩
  | 83 => ⟨S1, .i32⟩
  | 84 => ⟨S_, .i32⟩
  | 85 => ⟨S1, .i32⟩
  | 86 => ⟨S2, .i32⟩
  | 87 => ⟨S512x512, .f32⟩
  | 88 => ⟨S1x64x64, .f32⟩
  | 89 => ⟨S64x64, .f32⟩
  | 90 => ⟨S_, .i32⟩
  | 91 => ⟨S1, .i32⟩
  | 92 => ⟨S_, .i32⟩
  | 93 => ⟨S1, .i32⟩
  | 94 => ⟨S2, .i32⟩
  | 95 => ⟨S512x512, .f32⟩
  | 96 => ⟨S1x64x64, .f32⟩
  | 97 => ⟨S64x64, .f32⟩
  | 98 => ⟨S_, .i32⟩
  | 99 => ⟨S1, .i32⟩
  | 100 => ⟨S_, .i32⟩
  | 101 => ⟨S1, .i32⟩
  | 102 => ⟨S2, .i32⟩
  | 103 => ⟨S512x512, .f32⟩
  | 104 => ⟨S1x64x64, .f32⟩
  | 105 => ⟨S64x64, .f32⟩
  | 106 => ⟨S_, .i32⟩
  | 107 => ⟨S1, .i32⟩
  | 108 => ⟨S_, .i32⟩
  | 109 => ⟨S1, .i32⟩
  | 110 => ⟨S2, .i32⟩
  | 111 => ⟨S512x512, .f32⟩
  | 112 => ⟨S1x64x64, .f32⟩
  | 113 => ⟨S64x64, .f32⟩
  | 114 => ⟨S_, .i32⟩
  | 115 => ⟨S1, .i32⟩
  | 116 => ⟨S_, .i32⟩
  | 117 => ⟨S1, .i32⟩
  | 118 => ⟨S2, .i32⟩
  | 119 => ⟨S512x512, .f32⟩
  | 120 => ⟨S1x64x64, .f32⟩
  | 121 => ⟨S64x64, .f32⟩
  | 122 => ⟨S_, .i32⟩
  | 123 => ⟨S1, .i32⟩
  | 124 => ⟨S_, .i32⟩
  | 125 => ⟨S1, .i32⟩
  | 126 => ⟨S2, .i32⟩
  | 127 => ⟨S512x512, .f32⟩
  | _ => ⟨S65664x512, .f32⟩

abbrev hbmTy0_1 (i : Nat) : BufTy := match i % 128 with
  | 0 => ⟨S1x64x64, .f32⟩
  | 1 => ⟨S64x64, .f32⟩
  | 2 => ⟨S_, .i32⟩
  | 3 => ⟨S1, .i32⟩
  | 4 => ⟨S_, .i32⟩
  | 5 => ⟨S1, .i32⟩
  | 6 => ⟨S2, .i32⟩
  | 7 => ⟨S512x512, .f32⟩
  | 8 => ⟨S1x64x64, .f32⟩
  | 9 => ⟨S64x64, .f32⟩
  | 10 => ⟨S_, .i32⟩
  | 11 => ⟨S1, .i32⟩
  | 12 => ⟨S_, .i32⟩
  | 13 => ⟨S1, .i32⟩
  | 14 => ⟨S2, .i32⟩
  | 15 => ⟨S512x512, .f32⟩
  | 16 => ⟨S512x512, .bf16⟩
  | 17 => ⟨S1x512, .f32⟩
  | 18 => ⟨S1x512, .f32⟩
  | 19 => ⟨S65664x512, .bf16⟩
  | _ => ⟨S65664x512, .f32⟩

abbrev hbmTy (i : Nat) : BufTy := match i / 128 with
  | 0 => hbmTy0_0 i
  | 1 => hbmTy0_1 i
  | _ => ⟨S65664x512, .f32⟩

abbrev bufTy : (tb : Table) → Fin (tcTables nBuf tb) → BufTy
  | .hbm, ⟨i, _⟩ => hbmTy i
  | .local _ .vmem, ⟨0, _⟩ => ⟨S432x512, .f32⟩
  | .local _ .vmem, ⟨1, _⟩ => ⟨S432x512, .f32⟩
  | .local _ .vmem, ⟨2, _⟩ => ⟨S432x512, .f32⟩
  | .local _ .vmem, ⟨3, _⟩ => ⟨S432x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S432x512, .bf16⟩
  | .local _ .vmem, ⟨12, _⟩ => ⟨S432x512, .bf16⟩
  | .local _ .vmem, ⟨13, _⟩ => ⟨S8x512, .f32⟩
  | .local _ .vmem, ⟨14, _⟩ => ⟨S8x512, .f32⟩
  | .local _ .vmem, ⟨15, _⟩ => ⟨S432x512, .f32⟩
  | .local _ .vmem, ⟨16, _⟩ => ⟨S432x512, .f32⟩
  | _, _ => ⟨S65664x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_c_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_11 : Ref sig .tc := ⟨.hbm, 62, rfl⟩
abbrev main_v40 : Ref sig .tc := ⟨.hbm, 63, rfl⟩
abbrev main_c_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_13 : Ref sig .tc := ⟨.hbm, 70, rfl⟩
abbrev main_v46 : Ref sig .tc := ⟨.hbm, 71, rfl⟩
abbrev main_c_14 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_15 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_16 : Ref sig .tc := ⟨.hbm, 82, rfl⟩
abbrev main_v55 : Ref sig .tc := ⟨.hbm, 83, rfl⟩
abbrev main_c_17 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_18 : Ref sig .tc := ⟨.hbm, 90, rfl⟩
abbrev main_v61 : Ref sig .tc := ⟨.hbm, 91, rfl⟩
abbrev main_c_19 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_20 : Ref sig .tc := ⟨.hbm, 98, rfl⟩
abbrev main_v67 : Ref sig .tc := ⟨.hbm, 99, rfl⟩
abbrev main_c_21 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_22 : Ref sig .tc := ⟨.hbm, 106, rfl⟩
abbrev main_v73 : Ref sig .tc := ⟨.hbm, 107, rfl⟩
abbrev main_c_23 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_24 : Ref sig .tc := ⟨.hbm, 114, rfl⟩
abbrev main_v79 : Ref sig .tc := ⟨.hbm, 115, rfl⟩
abbrev main_c_25 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_26 : Ref sig .tc := ⟨.hbm, 122, rfl⟩
abbrev main_v85 : Ref sig .tc := ⟨.hbm, 123, rfl⟩
abbrev main_c_27 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_28 : Ref sig .tc := ⟨.hbm, 130, rfl⟩
abbrev main_v91 : Ref sig .tc := ⟨.hbm, 131, rfl⟩
abbrev main_c_29 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_30 : Ref sig .tc := ⟨.hbm, 138, rfl⟩
abbrev main_v97 : Ref sig .tc := ⟨.hbm, 139, rfl⟩
abbrev main_c_31 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 19], ![false, false]⟩

@[reducible] def k0_t1_loop : Scf.Loop 32 :=
  let c0_i32_46 : BitVec 32 := 0#32
  let c54_i32 : BitVec 32 := 54#32
  let v123 : BitVec 32 := Scalar.addi c0_i32_46 c54_i32
  let c1_i32_47 : BitVec 32 := 1#32
  ⟨c0_i32_46, v123, c1_i32_47⟩
def k0_mult1 (k0_t1 : Fin k0_t1_loop.trips) : BitVec 32 :=
  let c0_i32_46 : BitVec 32 := 0#32
  let c1_i32_47 : BitVec 32 := 1#32
  let arg16 : BitVec 32 := Scf.iv c0_i32_46 c1_i32_47 k0_t1
  let c8_i32 : BitVec 32 := 8#32
  let v146 : BitVec 32 := Scalar.muli arg16 c8_i32
  v146
def k0_off1 (k0_t1 : Fin k0_t1_loop.trips) : Fin 2 → Nat :=
  let c0_i32_46 : BitVec 32 := 0#32
  let c1_i32_47 : BitVec 32 := 1#32
  let arg16 : BitVec 32 := Scf.iv c0_i32_46 c1_i32_47 k0_t1
  let c8_i32 : BitVec 32 := 8#32
  let v146 : BitVec 32 := Scalar.muli arg16 c8_i32
  let v147 : BitVec 32 := v146
  let v148 : Index := Scalar.indexCast v147
  let c0_61 : Index := 0#32
  ![v148.toNat, 0]
def cc0_transform_0 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S432x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S432x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S432x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LruReferenceIdeal.lean ====
abbrev S65664x512 : Shape := ⟨2, ![65664, 512]⟩
abbrev S4x512 : Shape := ⟨2, ![4, 512]⟩
abbrev S512 : Shape := ⟨1, ![512]⟩
abbrev S8x64x64 : Shape := ⟨3, ![8, 64, 64]⟩
abbrev S8x8208x512 : Shape := ⟨3, ![8, 8208, 512]⟩
abbrev S_ : Shape := ⟨0, ![]⟩
abbrev S8x8211x512 : Shape := ⟨3, ![8, 8211, 512]⟩
abbrev S1x512 : Shape := ⟨2, ![1, 512]⟩
abbrev S1x1x512 : Shape := ⟨3, ![1, 1, 512]⟩
abbrev S8x8208x8x64 : Shape := ⟨4, ![8, 8208, 8, 64]⟩
abbrev S8x64x8x8208 : Shape := ⟨4, ![8, 64, 8, 8208]⟩
abbrev S8x512 : Shape := ⟨2, ![8, 512]⟩
abbrev S8208x8x512 : Shape := ⟨3, ![8208, 8, 512]⟩
abbrev S1x8x512 : Shape := ⟨3, ![1, 8, 512]⟩

abbrev nBuf : Space → Nat
  | .hbm => 157
  | .vmem => 0
  | .smem => 0
  | _ => 0

abbrev hbmTy0_0 (i : Nat) : BufTy := match i % 128 with
  | 0 => ⟨S65664x512, .f32⟩
  | 1 => ⟨S65664x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S8x8208x512, .f32⟩
  | 10 => ⟨S_, .i32⟩
  | 11 => ⟨S_, .f32⟩
  | 12 => ⟨S8x8211x512, .f32⟩
  | 13 => ⟨S8x8208x512, .f32⟩
  | 14 => ⟨S1x512, .f32⟩
  | 15 => ⟨S512, .f32⟩
  | 16 => ⟨S1x1x512, .f32⟩
  | 17 => ⟨S8x8208x512, .f32⟩
  | 18 => ⟨S8x8208x512, .f32⟩
  | 19 => ⟨S_, .f32⟩
  | 20 => ⟨S8x8208x512, .f32⟩
  | 21 => ⟨S8x8208x512, .f32⟩
  | 22 => ⟨S8x8208x512, .f32⟩
  | 23 => ⟨S1x512, .f32⟩
  | 24 => ⟨S512, .f32⟩
  | 25 => ⟨S1x1x512, .f32⟩
  | 26 => ⟨S8x8208x512, .f32⟩
  | 27 => ⟨S8x8208x512, .f32⟩
  | 28 => ⟨S8x8208x512, .f32⟩
  | 29 => ⟨S8x8208x512, .f32⟩
  | 30 => ⟨S1x512, .f32⟩
  | 31 => ⟨S512, .f32⟩
  | 32 => ⟨S1x1x512, .f32⟩
  | 33 => ⟨S8x8208x512, .f32⟩
  | 34 => ⟨S8x8208x512, .f32⟩
  | 35 => ⟨S8x8208x512, .f32⟩
  | 36 => ⟨S8x8208x512, .f32⟩
  | 37 => ⟨S1x512, .f32⟩
  | 38 => ⟨S512, .f32⟩
  | 39 => ⟨S1x1x512, .f32⟩
  | 40 => ⟨S8x8208x512, .f32⟩
  | 41 => ⟨S8x8208x512, .f32⟩
  | 42 => ⟨S8x8208x512, .f32⟩
  | 43 => ⟨S1x1x512, .f32⟩
  | 44 => ⟨S8x8208x512, .f32⟩
  | 45 => ⟨S8x8208x512, .f32⟩
  | 46 => ⟨S8x8208x8x64, .f32⟩
  | 47 => ⟨S8x64x8x8208, .f32⟩
  | 48 => ⟨S8x8208x8x64, .f32⟩
  | 49 => ⟨S8x8208x512, .f32⟩
  | 50 => ⟨S1x1x512, .f32⟩
  | 51 => ⟨S8x8208x512, .f32⟩
  | 52 => ⟨S8x8208x512, .f32⟩
  | 53 => ⟨S8x8208x512, .f32⟩
  | 54 => ⟨S8x8208x512, .f32⟩
  | 55 => ⟨S_, .f32⟩
  | 56 => ⟨S8x8208x512, .f32⟩
  | 57 => ⟨S8x8208x512, .f32⟩
  | 58 => ⟨S_, .f32⟩
  | 59 => ⟨S8x8208x512, .f32⟩
  | 60 => ⟨S8x8208x512, .f32⟩
  | 61 => ⟨S8x64x8x8208, .f32⟩
  | 62 => ⟨S8x8208x8x64, .f32⟩
  | 63 => ⟨S8x8208x512, .f32⟩
  | 64 => ⟨S1x1x512, .f32⟩
  | 65 => ⟨S8x8208x512, .f32⟩
  | 66 => ⟨S8x8208x512, .f32⟩
  | 67 => ⟨S8x8208x512, .f32⟩
  | 68 => ⟨S8x8208x512, .f32⟩
  | 69 => ⟨S_, .f32⟩
  | 70 => ⟨S8x8208x512, .f32⟩
  | 71 => ⟨S8x8208x512, .f32⟩
  | 72 => ⟨S_, .f32⟩
  | 73 => ⟨S8x8208x512, .f32⟩
  | 74 => ⟨S8x8208x512, .f32⟩
  | 75 => ⟨S_, .f32⟩
  | 76 => ⟨S8x8208x512, .f32⟩
  | 77 => ⟨S8x8208x512, .f32⟩
  | 78 => ⟨S512, .f32⟩
  | 79 => ⟨S_, .f32⟩
  | 80 => ⟨S512, .f32⟩
  | 81 => ⟨S512, .f32⟩
  | 82 => ⟨S512, .f32⟩
  | 83 => ⟨S512, .f32⟩
  | 84 => ⟨S512, .i1⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S1x1x512, .f32⟩
  | 94 => ⟨S8x8208x512, .f32⟩
  | 95 => ⟨S8x8208x512, .f32⟩
  | 96 => ⟨S8x8208x512, .f32⟩
  | 97 => ⟨S_, .f32⟩
  | 98 => ⟨S8x8208x512, .f32⟩
  | 99 => ⟨S8x8208x512, .f32⟩
  | 100 => ⟨S8x8208x512, .f32⟩
  | 101 => ⟨S8x8208x512, .f32⟩
  | 102 => ⟨S8x8208x512, .f32⟩
  | 103 => ⟨S8x8208x512, .f32⟩
  | 104 => ⟨S8x8208x512, .f32⟩
  | 105 => ⟨S_, .f32⟩
  | 106 => ⟨S8x512, .f32⟩
  | 107 => ⟨S8208x8x512, .f32⟩
  | 108 => ⟨S8208x8x512, .f32⟩
  | 109 => ⟨S_, .f32⟩
  | 110 => ⟨S8208x8x512, .f32⟩
  | 111 => ⟨S_, .i32⟩
  | 112 => ⟨S8208x8x512, .f32⟩
  | 113 => ⟨S8208x8x512, .f32⟩
  | 114 => ⟨S_, .i32⟩
  | 115 => ⟨S8x512, .f32⟩
  | 116 => ⟨S8208x8x512, .f32⟩
  | 117 => ⟨S_, .i32⟩
  | 118 => ⟨S_, .i1⟩
  | 119 => ⟨S_, .i32⟩
  | 120 => ⟨S_, .i32⟩
  | 121 => ⟨S1x8x512, .f32⟩
  | 122 => ⟨S8x512, .f32⟩
  | 123 => ⟨S_, .i32⟩
  | 124 => ⟨S_, .i32⟩
  | 125 => ⟨S1x8x512, .f32⟩
  | 126 => ⟨S8x512, .f32⟩
  | 127 => ⟨S8x512, .f32⟩
  | _ => ⟨S65664x512, .f32⟩

abbrev hbmTy0_1 (i : Nat) : BufTy := match i % 128 with
  | 0 => ⟨S8x512, .f32⟩
  | 1 => ⟨S1x8x512, .f32⟩
  | 2 => ⟨S_, .i32⟩
  | 3 => ⟨S_, .i32⟩
  | 4 => ⟨S8208x8x512, .f32⟩
  | 5 => ⟨S_, .i32⟩
  | 6 => ⟨S_, .i32⟩
  | 7 => ⟨S8x8208x512, .f32⟩
  | 8 => ⟨S8x8208x512, .f32⟩
  | 9 => ⟨S8x8208x512, .f32⟩
  | 10 => ⟨S8x8208x512, .f32⟩
  | 11 => ⟨S_, .f32⟩
  | 12 => ⟨S8x8208x512, .f32⟩
  | 13 => ⟨S8x8208x512, .f32⟩
  | 14 => ⟨S8x8208x512, .f32⟩
  | 15 => ⟨S_, .f32⟩
  | 16 => ⟨S8x8208x512, .f32⟩
  | 17 => ⟨S8x8208x512, .f32⟩
  | 18 => ⟨S8x8208x512, .f32⟩
  | 19 => ⟨S_, .f32⟩
  | 20 => ⟨S8x8208x512, .f32⟩
  | 21 => ⟨S8x8208x512, .f32⟩
  | 22 => ⟨S_, .f32⟩
  | 23 => ⟨S8x8208x512, .f32⟩
  | 24 => ⟨S8x8208x512, .f32⟩
  | 25 => ⟨S8x8208x512, .f32⟩
  | 26 => ⟨S8x8208x512, .f32⟩
  | 27 => ⟨S65664x512, .f32⟩
  | 28 => ⟨S65664x512, .bf16⟩
  | _ => ⟨S65664x512, .f32⟩

abbrev hbmTy (i : Nat) : BufTy := match i / 128 with
  | 0 => hbmTy0_0 i
  | 1 => hbmTy0_1 i
  | _ => ⟨S65664x512, .f32⟩

abbrev bufTy : (tb : Table) → Fin (tcTables nBuf tb) → BufTy
  | .hbm, ⟨i, _⟩ => hbmTy i
  | _, _ => ⟨S65664x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_0 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_2 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_6 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_7 : Ref sig .tc := ⟨.hbm, 109, rfl⟩
abbrev main_v77 : Ref sig .tc := ⟨.hbm, 110, rfl⟩
abbrev main_c_8 : Ref sig .tc := ⟨.hbm, 111, rfl⟩
abbrev main_v78_0 : Ref sig .tc := ⟨.hbm, 112, rfl⟩
abbrev main_v78_1 : Ref sig .tc := ⟨.hbm, 113, rfl⟩
abbrev main_v78_2 : Ref sig .tc := ⟨.hbm, 114, rfl⟩
abbrev main_v78_3 : Ref sig .tc := ⟨.hbm, 115, rfl⟩
abbrev main_v78_4 : Ref sig .tc := ⟨.hbm, 116, rfl⟩
abbrev main_while0c_c_17 : Ref sig .tc := ⟨.hbm, 117, rfl⟩
abbrev main_while0c_v97 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_v0 : Ref sig .tc := ⟨.hbm, 121, rfl⟩
abbrev main_while0b_v97 : Ref sig .tc := ⟨.hbm, 122, rfl⟩
abbrev main_while0b_call3_c : Ref sig .tc := ⟨.hbm, 123, rfl⟩
abbrev main_while0b_call3_c_0 : Ref sig .tc := ⟨.hbm, 124, rfl⟩
abbrev main_while0b_call3_v0 : Ref sig .tc := ⟨.hbm, 125, rfl⟩
abbrev main_while0b_v98 : Ref sig .tc := ⟨.hbm, 126, rfl⟩
abbrev main_while0b_v99 : Ref sig .tc := ⟨.hbm, 127, rfl⟩
abbrev main_while0b_v100 : Ref sig .tc := ⟨.hbm, 128, rfl⟩
abbrev main_while0b_call4_v0 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_v101 : Ref sig .tc := ⟨.hbm, 132, rfl⟩
abbrev main_while0b_c_17 : Ref sig .tc := ⟨.hbm, 133, rfl⟩
abbrev main_while0b_v102 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_9 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_10 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_11 : Ref sig .tc := ⟨.hbm, 147, rfl⟩
abbrev main_v89 : Ref sig .tc := ⟨.hbm, 148, rfl⟩
abbrev main_v90 : Ref sig .tc := ⟨.hbm, 149, rfl⟩
abbrev main_cst_12 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩

abbrev nD : Nat := 1
abbrev τ : Topo := Topo.v7x

variable {F : FTy → Type} [FloatOps F]

abbrev main_while0_count : Scf.Loop 32 := ⟨0#32, 8208#32, 1#32⟩
-- ==== Ffn.lean ====
abbrev S545 : Shape := ⟨1, ![545]⟩
abbrev S139520x1024 : Shape := ⟨2, ![139520, 1024]⟩
abbrev S1024 : Shape := ⟨1, ![1024]⟩
abbrev S32x1024x256 : Shape := ⟨3, ![32, 1024, 256]⟩
abbrev S32x256x1024 : Shape := ⟨3, ![32, 256, 1024]⟩
abbrev S1x1024 : Shape := ⟨2, ![1, 1024]⟩
abbrev S256x1024 : Shape := ⟨2, ![256, 1024]⟩
abbrev S1x1024x256 : Shape := ⟨3, ![1, 1024, 256]⟩
abbrev S1 : Shape := ⟨1, ![1]⟩
abbrev S1x256x1024 : Shape := ⟨3, ![1, 256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 10
  | .vmem => 11
  | .smem => 1
  | _ => 0

abbrev bufTy : (tb : Table) → Fin (tcTables nBuf tb) → BufTy
  | .hbm, ⟨0, _⟩ => ⟨S139520x1024, .f32⟩
  | .hbm, ⟨1, _⟩ => ⟨S1024, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S1x1024, .f32⟩
  | .hbm, ⟨6, _⟩ => ⟨S32x1024x256, .bf16⟩
  | .hbm, ⟨7, _⟩ => ⟨S32x1024x256, .bf16⟩
  | .hbm, ⟨8, _⟩ => ⟨S32x256x1024, .bf16⟩
  | .hbm, ⟨9, _⟩ => ⟨S139520x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S256x1024, .f32⟩
  | .local _ .vmem, ⟨10, _⟩ => ⟨S256x1024, .f32⟩
  | .local _ .smem, ⟨0, _⟩ => ⟨S545, .i32⟩
  | _, _ => ⟨S139520x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![545], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S545 : Shape := ⟨1, ![545]⟩
abbrev S139520x1024 : Shape := ⟨2, ![139520, 1024]⟩
abbrev S1024 : Shape := ⟨1, ![1024]⟩
abbrev S32x1024x256 : Shape := ⟨3, ![32, 1024, 256]⟩
abbrev S32x256x1024 : Shape := ⟨3, ![32, 256, 1024]⟩
abbrev S_ : Shape := ⟨0, ![]⟩
abbrev S139520 : Shape := ⟨1, ![139520]⟩
abbrev S139520x1 : Shape := ⟨2, ![139520, 1]⟩
abbrev S1x1024 : Shape := ⟨2, ![1, 1024]⟩
abbrev S545x1 : Shape := ⟨2, ![545, 1]⟩
abbrev S545x256 : Shape := ⟨2, ![545, 256]⟩
abbrev S1x139520 : Shape := ⟨2, ![1, 139520]⟩
abbrev S32x1 : Shape := ⟨2, ![32, 1]⟩
abbrev S32x139520 : Shape := ⟨2, ![32, 139520]⟩
abbrev S32x256x139520 : Shape := ⟨3, ![32, 256, 139520]⟩
abbrev S32x139520x256 : Shape := ⟨3, ![32, 139520, 256]⟩
abbrev S32x139520x1024 : Shape := ⟨3, ![32, 139520, 1024]⟩
abbrev S32x139520x1 : Shape := ⟨3, ![32, 139520, 1]⟩

abbrev nBuf : Space → Nat
  | .hbm => 51
  | .vmem => 0
  | .smem => 0
  | _ => 0

abbrev bufTy : (tb : Table) → Fin (tcTables nBuf tb) → BufTy
  | .hbm, ⟨0, _⟩ => ⟨S545, .i32⟩
  | .hbm, ⟨1, _⟩ => ⟨S139520x1024, .f32⟩
  | .hbm, ⟨2, _⟩ => ⟨S1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S139520x1024, .f32⟩
  | .hbm, ⟨7, _⟩ => ⟨S_, .f32⟩
  | .hbm, ⟨8, _⟩ => ⟨S139520, .f32⟩
  | .hbm, ⟨9, _⟩ => ⟨S139520x1, .f32⟩
  | .hbm, ⟨10, _⟩ => ⟨S_, .f32⟩
  | .hbm, ⟨11, _⟩ => ⟨S139520x1, .f32⟩
  | .hbm, ⟨12, _⟩ => ⟨S139520x1, .f32⟩
  | .hbm, ⟨13, _⟩ => ⟨S_, .f32⟩
  | .hbm, ⟨14, _⟩ => ⟨S139520x1, .f32⟩
  | .hbm, ⟨15, _⟩ => ⟨S139520x1, .f32⟩
  | .hbm, ⟨16, _⟩ => ⟨S139520x1, .f32⟩
  | .hbm, ⟨17, _⟩ => ⟨S139520x1024, .f32⟩
  | .hbm, ⟨18, _⟩ => ⟨S139520x1024, .f32⟩
  | .hbm, ⟨19, _⟩ => ⟨S1x1024, .f32⟩
  | .hbm, ⟨20, _⟩ => ⟨S139520x1024, .f32⟩
  | .hbm, ⟨21, _⟩ => ⟨S139520x1024, .f32⟩
  | .hbm, ⟨22, _⟩ => ⟨S545x1, .i32⟩
  | .hbm, ⟨23, _⟩ => ⟨S545x256, .i32⟩
  | .hbm, ⟨24, _⟩ => ⟨S139520, .i32⟩
  | .hbm, ⟨25, _⟩ => ⟨S1x139520, .i32⟩
  | .hbm, ⟨26, _⟩ => ⟨S32x1, .i32⟩
  | .hbm, ⟨27, _⟩ => ⟨S32x139520, .i32⟩
  | .hbm, ⟨28, _⟩ => ⟨S32x139520, .i32⟩
  | .hbm, ⟨29, _⟩ => ⟨S32x139520, .i1⟩
  | .hbm, ⟨30, _⟩ => ⟨S32x139520, .f32⟩
  | .hbm, ⟨31, _⟩ => ⟨S32x256x139520, .f32⟩
  | .hbm, ⟨32, _⟩ => ⟨S32x139520x256, .f32⟩
  | .hbm, ⟨33, _⟩ => ⟨S32x139520x256, .f32⟩
  | .hbm, ⟨34, _⟩ => ⟨S32x139520x256, .f32⟩
  | .hbm, ⟨35, _⟩ => ⟨S_, .f32⟩
  | .hbm, ⟨36, _⟩ => ⟨S32x139520x256, .f32⟩
  | .hbm, ⟨37, _⟩ => ⟨S32x139520x256, .f32⟩
  | .hbm, ⟨38, _⟩ => ⟨S_, .f32⟩
  | .hbm, ⟨39, _⟩ => ⟨S32x139520x256, .f32⟩
  | .hbm, ⟨40, _⟩ => ⟨S32x139520x256, .f32⟩
  | .hbm, ⟨41, _⟩ => ⟨S32x139520x256, .f32⟩
  | .hbm, ⟨42, _⟩ => ⟨S32x256x139520, .f32⟩
  | .hbm, ⟨43, _⟩ => ⟨S32x139520x256, .f32⟩
  | .hbm, ⟨44, _⟩ => ⟨S32x139520x256, .f32⟩
  | .hbm, ⟨45, _⟩ => ⟨S32x139520x1024, .f32⟩
  | .hbm, ⟨46, _⟩ => ⟨S32x139520x1, .f32⟩
  | .hbm, ⟨47, _⟩ => ⟨S32x139520x1024, .f32⟩
  | .hbm, ⟨48, _⟩ => ⟨S32x139520x1024, .f32⟩
  | .hbm, ⟨49, _⟩ => ⟨S_, .f32⟩
  | .hbm, ⟨50, _⟩ => ⟨S139520x1024, .f32⟩
  | _, _ => ⟨S545, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== InProj.lean ====
abbrev S65664x1024 : Shape := ⟨2, ![65664, 1024]⟩
abbrev S1024 : Shape := ⟨1, ![1024]⟩
abbrev S1024x2816 : Shape := ⟨2, ![1024, 2816]⟩
abbrev S1x1024 : Shape := ⟨2, ![1, 1024]⟩
abbrev S65664x1792 : Shape := ⟨2, ![65664, 1792]⟩
abbrev S65664x512 : Shape := ⟨2, ![65664, 512]⟩
abbrev S384x1024 : Shape := ⟨2, ![384, 1024]⟩
abbrev S384x1792 : Shape := ⟨2, ![384, 1792]⟩
abbrev S384x512 : Shape := ⟨2, ![384, 512]⟩
abbrev S384 : Shape := ⟨1, ![384]⟩
abbrev S384x1 : Shape := ⟨2, ![384, 1]⟩
abbrev S1024x1792 : Shape := ⟨2, ![1024, 1792]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S65664x1024, .f32⟩
  | .hbm, ⟨1, _⟩ => ⟨S1024, .f32⟩
  | .hbm, ⟨2, _⟩ => ⟨S1024x2816, .f32⟩
  | .hbm, ⟨3, _⟩ => ⟨S1x1024, .f32⟩
  | .hbm, ⟨4, _⟩ => ⟨S1024x2816, .bf16⟩
  | .hbm, ⟨5, _⟩ => ⟨S65664x1792, .f32⟩
  | .hbm, ⟨6, _⟩ => ⟨S65664x512, .f32⟩
  | .hbm, ⟨7, _⟩ => ⟨S65664x512, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x2816, .bf16⟩
  | .local _ .vmem, ⟨4, _⟩ => ⟨S384x1792, .f32⟩
  | .local _ .vmem, ⟨5, _⟩ => ⟨S384x1792, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | _, _ => ⟨S65664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![171], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjReferenceIdeal.lean ====
abbrev S65664x1024 : Shape := ⟨2, ![65664, 1024]⟩
abbrev S1024 : Shape := ⟨1, ![1024]⟩
abbrev S1024x2816 : Shape := ⟨2, ![1024, 2816]⟩
abbrev S_ : Shape := ⟨0, ![]⟩
abbrev S65664 : Shape := ⟨1, ![65664]⟩
abbrev S65664x1 : Shape := ⟨2, ![65664, 1]⟩
abbrev S1x1024 : Shape := ⟨2, ![1, 1024]⟩
abbrev S65664x2816 : Shape := ⟨2, ![65664, 2816]⟩
abbrev S65664x1792 : Shape := ⟨2, ![65664, 1792]⟩
abbrev S65664x512 : Shape := ⟨2, ![65664, 512]⟩

abbrev nBuf : Space → Nat
  | .hbm => 23
  | .vmem => 0
  | .smem => 0
  | _ => 0

abbrev bufTy : (tb : Table) → Fin (tcTables nBuf tb) → BufTy
  | .hbm, ⟨0, _⟩ => ⟨S65664x1024, .f32⟩
  | .hbm, ⟨1, _⟩ => ⟨S1024, .f32⟩
  | .hbm, ⟨2, _⟩ => ⟨S1024x2816, .f32⟩
  | .hbm, ⟨3, _⟩ => ⟨S65664x1024, .f32⟩
  | .hbm, ⟨4, _⟩ => ⟨S_, .f32⟩
  | .hbm, ⟨5, _⟩ => ⟨S65664, .f32⟩
  | .hbm, ⟨6, _⟩ => ⟨S65664x1, .f32⟩
  | .hbm, ⟨7, _⟩ => ⟨S_, .f32⟩
  | .hbm, ⟨8, _⟩ => ⟨S65664x1, .f32⟩
  | .hbm, ⟨9, _⟩ => ⟨S65664x1, .f32⟩
  | .hbm, ⟨10, _⟩ => ⟨S_, .f32⟩
  | .hbm, ⟨11, _⟩ => ⟨S65664x1, .f32⟩
  | .hbm, ⟨12, _⟩ => ⟨S65664x1, .f32⟩
  | .hbm, ⟨13, _⟩ => ⟨S65664x1, .f32⟩
  | .hbm, ⟨14, _⟩ => ⟨S65664x1024, .f32⟩
  | .hbm, ⟨15, _⟩ => ⟨S65664x1024, .f32⟩
  | .hbm, ⟨16, _⟩ => ⟨S1x1024, .f32⟩
  | .hbm, ⟨17, _⟩ => ⟨S65664x1024, .f32⟩
  | .hbm, ⟨18, _⟩ => ⟨S65664x1024, .f32⟩
  | .hbm, ⟨19, _⟩ => ⟨S65664x2816, .f32⟩
  | .hbm, ⟨20, _⟩ => ⟨S65664x1792, .f32⟩
  | .hbm, ⟨21, _⟩ => ⟨S65664x512, .f32⟩
  | .hbm, ⟨22, _⟩ => ⟨S65664x512, .f32⟩
  | _, _ => ⟨S65664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OutProj.lean ====
abbrev S65664x1024 : Shape := ⟨2, ![65664, 1024]⟩
abbrev S65664x512 : Shape := ⟨2, ![65664, 512]⟩
abbrev S1024x1024 : Shape := ⟨2, ![1024, 1024]⟩
abbrev S512x1024 : Shape := ⟨2, ![512, 1024]⟩
abbrev S384x1024 : Shape := ⟨2, ![384, 1024]⟩
abbrev S384x512 : Shape := ⟨2, ![384, 512]⟩

abbrev nBuf : Space → Nat
  | .hbm => 9
  | .vmem => 10
  | .smem => 0
  | _ => 0

abbrev bufTy : (tb : Table) → Fin (tcTables nBuf tb) → BufTy
  | .hbm, ⟨0, _⟩ => ⟨S65664x1024, .f32⟩
  | .hbm, ⟨1, _⟩ => ⟨S65664x512, .bf16⟩
  | .hbm, ⟨2, _⟩ => ⟨S65664x512, .bf16⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S512x1024, .bf16⟩
  | .hbm, ⟨7, _⟩ => ⟨S512x1024, .bf16⟩
  | .hbm, ⟨8, _⟩ => ⟨S65664x1024, .f32⟩
  | .local _ .vmem, ⟨0, _⟩ => ⟨S384x1024, .f32⟩
  | .local _ .vmem, ⟨1, _⟩ => ⟨S384x1024, .f32⟩
  | .local _ .vmem, ⟨2, _⟩ => ⟨S384x512, .bf16⟩
  | .local _ .vmem, ⟨3, _⟩ => ⟨S384x512, .bf16⟩
  | .local _ .vmem, ⟨4, _⟩ => ⟨S512x1024, .bf16⟩
  | .local _ .vmem, ⟨5, _⟩ => ⟨S384x512, .bf16⟩
  | .local _ .vmem, ⟨6, _⟩ => ⟨S384x512, .bf16⟩
  | .local _ .vmem, ⟨7, _⟩ => ⟨S512x1024, .bf16⟩
  | .local _ .vmem, ⟨8, _⟩ => ⟨S384x1024, .f32⟩
  | .local _ .vmem, ⟨9, _⟩ => ⟨S384x1024, .f32⟩
  | _, _ => ⟨S65664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![171], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjReferenceIdeal.lean ====
abbrev S65664x1024 : Shape := ⟨2, ![65664, 1024]⟩
abbrev S65664x512 : Shape := ⟨2, ![65664, 512]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S65664x1024, .f32⟩
  | .hbm, ⟨1, _⟩ => ⟨S65664x512, .bf16⟩
  | .hbm, ⟨2, _⟩ => ⟨S65664x512, .bf16⟩
  | .hbm, ⟨3, _⟩ => ⟨S1024x1024, .f32⟩
  | .hbm, ⟨4, _⟩ => ⟨S65664x1024, .bf16⟩
  | .hbm, ⟨5, _⟩ => ⟨S65664x1024, .f32⟩
  | .hbm, ⟨6, _⟩ => ⟨S65664x1024, .f32⟩
  | .hbm, ⟨7, _⟩ => ⟨S65664x1024, .f32⟩
  | _, _ => ⟨S65664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InProjOdd.lean ====
abbrev S65664x1024 : Shape := ⟨2, ![65664, 1024]⟩
abbrev S1024 : Shape := ⟨1, ![1024]⟩
abbrev S1024x3088 : Shape := ⟨2, ![1024, 3088]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x112 : Shape := ⟨2, ![1024, 112]⟩
abbrev S1024x3200 : Shape := ⟨2, ![1024, 3200]⟩
abbrev S1x1024 : Shape := ⟨2, ![1, 1024]⟩
abbrev S65664x512 : Shape := ⟨2, ![65664, 512]⟩
abbrev S65664x128 : Shape := ⟨2, ![65664, 128]⟩
abbrev S384x1024 : Shape := ⟨2, ![384, 1024]⟩
abbrev S384x512 : Shape := ⟨2, ![384, 512]⟩
abbrev S384x128 : Shape := ⟨2, ![384, 128]⟩
abbrev S384 : Shape := ⟨1, ![384]⟩
abbrev S384x1 : Shape := ⟨2, ![384, 1]⟩
abbrev S1024x512 : Shape := ⟨2, ![1024, 512]⟩
abbrev S1024x128 : Shape := ⟨2, ![1024, 128]⟩

abbrev nBuf : Space → Nat
  | .hbm => 16
  | .vmem => 14
  | .smem => 0
  | _ => 0

abbrev bufTy : (tb : Table) → Fin (tcTables nBuf tb) → BufTy
  | .hbm, ⟨0, _⟩ => ⟨S65664x1024, .f32⟩
  | .hbm, ⟨1, _⟩ => ⟨S1024, .f32⟩
  | .hbm, ⟨2, _⟩ => ⟨S1024x3088, .f32⟩
  | .hbm, ⟨3, _⟩ => ⟨S1024x2048, .f32⟩
  | .hbm, ⟨4, _⟩ => ⟨S1024x1024, .f32⟩
  | .hbm, ⟨5, _⟩ => ⟨S1024x16, .f32⟩
  | .hbm, ⟨6, _⟩ => ⟨S_, .f32⟩
  | .hbm, ⟨7, _⟩ => ⟨S1024x112, .f32⟩
  | .hbm, ⟨8, _⟩ => ⟨S1024x3200, .f32⟩
  | .hbm, ⟨9, _⟩ => ⟨S1x1024, .f32⟩
  | .hbm, ⟨10, _⟩ => ⟨S1024x3200, .bf16⟩
  | .hbm, ⟨11, _⟩ => ⟨S65664x512, .f32⟩
  | .hbm, ⟨12, _⟩ => ⟨S65664x512, .f32⟩
  | .hbm, ⟨13, _⟩ => ⟨S65664x1024, .f32⟩
  | .hbm, ⟨14, _⟩ => ⟨S65664x1024, .f32⟩
  | .hbm, ⟨15, _⟩ => ⟨S65664x128, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x3200, .bf16⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x128, .f32⟩
  | .local _ .vmem, ⟨13, _⟩ => ⟨S384x128, .f32⟩
  | _, _ => ⟨S65664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![171], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjOddReferenceIdeal.lean ====
abbrev S65664x1024 : Shape := ⟨2, ![65664, 1024]⟩
abbrev S1024 : Shape := ⟨1, ![1024]⟩
abbrev S1024x3088 : Shape := ⟨2, ![1024, 3088]⟩
abbrev S_ : Shape := ⟨0, ![]⟩
abbrev S65664 : Shape := ⟨1, ![65664]⟩
abbrev S65664x1 : Shape := ⟨2, ![65664, 1]⟩
abbrev S1x1024 : Shape := ⟨2, ![1, 1024]⟩
abbrev S65664x3088 : Shape := ⟨2, ![65664, 3088]⟩
abbrev S65664x512 : Shape := ⟨2, ![65664, 512]⟩
abbrev S65664x16 : Shape := ⟨2, ![65664, 16]⟩
abbrev S65664x128 : Shape := ⟨2, ![65664, 128]⟩

abbrev nBuf : Space → Nat
  | .hbm => 28
  | .vmem => 0
  | .smem => 0
  | _ => 0

abbrev bufTy : (tb : Table) → Fin (tcTables nBuf tb) → BufTy
  | .hbm, ⟨0, _⟩ => ⟨S65664x1024, .f32⟩
  | .hbm, ⟨1, _⟩ => ⟨S1024, .f32⟩
  | .hbm, ⟨2, _⟩ => ⟨S1024x3088, .f32⟩
  | .hbm, ⟨3, _⟩ => ⟨S65664x1024, .f32⟩
  | .hbm, ⟨4, _⟩ => ⟨S_, .f32⟩
  | .hbm, ⟨5, _⟩ => ⟨S65664, .f32⟩
  | .hbm, ⟨6, _⟩ => ⟨S65664x1, .f32⟩
  | .hbm, ⟨7, _⟩ => ⟨S_, .f32⟩
  | .hbm, ⟨8, _⟩ => ⟨S65664x1, .f32⟩
  | .hbm, ⟨9, _⟩ => ⟨S65664x1, .f32⟩
  | .hbm, ⟨10, _⟩ => ⟨S_, .f32⟩
  | .hbm, ⟨11, _⟩ => ⟨S65664x1, .f32⟩
  | .hbm, ⟨12, _⟩ => ⟨S65664x1, .f32⟩
  | .hbm, ⟨13, _⟩ => ⟨S65664x1, .f32⟩
  | .hbm, ⟨14, _⟩ => ⟨S65664x1024, .f32⟩
  | .hbm, ⟨15, _⟩ => ⟨S65664x1024, .f32⟩
  | .hbm, ⟨16, _⟩ => ⟨S1x1024, .f32⟩
  | .hbm, ⟨17, _⟩ => ⟨S65664x1024, .f32⟩
  | .hbm, ⟨18, _⟩ => ⟨S65664x1024, .f32⟩
  | .hbm, ⟨19, _⟩ => ⟨S65664x3088, .f32⟩
  | .hbm, ⟨20, _⟩ => ⟨S65664x512, .f32⟩
  | .hbm, ⟨21, _⟩ => ⟨S65664x512, .f32⟩
  | .hbm, ⟨22, _⟩ => ⟨S65664x1024, .f32⟩
  | .hbm, ⟨23, _⟩ => ⟨S65664x16, .f32⟩
  | .hbm, ⟨24, _⟩ => ⟨S65664x1024, .f32⟩
  | .hbm, ⟨25, _⟩ => ⟨S_, .i32⟩
  | .hbm, ⟨26, _⟩ => ⟨S_, .f32⟩
  | .hbm, ⟨27, _⟩ => ⟨S65664x128, .f32⟩
  | _, _ => ⟨S65664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== OutProjOdd.lean ====
abbrev S65664x1024 : Shape := ⟨2, ![65664, 1024]⟩
abbrev S1024x1024 : Shape := ⟨2, ![1024, 1024]⟩
abbrev S384x1024 : Shape := ⟨2, ![384, 1024]⟩

abbrev nBuf : Space → Nat
  | .hbm => 5
  | .vmem => 7
  | .smem => 0
  | _ => 0

abbrev bufTy : (tb : Table) → Fin (tcTables nBuf tb) → BufTy
  | .hbm, ⟨0, _⟩ => ⟨S65664x1024, .f32⟩
  | .hbm, ⟨1, _⟩ => ⟨S65664x1024, .bf16⟩
  | .hbm, ⟨2, _⟩ => ⟨S1024x1024, .f32⟩
  | .hbm, ⟨3, _⟩ => ⟨S1024x1024, .bf16⟩
  | .hbm, ⟨4, _⟩ => ⟨S65664x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .bf16⟩
  | .local _ .vmem, ⟨3, _⟩ => ⟨S384x1024, .bf16⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | _, _ => ⟨S65664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![171], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjOddReferenceIdeal.lean ====
abbrev S65664x1024 : Shape := ⟨2, ![65664, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S65664x1024, .f32⟩
  | .hbm, ⟨1, _⟩ => ⟨S65664x1024, .bf16⟩
  | .hbm, ⟨2, _⟩ => ⟨S1024x1024, .f32⟩
  | .hbm, ⟨3, _⟩ => ⟨S65664x1024, .f32⟩
  | .hbm, ⟨4, _⟩ => ⟨S65664x1024, .f32⟩
  | .hbm, ⟨5, _⟩ => ⟨S65664x1024, .f32⟩
  | _, _ => ⟨S65664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Prep.lean ====
abbrev S65664x1792 : Shape := ⟨2, ![65664, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩
abbrev S128x1024 : Shape := ⟨2, ![128, 1024]⟩
abbrev S1 : Shape := ⟨1, ![1]⟩
abbrev S2 : Shape := ⟨1, ![2]⟩
abbrev S1x1792 : Shape := ⟨2, ![1, 1792]⟩
abbrev S1x512 : Shape := ⟨2, ![1, 512]⟩
abbrev S512x512 : Shape := ⟨2, ![512, 512]⟩
abbrev S65664x512 : Shape := ⟨2, ![65664, 512]⟩
abbrev S432x1792 : Shape := ⟨2, ![432, 1792]⟩
abbrev S432x512 : Shape := ⟨2, ![432, 512]⟩
abbrev S432x1 : Shape := ⟨2, ![432, 1]⟩
abbrev S432x128 : Shape := ⟨2, ![432, 128]⟩
abbrev S1x128 : Shape := ⟨2, ![1, 128]⟩
abbrev S432x1024 : Shape := ⟨2, ![432, 1024]⟩

abbrev nBuf : Space → Nat
  | .hbm => 80
  | .vmem => 28
  | .smem => 0
  | _ => 0

abbrev bufTy : (tb : Table) → Fin (tcTables nBuf tb) → BufTy
  | .hbm, ⟨0, _⟩ => ⟨S65664x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S128x1024, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S128x1024, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S128x1024, .f32⟩
  | .hbm, ⟨24, _⟩ => ⟨S1x1792, .f32⟩
  | .hbm, ⟨25, _⟩ => ⟨S128x1024, .bf16⟩
  | .hbm, ⟨26, _⟩ => ⟨S1x512, .f32⟩
  | .hbm, ⟨27, _⟩ => ⟨S1x512, .f32⟩
  | .hbm, ⟨28, _⟩ => ⟨S128x512, .bf16⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S512x512, .i32⟩
  | .hbm, ⟨33, _⟩ => ⟨S_, .i32⟩
  | .hbm, ⟨34, _⟩ => ⟨S_, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S512x512, .i32⟩
  | .hbm, ⟨40, _⟩ => ⟨S512x512, .i1⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S512x512, .i1⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S_, .i32⟩
  | .hbm, ⟨54, _⟩ => ⟨S512x512, .i32⟩
  | .hbm, ⟨55, _⟩ => ⟨S512x512, .i32⟩
  | .hbm, ⟨56, _⟩ => ⟨S512x512, .i32⟩
  | .hbm, ⟨57, _⟩ => ⟨S_, .i32⟩
  | .hbm, ⟨58, _⟩ => ⟨S512x512, .i32⟩
  | .hbm, ⟨59, _⟩ => ⟨S512x512, .i1⟩
  | .hbm, ⟨60, _⟩ => ⟨S512x512, .i32⟩
  | .hbm, ⟨61, _⟩ => ⟨S512x512, .i32⟩
  | .hbm, ⟨62, _⟩ => ⟨S_, .i32⟩
  | .hbm, ⟨63, _⟩ => ⟨S512x512, .i32⟩
  | .hbm, ⟨64, _⟩ => ⟨S512x512, .i1⟩
  | .hbm, ⟨65, _⟩ => ⟨S512x512, .i1⟩
  | .hbm, ⟨66, _⟩ => ⟨S_, .i32⟩
  | .hbm, ⟨67, _⟩ => ⟨S512x512, .i32⟩
  | .hbm, ⟨68, _⟩ => ⟨S512x512, .i32⟩
  | .hbm, ⟨69, _⟩ => ⟨S512x512, .i32⟩
  | .hbm, ⟨70, _⟩ => ⟨S512x512, .i1⟩
  | .hbm, ⟨71, _⟩ => ⟨S512x512, .bf16⟩
  | .hbm, ⟨72, _⟩ => ⟨S65664x512, .f32⟩
  | .hbm, ⟨73, _⟩ => ⟨S65664x512, .f32⟩
  | .hbm, ⟨74, _⟩ => ⟨S65664x512, .f32⟩
  | .hbm, ⟨75, _⟩ => ⟨S65664x512, .f32⟩
  | .hbm, ⟨76, _⟩ => ⟨S65664x512, .f32⟩
  | .hbm, ⟨77, _⟩ => ⟨S65664x512, .f32⟩
  | .hbm, ⟨78, _⟩ => ⟨S65664x512, .f32⟩
  | .hbm, ⟨79, _⟩ => ⟨S65664x512, .f32⟩
  | .local _ .vmem, ⟨0, _⟩ => ⟨S432x1792, .f32⟩
  | .local _ .vmem, ⟨1, _⟩ => ⟨S432x1792, .f32⟩
  | .local _ .vmem, ⟨2, _⟩ => ⟨S1x1792, .f32⟩
  | .local _ .vmem, ⟨3, _⟩ => ⟨S128x1024, .bf16⟩
  | .local _ .vmem, ⟨4, _⟩ => ⟨S1x512, .f32⟩
  | .local _ .vmem, ⟨5, _⟩ => ⟨S1x512, .f32⟩
  | .local _ .vmem, ⟨6, _⟩ => ⟨S128x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S432x512, .f32⟩
  | .local _ .vmem, ⟨12, _⟩ => ⟨S432x512, .f32⟩
  | .local _ .vmem, ⟨13, _⟩ => ⟨S432x512, .f32⟩
  | .local _ .vmem, ⟨14, _⟩ => ⟨S432x512, .f32⟩
  | .local _ .vmem, ⟨15, _⟩ => ⟨S432x512, .f32⟩
  | .local _ .vmem, ⟨16, _⟩ => ⟨S432x512, .f32⟩
  | .local _ .vmem, ⟨17, _⟩ => ⟨S432x512, .f32⟩
  | .local _ .vmem, ⟨18, _⟩ => ⟨S432x512, .f32⟩
  | .local _ .vmem, ⟨19, _⟩ => ⟨S432x512, .f32⟩
  | .local _ .vmem, ⟨20, _⟩ => ⟨S432x512, .f32⟩
  | .local _ .vmem, ⟨21, _⟩ => ⟨S432x512, .f32⟩
  | .local _ .vmem, ⟨22, _⟩ => ⟨S432x512, .f32⟩
  | .local _ .vmem, ⟨23, _⟩ => ⟨S432x512, .f32⟩
  | .local _ .vmem, ⟨24, _⟩ => ⟨S432x512, .f32⟩
  | .local _ .vmem, ⟨25, _⟩ => ⟨S432x512, .f32⟩
  | .local _ .vmem, ⟨26, _⟩ => ⟨S432x512, .f32⟩
  | .local _ .vmem, ⟨27, _⟩ => ⟨S1x1792, .f32⟩
  | _, _ => ⟨S65664x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v18 : Ref sig .tc := ⟨.hbm, 50, rfl⟩
abbrev main_v19 : Ref sig .tc := ⟨.hbm, 51, rfl⟩
abbrev main_c_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23_0 : Ref sig .tc := ⟨.hbm, 72, rfl⟩
abbrev main_v23_1 : Ref sig .tc := ⟨.hbm, 73, rfl⟩
abbrev main_v23_2 : Ref sig .tc := ⟨.hbm, 74, rfl⟩
abbrev main_v23_3 : Ref sig .tc := ⟨.hbm, 75, rfl⟩
abbrev main_v23_4 : Ref sig .tc := ⟨.hbm, 76, rfl⟩
abbrev main_v23_5 : Ref sig .tc := ⟨.hbm, 77, rfl⟩
abbrev main_v23_6 : Ref sig .tc := ⟨.hbm, 78, rfl⟩
abbrev main_v23_7 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![8, 19], ![false, false]⟩

def cc0_transform_0 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.muli arg0 c19_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S432x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S432x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S432x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S432x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S432x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S432x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S432x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S432x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S432x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== PrepReferenceIdeal.lean ====
abbrev S65664x1792 : Shape := ⟨2, ![65664, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x8208x1792 : Shape := ⟨3, ![8, 8208, 1792]⟩
abbrev S_ : Shape := ⟨0, ![]⟩
abbrev S8x8209x1792 : Shape := ⟨3, ![8, 8209, 1792]⟩
abbrev S1x1x1792 : Shape := ⟨3, ![1, 1, 1792]⟩
abbrev S8x8208x512 : Shape := ⟨3, ![8, 8208, 512]⟩
abbrev S8x8208x64 : Shape := ⟨3, ![8, 8208, 64]⟩
abbrev S8x8208x128 : Shape := ⟨3, ![8, 8208, 128]⟩
abbrev S1x1x512 : Shape := ⟨3, ![1, 1, 512]⟩
abbrev S8x8208x8x64 : Shape := ⟨4, ![8, 8208, 8, 64]⟩
abbrev S8x8208x8 : Shape := ⟨3, ![8, 8208, 8]⟩
abbrev S8x8208x8x1 : Shape := ⟨4, ![8, 8208, 8, 1]⟩
abbrev S8x64 : Shape := ⟨2, ![8, 64]⟩
abbrev S1x1x8x64 : Shape := ⟨4, ![1, 1, 8, 64]⟩
abbrev S65664x512 : Shape := ⟨2, ![65664, 512]⟩

abbrev nBuf : Space → Nat
  | .hbm => 120
  | .vmem => 0
  | .smem => 0
  | _ => 0

abbrev bufTy : (tb : Table) → Fin (tcTables nBuf tb) → BufTy
  | .hbm, ⟨0, _⟩ => ⟨S65664x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S8x8208x1792, .f32⟩
  | .hbm, ⟨11, _⟩ => ⟨S_, .i32⟩
  | .hbm, ⟨12, _⟩ => ⟨S_, .f32⟩
  | .hbm, ⟨13, _⟩ => ⟨S8x8209x1792, .f32⟩
  | .hbm, ⟨14, _⟩ => ⟨S8x8208x1792, .f32⟩
  | .hbm, ⟨15, _⟩ => ⟨S8x8208x1792, .f32⟩
  | .hbm, ⟨16, _⟩ => ⟨S1x1x1792, .f32⟩
  | .hbm, ⟨17, _⟩ => ⟨S8x8208x1792, .f32⟩
  | .hbm, ⟨18, _⟩ => ⟨S8x8208x1792, .f32⟩
  | .hbm, ⟨19, _⟩ => ⟨S8x8208x1792, .f32⟩
  | .hbm, ⟨20, _⟩ => ⟨S8x8208x512, .f32⟩
  | .hbm, ⟨21, _⟩ => ⟨S8x8208x512, .f32⟩
  | .hbm, ⟨22, _⟩ => ⟨S8x8208x512, .f32⟩
  | .hbm, ⟨23, _⟩ => ⟨S8x8208x64, .f32⟩
  | .hbm, ⟨24, _⟩ => ⟨S8x8208x64, .f32⟩
  | .hbm, ⟨25, _⟩ => ⟨S8x8208x128, .f32⟩
  | .hbm, ⟨26, _⟩ => ⟨S8x8208x64, .f32⟩
  | .hbm, ⟨27, _⟩ => ⟨S8x8208x512, .f32⟩
  | .hbm, ⟨28, _⟩ => ⟨S1x1x512, .f32⟩
  | .hbm, ⟨29, _⟩ => ⟨S8x8208x512, .f32⟩
  | .hbm, ⟨30, _⟩ => ⟨S8x8208x512, .f32⟩
  | .hbm, ⟨31, _⟩ => ⟨S8x8208x512, .f32⟩
  | .hbm, ⟨32, _⟩ => ⟨S_, .f32⟩
  | .hbm, ⟨33, _⟩ => ⟨S8x8208x512, .f32⟩
  | .hbm, ⟨34, _⟩ => ⟨S8x8208x512, .f32⟩
  | .hbm, ⟨35, _⟩ => ⟨S8x8208x512, .f32⟩
  | .hbm, ⟨36, _⟩ => ⟨S8x8208x512, .f32⟩
  | .hbm, ⟨37, _⟩ => ⟨S8x8208x512, .i1⟩
  | .hbm, ⟨38, _⟩ => ⟨S8x8208x512, .f32⟩
  | .hbm, ⟨39, _⟩ => ⟨S8x8208x512, .f32⟩
  | .hbm, ⟨40, _⟩ => ⟨S8x8208x512, .f32⟩
  | .hbm, ⟨41, _⟩ => ⟨S8x8208x512, .f32⟩
  | .hbm, ⟨42, _⟩ => ⟨S8x8208x512, .f32⟩
  | .hbm, ⟨43, _⟩ => ⟨S8x8208x512, .f32⟩
  | .hbm, ⟨44, _⟩ => ⟨S8x8208x512, .f32⟩
  | .hbm, ⟨45, _⟩ => ⟨S8x8208x512, .f32⟩
  | .hbm, ⟨46, _⟩ => ⟨S8x8208x512, .f32⟩
  | .hbm, ⟨47, _⟩ => ⟨S_, .f32⟩
  | .hbm, ⟨48, _⟩ => ⟨S8x8208x512, .f32⟩
  | .hbm, ⟨49, _⟩ => ⟨S8x8208x512, .f32⟩
  | .hbm, ⟨50, _⟩ => ⟨S8x8208x512, .f32⟩
  | .hbm, ⟨51, _⟩ => ⟨S8x8208x512, .f32⟩
  | .hbm, ⟨52, _⟩ => ⟨S8x8208x512, .f32⟩
  | .hbm, ⟨53, _⟩ => ⟨S1x1x512, .f32⟩
  | .hbm, ⟨54, _⟩ => ⟨S8x8208x512, .f32⟩
  | .hbm, ⟨55, _⟩ => ⟨S8x8208x512, .f32⟩
  | .hbm, ⟨56, _⟩ => ⟨S8x8208x512, .f32⟩
  | .hbm, ⟨57, _⟩ => ⟨S8x8208x512, .f32⟩
  | .hbm, ⟨58, _⟩ => ⟨S_, .f32⟩
  | .hbm, ⟨59, _⟩ => ⟨S8x8208x512, .f32⟩
  | .hbm, ⟨60, _⟩ => ⟨S8x8208x512, .f32⟩
  | .hbm, ⟨61, _⟩ => ⟨S_, .f32⟩
  | .hbm, ⟨62, _⟩ => ⟨S8x8208x512, .f32⟩
  | .hbm, ⟨63, _⟩ => ⟨S8x8208x512, .f32⟩
  | .hbm, ⟨64, _⟩ => ⟨S8x8208x128, .f32⟩
  | .hbm, ⟨65, _⟩ => ⟨S8x8208x128, .f32⟩
  | .hbm, ⟨66, _⟩ => ⟨S_, .f32⟩
  | .hbm, ⟨67, _⟩ => ⟨S8x8208x128, .f32⟩
  | .hbm, ⟨68, _⟩ => ⟨S8x8208x128, .f32⟩
  | .hbm, ⟨69, _⟩ => ⟨S_, .f32⟩
  | .hbm, ⟨70, _⟩ => ⟨S8x8208x128, .f32⟩
  | .hbm, ⟨71, _⟩ => ⟨S8x8208x128, .f32⟩
  | .hbm, ⟨72, _⟩ => ⟨S8x8208x512, .f32⟩
  | .hbm, ⟨73, _⟩ => ⟨S1x1x512, .f32⟩
  | .hbm, ⟨74, _⟩ => ⟨S8x8208x512, .f32⟩
  | .hbm, ⟨75, _⟩ => ⟨S8x8208x512, .f32⟩
  | .hbm, ⟨76, _⟩ => ⟨S8x8208x8x64, .f32⟩
  | .hbm, ⟨77, _⟩ => ⟨S8x8208x8x64, .f32⟩
  | .hbm, ⟨78, _⟩ => ⟨S_, .f32⟩
  | .hbm, ⟨79, _⟩ => ⟨S8x8208x8, .f32⟩
  | .hbm, ⟨80, _⟩ => ⟨S8x8208x8x1, .f32⟩
  | .hbm, ⟨81, _⟩ => ⟨S8x8208x8x1, .f32⟩
  | .hbm, ⟨82, _⟩ => ⟨S_, .f32⟩
  | .hbm, ⟨83, _⟩ => ⟨S8x8208x8x1, .f32⟩
  | .hbm, ⟨84, _⟩ => ⟨S8x8208x8x1, .f32⟩
  | .hbm, ⟨85, _⟩ => ⟨S8x8208x8x64, .f32⟩
  | .hbm, ⟨86, _⟩ => ⟨S8x8208x8x64, .f32⟩
  | .hbm, ⟨87, _⟩ => ⟨S_, .f32⟩
  | .hbm, ⟨88, _⟩ => ⟨S8x8208x512, .f32⟩
  | .hbm, ⟨89, _⟩ => ⟨S8x8208x512, .f32⟩
  | .hbm, ⟨90, _⟩ => ⟨S1x1x512, .f32⟩
  | .hbm, ⟨91, _⟩ => ⟨S8x8208x512, .f32⟩
  | .hbm, ⟨92, _⟩ => ⟨S8x8208x512, .f32⟩
  | .hbm, ⟨93, _⟩ => ⟨S_, .f32⟩
  | .hbm, ⟨94, _⟩ => ⟨S8x8208x512, .f32⟩
  | .hbm, ⟨95, _⟩ => ⟨S8x8208x512, .f32⟩
  | .hbm, ⟨96, _⟩ => ⟨S8x8208x512, .f32⟩
  | .hbm, ⟨97, _⟩ => ⟨S8x8208x8x64, .f32⟩
  | .hbm, ⟨98, _⟩ => ⟨S8x8208x8x64, .f32⟩
  | .hbm, ⟨99, _⟩ => ⟨S8x8208x8x64, .f32⟩
  | .hbm, ⟨100, _⟩ => ⟨S8x64, .f32⟩
  | .hbm, ⟨101, _⟩ => ⟨S1x1x8x64, .f32⟩
  | .hbm, ⟨102, _⟩ => ⟨S8x8208x8x64, .f32⟩
  | .hbm, ⟨103, _⟩ => ⟨S8x8208x8x64, .f32⟩
  | .hbm, ⟨104, _⟩ => ⟨S_, .f32⟩
  | .hbm, ⟨105, _⟩ => ⟨S8x8208x8, .f32⟩
  | .hbm, ⟨106, _⟩ => ⟨S8x8208x8x1, .f32⟩
  | .hbm, ⟨107, _⟩ => ⟨S8x8208x8x64, .f32⟩
  | .hbm, ⟨108, _⟩ => ⟨S8x8208x8x64, .f32⟩
  | .hbm, ⟨109, _⟩ => ⟨S8x8208x8x64, .f32⟩
  | .hbm, ⟨110, _⟩ => ⟨S65664x512, .f32⟩
  | .hbm, ⟨111, _⟩ => ⟨S65664x512, .f32⟩
  | .hbm, ⟨112, _⟩ => ⟨S65664x512, .f32⟩
  | .hbm, ⟨113, _⟩ => ⟨S65664x512, .f32⟩
  | .hbm, ⟨114, _⟩ => ⟨S65664x512, .f32⟩
  | .hbm, ⟨115, _⟩ => ⟨S8x8208x8x64, .f32⟩
  | .hbm, ⟨116, _⟩ => ⟨S8x8208x8x64, .f32⟩
  | .hbm, ⟨117, _⟩ => ⟨S65664x512, .f32⟩
  | .hbm, ⟨118, _⟩ => ⟨S65664x512, .f32⟩
  | .hbm, ⟨119, _⟩ => ⟨S65664x512, .f32⟩
  | _, _ => ⟨S65664x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_0 : Ref sig .tc := ⟨.hbm, 58, rfl⟩
abbrev main_v32 : Ref sig .tc := ⟨.hbm, 59, rfl⟩
abbrev main_v33 : Ref sig .tc := ⟨.hbm, 60, rfl⟩
abbrev main_cst_1 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_2 : Ref sig .tc := ⟨.hbm, 66, rfl⟩
abbrev main_v38 : Ref sig .tc := ⟨.hbm, 67, rfl⟩
abbrev main_v39 : Ref sig .tc := ⟨.hbm, 68, rfl⟩
abbrev main_cst_3 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call2_v0 : Ref sig .tc := ⟨.hbm, 77, rfl⟩
abbrev main_call2_cst : Ref sig .tc := ⟨.hbm, 78, rfl⟩
abbrev main_call2_v1 : Ref sig .tc := ⟨.hbm, 79, rfl⟩
abbrev main_call2_v2 : Ref sig .tc := ⟨.hbm, 80, rfl⟩
abbrev main_v47 : Ref sig .tc := ⟨.hbm, 81, rfl⟩
abbrev main_cst_4 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_5 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_6 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_7 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== Proof.LruIdealBody.lean ====
/- The body of the recurrence kernel: what one grid point leaves in the result block and in the two carried scratch
   buffers, as functions of the point's blocks and of what those buffers held. -/
module

public import proofs.«01_k».proof.Proof.Gen.LruIdeal.Frame
public import proofs.«01_k».proof.Proof.Gen.LruIdeal.Loops
public import Idealize.ShloMosaic.Lib.VecWindow
public import Idealize.ShloMosaic.Lib.WritesUnit

@[expose] public section

set_option maxRecDepth 16384

noncomputable section

namespace Cert.LruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- The row numbers of a group of eight rows. -/
abbrev rowNo : IVec S8x1 32 := iota .tc S8x1 32 [0] iota_S8x1_d0_w32

/-- The convolved block, of the block `x`, the eight rows `h` before it, the taps `cw` and the bias `cb`. -/
abbrev xcB (x : Vec F S432x512 .f32) (h : Vec F S8x512 .f32) (cw : Vec F S4x512 .f32) (cb : Vec F S1x512 .f32) : FVec F S432x512 .f32 :=
  k0_pay14 x h rowNo cw (k0_pay9 x h cw cb) (k0_pay10 x) (k0_pay11 h) (k0_pay12 x) k0_pay13

/-- The recurrence gate's block. -/
abbrev rB (x : Vec F S432x512 .f32) (h : Vec F S8x512 .f32) (cw : Vec F S4x512 .f32) (cb : Vec F S1x512 .f32) (wa : Vec F S512x512 .bf16) (ba : Vec F S1x512 .f32) : FVec F S432x512 .f32 :=
  k0_pay16 x h rowNo cw (k0_pay9 x h cw cb) (k0_pay10 x) (k0_pay11 h) (k0_pay12 x) k0_pay13 wa ba

/-- The input gate's block before its logistic. -/
abbrev zB (x : Vec F S432x512 .f32) (h : Vec F S8x512 .f32) (cw : Vec F S4x512 .f32) (cb : Vec F S1x512 .f32) (wx : Vec F S512x512 .bf16) (bx : Vec F S1x512 .f32) : FVec F S432x512 .f32 :=
  k0_pay17 x h rowNo cw (k0_pay9 x h cw cb) (k0_pay10 x) (k0_pay11 h) (k0_pay12 x) k0_pay13 wx bx

/-- The block of decays. -/
abbrev aB (x : Vec F S432x512 .f32) (h : Vec F S8x512 .f32) (cw : Vec F S4x512 .f32) (cb : Vec F S1x512 .f32) (wa : Vec F S512x512 .bf16) (ba lam : Vec F S1x512 .f32) : FVec F S432x512 .f32 :=
  k0_pay19 (rB x h cw cb wa ba) lam

/-- The block of increments. -/
abbrev uB (x : Vec F S432x512 .f32) (h : Vec F S8x512 .f32) (cw : Vec F S4x512 .f32) (cb : Vec F S1x512 .f32) (wa : Vec F S512x512 .bf16) (ba : Vec F S1x512 .f32)
    (wx : Vec F S512x512 .bf16) (bx lam : Vec F S1x512 .f32) : FVec F S432x512 .f32 :=
  k0_pay20 (xcB x h cw cb) (rB x h cw cb wa ba) (zB x h cw cb wx bx) lam

/-- Group `k` of eight rows. -/
abbrev grpRect (k : Fin k0_t1_loop.trips) : Rect S432x512 := Rect.unit (s := S432x512) (k0_off1 k) S8x512.size (k0_off1_inb k)

/-- The states of group `k`, entered at `h`. -/
abbrev grp (A U : Vec F S432x512 .f32) (k : Fin k0_t1_loop.trips) (h : Vec F S8x512 .f32) : FVec F S8x512 .f32 :=
  k0_pay5 rowNo h (View.ld A (grpRect k)) (View.ld U (grpRect k))

/-- The state carried into group `n`. -/
def carry (A U : Vec F S432x512 .f32) (h : Vec F S8x512 .f32) : ℕ → Vec F S8x512 .f32
  | 0 => h
  | n + 1 => if hn : n < k0_t1_loop.trips then k0_pay2 (grp A U ⟨n, hn⟩ (carry A U h n)) else carry A U h n

theorem trips_eq : k0_t1_loop.trips = 54 := by decide +kernel

/-- The block of states. -/
def hB (A U : Vec F S432x512 .f32) (h : Vec F S8x512 .f32) : Vec F S432x512 .f32 := fun y =>
  k0_pay1 (grp A U ⟨(y 0).val / 8, by rw [trips_eq]; have : (y 0).val < 432 := (y 0).isLt; omega⟩ (carry A U h ((y 0).val / 8)))
    (fun a => match a with
      | ⟨0, _⟩ => ⟨(y 0).val % 8, Nat.mod_lt _ (by decide)⟩
      | ⟨1, _⟩ => y 1)

/-! ## The loop -/

/-- One trip's pieces and result. -/
theorem trip_eq (c : Dev nD) (i : grid0.Coords) (arg2 : Memref sig .tc .vmem S432x512 .f32) (harg2 : arg2.IsWhole) (arg3 : Memref sig .tc .vmem S432x512 .f32) (harg3 : arg3.IsWhole) (arg4 : Memref sig .tc .vmem S4x512 .f32) (harg4 : arg4.IsWhole)
    (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole)
    (arg11 : Memref sig .tc .vmem S432x512 .bf16) (harg11 : arg11.IsWhole) (arg12 : Memref sig .tc .vmem S8x512 .f32) (harg12 : arg12.IsWhole) (arg13 : Memref sig .tc .vmem S8x512 .f32) (harg13 : arg13.IsWhole)
    (arg14 : Memref sig .tc .vmem S432x512 .f32) (harg14 : arg14.IsWhole) (arg15 : Memref sig .tc .vmem S432x512 .f32) (harg15 : arg15.IsWhole)
    (X : BufTy.Contents (Elt F) arg14.view.ty) (k : Fin k0_t1_loop.trips) (acc : Vec F S8x512 .f32) (f : BufTy.Contents (Elt F) arg15.view.ty) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X k acc f
        = k0_pay2 (grp (arg14.view.read (Elt F) X) (arg15.view.read (Elt F) f) k acc)
      ∧ tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X k acc f
        = [⟨grpRect k, k0_pay1 (grp (arg14.view.read (Elt F) X) (arg15.view.read (Elt F) f) k acc)⟩] := by
  unfold tripR_k0_t1 tripL_k0_t1 trip_k0_t1
  exact ⟨rfl, rfl⟩

/-- After `n` trips: the carried state, and the rows of the first `n` groups at their states, the others as they were. -/
theorem st_eq (c : Dev nD) (i : grid0.Coords) (arg2 : Memref sig .tc .vmem S432x512 .f32) (harg2 : arg2.IsWhole) (arg3 : Memref sig .tc .vmem S432x512 .f32) (harg3 : arg3.IsWhole) (arg4 : Memref sig .tc .vmem S4x512 .f32) (harg4 : arg4.IsWhole)
    (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole)
    (arg11 : Memref sig .tc .vmem S432x512 .bf16) (harg11 : arg11.IsWhole) (arg12 : Memref sig .tc .vmem S8x512 .f32) (harg12 : arg12.IsWhole) (arg13 : Memref sig .tc .vmem S8x512 .f32) (harg13 : arg13.IsWhole)
    (arg14 : Memref sig .tc .vmem S432x512 .f32) (harg14 : arg14.IsWhole) (arg15 : Memref sig .tc .vmem S432x512 .f32) (harg15 : arg15.IsWhole)
    (X : BufTy.Contents (Elt F) arg14.view.ty) (G : BufTy.Contents (Elt F) arg15.view.ty) (h : Vec F S8x512 .f32) (n : ℕ) (hn : n ≤ 54) :
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X G h n).1
        = carry (arg14.view.read (Elt F) X) (arg15.view.read (Elt F) G) h n
      ∧ ∀ y : S432x512.Idx, arg15.view.read (Elt F) (arg15.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X G h n).2) y
        = if (y 0).val < 8 * n then hB (arg14.view.read (Elt F) X) (arg15.view.read (Elt F) G) h y else arg15.view.read (Elt F) G y := by
  induction n with
  | zero => exact ⟨rfl, fun y => (if_neg (Nat.not_lt_zero _)).symm⟩
  | succ n ih =>
    obtain ⟨ih1, ih2⟩ := ih (by omega)
    have hk : n < k0_t1_loop.trips := by rw [trips_eq]; omega
    have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X G h ⟨n, hk⟩
    have hld : View.ld (arg15.view.read (Elt F) (arg15.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X G h n).2)) (grpRect ⟨n, hk⟩)
        = View.ld (arg15.view.read (Elt F) G) (grpRect ⟨n, hk⟩) := by
      funext j
      refine (ih2 _).trans (if_neg ?_)
      have h0 : k0_off1 ⟨n, hk⟩ 0 = 8 * n := congrFun (k0_off1_eq ⟨n, hk⟩) 0
      have h1 : ((grpRect ⟨n, hk⟩).idx j 0).val = k0_off1 ⟨n, hk⟩ 0 + 1 * (j 0).val := rfl
      rw [h1, h0]; omega
    have ht := trip_eq c i arg2 harg2 arg3 harg3 arg4 harg4 arg5 harg5 arg6 harg6 arg7 harg7 arg8 harg8 arg9 harg9 arg10 harg10 arg11 harg11 arg12 harg12 arg13 harg13 arg14 harg14 arg15 harg15 X ⟨n, hk⟩ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X G h n).1
      (arg15.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X G h n).2)
    have hg : grp (arg14.view.read (Elt F) X) (arg15.view.read (Elt F) (arg15.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X G h n).2)) ⟨n, hk⟩
          (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X G h n).1
        = grp (arg14.view.read (Elt F) X) (arg15.view.read (Elt F) G) ⟨n, hk⟩ (carry (arg14.view.read (Elt F) X) (arg15.view.read (Elt F) G) h n) :=
      (congrArg (fun u => k0_pay5 rowNo _ _ u) hld).trans (congrArg (fun a => k0_pay5 rowNo a _ _) ih1)
    rw [hg] at ht
    refine ⟨?_, fun y => ?_⟩
    · refine (congrArg Prod.fst hs).trans (ht.1.trans ?_)
      rw [carry.eq_2, dif_pos hk]
    · rw [show (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X G h (n + 1)).2 = _ from (congrArg Prod.snd hs).trans (congrArg (· ++ _) ht.2)]
      by_cases hy : 8 * n ≤ (y 0).val ∧ (y 0).val < 8 * n + 8
      · rw [if_pos (by omega)]
        have hq : (y 0).val / 8 = n := by omega
        refine (View.read_writes_cons_rows_of_mem arg15.view G (k0_off1_inb ⟨n, hk⟩) _ _ y (fun a => match a with
          | ⟨0, _⟩ => ⟨(y 0).val % 8, Nat.mod_lt _ (by decide)⟩
          | ⟨1, _⟩ => y 1) (k0_off1_eq ⟨n, hk⟩) (by show (y 0).val = 8 * n + (y 0).val % 8; omega) rfl).trans ?_
        unfold hB
        subst hq
        rfl
      · refine (View.read_writes_cons_rows_of_not_mem (W := 8) arg15.view G (k0_off1_inb ⟨n, hk⟩) _ _ y (k0_off1_eq ⟨n, hk⟩) rfl (by
          show (y 0).val < 8 * n ∨ 8 * n + 8 ≤ (y 0).val
          omega)).trans ((ih2 y).trans ?_)
        by_cases h2 : (y 0).val < 8 * n
        · rw [if_pos h2, if_pos (by omega)]
        · rw [if_neg h2, if_neg (by omega)]

/-- What the loop leaves in the block of states and carries out, entered with the decays in one buffer and the
    increments in the other. -/
theorem loop_eq (c : Dev nD) (i : grid0.Coords) (arg2 : Memref sig .tc .vmem S432x512 .f32) (harg2 : arg2.IsWhole) (arg3 : Memref sig .tc .vmem S432x512 .f32) (harg3 : arg3.IsWhole) (arg4 : Memref sig .tc .vmem S4x512 .f32) (harg4 : arg4.IsWhole)
    (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole)
    (arg11 : Memref sig .tc .vmem S432x512 .bf16) (harg11 : arg11.IsWhole) (arg12 : Memref sig .tc .vmem S8x512 .f32) (harg12 : arg12.IsWhole) (arg13 : Memref sig .tc .vmem S8x512 .f32) (harg13 : arg13.IsWhole)
    (arg14 : Memref sig .tc .vmem S432x512 .f32) (harg14 : arg14.IsWhole) (arg15 : Memref sig .tc .vmem S432x512 .f32) (harg15 : arg15.IsWhole)
    (X : BufTy.Contents (Elt F) arg14.view.ty) (L : List (View.Piece (Elt F) S432x512 .f32)) (h : Vec F S8x512 .f32) (A U : Vec F S432x512 .f32)
    (hA : arg14.view.read (Elt F) X = A) (hU : arg15.view.read (Elt F) (arg15.view.writes (Elt F) arg15.view.junk L) = U) :
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X (arg15.view.writes (Elt F) arg15.view.junk L) h 54).1 = carry A U h 54
      ∧ arg15.view.read (Elt F) (arg15.view.writes (Elt F) arg15.view.junk ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 rowNo X (arg15.view.writes (Elt F) arg15.view.junk L) h 54).2 ++ L)) = hB A U h := by
  subst hA hU
  have hs := st_eq c i arg2 harg2 arg3 harg3 arg4 harg4 arg5 harg5 arg6 harg6 arg7 harg7 arg8 harg8 arg9 harg9 arg10 harg10 arg11 harg11 arg12 harg12 arg13 harg13 arg14 harg14 arg15 harg15 X (arg15.view.writes (Elt F) arg15.view.junk L) h 54 le_rfl
  refine ⟨hs.1, funext fun y => ?_⟩
  rw [View.writes_append]
  have : (y 0).val < 432 := (y 0).isLt
  exact (hs.2 y).trans (if_pos (by omega))

/-! ## The run -/

/-- The condition under which a point clears what it carries: it begins a sequence. -/
abbrev first (i : grid0.Coords) : Prop :=
  Scalar.cmpi .ne (Scalar.extui (Scalar.cmpi .eq (BitVec.ofNat 32 (i 1).val) 0#32) : BitVec 32) 0#32 = 1#1

end Cert.LruIdeal.Gen

end
-- ==== Proof.Math.lean ====
/- The mathematics the programs of this directory are compared through, over the extended reals: the root-mean-square
   normalisation of a row, the gated hidden value of an expert and the expert's output, each written over plain
   coordinates and naming no program. -/
module

public import Idealize.ShloMosaic.Lib.ValueIdx
public import Idealize.ShloMosaic.PureOps.Ideal.Laws

@[expose] public section

noncomputable section

namespace Cert.Layer

open Idealize.ShloMosaic Idealize.ShloMosaic.ValueIdx
open scoped BigOperators

/-- Row `r` of `x` divided by its root mean square over the 1024 features, times the gain, at feature `d`. -/
def rms {R : ℕ} (x : (⟨2, ![R, 1024]⟩ : Shape).Idx → EReal) (g : Fin 1024 → EReal) (r : Fin R) (d : Fin 1024) : EReal :=
  x (ix2 r d) * Ideal.rsqrt (Ideal.div (∑ k : Fin 1024, x (ix2 r k) * x (ix2 r k)) (Ideal.ofBits .f32 0x44800000#32)
    + Ideal.ofBits .f32 0x358637BD#32) * g d

/-- The logistic function as `1 / (1 + e^(-z))`. -/
def sigm (z : EReal) : EReal :=
  Ideal.div (Ideal.ofBits .f32 0x3F800000#32) (Ideal.ofBits .f32 0x3F800000#32 + Ideal.exp (-z))

/-- One hidden value of a gated expert: `silu` of the gate projection times the up projection. -/
def hidden (h wg wu : Fin 1024 → EReal) : EReal :=
  (∑ k, h k * wg k) * sigm (∑ k, h k * wg k) * ∑ k, h k * wu k

/-- The expert's output at feature `d`: its hidden values projected down. -/
def expert (h : Fin 1024 → EReal) (wg wu : Fin 1024 → Fin 256 → EReal) (wd : Fin 256 → Fin 1024 → EReal) (d : Fin 1024) : EReal :=
  ∑ f : Fin 256, hidden h (fun k => wg k f) (fun k => wu k f) * wd f d

end Cert.Layer

end
-- ==== Proof.LruMath.lean ====
/- The mathematics of the gated linear recurrence over the extended reals, naming no program: the causal convolution of
   four taps, the block-diagonal gates, the decay and the increment of a step, the recurrence, and the law by which a
   scan of a group of steps by doubling is the steps one after the other. -/
module

public import proofs.«01_k».proof.Proof.Math

@[expose] public section

noncomputable section

namespace Cert.Layer.Lru

open Idealize.ShloMosaic Idealize.ShloMosaic.ValueIdx Cert.Layer
open scoped BigOperators

/-- What the recurrence is computed of: the sequence, the taps and their bias, the two gates' weights and biases, and
    the decay parameter. -/
structure Args where
  x : (⟨2, ![65664, 512]⟩ : Shape).Idx → EReal
  cw : (⟨2, ![4, 512]⟩ : Shape).Idx → EReal
  cb : (⟨1, ![512]⟩ : Shape).Idx → EReal
  wa : (⟨3, ![8, 64, 64]⟩ : Shape).Idx → EReal
  ba : (⟨1, ![512]⟩ : Shape).Idx → EReal
  wx : (⟨3, ![8, 64, 64]⟩ : Shape).Idx → EReal
  bx : (⟨1, ![512]⟩ : Shape).Idx → EReal
  lam : (⟨1, ![512]⟩ : Shape).Idx → EReal

/-- The row of time `t` of sequence `b`. -/
def rowOf (b t : ℕ) : Fin 65664 := ⟨(b * 8208 + t) % 65664, Nat.mod_lt _ (by decide)⟩

/-- Feature `d` of sequence `b` over time. -/
def ser (x : (⟨2, ![65664, 512]⟩ : Shape).Idx → EReal) (b : ℕ) (d : Fin 512) (t : ℕ) : EReal := x (ix2 (rowOf b t) d)

/-- The value `s` steps back, zero before the start. -/
def tap (x : ℕ → EReal) (s t : ℕ) : EReal := if s ≤ t then x (t - s) else 0

/-- The convolution of four taps. -/
def xc (p : Args) (b : ℕ) (d : Fin 512) (t : ℕ) : EReal :=
  ser p.x b d t * p.cw (ix2 (3 : Fin 4) d) + p.cb (ix1 d) + tap (ser p.x b d) 1 t * p.cw (ix2 (2 : Fin 4) d)
    + tap (ser p.x b d) 2 t * p.cw (ix2 (1 : Fin 4) d) + tap (ser p.x b d) 3 t * p.cw (ix2 (0 : Fin 4) d)

/-- The group of 64 features a feature is in, its place there, and the feature at a place of a feature's group. -/
def grpOf (d : Fin 512) : Fin 8 := ⟨d.val / 64, by have := d.isLt; omega⟩
def inGrp (d : Fin 512) : Fin 64 := ⟨d.val % 64, Nat.mod_lt _ (by decide)⟩
def ofGrp (g : Fin 8) (j : Fin 64) : Fin 512 := ⟨64 * g.val + j.val, by have := g.isLt; have := j.isLt; omega⟩

/-- A gate before its logistic: the features of a group by the group's weight, and the bias. -/
def gate (v : Fin 512 → EReal) (w : (⟨3, ![8, 64, 64]⟩ : Shape).Idx → EReal) (bias : (⟨1, ![512]⟩ : Shape).Idx → EReal) (d : Fin 512) : EReal :=
  (∑ j : Fin 64, v (ofGrp (grpOf d) j) * w (ix3 (grpOf d) j (inGrp d))) + bias (ix1 d)

/-- `softplus (-z)`. -/
def sp (z : EReal) : EReal := max (-z) 0 + Ideal.log (1 + Ideal.exp (-(max (-z) (- -z))))

/-- The logarithm of the decay. -/
def la (r l : EReal) : EReal := Ideal.ofBits .f32 0xC1000000#32 * r * sp l

/-- The increment. -/
def inc (r z l x : EReal) : EReal := Ideal.sqrt (1 - Ideal.exp (Ideal.ofBits .f32 0x40000000#32 * la r l)) * sigm z * x

def aS (p : Args) (b : ℕ) (d : Fin 512) (t : ℕ) : EReal :=
  Ideal.exp (la (sigm (gate (fun k => xc p b k t) p.wa p.ba d)) (p.lam (ix1 d)))

def uS (p : Args) (b : ℕ) (d : Fin 512) (t : ℕ) : EReal :=
  inc (sigm (gate (fun k => xc p b k t) p.wa p.ba d)) (gate (fun k => xc p b k t) p.wx p.bx d) (p.lam (ix1 d)) (xc p b d t)

/-- A linear recurrence entered at `h`, after `n` steps. -/
def recF (a u : ℕ → EReal) (h : EReal) : ℕ → EReal
  | 0 => h
  | n + 1 => a n * recF a u h n + u n

theorem recF_congr {a a' u u' : ℕ → EReal} {h h' : EReal} (n : ℕ) (ha : ∀ k < n, a k = a' k) (hu : ∀ k < n, u k = u' k) (hh : h = h') :
    recF a u h n = recF a' u' h' n := by
  induction n with
  | zero => exact hh
  | succ n ih =>
    show a n * _ + u n = a' n * _ + u' n
    rw [ih (fun k hk => ha k (by omega)) (fun k hk => hu k (by omega)), ha n (by omega), hu n (by omega)]

theorem recF_add (a u : ℕ → EReal) (h : EReal) (m n : ℕ) :
    recF a u h (m + n) = recF (fun k => a (m + k)) (fun k => u (m + k)) (recF a u h m) n := by
  induction n with
  | zero => rfl
  | succ n ih =>
    show a (m + n) * recF a u h (m + n) + u (m + n) = _
    rw [ih]; rfl

/-- The state of sequence `b` after `n` steps. -/
def st (p : Args) (b : ℕ) (d : Fin 512) (n : ℕ) : EReal := recF (aS p b d) (uS p b d) 0 n

/-- The gate of the output, `gelu` by its tanh form. -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g))))))

/-- The result. -/
def spec (p : Args) (gb : (⟨2, ![65664, 512]⟩ : Shape).Idx → EReal) (i : Fin 65664) (d : Fin 512) : EReal :=
  st p (i.val / 8208) d (i.val % 8208 + 1) * gelu (gb (ix2 i d))

/-! ## Constants -/

theorem one_f32 : Ideal.ofBits .f32 0x3F800000#32 = 1 := by
  simp [Ideal.ofBits, Ideal.ieee]
  rw [← EReal.coe_mul, ← EReal.coe_one]
  exact congrArg _ (by norm_num)

theorem neg8_f32 : Ideal.ofBits .f32 0xC1000000#32 = ((-8 : ℝ) : EReal) := by
  simp [Ideal.ofBits, Ideal.ieee]
  rw [← EReal.coe_mul]
  exact congrArg _ (by norm_num)

theorem neg_nonpos' {z : EReal} (h : 0 ≤ z) : -z ≤ 0 := by
  have h' := EReal.neg_le_neg_iff.2 h
  rwa [neg_zero] at h'

theorem neg_nonneg' {z : EReal} (h : z ≤ 0) : 0 ≤ -z := by
  have h' := EReal.neg_le_neg_iff.2 h
  rwa [neg_zero] at h'

/-! ## A decay is a real number between zero and one -/

/-- A nonnegative real number, as an extended real. -/
def NN (a : EReal) : Prop := 0 ≤ a ∧ a ≠ ⊤

theorem NN.distrib {a : EReal} (h : NN a) (y z : EReal) : a * (y + z) = a * y + a * z :=
  EReal.left_distrib_of_nonneg_of_ne_top h.1 h.2 y z

theorem NN.mul {a b : EReal} (ha : NN a) (hb : NN b) : NN (a * b) := by
  refine ⟨mul_nonneg ha.1 hb.1, ?_⟩
  have ha' := EReal.coe_toReal ha.2 (fun h => by have := ha.1; rw [h] at this; exact absurd this (by decide))
  have hb' := EReal.coe_toReal hb.2 (fun h => by have := hb.1; rw [h] at this; exact absurd this (by decide))
  rw [← ha', ← hb', ← EReal.coe_mul]
  exact EReal.coe_ne_top _

theorem exp_nonneg (z : EReal) : 0 ≤ Ideal.exp z := by
  induction z using EReal.rec with
  | bot => exact le_refl _
  | top => exact le_top
  | coe r => exact EReal.coe_nonneg.2 (Real.exp_pos r).le

theorem exp_nn {z : EReal} (h : z ≤ 0) : NN (Ideal.exp z) := by
  refine ⟨exp_nonneg z, ?_⟩
  induction z using EReal.rec with
  | bot => exact EReal.zero_ne_top
  | top => exact absurd h (by decide)
  | coe r => exact EReal.coe_ne_top _

theorem sigm_nonneg (z : EReal) : 0 ≤ sigm z := by
  unfold sigm Ideal.div
  rw [one_f32]
  have h0 : (0 : EReal) < 1 + Ideal.exp (-z) := lt_of_lt_of_le zero_lt_one (le_add_of_nonneg_right (exp_nonneg _))
  rw [if_neg h0.ne', one_mul]
  exact EReal.inv_nonneg_of_nonneg h0.le

theorem log_nonneg {y : EReal} (h : 0 ≤ y) : 0 ≤ Ideal.log (1 + y) := by
  induction y using EReal.rec with
  | bot => exact absurd h (by decide)
  | top => exact le_top
  | coe r =>
    have hr : 0 ≤ r := EReal.coe_nonneg.1 h
    show 0 ≤ Ideal.log ((1 + r : ℝ) : EReal)
    show (0 : EReal) ≤ if 1 + r ≤ 0 then ⊥ else (Real.log (1 + r) : EReal)
    rw [if_neg (by linarith)]
    exact EReal.coe_nonneg.2 (Real.log_nonneg (by linarith))

theorem sp_nonneg (z : EReal) : 0 ≤ sp z :=
  add_nonneg (le_max_right _ _) (log_nonneg (exp_nonneg _))

theorem la_nonpos (r l : EReal) (hr : 0 ≤ r) : la r l ≤ 0 := by
  unfold la
  rw [neg8_f32]
  have h1 : ((-8 : ℝ) : EReal) * r ≤ 0 := by
    rw [EReal.coe_neg, neg_mul]
    exact neg_nonpos' (mul_nonneg (EReal.coe_nonneg.2 (by norm_num)) hr)
  rw [← neg_neg (((-8 : ℝ) : EReal) * r * sp l), ← neg_mul]
  exact neg_nonpos' (mul_nonneg (neg_nonneg' h1) (sp_nonneg l))

theorem aS_nn (p : Args) (b : ℕ) (d : Fin 512) (t : ℕ) : NN (aS p b d t) := exp_nn (la_nonpos _ _ (sigm_nonneg _))

/-- The two ways the increment's factor is written. -/
theorem neg_expm1 (z : EReal) : -(Ideal.exp z - 1) = 1 - Ideal.exp z := by
  rw [EReal.neg_sub (Or.inr (by decide)) (Or.inr (by decide)), add_comm, sub_eq_add_neg]

/-! ## A group of eight steps by doubling -/

/-- One doubling at distance `s` of the coefficients `A`. -/
def dblA (s : ℕ) (A : ℕ → EReal) (r : ℕ) : EReal := if s ≤ r then A r * A (r - s) else A r

/-- One doubling at distance `s` of the offsets. -/
def dblU (s : ℕ) (A U : ℕ → EReal) (r : ℕ) : EReal := if s ≤ r then A r * U (r - s) + U r else U r

theorem dblA_nn {s : ℕ} {A : ℕ → EReal} (h : ∀ r, NN (A r)) (r : ℕ) : NN (dblA s A r) := by
  unfold dblA
  split
  · exact (h _).mul (h _)
  · exact h _

theorem dbl_app {s : ℕ} {A U : ℕ → EReal} (h : ∀ r, NN (A r)) (r : ℕ) (y : EReal) :
    dblA s A r * y + dblU s A U r = if s ≤ r then A r * (A (r - s) * y + U (r - s)) + U r else A r * y + U r := by
  unfold dblA dblU
  by_cases hr : s ≤ r
  · rw [if_pos hr, if_pos hr, if_pos hr, (h r).distrib, mul_assoc, add_assoc]
  · rw [if_neg hr, if_neg hr, if_neg hr]

/-- Three doublings, at distances one, two and four, are the steps one after the other. -/
theorem dbl_eq (A U : ℕ → EReal) (hA : ∀ r, NN (A r)) (h : EReal) (r : ℕ) (hr : r < 8) :
    dblU 4 (dblA 2 (dblA 1 A)) (dblU 2 (dblA 1 A) (dblU 1 A U)) r + dblA 4 (dblA 2 (dblA 1 A)) r * h = recF A U h (r + 1) := by
  have h1 : ∀ r, NN (dblA 1 A r) := dblA_nn hA
  have h2 : ∀ r, NN (dblA 2 (dblA 1 A) r) := dblA_nn h1
  rw [add_comm]
  interval_cases r <;> simp [dbl_app h2, dbl_app h1, dbl_app hA, recF]

end Cert.Layer.Lru

end
-- ==== Proof.Block.lean ====
/- Blocks of rows the kernels compute, read at an index: the normalised block, the matrix product of a block with a
   weight, and the expert's block. -/
module

public import proofs.«01_k».proof.Proof.Math
public import Idealize.ShloMosaic.Lib.ValueLayout
public import Idealize.ShloMosaic.Lib.MatmulPlain

@[expose] public section

noncomputable section

namespace Cert.Layer

open Idealize.ShloMosaic Idealize.ShloMosaic.ValueIdx
open scoped BigOperators

/-- The source index of a row sum. -/
theorem lift_row {R N : ℕ} (h : (⟨2, ![R, N]⟩ : Shape).Reduces [1] (⟨1, ![R]⟩ : Shape)) (r : Fin R) (k : Fin N) :
    h.lift (ix1 r) k = ix2 r k := by
  funext a
  match a with
  | ⟨0, _⟩ => exact Fin.ext (by rfl)
  | ⟨1, _⟩ => exact Fin.ext (by rfl)

/-- A column of row values repeated along the row. -/
theorem broadcastTo_col_apply {α : Type} {R N : ℕ} (v : (⟨2, ![R, 1]⟩ : Shape).Idx → α)
    (h : (⟨2, ![R, 1]⟩ : Shape).Broadcasts ⟨2, ![R, N]⟩) (r : Fin R) (d : Fin N) :
    broadcastTo ⟨2, ![R, N]⟩ v h (ix2 r d) = v (ix2 r (0 : Fin 1)) := by
  refine broadcastTo_apply v h (ix2 r d) (ix2 r (0 : Fin 1)) fun ax => ?_
  match ax with
  | ⟨0, _⟩ =>
    show r.val = if R = 1 then 0 else r.val
    split
    · have := r.isLt; omega
    · rfl
  | ⟨1, _⟩ => rfl

/-- A vector as a column. -/
theorem shapeCast_col_apply {α : Type} {R : ℕ} (v : (⟨1, ![R]⟩ : Shape).Idx → α)
    (h : (⟨1, ![R]⟩ : Shape).ShapeCasts ⟨2, ![R, 1]⟩) (r : Fin R) :
    shapeCast ⟨2, ![R, 1]⟩ v h (ix2 r (0 : Fin 1)) = v (ix1 r) :=
  shapeCast_apply v h _ _ (by
    rw [Shape.rowMajor_val_two, Shape.rowMajor_val_one]
    show r.val = r.val * 1 + 0
    omega)

/-- The normalised block, as both kernels write it. -/
theorem norm_block {R : ℕ} (x : FVec Ideal ⟨2, ![R, 1024]⟩ .f32) (g : FVec Ideal ⟨2, ![1, 1024]⟩ .f32)
    (hr : (⟨2, ![R, 1024]⟩ : Shape).Reduces [1] ⟨1, ![R]⟩) (hs : (⟨1, ![R]⟩ : Shape).ShapeCasts ⟨2, ![R, 1]⟩)
    (hb : (⟨2, ![R, 1]⟩ : Shape).Broadcasts ⟨2, ![R, 1024]⟩) (hg : (⟨2, ![1, 1024]⟩ : Shape).Broadcasts ⟨2, ![R, 1024]⟩)
    (hφ) (hacc) (r : Fin R) (d : Fin 1024) :
    mulf (mulf x (broadcastTo ⟨2, ![R, 1024]⟩ (rsqrt (addf (divf (shapeCast ⟨2, ![R, 1]⟩
        (multiReduction .add [1] ⟨1, ![R]⟩ (mulf x x) 0x00000000#32 hr hφ hacc) hs)
        (broadcast ⟨2, ![R, 1]⟩ (Scalar.ofBits .f32 0x44800000#32))) (broadcast ⟨2, ![R, 1]⟩ (Scalar.ofBits .f32 0x358637BD#32)))) hb))
        (broadcastTo ⟨2, ![R, 1024]⟩ g hg) (ix2 r d)
      = rms x (fun d => g (ix2 (0 : Fin 1) d)) r d := by
  show x (ix2 r d) * broadcastTo _ _ hb (ix2 r d) * broadcastTo _ _ hg (ix2 r d) = _
  rw [broadcastTo_1b_ab_apply, broadcastTo_col_apply]
  show x (ix2 r d) * Ideal.rsqrt (Ideal.div (shapeCast _ _ hs (ix2 r 0)) _ + _) * _ = _
  rw [shapeCast_col_apply, Ideal.multiReduction_add_single]
  unfold rms
  refine congrArg (fun z => x (ix2 r d) * Ideal.rsqrt (Ideal.div z _ + _) * _) (Finset.sum_congr rfl fun k _ => ?_)
  exact congrArg (mulf x x) (lift_row hr r k)

/-- A product accumulated from zero. -/
theorem matmul_block {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_plain_apply]
  show Ideal.ofBits .f32 0x00000000#32 + _ = _
  rw [Ideal.ofBits_zero_f32, zero_add]

end Cert.Layer

end
-- ==== Proof.LruKernel.lean ====
/- The recurrence kernel's blocks, read at an index: the sequence shifted by a few rows, the convolved block, the gates,
   the decays and increments, the states of a group of eight rows and those of the whole block. -/
module

public import proofs.«01_k».proof.Proof.LruIdealBody
public import proofs.«01_k».proof.Proof.LruMath
public import proofs.«01_k».proof.Proof.Block
public import Idealize.ShloMosaic.Lib.KernelVsHost

@[expose] public section

set_option maxRecDepth 16384

noncomputable section

namespace Cert.Layer.LruReal

open Idealize.ShloMosaic Idealize.ShloMosaic.ValueIdx Cert.LruIdeal Cert.LruIdeal.Gen Cert.Layer Cert.Layer.Lru
open scoped BigOperators

/-! ## Rows -/

/-- A block of rows rotated down by `s`. -/
theorem rot_apply {N : ℕ} (sb : BitVec 32) (s : ℕ) (hs : sb.toNat = s) (hN : s < N) (x : (⟨2, ![N, 512]⟩ : Shape).Idx → EReal)
    (h : (⟨2, ![N, 512]⟩ : Shape).Rotates 0 none) (r : Fin N) (d : Fin 512) :
    dynamicRotate 0 sb none x h (ix2 r d) = x (ix2 (⟨(r.val + N - s) % N, Nat.mod_lt _ (by omega)⟩ : Fin N) d) := by
  refine dynamicRotate_apply 0 sb x h (ix2 r d) _ fun b => ?_
  match b with
  | ⟨0, _⟩ =>
    refine Eq.trans ?_ (if_pos rfl).symm
    show (r.val + N - s) % N = (r.val + N - sb.toNat % N) % N
    rw [hs, Nat.mod_eq_of_lt hN]
  | ⟨1, _⟩ => exact (if_neg (by show ¬ ((1 : Fin 2) = 0); decide)).symm

theorem slt_mask (s : ℕ) (hs : s < 8) (r : Fin 8) :
    (BitVec.ofBool ((BitVec.ofNat 32 r.val).slt (BitVec.ofNat 32 s)) = 1) ↔ r.val < s := by
  revert r
  interval_cases s <;> decide

theorem sge_mask (s : ℕ) (hs : s < 8) (r : Fin 8) :
    (BitVec.ofBool ((BitVec.ofNat 32 s).sle (BitVec.ofNat 32 r.val)) = 1) ↔ s ≤ r.val := by
  revert r
  interval_cases s <;> decide

/-- A choice by the rows before row `s`. -/
theorem before_apply (s : ℕ) (hs : s < 8) (X Y : FVec Ideal S8x512 .f32) (r : Fin 8) (d : Fin 512) :
    select (broadcastTo S8x512 (shapeCast S8x1 (cmpi .slt rowNo (broadcast S8x1 (BitVec.ofNat 32 s))) shapeCasts_S8x1_S8x1) broadcasts_S8x1_S8x512) X Y (ix2 r d)
      = if r.val < s then X (ix2 r d) else Y (ix2 r d) := by
  show (if broadcastTo S8x512 _ _ (ix2 r d) = 1 then _ else _) = _
  rw [broadcastTo_col_apply, shapeCast_self]
  refine if_congr ?_ rfl rfl
  have e : rowNo (ix2 r (0 : Fin 1)) = BitVec.ofNat 32 r.val := iota_single_apply _ _ _ _ _ _
  show IntOp.cmpi .slt (rowNo (ix2 r (0 : Fin 1))) (BitVec.ofNat 32 s) = 1 ↔ _
  rw [e]
  exact slt_mask s hs r

/-- A choice by the rows from row `s` on. -/
theorem from_apply (s : ℕ) (hs : s < 8) (X Y : FVec Ideal S8x512 .f32) (r : Fin 8) (d : Fin 512) :
    select (broadcastTo S8x512 (shapeCast S8x1 (cmpi .sge rowNo (broadcast S8x1 (BitVec.ofNat 32 s))) shapeCasts_S8x1_S8x1) broadcasts_S8x1_S8x512) X Y (ix2 r d)
      = if s ≤ r.val then X (ix2 r d) else Y (ix2 r d) := by
  show (if broadcastTo S8x512 _ _ (ix2 r d) = 1 then _ else _) = _
  rw [broadcastTo_col_apply, shapeCast_self]
  refine if_congr ?_ rfl rfl
  have e : rowNo (ix2 r (0 : Fin 1)) = BitVec.ofNat 32 r.val := iota_single_apply _ _ _ _ _ _
  show IntOp.cmpi .sge (rowNo (ix2 r (0 : Fin 1))) (BitVec.ofNat 32 s) = 1 ↔ _
  rw [e]
  exact sge_mask s hs r

/-- The block shifted down by the rows before it. -/
def shiftB (sb : BitVec 32) (x : FVec Ideal S432x512 .f32) (h : FVec Ideal S8x512 .f32) : FVec Ideal S432x512 .f32 :=
  concatenate S432x512 0
    [⟨S8x512, select (broadcastTo S8x512 (shapeCast S8x1 (cmpi .slt rowNo (broadcast S8x1 sb)) shapeCasts_S8x1_S8x1) broadcasts_S8x1_S8x512)
        (dynamicRotate 0 sb none h rotates_S8x512_d0)
        (extractStridedSlice S8x512 ![0, 0] (dynamicRotate 0 sb none x rotates_S432x512_d0) slices_S432x512_o0_0_S8x512)⟩,
      ⟨S424x512, extractStridedSlice S424x512 ![8, 0] (dynamicRotate 0 sb none x rotates_S432x512_d0) slices_S432x512_o8_0_S424x512⟩]
    concatenates_S8x512_S424x512_S432x512_d0

/-- The shifted block at an index. -/
theorem shiftB_apply (s : ℕ) (hs : s < 8) (x : FVec Ideal S432x512 .f32) (h : FVec Ideal S8x512 .f32) (r : Fin 432) (d : Fin 512) :
    shiftB (BitVec.ofNat 32 s) x h (ix2 r d)
      = if r.val < s then h (ix2 (⟨(r.val + 8 - s) % 8, Nat.mod_lt _ (by decide)⟩ : Fin 8) d)
        else x (ix2 (⟨r.val - s, by have := r.isLt; omega⟩ : Fin 432) d) := by
  have hsb : (BitVec.ofNat 32 s).toNat = s := by rw [BitVec.toNat_ofNat]; omega
  unfold shiftB
  by_cases h8 : r.val < 8
  · refine (concatenate_pair_apply_left (t := S432x512) (0 : Fin 2) _ _ concatenates_S8x512_S424x512_S432x512_d0 _ rfl (ix2 (⟨r.val, h8⟩ : Fin 8) d) fun b => ?_).trans ?_
    · match b with
      | ⟨0, _⟩ => rfl
      | ⟨1, _⟩ => rfl
    · rw [before_apply s hs]
      by_cases hr : r.val < s
      · rw [if_pos hr, if_pos hr, rot_apply _ s hsb hs]
      · rw [if_neg hr, if_neg hr, slice2_axis0_apply 0 _ slices_S432x512_o0_0_S8x512 _ d r (Nat.zero_add _).symm, rot_apply _ s hsb (by omega)]
        refine congrArg (fun k => x (ix2 k d)) (Fin.ext ?_)
        show (r.val + 432 - s) % 432 = r.val - s
        omega
  · have hr : ¬ r.val < s := by omega
    refine (concatenate_pair_apply_right (t := S432x512) (0 : Fin 2) _ _ concatenates_S8x512_S424x512_S432x512_d0 (ix2 r d) rfl rfl
      (ix2 (⟨r.val - 8, by have := r.isLt; omega⟩ : Fin 424) d) (fun b hb => ?_) (by show r.val - 8 + 8 = r.val; omega)).trans ?_
    · match b with
      | ⟨0, _⟩ => exact absurd rfl hb
      | ⟨1, _⟩ => rfl
    · rw [if_neg hr, slice2_axis0_apply 8 _ slices_S432x512_o8_0_S424x512 _ d r (by show r.val = 8 + (r.val - 8); omega), rot_apply _ s hsb (by omega)]
      refine congrArg (fun k => x (ix2 k d)) (Fin.ext ?_)
      show (r.val + 432 - s) % 432 = r.val - s
      have := r.isLt
      omega

/-! ## The convolved block -/

variable (x : Vec Ideal S432x512 .f32) (h : Vec Ideal S8x512 .f32) (cw : Vec Ideal S4x512 .f32) (cb : Vec Ideal S1x512 .f32)

theorem xcB_eq : xcB x h cw cb
    = addf (addf (addf (addf (mulf x (broadcastTo S432x512 (extractStridedSlice S1x512 ![3, 0] cw slices_S4x512_o3_0_S1x512) broadcasts_S1x512_S432x512))
          (broadcastTo S432x512 (shapeCast S1x512 cb shapeCasts_S1x512_S1x512) broadcasts_S1x512_S432x512))
          (mulf (shiftB (BitVec.ofNat 32 1) x h) (broadcastTo S432x512 (extractStridedSlice S1x512 ![2, 0] cw slices_S4x512_o2_0_S1x512) broadcasts_S1x512_S432x512)))
          (mulf (shiftB (BitVec.ofNat 32 2) x h) (broadcastTo S432x512 (extractStridedSlice S1x512 ![1, 0] cw slices_S4x512_o1_0_S1x512) broadcasts_S1x512_S432x512)))
          (mulf (shiftB (BitVec.ofNat 32 3) x h) (broadcastTo S432x512 (extractStridedSlice S1x512 ![0, 0] cw slices_S4x512_o0_0_S1x512) broadcasts_S1x512_S432x512)) := rfl

theorem xcB_apply (r : Fin 432) (d : Fin 512) : xcB x h cw cb (ix2 r d)
    = x (ix2 r d) * cw (ix2 (3 : Fin 4) d) + cb (ix2 (0 : Fin 1) d) + shiftB (BitVec.ofNat 32 1) x h (ix2 r d) * cw (ix2 (2 : Fin 4) d)
      + shiftB (BitVec.ofNat 32 2) x h (ix2 r d) * cw (ix2 (1 : Fin 4) d) + shiftB (BitVec.ofNat 32 3) x h (ix2 r d) * cw (ix2 (0 : Fin 4) d) := by
  rw [xcB_eq]
  show x (ix2 r d) * broadcastTo _ _ _ (ix2 r d) + broadcastTo _ _ _ (ix2 r d) + _ * broadcastTo _ _ _ (ix2 r d) + _ * broadcastTo _ _ _ (ix2 r d)
    + _ * broadcastTo _ _ _ (ix2 r d) = _
  rw [broadcastTo_1b_ab_apply, broadcastTo_1b_ab_apply, broadcastTo_1b_ab_apply, broadcastTo_1b_ab_apply, broadcastTo_1b_ab_apply, shapeCast_self,
    slice2_axis0_apply 3 cw slices_S4x512_o3_0_S1x512 (0 : Fin 1) d (3 : Fin 4) rfl,
    slice2_axis0_apply 2 cw slices_S4x512_o2_0_S1x512 (0 : Fin 1) d (2 : Fin 4) rfl,
    slice2_axis0_apply 1 cw slices_S4x512_o1_0_S1x512 (0 : Fin 1) d (1 : Fin 4) rfl,
    slice2_axis0_apply 0 cw slices_S4x512_o0_0_S1x512 (0 : Fin 1) d (0 : Fin 4) rfl]

/-! ## The gates -/

/-- A product with a block-diagonal weight is a product within the group. -/
theorem blockDiag_sum (v : Fin 512 → EReal) (W : (⟨2, ![512, 512]⟩ : Shape).Idx → EReal) (w : (⟨3, ![8, 64, 64]⟩ : Shape).Idx → EReal)
    (hW : ∀ k d : Fin 512, W (ix2 k d) = if grpOf k = grpOf d then w (ix3 (grpOf d) (inGrp k) (inGrp d)) else 0) (d : Fin 512) :
    ∑ k : Fin 512, v k * W (ix2 k d) = ∑ j : Fin 64, v (ofGrp (grpOf d) j) * w (ix3 (grpOf d) j (inGrp d)) := by
  refine (Finset.sum_of_injOn (ofGrp (grpOf d)) (fun i _ j _ hij => ?_) (fun _ _ => Finset.mem_coe.2 (Finset.mem_univ _)) (fun k _ hk => ?_) (fun j _ => ?_)).symm
  · have := congrArg Fin.val hij
    exact Fin.ext (by simpa [ofGrp] using this)
  · rw [hW, if_neg, mul_zero]
    intro hg
    refine hk ⟨inGrp k, Finset.mem_coe.2 (Finset.mem_univ _), Fin.ext ?_⟩
    show 64 * (grpOf d).val + k.val % 64 = k.val
    rw [← hg]
    show 64 * (k.val / 64) + k.val % 64 = k.val
    omega
  · have e1 : grpOf (ofGrp (grpOf d) j) = grpOf d := Fin.ext (by
      show (64 * (grpOf d).val + j.val) / 64 = (grpOf d).val
      have := j.isLt; omega)
    have e2 : inGrp (ofGrp (grpOf d) j) = j := Fin.ext (by
      show (64 * (grpOf d).val + j.val) % 64 = j.val
      have := j.isLt; omega)
    rw [hW, if_pos e1, e2]

variable (wa : Vec Ideal S512x512 .bf16) (ba : Vec Ideal S1x512 .f32) (wx : Vec Ideal S512x512 .bf16) (bx lam : Vec Ideal S1x512 .f32)

theorem zB_apply (r : Fin 432) (d : Fin 512) : zB x h cw cb wx bx (ix2 r d)
    = (∑ k : Fin 512, xcB x h cw cb (ix2 r k) * wx (ix2 k d)) + bx (ix2 (0 : Fin 1) d) := by
  unfold zB k0_pay17
  refine congrArg₂ (fun a b : EReal => a + b) ?_ ?_
  · rw [shapeCast_self]
    exact matmul_block (φ₁ := .bf16) (φ₂ := .bf16) none (xcB x h cw cb) wx r d
  · rw [shapeCast_self]
    exact broadcastTo_1b_ab_apply _ _ r d

theorem rB_apply (r : Fin 432) (d : Fin 512) : rB x h cw cb wa ba (ix2 r d)
    = sigm ((∑ k : Fin 512, xcB x h cw cb (ix2 r k) * wa (ix2 k d)) + ba (ix2 (0 : Fin 1) d)) := by
  have hz := zB_apply x h cw cb wa ba r d
  show Ideal.div (Ideal.ofBits .f32 0x3F800000#32) (Ideal.ofBits .f32 0x3F800000#32 + Ideal.exp (Ideal.ofBits .f32 0x00000000#32 - zB x h cw cb wa ba (ix2 r d))) = _
  rw [Ideal.ofBits_zero_f32, zero_sub, hz]
  rfl

theorem la_apply (R : FVec Ideal S432x512 .f32) (r : Fin 432) (d : Fin 512) : k0_pay18 R lam (ix2 r d) = la (R (ix2 r d)) (lam (ix2 (0 : Fin 1) d)) := by
  unfold k0_pay18
  rw [shapeCast_self]
  show _ * broadcastTo S432x512 _ _ (ix2 r d) = _
  rw [broadcastTo_1b_ab_apply]
  show Ideal.ofBits .f32 0xC1000000#32 * R (ix2 r d) * (max (Ideal.ofBits .f32 0x00000000#32 - lam (ix2 (0 : Fin 1) d)) (Ideal.ofBits .f32 0x00000000#32)
    + Ideal.log (Ideal.ofBits .f32 0x3F800000#32 + Ideal.exp (Ideal.ofBits .f32 0x00000000#32
      - max (Ideal.ofBits .f32 0x00000000#32 - lam (ix2 (0 : Fin 1) d)) (-(Ideal.ofBits .f32 0x00000000#32 - lam (ix2 (0 : Fin 1) d)))))) = _
  rw [Ideal.ofBits_zero_f32, one_f32, zero_sub, zero_sub]
  rfl

theorem aB_apply (r : Fin 432) (d : Fin 512) : aB x h cw cb wa ba lam (ix2 r d) = Ideal.exp (la (rB x h cw cb wa ba (ix2 r d)) (lam (ix2 (0 : Fin 1) d))) := by
  unfold aB k0_pay19
  rw [shapeCast_self]
  exact congrArg Ideal.exp (la_apply lam _ r d)

theorem uB_apply (r : Fin 432) (d : Fin 512) : uB x h cw cb wa ba wx bx lam (ix2 r d)
    = inc (rB x h cw cb wa ba (ix2 r d)) (zB x h cw cb wx bx (ix2 r d)) (lam (ix2 (0 : Fin 1) d)) (xcB x h cw cb (ix2 r d)) := by
  unfold uB k0_pay20
  rw [shapeCast_self]
  show Ideal.sqrt (Ideal.ofBits .f32 0x3F800000#32 - Ideal.exp (Ideal.ofBits .f32 0x40000000#32 * k0_pay18 _ lam (ix2 r d)))
    * Ideal.div (Ideal.ofBits .f32 0x3F800000#32) (Ideal.ofBits .f32 0x3F800000#32 + Ideal.exp (Ideal.ofBits .f32 0x00000000#32 - zB x h cw cb wx bx (ix2 r d))) * _ = _
  rw [la_apply, Ideal.ofBits_zero_f32, zero_sub]
  unfold inc sigm
  rw [one_f32]

/-! ## The states -/

/-- A column of eight rows, row `n` modulo eight. -/
def col8 (A : FVec Ideal S8x512 .f32) (d : Fin 512) (n : ℕ) : EReal := A (ix2 (⟨n % 8, Nat.mod_lt _ (by decide)⟩ : Fin 8) d)

theorem col8_val (A : FVec Ideal S8x512 .f32) (d : Fin 512) (r : Fin 8) : A (ix2 r d) = col8 A d r.val :=
  congrArg (fun k => A (ix2 k d)) (Fin.ext (Nat.mod_eq_of_lt r.isLt).symm)

/-- A block of eight rows doubled at distance `s`, its coefficients. -/
theorem dblA_block (s : ℕ) (hs : s < 8) (A : FVec Ideal S8x512 .f32) (a : ℕ → EReal) (d : Fin 512) (hA : ∀ r : Fin 8, A (ix2 r d) = a r.val) (r : Fin 8) :
    select (broadcastTo S8x512 (shapeCast S8x1 (cmpi .sge rowNo (broadcast S8x1 (BitVec.ofNat 32 s))) shapeCasts_S8x1_S8x1) broadcasts_S8x1_S8x512)
      (mulf A (dynamicRotate 0 (BitVec.ofNat 32 s) none A rotates_S8x512_d0)) A (ix2 r d) = dblA s a r.val := by
  rw [from_apply s hs]
  unfold dblA
  refine ite_congr rfl (fun hr => ?_) (fun _ => hA r)
  show A (ix2 r d) * dynamicRotate 0 _ none A _ (ix2 r d) = _
  rw [rot_apply _ s (by rw [BitVec.toNat_ofNat]; omega) hs, hA, hA]
  refine congrArg (fun k => a r.val * a k) ?_
  show (r.val + 8 - s) % 8 = r.val - s
  have := r.isLt
  omega

/-- A block of eight rows doubled at distance `s`, its offsets. -/
theorem dblU_block (s : ℕ) (hs : s < 8) (A U : FVec Ideal S8x512 .f32) (a u : ℕ → EReal) (d : Fin 512) (hA : ∀ r : Fin 8, A (ix2 r d) = a r.val)
    (hU : ∀ r : Fin 8, U (ix2 r d) = u r.val) (r : Fin 8) :
    select (broadcastTo S8x512 (shapeCast S8x1 (cmpi .sge rowNo (broadcast S8x1 (BitVec.ofNat 32 s))) shapeCasts_S8x1_S8x1) broadcasts_S8x1_S8x512)
      (addf (mulf A (dynamicRotate 0 (BitVec.ofNat 32 s) none U rotates_S8x512_d0)) U) U (ix2 r d) = dblU s a u r.val := by
  rw [from_apply s hs]
  unfold dblU
  refine ite_congr rfl (fun hr => ?_) (fun _ => hU r)
  show A (ix2 r d) * dynamicRotate 0 _ none U _ (ix2 r d) + U (ix2 r d) = _
  rw [rot_apply _ s (by rw [BitVec.toNat_ofNat]; omega) hs, hA, hU, hU]
  refine congrArg (fun k => a r.val * u k + u r.val) ?_
  show (r.val + 8 - s) % 8 = r.val - s
  have := r.isLt
  omega

/-- The states of a group, entered at `H` on every row. -/
theorem pay5_apply (C A U : FVec Ideal S8x512 .f32) (d : Fin 512) (a u : ℕ → EReal) (H : EReal) (hnn : ∀ n, NN (a n))
    (hA : ∀ r : Fin 8, A (ix2 r d) = a r.val) (hU : ∀ r : Fin 8, U (ix2 r d) = u r.val) (hC : ∀ r : Fin 8, C (ix2 r d) = H) (r : Fin 8) :
    k0_pay5 (F := Ideal) rowNo C A U (ix2 r d) = recF a u H (r.val + 1) := by
  have a1 := dblA_block 1 (by decide) A a d hA
  have u1 := dblU_block 1 (by decide) A U a u d hA hU
  have a2 := dblA_block 2 (by decide) _ _ d a1
  have u2 := dblU_block 2 (by decide) _ _ _ _ d a1 u1
  have a3 := dblA_block 4 (by decide) _ _ d a2 r
  have u3 := dblU_block 4 (by decide) _ _ _ _ d a2 u2 r
  rw [← dbl_eq a u hnn H r.val r.isLt, ← a3, ← u3, ← hC r]
  rfl

variable (A U : Vec Ideal S432x512 .f32) (H : Vec Ideal S8x512 .f32)

/-- Group `k` of a block. -/
theorem ld_apply (k : Fin k0_t1_loop.trips) (r : Fin 8) (d : Fin 512) :
    (View.ld A (grpRect k) : FVec Ideal S8x512 .f32) (ix2 r d) = A (ix2 (⟨8 * k.val + r.val, by have h1 := lt_of_lt_of_eq k.isLt trips_eq; have h2 := r.isLt; omega⟩ : Fin 432) d) := by
  show A _ = A _
  refine congrArg A (funext fun b => Fin.ext ?_)
  have h0 : k0_off1 k 0 = 8 * k.val := congrFun (k0_off1_eq k) 0
  match b with
  | ⟨0, _⟩ =>
    show k0_off1 k 0 + 1 * r.val = 8 * k.val + r.val
    rw [h0]; omega
  | ⟨1, _⟩ =>
    show k0_off1 k 1 + 1 * d.val = d.val
    rw [show k0_off1 k 1 = 0 from congrFun (k0_off1_eq k) 1]; omega

variable (d : Fin 512) (a u : ℕ → EReal) (h0 : EReal) (hnn : ∀ n, NN (a n))
  (hA : ∀ r : Fin 432, A (ix2 r d) = a r.val) (hU : ∀ r : Fin 432, U (ix2 r d) = u r.val) (hH : ∀ r : Fin 8, H (ix2 r d) = h0)

include hnn hA hU in
theorem grp_apply (k : Fin k0_t1_loop.trips) (C : Vec Ideal S8x512 .f32) (hC : ∀ r : Fin 8, C (ix2 r d) = recF a u h0 (8 * k.val)) (r : Fin 8) :
    grp A U k C (ix2 r d) = recF a u h0 (8 * k.val + (r.val + 1)) := by
  refine (pay5_apply C _ _ d (fun n => a (8 * k.val + n)) (fun n => u (8 * k.val + n)) _ (fun n => hnn _) (fun r => ?_) (fun r => ?_) hC r).trans (recF_add a u h0 _ _).symm
  · exact (ld_apply A k r d).trans (hA _)
  · exact (ld_apply U k r d).trans (hU _)

include hnn hA hU hH in
theorem carry_apply (n : ℕ) (hn : n ≤ 54) (r : Fin 8) : carry A U H n (ix2 r d) = recF a u h0 (8 * n) := by
  induction n generalizing r with
  | zero => exact hH r
  | succ n ih =>
    have hk : n < k0_t1_loop.trips := by rw [trips_eq]; omega
    rw [carry.eq_2, dif_pos hk]
    unfold k0_pay2
    rw [shapeCast_self]
    refine (broadcastTo_1b_ab_apply _ _ r d).trans ?_
    rw [slice2_axis0_apply 7 _ slices_S8x512_o7_0_S1x512 (0 : Fin 1) d (7 : Fin 8) rfl]
    exact grp_apply A U d a u h0 hnn hA hU ⟨n, hk⟩ _ (fun r => ih (by omega) r) 7

include hnn hA hU hH in
theorem hB_apply (r : Fin 432) : hB A U H (ix2 r d) = recF a u h0 (r.val + 1) := by
  unfold hB k0_pay1
  rw [shapeCast_self]
  have hr : r.val / 8 < k0_t1_loop.trips := by rw [trips_eq]; have := r.isLt; omega
  have e := grp_apply A U d a u h0 hnn hA hU ⟨r.val / 8, hr⟩ _ (fun s => carry_apply A U H d a u h0 hnn hA hU hH (r.val / 8) (by have := r.isLt; omega) s)
    ⟨r.val % 8, Nat.mod_lt _ (by decide)⟩
  refine (congrArg (grp A U _ _) ?_).trans (e.trans (congrArg (recF a u h0) ?_))
  · funext b
    match b with
    | ⟨0, _⟩ => rfl
    | ⟨1, _⟩ => rfl
  · show 8 * (r.val / 8) + (r.val % 8 + 1) = r.val + 1
    omega

/-- The block stored, of the states and the gate. -/
theorem pay4_apply (S G : Vec Ideal S432x512 .f32) (r : Fin 432) (d : Fin 512) : k0_pay4 S G (ix2 r d) = S (ix2 r d) * gelu (G (ix2 r d)) := rfl

end Cert.Layer.LruReal

end
-- ==== Proof.LruHost.lean ====
/- The arrays the recurrence kernel is handed besides its arguments: the block-diagonal weights of the two gates, put
   together block by block, and the biases as rows. -/
module

public import proofs.«01_k».proof.Proof.LruKernel
public import Idealize.ShloMosaic.Lib.Routing.OpsOne

@[expose] public section

set_option maxRecDepth 16384

noncomputable section

namespace Cert.Layer.LruReal

open Idealize.ShloMosaic Idealize.ShloMosaic.ValueIdx Cert.LruIdeal Cert.LruIdeal.Gen Cert.Layer Cert.Layer.Lru
open Idealize.ShloMosaic.TcCoe Idealize.SL.Sem

/-! ## A block written into a matrix -/

abbrev D : ScatterDims S512x512 S2 S64x64 := scatter_S512x512_S2_S64x64_01_n_01_0

theorem kept_D : D.sKept = [0, 1] := by decide +kernel

theorem window0 (a b : Fin 64) : D.window (ix2 a b) 0 = a.val := by
  unfold ScatterDims.window
  rw [dif_pos (by rw [kept_D]; decide)]
  rfl

theorem window1 (a b : Fin 64) : D.window (ix2 a b) 1 = b.val := by
  unfold ScatterDims.window
  rw [dif_pos (by rw [kept_D]; decide)]
  rfl

/-- Element `(a, b)` of the block lands at `(k, d)` exactly when both are the offset further. -/
theorem lands (idx : IVec S2 32) (o : ℕ) (h0 : (idx (ix1 (0 : Fin 2))).toInt = (o : Int)) (h1 : (idx (ix1 (1 : Fin 2))).toInt = (o : Int))
    (a b : Fin 64) (k d : Fin 512) : D.resultIdx? (ix2 a b) idx = some (ix2 k d) ↔ o + a.val = k.val ∧ o + b.val = d.val := by
  rw [Idealize.ShloMosaic.Routing.resultIdx?_ix2, Idealize.ShloMosaic.Routing.start_pair D rfl rfl, Idealize.ShloMosaic.Routing.start_pair D rfl rfl, window0, window1, h0, h1]
  omega

theorem scatter_block (x0 : S512x512.Idx → EReal) (idx : IVec S2 32) (g : ℕ)
    (h0 : (idx (ix1 (0 : Fin 2))).toInt = ((64 * g : ℕ) : Int)) (h1 : (idx (ix1 (1 : Fin 2))).toInt = ((64 * g : ℕ) : Int)) (upd : S64x64.Idx → EReal) (k d : Fin 512) :
    Host.scatter D (fun _ b => b) x0 idx upd (ix2 k d)
      = if k.val / 64 = g ∧ d.val / 64 = g then upd (ix2 (inGrp k) (inGrp d)) else x0 (ix2 k d) := by
  have l : ∀ j : S64x64.Idx, D.resultIdx? j idx = some (ix2 k d) → 64 * g + (j 0).val = k.val ∧ 64 * g + (j 1).val = d.val := fun j hj =>
    (lands idx _ h0 h1 (j 0) (j 1) k d).1 ((congrArg (fun t => D.resultIdx? t idx) (eq_ix2 j).symm).trans hj)
  by_cases h : k.val / 64 = g ∧ d.val / 64 = g
  · rw [if_pos h]
    refine Idealize.ShloMosaic.Routing.scatter_set_hit D x0 idx upd _ _ (fun j hj => (congrArg upd (eq_ix2 j)).trans ?_) (ix2 (inGrp k) (inGrp d))
      ((lands idx _ h0 h1 _ _ k d).2 ⟨?_, ?_⟩)
    · have e := l j hj
      have b0 : (j 0).val < 64 := (j 0).isLt
      have b1 : (j 1).val < 64 := (j 1).isLt
      refine congrArg₂ (fun a b => upd (ix2 a b)) (Fin.ext ?_) (Fin.ext ?_)
      · show (j 0).val = k.val % 64
        omega
      · show (j 1).val = d.val % 64
        omega
    · show 64 * g + k.val % 64 = k.val
      omega
    · show 64 * g + d.val % 64 = d.val
      omega
  · rw [if_neg h]
    refine Idealize.ShloMosaic.Routing.scatter_set_miss D x0 idx upd _ fun j hj => h ?_
    have e := l j hj
    have b0 : (j 0).val < 64 := (j 0).isLt
    have b1 : (j 1).val < 64 := (j 1).isLt
    omega

/-- The pair of offsets a block is written at. -/
def pairOf (w : BitVec 32) : IVec S2 32 :=
  concatenate S2 0 [⟨S1, broadcastInDim S1 ![] bcast_S_S1 (constantI S_ 32 w)⟩, ⟨S1, broadcastInDim S1 ![] bcast_S_S1 (constantI S_ 32 w)⟩] concatenates_S1_S1_S2_d0

theorem pairOf_apply0 (w : BitVec 32) : pairOf w (ix1 (0 : Fin 2)) = w := by
  unfold pairOf
  refine (concatenate_pair_apply_left (t := S2) (0 : Fin 1) _ _ concatenates_S1_S1_S2_d0 _ rfl (ix1 (0 : Fin 1)) fun b => ?_).trans rfl
  match b with
  | ⟨0, _⟩ => rfl

theorem pairOf_apply1 (w : BitVec 32) : pairOf w (ix1 (1 : Fin 2)) = w := by
  unfold pairOf
  refine (concatenate_pair_apply_right (t := S2) (0 : Fin 1) _ _ concatenates_S1_S1_S2_d0 _ rfl rfl (ix1 (0 : Fin 1)) (fun b hb => ?_) rfl).trans rfl
  match b with
  | ⟨0, _⟩ => exact absurd rfl hb

/-- A gate's block, cut out at `off`, written at `w`. -/
def putB (W : FVec Ideal S512x512 .f32) (off : Fin 3 → ℕ) (h : S8x64x64.Slices off S1x64x64) (w : BitVec 32) (x : FVec Ideal S8x64x64 .f32) : FVec Ideal S512x512 .f32 :=
  Host.scatter scatter_S512x512_S2_S64x64_01_n_01_0 (fun _ b => b) W (pairOf w)
    (shapeCast S64x64 (extractStridedSlice S1x64x64 off x h) shapeCasts_S1x64x64_S64x64)

theorem putB_apply (W : FVec Ideal S512x512 .f32) (g : ℕ) (hg : g < 8) (h : S8x64x64.Slices ![g, 0, 0] S1x64x64) (x : FVec Ideal S8x64x64 .f32) (k d : Fin 512) :
    putB W ![g, 0, 0] h (BitVec.ofNat 32 (64 * g)) x (ix2 k d)
      = if k.val / 64 = g ∧ d.val / 64 = g then x (ix3 (⟨g, hg⟩ : Fin 8) (inGrp k) (inGrp d)) else W (ix2 k d) := by
  have ht : (BitVec.ofNat 32 (64 * g)).toInt = ((64 * g : ℕ) : Int) := by
    interval_cases g <;> rfl
  unfold putB
  refine (scatter_block W _ g ((congrArg BitVec.toInt (pairOf_apply0 _)).trans ht) ((congrArg BitVec.toInt (pairOf_apply1 _)).trans ht) _ k d).trans ?_
  refine ite_congr rfl (fun _ => ?_) (fun _ => rfl)
  refine (shapeCast_1ab_ab_apply _ _ _ _).trans ?_
  refine extractStridedSlice_apply _ x h _ _ fun a => ?_
  match a with
  | ⟨0, _⟩ => rfl
  | ⟨1, _⟩ => exact (Nat.zero_add _).symm
  | ⟨2, _⟩ => exact (Nat.zero_add _).symm

/-- The block-diagonal matrix of eight blocks. -/
def bdW (x : FVec Ideal S8x64x64 .f32) : FVec Ideal S512x512 .f32 :=
  (putB (putB (putB (putB (putB (putB (putB (putB (broadcastInDim S512x512 ![] bcast_S_S512x512 (constant (F := Ideal) S_ .f32 0x00000000#32)) ![0, 0, 0] slices_S8x64x64_S1x64x64_0_0_0 0#32 x) ![1, 0, 0] slices_S8x64x64_S1x64x64_1_0_0 64#32 x) ![2, 0, 0] slices_S8x64x64_S1x64x64_2_0_0 128#32 x) ![3, 0, 0] slices_S8x64x64_S1x64x64_3_0_0 192#32 x) ![4, 0, 0] slices_S8x64x64_S1x64x64_4_0_0 256#32 x) ![5, 0, 0] slices_S8x64x64_S1x64x64_5_0_0 320#32 x) ![6, 0, 0] slices_S8x64x64_S1x64x64_6_0_0 384#32 x) ![7, 0, 0] slices_S8x64x64_S1x64x64_7_0_0 448#32 x)

theorem bdW_apply (x : FVec Ideal S8x64x64 .f32) (k d : Fin 512) :
    bdW x (ix2 k d) = if grpOf k = grpOf d then x (ix3 (grpOf d) (inGrp k) (inGrp d)) else 0 := by
  unfold bdW
  rw [show (0#32 : BitVec 32) = BitVec.ofNat 32 (64 * 0) from rfl, show (64#32 : BitVec 32) = BitVec.ofNat 32 (64 * 1) from rfl, show (128#32 : BitVec 32) = BitVec.ofNat 32 (64 * 2) from rfl, show (192#32 : BitVec 32) = BitVec.ofNat 32 (64 * 3) from rfl, show (256#32 : BitVec 32) = BitVec.ofNat 32 (64 * 4) from rfl, show (320#32 : BitVec 32) = BitVec.ofNat 32 (64 * 5) from rfl, show (384#32 : BitVec 32) = BitVec.ofNat 32 (64 * 6) from rfl, show (448#32 : BitVec 32) = BitVec.ofNat 32 (64 * 7) from rfl]
  rw [putB_apply _ 7 (by decide), putB_apply _ 6 (by decide), putB_apply _ 5 (by decide), putB_apply _ 4 (by decide), putB_apply _ 3 (by decide), putB_apply _ 2 (by decide), putB_apply _ 1 (by decide), putB_apply _ 0 (by decide)]
  have hk : k.val / 64 < 8 := by have := k.isLt; omega
  have hd : d.val / 64 < 8 := by have := d.isLt; omega
  have hz : broadcastInDim S512x512 ![] bcast_S_S512x512 (constant (F := Ideal) S_ .f32 0x00000000#32) (ix2 k d) = (0 : EReal) := Ideal.ofBits_zero_f32
  rw [hz]
  by_cases h : grpOf k = grpOf d
  · rw [if_pos h]
    have e : k.val / 64 = d.val / 64 := congrArg Fin.val h
    have hx : ∀ (g : ℕ) (hg : g < 8), d.val / 64 = g → x (ix3 (⟨g, hg⟩ : Fin 8) (inGrp k) (inGrp d)) = x (ix3 (grpOf d) (inGrp k) (inGrp d)) := fun g hg e =>
      congrArg (fun q => x (ix3 q (inGrp k) (inGrp d))) (Fin.ext e.symm)
    rw [e]
    generalize d.val / 64 = q at hd hx
    interval_cases q <;> simp <;> exact hx _ _ rfl
  · rw [if_neg h]
    have e : k.val / 64 ≠ d.val / 64 := fun e => h (Fin.ext e)
    have hn : ∀ g, ¬ (k.val / 64 = g ∧ d.val / 64 = g) := fun g ⟨e1, e2⟩ => e (e1.trans e2.symm)
    rw [if_neg (hn _), if_neg (hn _), if_neg (hn _), if_neg (hn _), if_neg (hn _), if_neg (hn _), if_neg (hn _), if_neg (hn _)]

theorem trunc_apply (x : FVec Ideal S512x512 .f32) (i : S512x512.Idx) : truncf (F := Ideal) .bf16 x bitsLt_bf16_f32 i = x i := rfl

attribute [irreducible] bdW putB

/-! ## What the arrays hold where the grid begins -/

variable (m : (ℓ : Loc nD τ sig) → Buf (Elt Ideal) ℓ)

theorem V_wa (c : Dev nD) (k d : Fin 512) : V m c main_v50 (ix2 k d)
    = if grpOf k = grpOf d then m ((c : Thread nD τ).loc main_arg4) (ix3 (grpOf d) (inGrp k) (inGrp d)) else (0 : EReal) := by
  have h : V m c main_v50 = truncf (F := Ideal) .bf16 (bdW (m ((c : Thread nD τ).loc main_arg4))) bitsLt_bf16_f32 := by
    simp only [V, hostOps0]
    after_results_simp <;> (unfold bdW putB; rfl)
  refine (congrFun h (ix2 k d)).trans ((trunc_apply _ _).trans (bdW_apply _ k d))

theorem V_wx (c : Dev nD) (k d : Fin 512) : V m c main_v101 (ix2 k d)
    = if grpOf k = grpOf d then m ((c : Thread nD τ).loc main_arg6) (ix3 (grpOf d) (inGrp k) (inGrp d)) else (0 : EReal) := by
  have h : V m c main_v101 = truncf (F := Ideal) .bf16 (bdW (m ((c : Thread nD τ).loc main_arg6))) bitsLt_bf16_f32 := by
    simp only [V, hostOps0]
    after_results_simp <;> (unfold bdW putB; rfl)
  refine (congrFun h (ix2 k d)).trans ((trunc_apply _ _).trans (bdW_apply _ k d))

theorem V_cb (c : Dev nD) (d : Fin 512) : V m c main_v0 (ix2 (0 : Fin 1) d) = m ((c : Thread nD τ).loc main_arg3) (ix1 d) := by
  have h : V m c main_v0 = shapeCast S1x512 (m ((c : Thread nD τ).loc main_arg3)) shapeCasts_S512_S1x512 := by
    simp only [V, hostOps0]
    after_results_simp <;> rfl
  rw [h]
  exact shapeCast_a_1a_apply _ _ _ _

theorem V_ba (c : Dev nD) (d : Fin 512) : V m c main_v51 (ix2 (0 : Fin 1) d) = m ((c : Thread nD τ).loc main_arg5) (ix1 d) := by
  have h : V m c main_v51 = shapeCast S1x512 (m ((c : Thread nD τ).loc main_arg5)) shapeCasts_S512_S1x512 := by
    simp only [V, hostOps0]
    after_results_simp <;> rfl
  rw [h]
  exact shapeCast_a_1a_apply _ _ _ _

theorem V_bx (c : Dev nD) (d : Fin 512) : V m c main_v102 (ix2 (0 : Fin 1) d) = m ((c : Thread nD τ).loc main_arg7) (ix1 d) := by
  have h : V m c main_v102 = shapeCast S1x512 (m ((c : Thread nD τ).loc main_arg7)) shapeCasts_S512_S1x512 := by
    simp only [V, hostOps0]
    after_results_simp <;> rfl
  rw [h]
  exact shapeCast_a_1a_apply _ _ _ _

theorem V_lam (c : Dev nD) (d : Fin 512) : V m c main_v103 (ix2 (0 : Fin 1) d) = m ((c : Thread nD τ).loc main_arg8) (ix1 d) := by
  have h : V m c main_v103 = shapeCast S1x512 (m ((c : Thread nD τ).loc main_arg8)) shapeCasts_S512_S1x512 := by
    simp only [V, hostOps0]
    after_results_simp <;> rfl
  rw [h]
  exact shapeCast_a_1a_apply _ _ _ _

end Cert.Layer.LruReal

end
-- ==== Proof.LruIdealBodyFirst.lean ====
/- The run of the recurrence kernel's body at a point that begins a sequence. -/
module

public import proofs.«01_k».proof.Proof.LruIdealBody
public import Idealize.ShloMosaic.Lib.VecWindow
public import Idealize.ShloMosaic.Lib.WritesUnit

@[expose] public section

set_option maxRecDepth 16384

noncomputable section

namespace Cert.LruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where a sequence begins: the pieces its stores leave in the result block, the carried input rows and the carried state, whatever the scratch held. -/
noncomputable def runFirst (c : Dev nD) (i : grid0.Coords) (hc : first i) (arg2 : Memref sig .tc .vmem S432x512 .f32) (harg2 : arg2.IsWhole) (arg3 : Memref sig .tc .vmem S432x512 .f32) (harg3 : arg3.IsWhole) (arg4 : Memref sig .tc .vmem S4x512 .f32) (harg4 : arg4.IsWhole)
    (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole)
    (arg11 : Memref sig .tc .vmem S432x512 .bf16) (harg11 : arg11.IsWhole) (arg12 : Memref sig .tc .vmem S8x512 .f32) (harg12 : arg12.IsWhole) (arg13 : Memref sig .tc .vmem S8x512 .f32) (harg13 : arg13.IsWhole)
    (arg14 : Memref sig .tc .vmem S432x512 .f32) (harg14 : arg14.IsWhole) (arg15 : Memref sig .tc .vmem S432x512 .f32) (harg15 : arg15.IsWhole)
    (x0 x1 : Vec F S432x512 .f32) (x2 : Vec F S4x512 .f32) (x3 : Vec F S1x512 .f32) (x4 : Vec F S512x512 .bf16) (x5 : Vec F S1x512 .f32) (x6 : Vec F S512x512 .bf16) (x7 x8 : Vec F S1x512 .f32) :
    { L : List (View.Piece (Elt F) S432x512 .bf16) × List (View.Piece (Elt F) S8x512 .f32) × List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
              ∗ (∃ f, arg11.view.loc (c : Thread nD τ) ↦[arg11.view.set]{fullShare} arg11.view.writes (Elt F) f L.1)
              ∗ (∃ f, arg12.view.loc (c : Thread nD τ) ↦[arg12.view.set]{fullShare} arg12.view.writes (Elt F) f L.2.1)
              ∗ (∃ f, arg13.view.loc (c : Thread nD τ) ↦[arg13.view.set]{fullShare} arg13.view.writes (Elt F) f L.2.2)
              ∗ (∃ f, arg14.view.loc (c : Thread nD τ) ↦[arg14.view.set]{fullShare} f) ∗ (∃ f, arg15.view.loc (c : Thread nD τ) ↦[arg15.view.set]{fullShare} f)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_), fun E K => ?run⟩
  case run =>
    simp only [cc0_rglru_eq_skeleton]; unfold cc0_rglru_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H12]; · iexists _; iexact H12
    isplitl [H13]; · iexists _; iexact H13
    isplitl [H14]; · iexists _; iexact H14
    iexists _; iexact H15

end Cert.LruIdeal.Gen

end
-- ==== Proof.LruIdealBodyFirsteq.lean ====
/- What the run of the body leaves, in closed form. -/
module

public import proofs.«01_k».proof.Proof.LruIdealBodyFirst
public import Idealize.ShloMosaic.Lib.VecWindow
public import Idealize.ShloMosaic.Lib.WritesUnit

@[expose] public section

set_option maxRecDepth 16384

noncomputable section

namespace Cert.LruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run leaves. -/
theorem runFirst_eq (c : Dev nD) (i : grid0.Coords) (hc : first i) (arg2 : Memref sig .tc .vmem S432x512 .f32) (harg2 : arg2.IsWhole) (arg3 : Memref sig .tc .vmem S432x512 .f32) (harg3 : arg3.IsWhole) (arg4 : Memref sig .tc .vmem S4x512 .f32) (harg4 : arg4.IsWhole)
    (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole)
    (arg11 : Memref sig .tc .vmem S432x512 .bf16) (harg11 : arg11.IsWhole) (arg12 : Memref sig .tc .vmem S8x512 .f32) (harg12 : arg12.IsWhole) (arg13 : Memref sig .tc .vmem S8x512 .f32) (harg13 : arg13.IsWhole)
    (arg14 : Memref sig .tc .vmem S432x512 .f32) (harg14 : arg14.IsWhole) (arg15 : Memref sig .tc .vmem S432x512 .f32) (harg15 : arg15.IsWhole)
    (x0 x1 : Vec F S432x512 .f32) (x2 : Vec F S4x512 .f32) (x3 : Vec F S1x512 .f32) (x4 : Vec F S512x512 .bf16) (x5 : Vec F S1x512 .f32) (x6 : Vec F S512x512 .bf16) (x7 x8 : Vec F S1x512 .f32) :
    (∀ f, arg11.view.read (Elt F) (arg11.view.writes (Elt F) f (runFirst c i hc arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1.1) = k0_pay4 (hB (aB x0 k0_pay6 x2 x3 x4 x5 x8) (uB x0 k0_pay6 x2 x3 x4 x5 x6 x7 x8) k0_pay7) x1)
      ∧ (∀ f, arg12.view.read (Elt F) (arg12.view.writes (Elt F) f (runFirst c i hc arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1.2.1) = k0_pay8 x0)
      ∧ (∀ f, arg13.view.read (Elt F) (arg13.view.writes (Elt F) f (runFirst c i hc arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1.2.2) = k0_pay3 (carry (aB x0 k0_pay6 x2 x3 x4 x5 x8) (uB x0 k0_pay6 x2 x3 x4 x5 x6 x7 x8) k0_pay7 54)) := by
  have e0 : View.readAt (Elt F) arg2.view (Rect.unit (s := S432x512) ![0, 0] S432x512.size inb_S432x512_S432x512_0_0).toLoadRect (harg2.unread x0) = x0 := (View.readAt_full _ _ _).trans (harg2.read_unread _)
  have e1 : View.readAt (Elt F) arg3.view (Rect.unit (s := S432x512) ![0, 0] S432x512.size inb_S432x512_S432x512_0_0).toLoadRect (harg3.unread x1) = x1 := (View.readAt_full _ _ _).trans (harg3.read_unread _)
  have e2 : View.readAt (Elt F) arg4.view (Rect.unit (s := S4x512) ![0, 0] S4x512.size inb_S4x512_S4x512_0_0).toLoadRect (harg4.unread x2) = x2 := (View.readAt_full _ _ _).trans (harg4.read_unread _)
  have e3 : View.readAt (Elt F) arg5.view (Rect.unit (s := S1x512) ![0, 0] S1x512.size inb_S1x512_S1x512_0_0).toLoadRect (harg5.unread x3) = x3 := (View.readAt_full _ _ _).trans (harg5.read_unread _)
  have e4 : View.readAt (Elt F) arg6.view (Rect.unit (s := S512x512) ![0, 0] S512x512.size inb_S512x512_S512x512_0_0).toLoadRect (harg6.unread x4) = x4 := (View.readAt_full _ _ _).trans (harg6.read_unread _)
  have e5 : View.readAt (Elt F) arg7.view (Rect.unit (s := S1x512) ![0, 0] S1x512.size inb_S1x512_S1x512_0_0).toLoadRect (harg7.unread x5) = x5 := (View.readAt_full _ _ _).trans (harg7.read_unread _)
  have e6 : View.readAt (Elt F) arg8.view (Rect.unit (s := S512x512) ![0, 0] S512x512.size inb_S512x512_S512x512_0_0).toLoadRect (harg8.unread x6) = x6 := (View.readAt_full _ _ _).trans (harg8.read_unread _)
  have e7 : View.readAt (Elt F) arg9.view (Rect.unit (s := S1x512) ![0, 0] S1x512.size inb_S1x512_S1x512_0_0).toLoadRect (harg9.unread x7) = x7 := (View.readAt_full _ _ _).trans (harg9.read_unread _)
  have e8 : View.readAt (Elt F) arg10.view (Rect.unit (s := S1x512) ![0, 0] S1x512.size inb_S1x512_S1x512_0_0).toLoadRect (harg10.unread x8) = x8 := (View.readAt_full _ _ _).trans (harg10.read_unread _)
  have e12 : arg12.view.readCov [(⟨Rect.unit (s := S8x512) ![0, 0] S8x512.size inb_S8x512_S8x512_0_0, k0_pay6⟩ : View.Piece (Elt F) S8x512 .f32)] (Rect.unit (s := S8x512) ![0, 0] S8x512.size inb_S8x512_S8x512_0_0).toLoadRect = k0_pay6 := View.readCov_full _ _ _ _ _
  have e13 : arg13.view.readCov [(⟨Rect.unit (s := S8x512) ![0, 0] S8x512.size inb_S8x512_S8x512_0_0, k0_pay7⟩ : View.Piece (Elt F) S8x512 .f32)] (Rect.unit (s := S8x512) ![0, 0] S8x512.size inb_S8x512_S8x512_0_0).toLoadRect = k0_pay7 := View.readCov_full _ _ _ _ _
  unfold runFirst
  dsimp only
  unfold runFirst.sl.v128 runFirst.sl.H12_2 runFirst.sl.H14_1 runFirst.sl.H15_1 runFirst.sl.v122 runFirst.sl.r_8 runFirst.sl.r_7 runFirst.sl.r_6 runFirst.sl.r_5 runFirst.sl.r_4 runFirst.sl.r_3 runFirst.sl.r_2 runFirst.sl.r_1 runFirst.sl.r runFirst.sl.v4 runFirst.sl.v9 runFirst.sl.H13_1 runFirst.sl.H12_1
  simp only [e0, e1, e2, e3, e4, e5, e6, e7, e8, e12, e13]
  have hL := loop_eq c i arg2 harg2 arg3 harg3 arg4 harg4 arg5 harg5 arg6 harg6 arg7 harg7 arg8 harg8 arg9 harg9 arg10 harg10 arg11 harg11 arg12 harg12 arg13 harg13 arg14 harg14 arg15 harg15
    (arg14.view.writes (Elt F) arg14.view.junk [⟨Rect.unit (s := S432x512) ![0, 0] S432x512.size inb_S432x512_S432x512_0_0, aB x0 k0_pay6 x2 x3 x4 x5 x8⟩])
    [⟨Rect.unit (s := S432x512) ![0, 0] S432x512.size inb_S432x512_S432x512_0_0, uB x0 k0_pay6 x2 x3 x4 x5 x6 x7 x8⟩] k0_pay7 _ _
    (View.read_writes_full _ _ _ _ _) (View.read_writes_full _ _ _ _ _)
  refine ⟨fun f => (View.read_writes_full _ _ _ _ _).trans ?_, fun f => View.read_writes_full _ _ _ _ _, fun f => (View.read_writes_full _ _ _ _ _).trans ?_⟩
  · exact congrArg (k0_pay4 · x1) ((View.readAt_full _ _ _).trans hL.2)
  · exact congrArg k0_pay3 hL.1

end Cert.LruIdeal.Gen

end
-- ==== Proof.LruIdealBodyLater.lean ====
/- The run of the recurrence kernel's body at a point inside a sequence. -/
module

public import proofs.«01_k».proof.Proof.LruIdealBody
public import Idealize.ShloMosaic.Lib.VecWindow
public import Idealize.ShloMosaic.Lib.WritesUnit

@[expose] public section

set_option maxRecDepth 16384

noncomputable section

namespace Cert.LruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at any other point, the carried rows at `h` and the carried state at `hl`. -/
noncomputable def runLater (c : Dev nD) (i : grid0.Coords) (hc : ¬ first i) (arg2 : Memref sig .tc .vmem S432x512 .f32) (harg2 : arg2.IsWhole) (arg3 : Memref sig .tc .vmem S432x512 .f32) (harg3 : arg3.IsWhole) (arg4 : Memref sig .tc .vmem S4x512 .f32) (harg4 : arg4.IsWhole)
    (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole)
    (arg11 : Memref sig .tc .vmem S432x512 .bf16) (harg11 : arg11.IsWhole) (arg12 : Memref sig .tc .vmem S8x512 .f32) (harg12 : arg12.IsWhole) (arg13 : Memref sig .tc .vmem S8x512 .f32) (harg13 : arg13.IsWhole)
    (arg14 : Memref sig .tc .vmem S432x512 .f32) (harg14 : arg14.IsWhole) (arg15 : Memref sig .tc .vmem S432x512 .f32) (harg15 : arg15.IsWhole)
    (x0 x1 : Vec F S432x512 .f32) (x2 : Vec F S4x512 .f32) (x3 : Vec F S1x512 .f32) (x4 : Vec F S512x512 .bf16) (x5 : Vec F S1x512 .f32) (x6 : Vec F S512x512 .bf16) (x7 x8 : Vec F S1x512 .f32) (h hl : Vec F S8x512 .f32) :
    { L : List (View.Piece (Elt F) S432x512 .bf16) × List (View.Piece (Elt F) S8x512 .f32) × List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg11 fullShare d) ∗ owns (c : Thread nD τ) arg12 fullShare h ∗ owns (c : Thread nD τ) arg13 fullShare hl ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
              ∗ (∃ f, arg11.view.loc (c : Thread nD τ) ↦[arg11.view.set]{fullShare} arg11.view.writes (Elt F) f L.1)
              ∗ (∃ f, arg12.view.loc (c : Thread nD τ) ↦[arg12.view.set]{fullShare} arg12.view.writes (Elt F) f L.2.1)
              ∗ (∃ f, arg13.view.loc (c : Thread nD τ) ↦[arg13.view.set]{fullShare} arg13.view.writes (Elt F) f L.2.2)
              ∗ (∃ f, arg14.view.loc (c : Thread nD τ) ↦[arg14.view.set]{fullShare} f) ∗ (∃ f, arg15.view.loc (c : Thread nD τ) ↦[arg15.view.set]{fullShare} f)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_), fun E K => ?run⟩
  case run =>
    simp only [cc0_rglru_eq_skeleton]; unfold cc0_rglru_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f12, %hf12, H12⟩, ⟨%f13, %hf13, H13⟩, ⟨%d14, %f14, -, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf12; obtain rfl := harg13.eq_unread hf13
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H12]; · iexists _; iexact H12
    isplitl [H13]; · iexists _; iexact H13
    isplitl [H14]; · iexists _; iexact H14
    iexists _; iexact H15

end Cert.LruIdeal.Gen

end
-- ==== Proof.LruIdealBodyLatereq.lean ====
/- What the run of the body leaves, in closed form. -/
module

public import proofs.«01_k».proof.Proof.LruIdealBodyLater
public import Idealize.ShloMosaic.Lib.VecWindow
public import Idealize.ShloMosaic.Lib.WritesUnit

@[expose] public section

set_option maxRecDepth 16384

noncomputable section

namespace Cert.LruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run leaves. -/
theorem runLater_eq (c : Dev nD) (i : grid0.Coords) (hc : ¬ first i) (arg2 : Memref sig .tc .vmem S432x512 .f32) (harg2 : arg2.IsWhole) (arg3 : Memref sig .tc .vmem S432x512 .f32) (harg3 : arg3.IsWhole) (arg4 : Memref sig .tc .vmem S4x512 .f32) (harg4 : arg4.IsWhole)
    (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole)
    (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole)
    (arg11 : Memref sig .tc .vmem S432x512 .bf16) (harg11 : arg11.IsWhole) (arg12 : Memref sig .tc .vmem S8x512 .f32) (harg12 : arg12.IsWhole) (arg13 : Memref sig .tc .vmem S8x512 .f32) (harg13 : arg13.IsWhole)
    (arg14 : Memref sig .tc .vmem S432x512 .f32) (harg14 : arg14.IsWhole) (arg15 : Memref sig .tc .vmem S432x512 .f32) (harg15 : arg15.IsWhole)
    (x0 x1 : Vec F S432x512 .f32) (x2 : Vec F S4x512 .f32) (x3 : Vec F S1x512 .f32) (x4 : Vec F S512x512 .bf16) (x5 : Vec F S1x512 .f32) (x6 : Vec F S512x512 .bf16) (x7 x8 : Vec F S1x512 .f32) (h hl : Vec F S8x512 .f32) :
    (∀ f, arg11.view.read (Elt F) (arg11.view.writes (Elt F) f (runLater c i hc arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 h hl).1.1) = k0_pay4 (hB (aB x0 h x2 x3 x4 x5 x8) (uB x0 h x2 x3 x4 x5 x6 x7 x8) hl) x1)
      ∧ (∀ f, arg12.view.read (Elt F) (arg12.view.writes (Elt F) f (runLater c i hc arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 h hl).1.2.1) = k0_pay8 x0)
      ∧ (∀ f, arg13.view.read (Elt F) (arg13.view.writes (Elt F) f (runLater c i hc arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 h hl).1.2.2) = k0_pay3 (carry (aB x0 h x2 x3 x4 x5 x8) (uB x0 h x2 x3 x4 x5 x6 x7 x8) hl 54)) := by
  have e0 : View.readAt (Elt F) arg2.view (Rect.unit (s := S432x512) ![0, 0] S432x512.size inb_S432x512_S432x512_0_0).toLoadRect (harg2.unread x0) = x0 := (View.readAt_full _ _ _).trans (harg2.read_unread _)
  have e1 : View.readAt (Elt F) arg3.view (Rect.unit (s := S432x512) ![0, 0] S432x512.size inb_S432x512_S432x512_0_0).toLoadRect (harg3.unread x1) = x1 := (View.readAt_full _ _ _).trans (harg3.read_unread _)
  have e2 : View.readAt (Elt F) arg4.view (Rect.unit (s := S4x512) ![0, 0] S4x512.size inb_S4x512_S4x512_0_0).toLoadRect (harg4.unread x2) = x2 := (View.readAt_full _ _ _).trans (harg4.read_unread _)
  have e3 : View.readAt (Elt F) arg5.view (Rect.unit (s := S1x512) ![0, 0] S1x512.size inb_S1x512_S1x512_0_0).toLoadRect (harg5.unread x3) = x3 := (View.readAt_full _ _ _).trans (harg5.read_unread _)
  have e4 : View.readAt (Elt F) arg6.view (Rect.unit (s := S512x512) ![0, 0] S512x512.size inb_S512x512_S512x512_0_0).toLoadRect (harg6.unread x4) = x4 := (View.readAt_full _ _ _).trans (harg6.read_unread _)
  have e5 : View.readAt (Elt F) arg7.view (Rect.unit (s := S1x512) ![0, 0] S1x512.size inb_S1x512_S1x512_0_0).toLoadRect (harg7.unread x5) = x5 := (View.readAt_full _ _ _).trans (harg7.read_unread _)
  have e6 : View.readAt (Elt F) arg8.view (Rect.unit (s := S512x512) ![0, 0] S512x512.size inb_S512x512_S512x512_0_0).toLoadRect (harg8.unread x6) = x6 := (View.readAt_full _ _ _).trans (harg8.read_unread _)
  have e7 : View.readAt (Elt F) arg9.view (Rect.unit (s := S1x512) ![0, 0] S1x512.size inb_S1x512_S1x512_0_0).toLoadRect (harg9.unread x7) = x7 := (View.readAt_full _ _ _).trans (harg9.read_unread _)
  have e8 : View.readAt (Elt F) arg10.view (Rect.unit (s := S1x512) ![0, 0] S1x512.size inb_S1x512_S1x512_0_0).toLoadRect (harg10.unread x8) = x8 := (View.readAt_full _ _ _).trans (harg10.read_unread _)
  have e12 : View.readAt (Elt F) arg12.view (Rect.unit (s := S8x512) ![0, 0] S8x512.size inb_S8x512_S8x512_0_0).toLoadRect (harg12.unread h) = h := (View.readAt_full _ _ _).trans (harg12.read_unread _)
  have e13 : View.readAt (Elt F) arg13.view (Rect.unit (s := S8x512) ![0, 0] S8x512.size inb_S8x512_S8x512_0_0).toLoadRect (harg13.unread hl) = hl := (View.readAt_full _ _ _).trans (harg13.read_unread _)
  unfold runLater
  dsimp only
  unfold runLater.sl.v128 runLater.sl.H12_1 runLater.sl.H14_1 runLater.sl.H15_1 runLater.sl.r_9 runLater.sl.r_8 runLater.sl.r_7 runLater.sl.r runLater.sl.r_1 runLater.sl.r_2 runLater.sl.r_3 runLater.sl.r_4 runLater.sl.r_5 runLater.sl.r_6 runLater.sl.v9
  simp only [e0, e1, e2, e3, e4, e5, e6, e7, e8, e12, e13]
  have hL := loop_eq c i arg2 harg2 arg3 harg3 arg4 harg4 arg5 harg5 arg6 harg6 arg7 harg7 arg8 harg8 arg9 harg9 arg10 harg10 arg11 harg11 arg12 harg12 arg13 harg13 arg14 harg14 arg15 harg15
    (arg14.view.writes (Elt F) arg14.view.junk [⟨Rect.unit (s := S432x512) ![0, 0] S432x512.size inb_S432x512_S432x512_0_0, aB x0 h x2 x3 x4 x5 x8⟩])
    [⟨Rect.unit (s := S432x512) ![0, 0] S432x512.size inb_S432x512_S432x512_0_0, uB x0 h x2 x3 x4 x5 x6 x7 x8⟩] hl _ _
    (View.read_writes_full _ _ _ _ _) (View.read_writes_full _ _ _ _ _)
  refine ⟨fun f => (View.read_writes_full _ _ _ _ _).trans ?_, fun f => View.read_writes_full _ _ _ _ _, fun f => (View.read_writes_full _ _ _ _ _).trans ?_⟩
  · exact congrArg (k0_pay4 · x1) ((View.readAt_full _ _ _).trans hL.2)
  · exact congrArg k0_pay3 hL.1

end Cert.LruIdeal.Gen

end
-- ==== Proof.LruIdealBodyFrame.lean ====
/- The run of the recurrence: what the two carried scratch buffers hold between grid points, the body's obligation at
   every point, and the launch. -/
module

public import proofs.«01_k».proof.Proof.LruIdealBodyFirsteq
public import proofs.«01_k».proof.Proof.LruIdealBodyLatereq
public import proofs.«01_k».proof.Proof.Gen.LruIdeal.Frame
public import Idealize.ShloMosaic.Lib.Claim

@[expose] public section

set_option maxRecDepth 16384

noncomputable section

namespace Cert.LruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A sequence begins at the points whose number is a multiple of its 19 tiles. -/
theorem first_iff : ∀ t : Fin grid0.N, first (grid0.coords t) ↔ t.val % 19 = 0 := by
  decide +kernel

/-- The carried input rows and carried state after point `t`, from those before it. -/
def next (c : Dev nD) (t : Fin cfg0.N) (s : Vec F S8x512 .f32 × Vec F S8x512 .f32) : Vec F S8x512 .f32 × Vec F S8x512 .f32 :=
  (k0_pay8 (F := F) (iblk m c 0 t), k0_pay3 (F := F) (carry (aB (iblk m c 0 t) s.1 (iblk m c 2 t) (iblk m c 3 t) (iblk m c 4 t) (iblk m c 5 t) (iblk m c 8 t)) (uB (iblk m c 0 t) s.1 (iblk m c 2 t) (iblk m c 3 t) (iblk m c 4 t) (iblk m c 5 t) (iblk m c 6 t) (iblk m c 7 t) (iblk m c 8 t)) s.2 54))

/-- The carried input rows and carried state with which point `n` computes: zeros where a sequence begins. -/
def ent (c : Dev nD) : ℕ → Vec F S8x512 .f32 × Vec F S8x512 .f32
  | 0 => (k0_pay6, k0_pay7)
  | n + 1 => if (n + 1) % 19 = 0 then (k0_pay6, k0_pay7) else if h : n < cfg0.N then next m c ⟨n, h⟩ (ent c n) else (k0_pay6, k0_pay7)

theorem ent_first (c : Dev nD) (n : ℕ) (hn : n % 19 = 0) : ent m c n = (k0_pay6, k0_pay7) := by
  cases n with
  | zero => rfl
  | succ n => rw [ent, if_pos hn]

theorem ent_succ (c : Dev nD) (t : Fin cfg0.N) (hn : (t.val + 1) % 19 ≠ 0) : ent m c (t.val + 1) = next m c t (ent m c t.val) := by
  rw [ent, if_neg hn, dif_pos t.isLt]

/-- What point `t` leaves in its result block. -/
def out (c : Dev nD) (t : Fin cfg0.N) : Vec F S432x512 .bf16 :=
  k0_pay4 (F := F) (hB (aB (iblk m c 0 t) (ent m c t.val).1 (iblk m c 2 t) (iblk m c 3 t) (iblk m c 4 t) (iblk m c 5 t) (iblk m c 8 t)) (uB (iblk m c 0 t) (ent m c t.val).1 (iblk m c 2 t) (iblk m c 3 t) (iblk m c 4 t) (iblk m c 5 t) (iblk m c 6 t) (iblk m c 7 t) (iblk m c 8 t)) (ent m c t.val).2) (iblk m c 1 t)

/-- Between points: the two carried buffers hold what the next point computes with, unless it begins a sequence. -/
def Inv (c : Dev nD) (n : ℕ) : sProp 𝕄 :=
  iprop((∃ d, ⌜n % 19 ≠ 0 → d = (ent m c n).1⌝ ∗ owns (c : Thread nD τ) (Memref.whole cc0_scratch0) fullShare d)
    ∗ (∃ d, ⌜n % 19 ≠ 0 → d = (ent m c n).2⌝ ∗ owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out m c t
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem Φ_at (c : Dev nD) (t : Fin (cfg0.N + 1)) : (dats m 0 c).Φ t = Inv m c t.val := by dsimp only [dats]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, Φ_at, Φ_at,
    show (t.castSucc : Fin (cfg0.N + 1)).val = t.val from rfl, show (t.succ : Fin (cfg0.N + 1)).val = t.val + 1 from rfl]
  unfold Inv
  by_cases hc : first (grid0.coords t)
  · have hn : t.val % 19 = 0 := (first_iff t).1 hc
    iintro ⟨⟨⟨%s0, %hs0, S0⟩, ⟨%s1, %hs1, S1⟩, ⟨%s2, S2⟩, ⟨%s3, S3⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst c (grid0.coords t) hc _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexists _; iexact S0
    isplitl [S1]; · iexists _; iexact S1
    isplitl [S2]; · iexists _; iexact S2
    isplitl [S3]; · iexists _; iexact S3
    iintro ⟨H0, H1, H2, H3, H4, H5, H6, H7, H8, ⟨%f9, H9⟩, ⟨%g0, S0⟩, ⟨%g1, S1⟩, ⟨%g2, S2⟩, ⟨%g3, S3⟩⟩
    isplitl [S0 S1 S2 S3 HP]
    · isplitl [S0]
      · iexists (k0_pay8 (F := F) (iblk m c 0 t)); isplitr
        · ipureintro; intro hk; rw [ent_succ m c t hk]; rfl
        unfold owns; iexists _; isplitr; swap; iexact S0
        ipureintro; exact (runFirst_eq c (grid0.coords t) hc _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2.1 _
      isplitl [S1]
      · iexists (next m c t (ent m c t.val)).2; isplitr
        · ipureintro; intro hk; rw [ent_succ m c t hk]
        unfold owns; iexists _; isplitr; swap; iexact S1
        ipureintro; refine ((runFirst_eq c (grid0.coords t) hc _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2.2 _).trans ?_
        rw [ent_first m c t.val hn]; rfl
      isplitl [S2]; · iexists _; unfold owns; iexists _; isplitr; swap; iexact S2; ipureintro; rfl
      isplitl [S3]; · iexists _; unfold owns; iexists _; isplitr; swap; iexact S3; ipureintro; rfl
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; iexact H9
    ipureintro; refine ((runFirst_eq c (grid0.coords t) hc _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).1 _).trans ?_
    unfold out
    rw [ent_first m c t.val hn]
  · have hn : t.val % 19 ≠ 0 := fun h => hc ((first_iff t).2 h)
    iintro ⟨⟨⟨%s0, %hs0, S0⟩, ⟨%s1, %hs1, S1⟩, ⟨%s2, S2⟩, ⟨%s3, S3⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl := hs0 hn; obtain rfl := hs1 hn
    iapply ((runLater c (grid0.coords t) hc _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (ent m c t.val).1 (ent m c t.val).2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexists _; iexact S2
    isplitl [S3]; · iexists _; iexact S3
    iintro ⟨H0, H1, H2, H3, H4, H5, H6, H7, H8, ⟨%f9, H9⟩, ⟨%g0, S0⟩, ⟨%g1, S1⟩, ⟨%g2, S2⟩, ⟨%g3, S3⟩⟩
    isplitl [S0 S1 S2 S3 HP]
    · isplitl [S0]
      · iexists (k0_pay8 (F := F) (iblk m c 0 t)); isplitr
        · ipureintro; intro hk; rw [ent_succ m c t hk]; rfl
        unfold owns; iexists _; isplitr; swap; iexact S0
        ipureintro; exact (runLater_eq c (grid0.coords t) hc _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (ent m c t.val).1 (ent m c t.val).2).2.1 _
      isplitl [S1]
      · iexists (next m c t (ent m c t.val)).2; isplitr
        · ipureintro; intro hk; rw [ent_succ m c t hk]
        unfold owns; iexists _; isplitr; swap; iexact S1
        ipureintro; refine ((runLater_eq c (grid0.coords t) hc _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (ent m c t.val).1 (ent m c t.val).2).2.2 _).trans ?_
        rfl
      isplitl [S2]; · iexists _; unfold owns; iexists _; isplitr; swap; iexact S2; ipureintro; rfl
      isplitl [S3]; · iexists _; unfold owns; iexists _; isplitr; swap; iexact S3; ipureintro; rfl
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; iexact H9
    ipureintro; refine ((runLater_eq c (grid0.coords t) hc _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (ent m c t.val).1 (ent m c t.val).2).1 _).trans ?_
    unfold out
    rfl

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At entry the scratch holds anything, and the first point begins a sequence. -/
theorem inv_in (c : Dev nD) : Pipeline.ΦA spec0 c ⊢ (dats (F := F) m 0 c).Φ 0 := by
  rw [Φ_at]
  unfold Pipeline.ΦA Inv
  rw [scopedRest0_eq]
  simp only [owns_whole]
  iintro ⟨⟨⟨%f0, S0⟩, ⟨%f1, S1⟩, ⟨%f2, S2⟩, ⟨%f3, S3⟩⟩, HP⟩
  isplitl [S0]
  · iexists f0; isplitr
    · ipureintro; intro h; exact absurd rfl h
    iexact S0
  isplitl [S1]
  · iexists f1; isplitr
    · ipureintro; intro h; exact absurd rfl h
    iexact S1
  isplitl [S2]; · iexists f2; iexact S2
  isplitl [S3]; · iexists f3; iexact S3
  iexact HP

theorem inv_out (c : Dev nD) : (dats (F := F) m 0 c).Φ (Fin.last cfg0.N) ⊢ Pipeline.ΦA spec0 c := by
  rw [Φ_at]
  unfold Pipeline.ΦA Inv
  rw [scopedRest0_eq]
  simp only [owns_whole]
  iintro ⟨⟨%f0, -, S0⟩, ⟨%f1, -, S1⟩, ⟨%f2, S2⟩, ⟨%f3, S3⟩, HP⟩
  isplitr [HP]
  · isplitl [S0]; · iexists f0; iexact S0
    isplitl [S1]; · iexists f1; iexact S1
    isplitl [S2]; · iexists f2; iexact S2
    iexists f3; iexact S3
  iexact HP

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.LruIdeal.Gen

end
-- ==== Proof.LruValue.lean ====
/- What the recurrence kernel leaves: at every grid point the carried rows are the sequence's last eight and the carried
   state the recurrence's, so that every block of the result holds the recurrence's states times the gate. -/
module

public import proofs.«01_k».proof.Proof.LruHost
public import proofs.«01_k».proof.Proof.LruIdealBodyFrame
public import Idealize.ShloMosaic.Lib.Claim

@[expose] public section

set_option maxRecDepth 16384

noncomputable section

namespace Cert.Layer.LruReal

open Idealize.ShloMosaic Idealize.ShloMosaic.ValueIdx Cert.LruIdeal Cert.LruIdeal.Gen Cert.Layer Cert.Layer.Lru
open Idealize.ShloMosaic.TcCoe Idealize.SL.Sem

/-! ## A tile -/

section Tile

variable (x : Vec Ideal S432x512 .f32) (h : Vec Ideal S8x512 .f32) (cw : Vec Ideal S4x512 .f32) (cb : Vec Ideal S1x512 .f32)
  (wa : Vec Ideal S512x512 .bf16) (ba : Vec Ideal S1x512 .f32) (wx : Vec Ideal S512x512 .bf16) (bx lam : Vec Ideal S1x512 .f32)

/-- The blocks and carried rows of the tile of sequence `b` that begins at time `T`. -/
structure Tile (p : Args) (b T : ℕ) : Prop where
  hx : ∀ (r : Fin 432) (d : Fin 512), x (ix2 r d) = ser p.x b d (T + r.val)
  hh : ∀ (j : Fin 8) (d : Fin 512), h (ix2 j d) = if T = 0 then (0 : EReal) else ser p.x b d (T - 8 + j.val)
  hT : T = 0 ∨ 8 ≤ T
  hcw : ∀ (k : Fin 4) (d : Fin 512), cw (ix2 k d) = p.cw (ix2 k d)
  hcb : ∀ d : Fin 512, cb (ix2 (0 : Fin 1) d) = p.cb (ix1 d)
  hwa : ∀ k d : Fin 512, wa (ix2 k d) = if grpOf k = grpOf d then p.wa (ix3 (grpOf d) (inGrp k) (inGrp d)) else (0 : EReal)
  hba : ∀ d : Fin 512, ba (ix2 (0 : Fin 1) d) = p.ba (ix1 d)
  hwx : ∀ k d : Fin 512, wx (ix2 k d) = if grpOf k = grpOf d then p.wx (ix3 (grpOf d) (inGrp k) (inGrp d)) else (0 : EReal)
  hbx : ∀ d : Fin 512, bx (ix2 (0 : Fin 1) d) = p.bx (ix1 d)
  hlam : ∀ d : Fin 512, lam (ix2 (0 : Fin 1) d) = p.lam (ix1 d)

variable {x h cw cb wa ba wx bx lam} {p : Args} {b T : ℕ} (H : Tile x h cw cb wa ba wx bx lam p b T)
include H

theorem Tile.shift (s : ℕ) (hs : s < 8) (r : Fin 432) (d : Fin 512) :
    shiftB (BitVec.ofNat 32 s) x h (ix2 r d) = tap (ser p.x b d) s (T + r.val) := by
  have hr := r.isLt
  rw [shiftB_apply s hs x h r d]
  unfold tap
  by_cases hrs : r.val < s
  · rw [if_pos hrs, H.hh]
    rcases H.hT with h0 | h8
    · rw [if_pos h0, if_neg (by omega)]
    · rw [if_neg (by omega), if_pos (by omega)]
      refine congrArg (ser p.x b d) ?_
      show T - 8 + (r.val + 8 - s) % 8 = T + r.val - s
      rw [Nat.mod_eq_of_lt (by omega)]
      omega
  · rw [if_neg hrs, if_pos (by omega), H.hx]
    refine congrArg (ser p.x b d) ?_
    show T + (r.val - s) = T + r.val - s
    omega

theorem Tile.conv (r : Fin 432) (d : Fin 512) : xcB x h cw cb (ix2 r d) = xc p b d (T + r.val) := by
  rw [xcB_apply]
  unfold xc
  rw [H.hx, H.hcb, H.hcw, H.hcw, H.hcw, H.hcw]
  exact congrArg₂ (· + ·) (congrArg₂ (· + ·) (congrArg₂ (· + ·) rfl (congrArg (· * _) (H.shift 1 (by decide) r d)))
    (congrArg (· * _) (H.shift 2 (by decide) r d))) (congrArg (· * _) (H.shift 3 (by decide) r d))

theorem Tile.gateA (r : Fin 432) (d : Fin 512) :
    (∑ k : Fin 512, xcB x h cw cb (ix2 r k) * wa (ix2 k d)) + ba (ix2 (0 : Fin 1) d) = gate (fun k => xc p b k (T + r.val)) p.wa p.ba d := by
  unfold gate
  refine congrArg₂ (· + ·) ?_ (H.hba d)
  exact (Finset.sum_congr rfl fun k _ => congrArg (· * _) (H.conv r k)).trans (blockDiag_sum (fun k => xc p b k (T + r.val)) wa p.wa H.hwa d)

theorem Tile.gateX (r : Fin 432) (d : Fin 512) :
    (∑ k : Fin 512, xcB x h cw cb (ix2 r k) * wx (ix2 k d)) + bx (ix2 (0 : Fin 1) d) = gate (fun k => xc p b k (T + r.val)) p.wx p.bx d := by
  unfold gate
  refine congrArg₂ (· + ·) ?_ (H.hbx d)
  exact (Finset.sum_congr rfl fun k _ => congrArg (· * _) (H.conv r k)).trans (blockDiag_sum (fun k => xc p b k (T + r.val)) wx p.wx H.hwx d)

theorem Tile.decay (r : Fin 432) (d : Fin 512) : aB x h cw cb wa ba lam (ix2 r d) = aS p b d (T + r.val) := by
  rw [aB_apply, rB_apply, H.gateA, H.hlam]
  rfl

theorem Tile.incr (r : Fin 432) (d : Fin 512) : uB x h cw cb wa ba wx bx lam (ix2 r d) = uS p b d (T + r.val) := by
  rw [uB_apply, rB_apply, zB_apply, H.gateA, H.gateX, H.hlam, H.conv]
  rfl

variable {C : Vec Ideal S8x512 .f32} (hC : ∀ (j : Fin 8) (d : Fin 512), C (ix2 j d) = st p b d T)
include hC

/-- The states of the tile. -/
theorem Tile.states (r : Fin 432) (d : Fin 512) :
    hB (aB x h cw cb wa ba lam) (uB x h cw cb wa ba wx bx lam) C (ix2 r d) = st p b d (T + (r.val + 1)) :=
  (hB_apply _ _ C d (fun n => aS p b d (T + n)) (fun n => uS p b d (T + n)) _ (fun n => aS_nn p b d _) (fun r => H.decay r d) (fun r => H.incr r d)
    (fun j => hC j d) r).trans (recF_add _ _ 0 T (r.val + 1)).symm

/-- The state it carries on. -/
theorem Tile.carried (j : Fin 8) (d : Fin 512) :
    carry (aB x h cw cb wa ba lam) (uB x h cw cb wa ba wx bx lam) C 54 (ix2 j d) = st p b d (T + 432) :=
  (carry_apply _ _ C d (fun n => aS p b d (T + n)) (fun n => uS p b d (T + n)) _ (fun n => aS_nn p b d _) (fun r => H.decay r d) (fun r => H.incr r d)
    (fun j => hC j d) 54 (Nat.le_refl _) j).trans (recF_add _ _ 0 T 432).symm

end Tile

/-! ## The grid points -/

variable (m : (ℓ : Loc nD τ sig) → Buf (Elt Ideal) ℓ) (ρ : Dev nD → PrngReg)

/-- A grid point's block of rows is its number. -/
theorem word_val : ∀ t : Fin grid0.N,
    (Scalar.addi (Scalar.muli (BitVec.ofNat 32 (grid0.coords t 0).val) 19#32) (BitVec.ofNat 32 (grid0.coords t 1).val)).toNat = t.val := by
  decide +kernel

abbrev row (t : Fin grid0.N) (r : Fin 432) : Fin 65664 :=
  ⟨t.val * 432 + r.val, by have h2 : t.val < 152 := lt_of_lt_of_eq t.isLt N_0; have := r.isLt; omega⟩

theorem row_eq (t : Fin grid0.N) (r : Fin 432) : row t r = rowOf (t.val / 19) (t.val % 19 * 432 + r.val) := Fin.ext (by
  have h2 : t.val < 152 := lt_of_lt_of_eq t.isLt N_0
  have hr := r.isLt
  show t.val * 432 + r.val = (t.val / 19 * 8208 + (t.val % 19 * 432 + r.val)) % 65664
  omega)

theorem x_apply (c : Dev nD) (t : Fin grid0.N) (r : Fin 432) (d : Fin 512) :
    (iblk m c 0 t : Vec Ideal S432x512 .f32) (ix2 r d) = V m c main_arg0 (ix2 (row t r) d) := by
  refine congrArg (V m c main_arg0) (funext fun a => Fin.ext ?_)
  refine (Pipeline.Window.rect_emb_val (cfg0.win 0) t (ix2 r d) a).trans ?_
  match a with
  | ⟨0, _⟩ => exact congrArg (· * 432 + r.val) (word_val t)
  | ⟨1, _⟩ => exact Nat.zero_add _

theorem g_apply (c : Dev nD) (t : Fin grid0.N) (r : Fin 432) (d : Fin 512) :
    (iblk m c 1 t : Vec Ideal S432x512 .f32) (ix2 r d) = V m c main_arg1 (ix2 (row t r) d) := by
  refine congrArg (V m c main_arg1) (funext fun a => Fin.ext ?_)
  refine (Pipeline.Window.rect_emb_val (cfg0.win 1) t (ix2 r d) a).trans ?_
  match a with
  | ⟨0, _⟩ => exact congrArg (· * 432 + r.val) (word_val t)
  | ⟨1, _⟩ => exact Nat.zero_add _

theorem w2_apply (c : Dev nD) (t : Fin grid0.N) (k : Fin 4) (d : Fin 512) :
    (iblk m c 2 t : Vec Ideal S4x512 .f32) (ix2 k d) = V m c main_arg2 (ix2 k d) := by
  refine congrArg (V m c main_arg2) (funext fun a => Fin.ext ?_)
  refine (Pipeline.Window.rect_emb_val (cfg0.win 2) t (ix2 k d) a).trans ?_
  match a with
  | ⟨0, _⟩ => exact Nat.zero_add _
  | ⟨1, _⟩ => exact Nat.zero_add _

theorem w3_apply (c : Dev nD) (t : Fin grid0.N) (k : Fin 1) (d : Fin 512) :
    (iblk m c 3 t : Vec Ideal S1x512 .f32) (ix2 k d) = V m c main_v0 (ix2 k d) := by
  refine congrArg (V m c main_v0) (funext fun a => Fin.ext ?_)
  refine (Pipeline.Window.rect_emb_val (cfg0.win 3) t (ix2 k d) a).trans ?_
  match a with
  | ⟨0, _⟩ => exact Nat.zero_add _
  | ⟨1, _⟩ => exact Nat.zero_add _

theorem w4_apply (c : Dev nD) (t : Fin grid0.N) (k : Fin 512) (d : Fin 512) :
    (iblk m c 4 t : Vec Ideal S512x512 .bf16) (ix2 k d) = V m c main_v50 (ix2 k d) := by
  refine congrArg (V m c main_v50) (funext fun a => Fin.ext ?_)
  refine (Pipeline.Window.rect_emb_val (cfg0.win 4) t (ix2 k d) a).trans ?_
  match a with
  | ⟨0, _⟩ => exact Nat.zero_add _
  | ⟨1, _⟩ => exact Nat.zero_add _

theorem w5_apply (c : Dev nD) (t : Fin grid0.N) (k : Fin 1) (d : Fin 512) :
    (iblk m c 5 t : Vec Ideal S1x512 .f32) (ix2 k d) = V m c main_v51 (ix2 k d) := by
  refine congrArg (V m c main_v51) (funext fun a => Fin.ext ?_)
  refine (Pipeline.Window.rect_emb_val (cfg0.win 5) t (ix2 k d) a).trans ?_
  match a with
  | ⟨0, _⟩ => exact Nat.zero_add _
  | ⟨1, _⟩ => exact Nat.zero_add _

theorem w6_apply (c : Dev nD) (t : Fin grid0.N) (k : Fin 512) (d : Fin 512) :
    (iblk m c 6 t : Vec Ideal S512x512 .bf16) (ix2 k d) = V m c main_v101 (ix2 k d) := by
  refine congrArg (V m c main_v101) (funext fun a => Fin.ext ?_)
  refine (Pipeline.Window.rect_emb_val (cfg0.win 6) t (ix2 k d) a).trans ?_
  match a with
  | ⟨0, _⟩ => exact Nat.zero_add _
  | ⟨1, _⟩ => exact Nat.zero_add _

theorem w7_apply (c : Dev nD) (t : Fin grid0.N) (k : Fin 1) (d : Fin 512) :
    (iblk m c 7 t : Vec Ideal S1x512 .f32) (ix2 k d) = V m c main_v102 (ix2 k d) := by
  refine congrArg (V m c main_v102) (funext fun a => Fin.ext ?_)
  refine (Pipeline.Window.rect_emb_val (cfg0.win 7) t (ix2 k d) a).trans ?_
  match a with
  | ⟨0, _⟩ => exact Nat.zero_add _
  | ⟨1, _⟩ => exact Nat.zero_add _

theorem w8_apply (c : Dev nD) (t : Fin grid0.N) (k : Fin 1) (d : Fin 512) :
    (iblk m c 8 t : Vec Ideal S1x512 .f32) (ix2 k d) = V m c main_v103 (ix2 k d) := by
  refine congrArg (V m c main_v103) (funext fun a => Fin.ext ?_)
  refine (Pipeline.Window.rect_emb_val (cfg0.win 8) t (ix2 k d) a).trans ?_
  match a with
  | ⟨0, _⟩ => exact Nat.zero_add _
  | ⟨1, _⟩ => exact Nat.zero_add _

/-- What the arguments are to the recurrence. -/
def args (c : Dev nD) : Args :=
  ⟨m ((c : Thread nD τ).loc main_arg0), m ((c : Thread nD τ).loc main_arg2), m ((c : Thread nD τ).loc main_arg3), m ((c : Thread nD τ).loc main_arg4),
    m ((c : Thread nD τ).loc main_arg5), m ((c : Thread nD τ).loc main_arg6), m ((c : Thread nD τ).loc main_arg7), m ((c : Thread nD τ).loc main_arg8)⟩

theorem zero6_apply (j : Fin 8) (d : Fin 512) : (k0_pay6 (F := Ideal)) (ix2 j d) = (0 : EReal) := Ideal.ofBits_zero_f32
theorem zero7_apply (j : Fin 8) (d : Fin 512) : (k0_pay7 (F := Ideal)) (ix2 j d) = (0 : EReal) := Ideal.ofBits_zero_f32

theorem last_apply (x : Vec Ideal S432x512 .f32) (j : Fin 8) (d : Fin 512) :
    k0_pay8 x (ix2 j d) = x (ix2 (⟨424 + j.val, by have := j.isLt; omega⟩ : Fin 432) d) := by
  unfold k0_pay8
  rw [shapeCast_self]
  exact slice2_axis0_apply 424 x slices_S432x512_o424_0_S8x512 j d _ rfl

theorem keep_apply (C : Vec Ideal S8x512 .f32) : k0_pay3 C = C := by
  unfold k0_pay3
  rw [shapeCast_self]

theorem ser_block (c : Dev nD) (t : Fin grid0.N) (r : Fin 432) (d : Fin 512) :
    (iblk m c 0 t : Vec Ideal S432x512 .f32) (ix2 r d) = ser (args m c).x (t.val / 19) d (t.val % 19 * 432 + r.val) := by
  refine (x_apply m c t r d).trans ((congrFun (V_main_arg0 m c) _).trans ?_)
  rw [row_eq]
  rfl

/-- The tile of point `t`, its carried rows being the sequence's last eight. -/
theorem tile_of (c : Dev nD) (t : Fin grid0.N) (h : Vec Ideal S8x512 .f32)
    (hh : ∀ (j : Fin 8) (d : Fin 512), h (ix2 j d) = if t.val % 19 * 432 = 0 then (0 : EReal) else ser (args m c).x (t.val / 19) d (t.val % 19 * 432 - 8 + j.val)) :
    Tile (iblk m c 0 t) h (iblk m c 2 t) (iblk m c 3 t) (iblk m c 4 t) (iblk m c 5 t) (iblk m c 6 t) (iblk m c 7 t) (iblk m c 8 t)
      (args m c) (t.val / 19) (t.val % 19 * 432) where
  hx := ser_block m c t
  hh := hh
  hT := by omega
  hcw k d := (w2_apply m c t k d).trans (congrFun (V_main_arg2 m c) _)
  hcb d := (w3_apply m c t 0 d).trans (V_cb m c d)
  hwa k d := (w4_apply m c t k d).trans (V_wa m c k d)
  hba d := (w5_apply m c t 0 d).trans (V_ba m c d)
  hwx k d := (w6_apply m c t k d).trans (V_wx m c k d)
  hbx d := (w7_apply m c t 0 d).trans (V_bx m c d)
  hlam d := (w8_apply m c t 0 d).trans (V_lam m c d)

/-- What point `n` computes with: the sequence's last eight rows and the recurrence's state. -/
theorem entry (c : Dev nD) (n : ℕ) (hn : n ≤ 152) :
    (∀ (j : Fin 8) (d : Fin 512), (ent m c n).1 (ix2 j d) = if n % 19 * 432 = 0 then (0 : EReal) else ser (args m c).x (n / 19) d (n % 19 * 432 - 8 + j.val))
    ∧ ∀ (j : Fin 8) (d : Fin 512), (ent m c n).2 (ix2 j d) = st (args m c) (n / 19) d (n % 19 * 432) := by
  have hz : ∀ n : ℕ, n % 19 = 0 →
      (∀ (j : Fin 8) (d : Fin 512), (ent m c n).1 (ix2 j d) = if n % 19 * 432 = 0 then (0 : EReal) else ser (args m c).x (n / 19) d (n % 19 * 432 - 8 + j.val))
      ∧ ∀ (j : Fin 8) (d : Fin 512), (ent m c n).2 (ix2 j d) = st (args m c) (n / 19) d (n % 19 * 432) := fun n h0 => by
    rw [ent_first m c n h0, h0]
    exact ⟨fun j d => (zero6_apply j d).trans (if_pos rfl).symm, fun j d => zero7_apply j d⟩
  induction n with
  | zero => exact hz 0 rfl
  | succ n ih =>
    by_cases h0 : (n + 1) % 19 = 0
    · exact hz _ h0
    obtain ⟨i1, i2⟩ := ih (by omega)
    have hb : (n + 1) / 19 = n / 19 := by omega
    have hq : (n + 1) % 19 = n % 19 + 1 := by omega
    have hN : n < grid0.N := by rw [N_0]; omega
    have T := tile_of m c ⟨n, hN⟩ (ent m c n).1 i1
    rw [ent_succ m c ⟨n, hN⟩ h0, hb, hq]
    refine ⟨fun j d => ?_, fun j d => ?_⟩
    · rw [if_neg (by omega)]
      refine (last_apply _ j d).trans ((ser_block m c ⟨n, hN⟩ _ d).trans (congrArg (ser (args m c).x (n / 19) d) ?_))
      show n % 19 * 432 + (424 + j.val) = (n % 19 + 1) * 432 - 8 + j.val
      omega
    · refine (congrFun (keep_apply _) (ix2 j d)).trans ((T.carried i2 j d).trans (congrArg (st (args m c) (n / 19) d) ?_))
      show n % 19 * 432 + 432 = (n % 19 + 1) * 432
      omega

/-- The result array. -/
def result (c : Dev nD) : Buf (Elt Ideal) ((c : Thread nD τ).loc main_v104) := fun i : S65664x512.Idx =>
  spec (args m c) (m ((c : Thread nD τ).loc main_arg1)) (i 0) (i 1)

/-- The block a point leaves, at an index. -/
theorem block_apply (c : Dev nD) (t : Fin grid0.N) (r : Fin 432) (d : Fin 512) :
    (out m c t : Vec Ideal S432x512 .bf16) (ix2 r d) = result m c (ix2 (row t r) d) := by
  have h2 : t.val < 152 := lt_of_lt_of_eq t.isLt N_0
  have hr := r.isLt
  obtain ⟨i1, i2⟩ := entry m c t.val (by omega)
  unfold out
  refine (pay4_apply _ _ r d).trans ?_
  unfold result spec
  refine congrArg₂ (fun a g : EReal => a * gelu g) (((tile_of m c t _ i1).states i2 r d).trans ?_) ((g_apply m c t r d).trans (congrFun (V_main_arg1 m c) _))
  refine congrArg₂ (fun b n => st (args m c) b d n) ?_ ?_
  · show t.val / 19 = (t.val * 432 + r.val) / 8208
    omega
  · show t.val % 19 * 432 + (r.val + 1) = (t.val * 432 + r.val) % 8208 + 1
    omega

/-- An element of the output block, placed in the array. -/
theorem out_emb (t : Fin grid0.N) (r : Fin 432) (d : Fin 512) :
    (((cfg0.win 9).blk t).view.emb (ix2 r d) : S65664x512.Idx) = ix2 (row t r) d := by
  refine funext fun a => Fin.ext ((Pipeline.Window.rect_emb_val (cfg0.win 9) t (ix2 r d) a).trans ?_)
  match a with
  | ⟨0, _⟩ => exact congrArg (· * 432 + r.val) (word_val t)
  | ⟨1, _⟩ => exact Nat.zero_add _

/-- The output blocks cover the array. -/
theorem cover (i : S65664x512.Idx) : ∃ t : Fin cfg0.N, (cfg0.win 9).flush t = true ∧ i ∈ ((cfg0.win 9).blk t).view.set := by
  have hi : (i 0).val < 65664 := (i 0).isLt
  have e : ∃ (t : Fin grid0.N) (r : Fin 432) (d : Fin 512), i = ix2 (row t r) d :=
    ⟨⟨(i 0).val / 432, by rw [N_0]; omega⟩, ⟨(i 0).val % 432, Nat.mod_lt _ (by decide)⟩, i 1,
      (eq_ix2 i).trans (congrArg (ix2 · (i 1)) (Fin.ext (by
        show (i 0).val = (i 0).val / 432 * 432 + (i 0).val % 432
        omega)))⟩
  obtain ⟨t, r, d, rfl⟩ := e
  exact ⟨t, flush0_9 t, Eq.mp (congrArg (fun j => j ∈ ((cfg0.win 9).blk t).view.set) (out_emb t r d)) (View.emb_mem_set _ _)⟩

/-- The output array after the run. -/
theorem final (c : Dev nD) : (dats m 0 c).arrAt 9 cfg0.N = result m c := by
  refine (dats m 0 c).arrAt_eq_of_cover 9 (result m c) (fun t _ => ?_) cover
  funext y
  refine (congrFun (after0_9 m c t) y).trans ?_
  have hy : ∀ y : S432x512.Idx, (out m c t : Vec Ideal S432x512 .bf16) y = ((cfg0.win 9).blk t).view.read (Elt Ideal) (result m c) y := by
    intro y
    rw [eq_ix2 y]
    exact (block_apply m c t (y 0) (y 1)).trans (congrArg (result m c) (out_emb t (y 0) (y 1)).symm)
  exact hy y

/-- The run: the result array holds the recurrence's states times the gate, the arguments as launched. -/
theorem run : θ_run defs (onTc (τ := τ) (main (F := Ideal))) ⟨m, fun _ => 0, ρ⟩ (fun r => ∀ c : Dev nD,
      r.2.mem ((c.tc : Thread nD τ).loc main_v104) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => ⟨((hr.1 c).1 9).trans (final m c), hr.2 c⟩)
    (θ_run_and (run_main m ρ) (unchanged m ρ))

end Cert.Layer.LruReal

end
-- ==== Proof.LruRefValue.lean ====
/- The reference of the recurrence read at an index: each value its program computes before the loop, the loop's state
   after any number of trips, and the result. -/
module

public import proofs.«01_k».proof.Proof.LruMath
public import proofs.«01_k».proof.Proof.Gen.LruReferenceIdeal.Step
public import Idealize.ShloMosaic.Lib.KernelVsHost
public import Idealize.ShloMosaic.Lib.DynamicIndex
public import Idealize.ShloMosaic.Lib.WordCmp
public import Idealize.ShloMosaic.Lib.Pipeline.Value

@[expose] public section

noncomputable section

namespace Cert.Layer.LruRef

open Idealize.ShloMosaic Idealize.ShloMosaic.ValueIdx Cert.LruReferenceIdeal Cert.LruReferenceIdeal.Gen Cert.LruReferenceIdeal.Step
open Cert.Layer Cert.Layer.Lru
open scoped BigOperators

theorem sitofp_zero_word : (FloatOps.sitofp (F := Ideal) .f32 (0#32 : BitVec 32)) = (0 : EReal) := by
  show ((((0#32 : BitVec 32).toInt : ℝ)) : EReal) = 0
  simp

theorem ac5 (x a b c e : EReal) : x + (a + b + c + e) = e + x + c + b + a := by ac_rfl

theorem trunc_eq (X : FVec Ideal S65664x512 .f32) (h : FTy.bits .bf16 < FTy.bits .f32) (i : S65664x512.Idx) : truncf .bf16 X h i = X i := rfl

theorem row_reshape (x : S65664x512.Idx → EReal) (h : S65664x512.ShapeCasts S8x8208x512) (b : Fin 8) (t : Fin 8208) (d : Fin 512) :
    shapeCast S8x8208x512 x h (ix3 b t d) = ser x b.val d t.val := by
  unfold ser rowOf
  refine shapeCast_apply x h (ix3 b t d) (ix2 (⟨(b.val * 8208 + t.val) % 65664, _⟩ : Fin 65664) d) ?_
  rw [Shape.rowMajor_val_two, Shape.rowMajor_val_three]
  show (b.val * 8208 + t.val) % 65664 * 512 + d.val = (b.val * 8208 + t.val) * 512 + d.val
  have := b.isLt; have := t.isLt
  omega

theorem row_bcast (x : S512.Idx → EReal) (h : S512.BroadcastsInDim S1x1x512 (![2] : Fin 1 → Fin 3)) (h' : S1x1x512.BroadcastsInDim S8x8208x512 (![0, 1, 2] : Fin 3 → Fin 3))
    (b : Fin 8) (t : Fin 8208) (d : Fin 512) :
    broadcastInDim S8x8208x512 ![0, 1, 2] h' (broadcastInDim S1x1x512 ![2] h x) (ix3 b t d) = x (ix1 d) := by
  refine (broadcastInDim_apply ![0, 1, 2] h' _ (ix3 b t d) (ix3 (0 : Fin 1) (0 : Fin 1) d) fun a => ?_).trans
    (broadcastInDim_apply ![2] h x (ix3 (0 : Fin 1) (0 : Fin 1) d) (ix1 d) fun a => ?_)
  · match a with
    | ⟨0, _⟩ => rfl
    | ⟨1, _⟩ => rfl
    | ⟨2, _⟩ => rfl
  · match a with
    | ⟨0, _⟩ => rfl

theorem tap_row (x : S4x512.Idx → EReal) (o : ℕ) (ho : o < 4) (h : S4x512.Slices ![o, 0] S1x512) (hc : S1x512.ShapeCasts S512) (d : Fin 512) :
    shapeCast S512 (extractStridedSlice S1x512 ![o, 0] x h) hc (ix1 d) = x (ix2 (⟨o, ho⟩ : Fin 4) d) := by
  refine (shapeCast_apply _ hc (ix1 d) (ix2 (0 : Fin 1) d) ?_).trans
    (extractStridedSlice_apply ![o, 0] x h (ix2 (0 : Fin 1) d) (ix2 (⟨o, ho⟩ : Fin 4) d) fun a => ?_)
  · rw [Shape.rowMajor_val_two, Shape.rowMajor_val_one]
    show 0 * 512 + d.val = d.val
    omega
  · match a with
    | ⟨0, _⟩ => rfl
    | ⟨1, _⟩ => exact (Nat.zero_add _).symm

theorem shifted (x : S8x8208x512.Idx → EReal) (f : ℕ → Fin 512 → ℕ → EReal) (hx : ∀ (b : Fin 8) (t : Fin 8208) (d : Fin 512), x (ix3 b t d) = f b.val d t.val)
    (v : S_.Idx → EReal) (hv : v (Shape.Idx.first h_S_) = 0) (hp : S8x8208x512.Pads ![0, 3, 0] ![0, 0, 0] ![0, 0, 0] S8x8211x512)
    (o : ℕ) (ho : o < 4) (h : S8x8211x512.Slices ![0, o, 0] S8x8208x512) (b : Fin 8) (t : Fin 8208) (d : Fin 512) :
    extractStridedSlice S8x8208x512 ![0, o, 0] (pad S8x8211x512 ![0, 3, 0] ![0, 0, 0] ![0, 0, 0] x v hp h_S_) h (ix3 b t d)
      = tap (f b.val d) (3 - o) t.val := by
  have ht := t.isLt
  refine (extractStridedSlice_apply ![0, o, 0] _ h (ix3 b t d) (ix3 b (⟨o + t.val, by omega⟩ : Fin 8211) d) fun a => ?_).trans ?_
  · match a with
    | ⟨0, _⟩ => exact (Nat.zero_add _).symm
    | ⟨1, _⟩ => rfl
    | ⟨2, _⟩ => exact (Nat.zero_add _).symm
  unfold tap
  by_cases hs : 3 - o ≤ t.val
  · rw [if_pos hs]
    refine (pad_apply_of_inside _ _ _ x v hp h_S_ _ (ix3 b (⟨t.val - (3 - o), by omega⟩ : Fin 8208) d) fun a => ?_).trans (hx _ _ _)
    match a with
    | ⟨0, _⟩ => show b.val = 0 + b.val * (0 + 1); omega
    | ⟨1, _⟩ => show o + t.val = 3 + (t.val - (3 - o)) * (0 + 1); omega
    | ⟨2, _⟩ => show d.val = 0 + d.val * (0 + 1); omega
  · rw [if_neg hs]
    refine (pad_apply_of_not_inside _ _ _ x v hp h_S_ _ (1 : Fin 3) fun hc => ?_).trans hv
    have h1 : 3 ≤ o + t.val := hc.1
    omega

variable (p : Args)

theorem v2_apply (b : Fin 8) (t : Fin 8208) (d : Fin 512) : A_main_v2 (F := Ideal) p.x p.cw p.cb p.wa p.ba p.wx p.bx p.lam (ix3 b t d) = tap (ser p.x b.val d) 3 t.val := by
  exact shifted _ (fun b d t => ser p.x b d t) (fun b t d => row_reshape p.x _ b t d) _ sitofp_zero_word _ 0 (by decide) _ b t d

theorem v6_apply (b : Fin 8) (t : Fin 8208) (d : Fin 512) : A_main_v6 (F := Ideal) p.x p.cw p.cb p.wa p.ba p.wx p.bx p.lam (ix3 b t d) = p.cw (ix2 (0 : Fin 4) d) := by
  exact (row_bcast _ _ _ b t d).trans (tap_row p.cw 0 (by decide) _ _ d)

theorem v10_apply (b : Fin 8) (t : Fin 8208) (d : Fin 512) : A_main_v10 (F := Ideal) p.x p.cw p.cb p.wa p.ba p.wx p.bx p.lam (ix3 b t d) = tap (ser p.x b.val d) 2 t.val := by
  exact shifted _ (fun b d t => ser p.x b d t) (fun b t d => row_reshape p.x _ b t d) _ sitofp_zero_word _ 1 (by decide) _ b t d

theorem v14_apply (b : Fin 8) (t : Fin 8208) (d : Fin 512) : A_main_v14 (F := Ideal) p.x p.cw p.cb p.wa p.ba p.wx p.bx p.lam (ix3 b t d) = p.cw (ix2 (1 : Fin 4) d) := by
  exact (row_bcast _ _ _ b t d).trans (tap_row p.cw 1 (by decide) _ _ d)

theorem v17_apply (b : Fin 8) (t : Fin 8208) (d : Fin 512) : A_main_v17 (F := Ideal) p.x p.cw p.cb p.wa p.ba p.wx p.bx p.lam (ix3 b t d) = tap (ser p.x b.val d) 1 t.val := by
  exact shifted _ (fun b d t => ser p.x b d t) (fun b t d => row_reshape p.x _ b t d) _ sitofp_zero_word _ 2 (by decide) _ b t d

theorem v21_apply (b : Fin 8) (t : Fin 8208) (d : Fin 512) : A_main_v21 (F := Ideal) p.x p.cw p.cb p.wa p.ba p.wx p.bx p.lam (ix3 b t d) = p.cw (ix2 (2 : Fin 4) d) := by
  exact (row_bcast _ _ _ b t d).trans (tap_row p.cw 2 (by decide) _ _ d)

theorem v24_apply (b : Fin 8) (t : Fin 8208) (d : Fin 512) : A_main_v24 (F := Ideal) p.x p.cw p.cb p.wa p.ba p.wx p.bx p.lam (ix3 b t d) = tap (ser p.x b.val d) 0 t.val := by
  exact shifted _ (fun b d t => ser p.x b d t) (fun b t d => row_reshape p.x _ b t d) _ sitofp_zero_word _ 3 (by decide) _ b t d

theorem v28_apply (b : Fin 8) (t : Fin 8208) (d : Fin 512) : A_main_v28 (F := Ideal) p.x p.cw p.cb p.wa p.ba p.wx p.bx p.lam (ix3 b t d) = p.cw (ix2 (3 : Fin 4) d) := by
  exact (row_bcast _ _ _ b t d).trans (tap_row p.cw 3 (by decide) _ _ d)

theorem v33_apply (b : Fin 8) (t : Fin 8208) (d : Fin 512) : A_main_v33 (F := Ideal) p.x p.cw p.cb p.wa p.ba p.wx p.bx p.lam (ix3 b t d) = xc p b.val d t.val := by
  have h : A_main_v33 (F := Ideal) p.x p.cw p.cb p.wa p.ba p.wx p.bx p.lam (ix3 b t d) = A_main_v32 (F := Ideal) p.x p.cw p.cb p.wa p.ba p.wx p.bx p.lam (ix3 b t d)
      + ((((Ideal.ofBits .f32 0x00000000#32 + A_main_v2 (F := Ideal) p.x p.cw p.cb p.wa p.ba p.wx p.bx p.lam (ix3 b t d) * A_main_v6 (F := Ideal) p.x p.cw p.cb p.wa p.ba p.wx p.bx p.lam (ix3 b t d))
        + A_main_v10 (F := Ideal) p.x p.cw p.cb p.wa p.ba p.wx p.bx p.lam (ix3 b t d) * A_main_v14 (F := Ideal) p.x p.cw p.cb p.wa p.ba p.wx p.bx p.lam (ix3 b t d))
        + A_main_v17 (F := Ideal) p.x p.cw p.cb p.wa p.ba p.wx p.bx p.lam (ix3 b t d) * A_main_v21 (F := Ideal) p.x p.cw p.cb p.wa p.ba p.wx p.bx p.lam (ix3 b t d))
        + A_main_v24 (F := Ideal) p.x p.cw p.cb p.wa p.ba p.wx p.bx p.lam (ix3 b t d) * A_main_v28 (F := Ideal) p.x p.cw p.cb p.wa p.ba p.wx p.bx p.lam (ix3 b t d)) := rfl
  have hb : A_main_v32 (F := Ideal) p.x p.cw p.cb p.wa p.ba p.wx p.bx p.lam (ix3 b t d) = p.cb (ix1 d) := row_bcast _ _ _ b t d
  have h0 : tap (ser p.x b.val d) 0 t.val = ser p.x b.val d t.val := rfl
  rw [h, hb, v2_apply, v6_apply, v10_apply, v14_apply, v17_apply, v21_apply, v24_apply, v28_apply, Ideal.ofBits_zero_f32, zero_add, h0]
  unfold xc
  exact ac5 _ _ _ _ _

/-! ## The gates -/

abbrev D : DotDims S8x64x64 S8x8208x8x64 S8x64x8x8208 := dot_S8x64x64_S8x8208x8x64_S8x64x8x8208_1_3_2_01_0_2

theorem lhs0 (i : S8x64x8x8208.Idx) (q : D.contr.Idx) : (D.lhsIdx i q 0).val = (i 0).val := by
  unfold DotDims.lhsIdx
  rw [dif_pos (show (0 : Fin S8x64x64.rank) ∈ D.lhsBatch by decide)]
  rfl

theorem lhs1 (i : S8x64x8x8208.Idx) (q : D.contr.Idx) : (D.lhsIdx i q 1).val = (q ⟨0, by decide⟩).val :=
  D.lhsIdx_val_of_single rfl i q

theorem lhs2 (i : S8x64x8x8208.Idx) (q : D.contr.Idx) : (D.lhsIdx i q 2).val = (i 1).val := by
  unfold DotDims.lhsIdx
  rw [dif_neg (show ¬(2 : Fin S8x64x64.rank) ∈ D.lhsBatch by decide), dif_pos (show (2 : Fin S8x64x64.rank) ∈ D.lhsNonContracting by decide)]
  rfl

theorem rhs0 (i : S8x64x8x8208.Idx) (q : D.contr.Idx) : (D.rhsIdx i q 0).val = (i 2).val := by
  unfold DotDims.rhsIdx
  rw [dif_neg (show ¬(0 : Fin S8x8208x8x64.rank) ∈ D.rhsBatch by decide), dif_pos (show (0 : Fin S8x8208x8x64.rank) ∈ D.rhsNonContracting by decide)]
  rfl

theorem rhs1 (i : S8x64x8x8208.Idx) (q : D.contr.Idx) : (D.rhsIdx i q 1).val = (i 3).val := by
  unfold DotDims.rhsIdx
  rw [dif_neg (show ¬(1 : Fin S8x8208x8x64.rank) ∈ D.rhsBatch by decide), dif_pos (show (1 : Fin S8x8208x8x64.rank) ∈ D.rhsNonContracting by decide)]
  rfl

theorem rhs2 (i : S8x64x8x8208.Idx) (q : D.contr.Idx) : (D.rhsIdx i q 2).val = (i 0).val := by
  unfold DotDims.rhsIdx
  rw [dif_pos (show (2 : Fin S8x8208x8x64.rank) ∈ D.rhsBatch by decide)]
  rfl

theorem rhs3 (i : S8x64x8x8208.Idx) (q : D.contr.Idx) : (D.rhsIdx i q 3).val = (q ⟨0, by decide⟩).val :=
  D.rhsIdx_val_of_single rfl i q

theorem dot_apply (w : FVec Ideal S8x64x64 .f32) (y : FVec Ideal S8x8208x8x64 .f32) (g : Fin 8) (e : Fin 64) (b : Fin 8) (t : Fin 8208) :
    Host.dotGeneral D none w y (ix4 g e b t) = ∑ j : Fin 64, y (ix4 b t g j) * w (ix3 g j e) := by
  simp only [Host.dotGeneral]
  rw [Ideal.dotGeneral_apply, ← Equiv.sum_comp (ValueIdx.contrEquiv1 D 64 rfl rfl).symm]
  refine Finset.sum_congr rfl fun k _ => ?_
  have hk := ValueIdx.contrEquiv1_symm_val D 64 rfl rfl k
  have el : D.lhsIdx (ix4 g e b t) ((ValueIdx.contrEquiv1 D 64 rfl rfl).symm k) = ix3 g k e := funext fun a => Fin.ext (by
    match a with
    | ⟨0, _⟩ => exact lhs0 _ _
    | ⟨1, _⟩ => exact (lhs1 _ _).trans hk
    | ⟨2, _⟩ => exact lhs2 _ _)
  have er : D.rhsIdx (ix4 g e b t) ((ValueIdx.contrEquiv1 D 64 rfl rfl).symm k) = ix4 b t g k := funext fun a => Fin.ext (by
    match a with
    | ⟨0, _⟩ => exact rhs0 _ _
    | ⟨1, _⟩ => exact rhs1 _ _
    | ⟨2, _⟩ => exact rhs2 _ _
    | ⟨3, _⟩ => exact (rhs3 _ _).trans hk)
  rw [el, er, mul_comm]

theorem gate_apply (w : FVec Ideal S8x64x64 .f32) (v : FVec Ideal S8x8208x512 .f32) (hc : S8x8208x512.ShapeCasts S8x8208x8x64)
    (ht : S8x64x8x8208.Transposes [2, 3, 0, 1] S8x8208x8x64) (hc' : S8x8208x8x64.ShapeCasts S8x8208x512) (b : Fin 8) (t : Fin 8208) (d : Fin 512) :
    shapeCast S8x8208x512 (transpose S8x8208x8x64 [2, 3, 0, 1] (Host.dotGeneral D none w (shapeCast S8x8208x8x64 v hc)) ht) hc' (ix3 b t d)
      = ∑ j : Fin 64, v (ix3 b t (ofGrp (grpOf d) j)) * w (ix3 (grpOf d) j (inGrp d)) := by
  have hd := d.isLt
  refine (shapeCast_apply _ hc' (ix3 b t d) (ix4 b t (grpOf d) (inGrp d)) ?_).trans ?_
  · rw [Shape.rowMajor_val_three, Shape.rowMajor_val_four]
    show ((b.val * 8208 + t.val) * 8 + d.val / 64) * 64 + d.val % 64 = (b.val * 8208 + t.val) * 512 + d.val
    omega
  refine (transpose_apply [2, 3, 0, 1] _ ht (ix4 b t (grpOf d) (inGrp d)) (ix4 (grpOf d) (inGrp d) b t) fun a => ?_).trans ?_
  · match a with
    | ⟨0, _⟩ => rfl
    | ⟨1, _⟩ => rfl
    | ⟨2, _⟩ => rfl
    | ⟨3, _⟩ => rfl
  refine (dot_apply w _ _ _ _ _).trans (Finset.sum_congr rfl fun j _ => congrArg (· * _) ?_)
  refine shapeCast_apply v hc _ (ix3 b t (ofGrp (grpOf d) j)) ?_
  rw [Shape.rowMajor_val_three, Shape.rowMajor_val_four]
  show (b.val * 8208 + t.val) * 512 + (64 * (d.val / 64) + j.val) = ((b.val * 8208 + t.val) * 8 + d.val / 64) * 64 + j.val
  omega

theorem v40_apply (b : Fin 8) (t : Fin 8208) (d : Fin 512) :
    A_main_v40 (F := Ideal) p.x p.cw p.cb p.wa p.ba p.wx p.bx p.lam (ix3 b t d) = gate (fun k => xc p b.val k t.val) p.wa p.ba d := by
  have hb : A_main_v39 (F := Ideal) p.x p.cw p.cb p.wa p.ba p.wx p.bx p.lam (ix3 b t d) = p.ba (ix1 d) := row_bcast _ _ _ b t d
  have hs : A_main_v37 (F := Ideal) p.x p.cw p.cb p.wa p.ba p.wx p.bx p.lam (ix3 b t d) = ∑ j : Fin 64, A_main_v33 (F := Ideal) p.x p.cw p.cb p.wa p.ba p.wx p.bx p.lam (ix3 b t (ofGrp (grpOf d) j)) * p.wa (ix3 (grpOf d) j (inGrp d)) :=
    gate_apply p.wa _ _ _ _ b t d
  have h : A_main_v40 (F := Ideal) p.x p.cw p.cb p.wa p.ba p.wx p.bx p.lam (ix3 b t d) = A_main_v37 (F := Ideal) p.x p.cw p.cb p.wa p.ba p.wx p.bx p.lam (ix3 b t d) + A_main_v39 (F := Ideal) p.x p.cw p.cb p.wa p.ba p.wx p.bx p.lam (ix3 b t d) := rfl
  rw [h, hb, hs]
  unfold gate
  exact congrArg (· + _) (Finset.sum_congr rfl fun j _ => congrArg (· * _) (v33_apply p _ _ _))

theorem v52_apply (b : Fin 8) (t : Fin 8208) (d : Fin 512) :
    A_main_v52 (F := Ideal) p.x p.cw p.cb p.wa p.ba p.wx p.bx p.lam (ix3 b t d) = gate (fun k => xc p b.val k t.val) p.wx p.bx d := by
  have hb : A_main_v51 (F := Ideal) p.x p.cw p.cb p.wa p.ba p.wx p.bx p.lam (ix3 b t d) = p.bx (ix1 d) := row_bcast _ _ _ b t d
  have hs : A_main_v49 (F := Ideal) p.x p.cw p.cb p.wa p.ba p.wx p.bx p.lam (ix3 b t d) = ∑ j : Fin 64, A_main_v33 (F := Ideal) p.x p.cw p.cb p.wa p.ba p.wx p.bx p.lam (ix3 b t (ofGrp (grpOf d) j)) * p.wx (ix3 (grpOf d) j (inGrp d)) :=
    gate_apply p.wx _ _ _ _ b t d
  have h : A_main_v52 (F := Ideal) p.x p.cw p.cb p.wa p.ba p.wx p.bx p.lam (ix3 b t d) = A_main_v49 (F := Ideal) p.x p.cw p.cb p.wa p.ba p.wx p.bx p.lam (ix3 b t d) + A_main_v51 (F := Ideal) p.x p.cw p.cb p.wa p.ba p.wx p.bx p.lam (ix3 b t d) := rfl
  rw [h, hb, hs]
  unfold gate
  exact congrArg (· + _) (Finset.sum_congr rfl fun j _ => congrArg (· * _) (v33_apply p _ _ _))

theorem v46_apply (b : Fin 8) (t : Fin 8208) (d : Fin 512) :
    A_main_v46 (F := Ideal) p.x p.cw p.cb p.wa p.ba p.wx p.bx p.lam (ix3 b t d) = sigm (gate (fun k => xc p b.val k t.val) p.wa p.ba d) := by
  have h : A_main_v46 (F := Ideal) p.x p.cw p.cb p.wa p.ba p.wx p.bx p.lam (ix3 b t d) = sigm (A_main_v40 (F := Ideal) p.x p.cw p.cb p.wa p.ba p.wx p.bx p.lam (ix3 b t d)) := rfl
  rw [h, v40_apply]

theorem v58_apply (b : Fin 8) (t : Fin 8208) (d : Fin 512) :
    A_main_v58 (F := Ideal) p.x p.cw p.cb p.wa p.ba p.wx p.bx p.lam (ix3 b t d) = sigm (gate (fun k => xc p b.val k t.val) p.wx p.bx d) := by
  have h : A_main_v58 (F := Ideal) p.x p.cw p.cb p.wa p.ba p.wx p.bx p.lam (ix3 b t d) = sigm (A_main_v52 (F := Ideal) p.x p.cw p.cb p.wa p.ba p.wx p.bx p.lam (ix3 b t d)) := rfl
  rw [h, v52_apply]

/-! ## The decay and the increment -/

theorem softplus_apply (z : EReal) :
    Scalar.select (Ideal.cmp .une (-z - Ideal.ofBits .f32 0x00000000#32) (-z - Ideal.ofBits .f32 0x00000000#32)) (-z + Ideal.ofBits .f32 0x00000000#32)
      (max (-z) (Ideal.ofBits .f32 0x00000000#32) + Ideal.log (1 + Ideal.exp (-(max (-z - Ideal.ofBits .f32 0x00000000#32) (-(-z - Ideal.ofBits .f32 0x00000000#32)))))) = sp z := by
  rw [Ideal.ofBits_zero_f32, sub_zero]
  have hc : Ideal.cmp .une (-z) (-z) = 0#1 := by simp [Ideal.cmp]
  rw [hc]
  rfl

theorem v62_apply (d : Fin 512) : A_main_v62 (F := Ideal) p.x p.cw p.cb p.wa p.ba p.wx p.bx p.lam (ix1 d) = sp (p.lam (ix1 d)) := softplus_apply _

theorem v65_apply (b : Fin 8) (t : Fin 8208) (d : Fin 512) :
    A_main_v65 (F := Ideal) p.x p.cw p.cb p.wa p.ba p.wx p.bx p.lam (ix3 b t d) = la (sigm (gate (fun k => xc p b.val k t.val) p.wa p.ba d)) (p.lam (ix1 d)) := by
  have hb : A_main_v64 (F := Ideal) p.x p.cw p.cb p.wa p.ba p.wx p.bx p.lam (ix3 b t d) = A_main_v62 (F := Ideal) p.x p.cw p.cb p.wa p.ba p.wx p.bx p.lam (ix1 d) := row_bcast _ _ _ b t d
  have h : A_main_v65 (F := Ideal) p.x p.cw p.cb p.wa p.ba p.wx p.bx p.lam (ix3 b t d) = Ideal.ofBits .f32 0xC1000000#32 * A_main_v46 (F := Ideal) p.x p.cw p.cb p.wa p.ba p.wx p.bx p.lam (ix3 b t d) * A_main_v64 (F := Ideal) p.x p.cw p.cb p.wa p.ba p.wx p.bx p.lam (ix3 b t d) := rfl
  rw [h, hb, v62_apply, v46_apply]
  rfl

theorem v66_apply (b : Fin 8) (t : Fin 8208) (d : Fin 512) : A_main_v66 (F := Ideal) p.x p.cw p.cb p.wa p.ba p.wx p.bx p.lam (ix3 b t d) = aS p b.val d t.val := by
  have h : A_main_v66 (F := Ideal) p.x p.cw p.cb p.wa p.ba p.wx p.bx p.lam (ix3 b t d) = Ideal.exp (A_main_v65 (F := Ideal) p.x p.cw p.cb p.wa p.ba p.wx p.bx p.lam (ix3 b t d)) := rfl
  rw [h, v65_apply]
  rfl

theorem v73_apply (b : Fin 8) (t : Fin 8208) (d : Fin 512) : A_main_v73 (F := Ideal) p.x p.cw p.cb p.wa p.ba p.wx p.bx p.lam (ix3 b t d) = uS p b.val d t.val := by
  have h : A_main_v73 (F := Ideal) p.x p.cw p.cb p.wa p.ba p.wx p.bx p.lam (ix3 b t d) = Ideal.sqrt (-(Ideal.exp (Ideal.ofBits .f32 0x40000000#32 * A_main_v65 (F := Ideal) p.x p.cw p.cb p.wa p.ba p.wx p.bx p.lam (ix3 b t d)) - 1))
      * A_main_v58 (F := Ideal) p.x p.cw p.cb p.wa p.ba p.wx p.bx p.lam (ix3 b t d) * A_main_v33 (F := Ideal) p.x p.cw p.cb p.wa p.ba p.wx p.bx p.lam (ix3 b t d) := rfl
  rw [h, v65_apply, v58_apply, v33_apply, neg_expm1]
  rfl

theorem swap_apply (x : S8x8208x512.Idx → EReal) (h : S8x8208x512.Transposes [1, 0, 2] S8208x8x512) (t : Fin 8208) (b : Fin 8) (d : Fin 512) :
    transpose S8208x8x512 [1, 0, 2] x h (ix3 t b d) = x (ix3 b t d) := by
  refine transpose_apply [1, 0, 2] x h (ix3 t b d) (ix3 b t d) fun a => ?_
  match a with
  | ⟨0, _⟩ => rfl
  | ⟨1, _⟩ => rfl
  | ⟨2, _⟩ => rfl

theorem v75_apply (t : Fin 8208) (b : Fin 8) (d : Fin 512) : A_main_v75 (F := Ideal) p.x p.cw p.cb p.wa p.ba p.wx p.bx p.lam (ix3 t b d) = aS p b.val d t.val :=
  (swap_apply _ _ t b d).trans (v66_apply p b t d)

theorem v76_apply (t : Fin 8208) (b : Fin 8) (d : Fin 512) : A_main_v76 (F := Ideal) p.x p.cw p.cb p.wa p.ba p.wx p.bx p.lam (ix3 t b d) = uS p b.val d t.val :=
  (swap_apply _ _ t b d).trans (v73_apply p b t d)

/-! ## The loop -/

/-- The row of a trip out of a stack of rows. -/
theorem slice_apply (x : S8208x8x512.Idx → EReal) (start : Fin 3 → Int) (n : Fin 8208) (h : S8208x8x512.Slices (fun _ => 0) S1x8x512)
    (e : ∀ a, start a = ((![n.val, 0, 0] : Fin 3 → ℕ) a : Int)) (hc : S1x8x512.ShapeCasts S8x512) (b : Fin 8) (d : Fin 512) :
    shapeCast S8x512 (Host.dynamicSlice S1x8x512 x start h) hc (ix2 b d) = x (ix3 n b d) := by
  have hk : S8208x8x512.Slices ![n.val, 0, 0] S1x8x512 := ⟨rfl, fun a => by
    have hn := n.isLt
    match a with
    | ⟨0, _⟩ => show n.val + 1 ≤ 8208; omega
    | ⟨1, _⟩ => show 0 + 8 ≤ 8; omega
    | ⟨2, _⟩ => show 0 + 512 ≤ 512; omega⟩
  rw [WordCmp.dynamicSlice_eq_extract S1x8x512 x start h ![n.val, 0, 0] hk e]
  refine (shapeCast_apply _ hc (ix2 b d) (ix3 (0 : Fin 1) b d) ?_).trans
    (extractStridedSlice_apply _ x hk (ix3 (0 : Fin 1) b d) (ix3 n b d) fun a => ?_)
  · rw [Shape.rowMajor_val_two, Shape.rowMajor_val_three]
    show (0 * 8 + b.val) * 512 + d.val = b.val * 512 + d.val
    omega
  · match a with
    | ⟨0, _⟩ => rfl
    | ⟨1, _⟩ => exact (Nat.zero_add _).symm
    | ⟨2, _⟩ => exact (Nat.zero_add _).symm

theorem update_apply (x : S8208x8x512.Idx → EReal) (y : S8x512.Idx → EReal) (start : Fin 3 → Int) (n : Fin 8208) (h : S8208x8x512.Slices (fun _ => 0) S1x8x512)
    (e : ∀ a, start a = ((![n.val, 0, 0] : Fin 3 → ℕ) a : Int)) (hb : S8x512.BroadcastsInDim S1x8x512 (![1, 2] : Fin 2 → Fin 3)) (t : Fin 8208) (b : Fin 8) (d : Fin 512) :
    Host.dynamicUpdateSlice x (broadcastInDim S1x8x512 ![1, 2] hb y) start h (ix3 t b d) = if t = n then y (ix2 b d) else x (ix3 t b d) := by
  have hk : S8208x8x512.Slices ![n.val, 0, 0] S1x8x512 := ⟨rfl, fun a => by
    have hn := n.isLt
    match a with
    | ⟨0, _⟩ => show n.val + 1 ≤ 8208; omega
    | ⟨1, _⟩ => show 0 + 8 ≤ 8; omega
    | ⟨2, _⟩ => show 0 + 512 ≤ 512; omega⟩
  rw [WordCmp.dynamicUpdateSlice_eq_update x _ start h ![n.val, 0, 0] hk e]
  unfold updateSlice
  have hb' := b.isLt
  have hd' := d.isLt
  by_cases ht : t = n
  · rw [if_pos ht, dif_pos (by
      subst ht
      intro a
      match a with
      | ⟨0, _⟩ => exact ⟨Nat.le_refl _, Nat.lt_succ_self _⟩
      | ⟨1, _⟩ => exact ⟨Nat.zero_le _, by show b.val < 0 + 8; omega⟩
      | ⟨2, _⟩ => exact ⟨Nat.zero_le _, by show d.val < 0 + 512; omega⟩)]
    refine broadcastInDim_apply ![1, 2] hb y _ (ix2 b d) fun a => ?_
    match a with
    | ⟨0, _⟩ => rfl
    | ⟨1, _⟩ => rfl
  · rw [if_neg ht, dif_neg (fun hin => ht (Fin.ext (by
      have h0 : n.val ≤ t.val ∧ t.val < n.val + 1 := hin (0 : Fin 3)
      omega)))]

theorem word_start (n : Fin 8208) : ∀ a : Fin 3,
    ((((![(constantI S_ 32 (BitVec.ofNat 32 n.val) : (⟨S_, .i32⟩ : BufTy).Contents (Elt Ideal)), constantI S_ 32 0#32, constantI S_ 32 0#32] :
      Fin 3 → (⟨S_, .i32⟩ : BufTy).Contents (Elt Ideal))) a (Shape.Idx.first h_S_)).toInt) = ((![n.val, 0, 0] : Fin 3 → ℕ) a : Int) := by
  intro a
  have hn := n.isLt
  match a with
  | ⟨0, _⟩ => exact toInt_ofNat_of_lt (by omega)
  | ⟨1, _⟩ => exact toInt_ofNat_of_lt (k := 0) (by decide)
  | ⟨2, _⟩ => exact toInt_ofNat_of_lt (k := 0) (by decide)

theorem step_state (n : Fin 8208) (s : State Ideal) (b : Fin 8) (d : Fin 512) :
    (step n.val s).main_v78_3 (ix2 b d) = s.main_v78_0 (ix3 n b d) * s.main_v78_3 (ix2 b d) + s.main_v78_1 (ix3 n b d) := by
  have h0 : b3 n.val s (ix2 b d) = s.main_v78_0 (ix3 n b d) := slice_apply _ _ n _ (word_start n) _ b d
  have h1 : b7 n.val s (ix2 b d) = s.main_v78_1 (ix3 n b d) := slice_apply _ _ n _ (word_start n) _ b d
  rw [step_main_v78_3, ← h0, ← h1]
  rfl

theorem step_stack (n : Fin 8208) (s : State Ideal) (t : Fin 8208) (b : Fin 8) (d : Fin 512) :
    (step n.val s).main_v78_4 (ix3 t b d) = if t = n then (step n.val s).main_v78_3 (ix2 b d) else s.main_v78_4 (ix3 t b d) := by
  rw [step_main_v78_4, step_main_v78_3]
  exact update_apply _ (b9 n.val s) _ n _ (word_start n) _ t b d

/-- The loop's state after `n` trips. -/
theorem state_after (it : ℕ → State Ideal) (h0 : it 0 = init p.x p.cw p.cb p.wa p.ba p.wx p.bx p.lam) (hs : ∀ n, it (n + 1) = step n (it n)) (n : ℕ) (hn : n ≤ 8208) :
    (it n).main_v78_0 = A_main_v75 (F := Ideal) p.x p.cw p.cb p.wa p.ba p.wx p.bx p.lam ∧ (it n).main_v78_1 = A_main_v76 (F := Ideal) p.x p.cw p.cb p.wa p.ba p.wx p.bx p.lam
    ∧ (∀ (b : Fin 8) (d : Fin 512), (it n).main_v78_3 (ix2 b d) = st p b.val d n)
    ∧ ∀ (t : Fin 8208) (b : Fin 8) (d : Fin 512), t.val < n → (it n).main_v78_4 (ix3 t b d) = st p b.val d (t.val + 1) := by
  induction n with
  | zero =>
    rw [h0]
    refine ⟨rfl, rfl, fun b d => ?_, fun t b d h => absurd h (Nat.not_lt_zero _)⟩
    exact Ideal.ofBits_zero_f32
  | succ n ih =>
    obtain ⟨i0, i1, i3, i4⟩ := ih (by omega)
    rw [hs n]
    have hst : ∀ (b : Fin 8) (d : Fin 512), (step n (it n)).main_v78_3 (ix2 b d) = st p b.val d (n + 1) := fun b d => by
      refine (step_state ⟨n, by omega⟩ (it n) b d).trans ?_
      rw [i0, i1, i3, v75_apply, v76_apply]
      rfl
    refine ⟨i0, i1, hst, fun t b d h => ?_⟩
    refine (step_stack ⟨n, by omega⟩ (it n) t b d).trans ?_
    by_cases ht : t = ⟨n, by omega⟩
    · rw [if_pos ht]
      exact (hst b d).trans (congrArg (fun k => st p b.val d (k + 1)) (congrArg Fin.val ht).symm)
    · rw [if_neg ht]
      exact i4 t b d (by have : t.val ≠ n := fun e => ht (Fin.ext e); omega)

/-! ## The result -/

theorem out_apply (s : State Ideal) (gb : S65664x512.Idx → EReal) (f : ℕ → Fin 512 → ℕ → EReal)
    (hf : ∀ (t : Fin 8208) (b : Fin 8) (d : Fin 512), s.main_v78_4 (ix3 t b d) = f b.val d (t.val + 1)) (i : Fin 65664) (d : Fin 512) :
    R_main_v96 (F := Ideal) s gb (ix2 i d) = f (i.val / 8208) d (i.val % 8208 + 1) * gelu (gb (ix2 i d)) := by
  have hi := i.isLt
  have hg : ∀ h : S65664x512.ShapeCasts S8x8208x512, shapeCast S8x8208x512 gb h (ix3 (⟨i.val / 8208, by omega⟩ : Fin 8) (⟨i.val % 8208, by omega⟩ : Fin 8208) d) = gb (ix2 i d) := fun h => by
    refine (row_reshape gb h _ _ d).trans (congrArg (fun r => gb (ix2 r d)) (Fin.ext ?_))
    show (i.val / 8208 * 8208 + i.val % 8208) % 65664 = i.val
    omega
  unfold R_main_v96
  refine (trunc_eq _ _ _).trans ?_
  refine (shapeCast_apply (s := S8x8208x512) (t := S65664x512) (α := EReal) _ shapeCasts_S8x8208x512_S65664x512 (ix2 i d) (ix3 (⟨i.val / 8208, by omega⟩ : Fin 8) (⟨i.val % 8208, by omega⟩ : Fin 8208) d) ?_).trans ?_
  · rw [Shape.rowMajor_val_two, Shape.rowMajor_val_three]
    show (i.val / 8208 * 8208 + i.val % 8208) * 512 + d.val = i.val * 512 + d.val
    omega
  refine congrArg₂ (· * ·) ((transpose_apply [1, 0, 2] s.main_v78_4 _ _ (ix3 (⟨i.val % 8208, by omega⟩ : Fin 8208) (⟨i.val / 8208, by omega⟩ : Fin 8) d) fun a => ?_).trans (hf _ _ _)) ?_
  · match a with
    | ⟨0, _⟩ => rfl
    | ⟨1, _⟩ => rfl
    | ⟨2, _⟩ => rfl
  have hc : S65664x512.ShapeCasts S8x8208x512 := shapeCasts_S65664x512_S8x8208x512
  rw [← hg hc]
  have hm : ∀ g : EReal, g * (Ideal.ofBits .f32 0x3F000000#32 * (Ideal.ofBits .f32 0x3F800000#32
      + Ideal.tanh (Ideal.ofBits .f32 0x3F4C422A#32 * (g + Ideal.ofBits .f32 0x3D372713#32 * ((g * g) * g))))) = gelu g := fun g => by
    rw [mul_assoc g g g]; rfl
  exact hm _

/-- The reference's result. -/
theorem result_apply (it : ℕ → State Ideal) (h0 : it 0 = init p.x p.cw p.cb p.wa p.ba p.wx p.bx p.lam) (hs : ∀ n, it (n + 1) = step n (it n)) (gb : S65664x512.Idx → EReal)
    (i : Fin 65664) (d : Fin 512) : R_main_v96 (F := Ideal) (it 8208) gb (ix2 i d) = spec p gb i d :=
  out_apply (it 8208) gb (st p) (fun t b d => (state_after p it h0 hs 8208 (Nat.le_refl _)).2.2.2 t b d t.isLt) i d

end Cert.Layer.LruRef
-- ==== Proof.LruRefRun.lean ====
/- The run of the reference of the recurrence: the loop's state after its last trip, of any sequence of states that
   goes on by `step`. -/
module

public import proofs.«01_k».proof.Proof.Gen.LruReferenceIdeal.Run
public import proofs.«01_k».proof.Proof.Gen.LruReferenceIdeal.Step

@[expose] public section

noncomputable section

namespace Cert.LruReferenceIdeal.RefRun

open Idealize.ShloMosaic Idealize.ShloMosaic.TcCoe Idealize.SL.Sem Idealize.ShloMosaic.StableHlo
open Cert.LruReferenceIdeal Cert.LruReferenceIdeal.Gen Cert.LruReferenceIdeal.Value
open Cert.LruReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v78_3) = s.main_v78_3
  f_4 : V0 (Proc.devRef .tc main_v78_4) = s.main_v78_4
  f_0 : V0 (Proc.devRef .tc main_v78_0) = s.main_v78_0
  f_1 : V0 (Proc.devRef .tc main_v78_1) = s.main_v78_1
  n_2 : V0 (Proc.devRef .tc main_v78_2) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.LruReferenceIdeal.Step.b0 j s := by
  unfold Cert.LruReferenceIdeal.Step.b0
  rfl
set_option maxRecDepth 8192 in
theorem al_1 (h : Holds V0 s j) : (constantI S_ 32 0#32 : (Proc.devRef .tc main_while0b_call2_c_0 : DevRef τ sig).ty.Contents (Elt F)) = Cert.LruReferenceIdeal.Step.b1 j s := by
  unfold Cert.LruReferenceIdeal.Step.b1
  rfl
set_option maxRecDepth 8192 in
theorem al_2 (h : Holds V0 s j) : (Host.dynamicSlice S1x8x512 (V0 (Proc.devRef .tc main_v78_0)) (fun k => (((![V0 (Proc.devRef .tc main_v78_2), constantI S_ 32 0#32, constantI S_ 32 0#32] : Fin 3 → (⟨S_, .i32⟩ : BufTy).Contents (Elt F))) k (Shape.Idx.first h_S_)).toInt) sliceFits_S8208x8x512_S1x8x512 : (Proc.devRef .tc main_while0b_call2_v0 : DevRef τ sig).ty.Contents (Elt F)) = Cert.LruReferenceIdeal.Step.b2 j s := by
  unfold Cert.LruReferenceIdeal.Step.b2
  rw [← al_0 h, ← al_1 h, h.f_0, h.n_2]
  try rfl
set_option maxRecDepth 8192 in
theorem al_3 (h : Holds V0 s j) : (shapeCast S8x512 (Host.dynamicSlice S1x8x512 (V0 (Proc.devRef .tc main_v78_0)) (fun k => (((![V0 (Proc.devRef .tc main_v78_2), constantI S_ 32 0#32, constantI S_ 32 0#32] : Fin 3 → (⟨S_, .i32⟩ : BufTy).Contents (Elt F))) k (Shape.Idx.first h_S_)).toInt) sliceFits_S8208x8x512_S1x8x512) shapeCasts_S1x8x512_S8x512 : (Proc.devRef .tc main_while0b_v97 : DevRef τ sig).ty.Contents (Elt F)) = Cert.LruReferenceIdeal.Step.b3 j s := by
  unfold Cert.LruReferenceIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.LruReferenceIdeal.Step.b4 j s := by
  unfold Cert.LruReferenceIdeal.Step.b4
  rfl
set_option maxRecDepth 8192 in
theorem al_5 (h : Holds V0 s j) : (constantI S_ 32 0#32 : (Proc.devRef .tc main_while0b_call3_c_0 : DevRef τ sig).ty.Contents (Elt F)) = Cert.LruReferenceIdeal.Step.b5 j s := by
  unfold Cert.LruReferenceIdeal.Step.b5
  rfl
set_option maxRecDepth 8192 in
theorem al_6 (h : Holds V0 s j) : (Host.dynamicSlice S1x8x512 (V0 (Proc.devRef .tc main_v78_1)) (fun k => (((![V0 (Proc.devRef .tc main_v78_2), constantI S_ 32 0#32, constantI S_ 32 0#32] : Fin 3 → (⟨S_, .i32⟩ : BufTy).Contents (Elt F))) k (Shape.Idx.first h_S_)).toInt) sliceFits_S8208x8x512_S1x8x512 : (Proc.devRef .tc main_while0b_call3_v0 : DevRef τ sig).ty.Contents (Elt F)) = Cert.LruReferenceIdeal.Step.b6 j s := by
  unfold Cert.LruReferenceIdeal.Step.b6
  rw [← al_4 h, ← al_5 h, h.f_1, h.n_2]
  try rfl
set_option maxRecDepth 8192 in
theorem al_7 (h : Holds V0 s j) : (shapeCast S8x512 (Host.dynamicSlice S1x8x512 (V0 (Proc.devRef .tc main_v78_1)) (fun k => (((![V0 (Proc.devRef .tc main_v78_2), constantI S_ 32 0#32, constantI S_ 32 0#32] : Fin 3 → (⟨S_, .i32⟩ : BufTy).Contents (Elt F))) k (Shape.Idx.first h_S_)).toInt) sliceFits_S8208x8x512_S1x8x512) shapeCasts_S1x8x512_S8x512 : (Proc.devRef .tc main_while0b_v98 : DevRef τ sig).ty.Contents (Elt F)) = Cert.LruReferenceIdeal.Step.b7 j s := by
  unfold Cert.LruReferenceIdeal.Step.b7
  rw [← al_6 h]
  try rfl
set_option maxRecDepth 8192 in
theorem al_8 (h : Holds V0 s j) : (mulf (shapeCast S8x512 (Host.dynamicSlice S1x8x512 (V0 (Proc.devRef .tc main_v78_0)) (fun k => (((![V0 (Proc.devRef .tc main_v78_2), constantI S_ 32 0#32, constantI S_ 32 0#32] : Fin 3 → (⟨S_, .i32⟩ : BufTy).Contents (Elt F))) k (Shape.Idx.first h_S_)).toInt) sliceFits_S8208x8x512_S1x8x512) shapeCasts_S1x8x512_S8x512) (V0 (Proc.devRef .tc main_v78_3)) : (Proc.devRef .tc main_while0b_v99 : DevRef τ sig).ty.Contents (Elt F)) = Cert.LruReferenceIdeal.Step.b8 j s := by
  unfold Cert.LruReferenceIdeal.Step.b8
  rw [← al_3 h, h.f_3]
  try rfl
set_option maxRecDepth 8192 in
theorem al_9 (h : Holds V0 s j) : (res_main_while0b_v100 V0 : (Proc.devRef .tc main_while0b_v100 : DevRef τ sig).ty.Contents (Elt F)) = Cert.LruReferenceIdeal.Step.b9 j s := by
  unfold res_main_while0b_v100 Cert.LruReferenceIdeal.Step.b9
  rw [← al_8 h, ← al_7 h]
  try rfl
set_option maxRecDepth 8192 in
theorem al_10 (h : Holds V0 s j) : (broadcastInDim S1x8x512 ![1, 2] bcast_S8x512_S1x8x512_1_2 (res_main_while0b_v100 V0) : (Proc.devRef .tc main_while0b_call4_v0 : DevRef τ sig).ty.Contents (Elt F)) = Cert.LruReferenceIdeal.Step.b10 j s := by
  unfold Cert.LruReferenceIdeal.Step.b10
  rw [← al_9 h]
  try rfl
set_option maxRecDepth 8192 in
theorem al_11 (h : Holds V0 s j) : (constantI S_ 32 0#32 : (Proc.devRef .tc main_while0b_call4_c : DevRef τ sig).ty.Contents (Elt F)) = Cert.LruReferenceIdeal.Step.b11 j s := by
  unfold Cert.LruReferenceIdeal.Step.b11
  rfl
set_option maxRecDepth 8192 in
theorem al_12 (h : Holds V0 s j) : (constantI S_ 32 0#32 : (Proc.devRef .tc main_while0b_call4_c_0 : DevRef τ sig).ty.Contents (Elt F)) = Cert.LruReferenceIdeal.Step.b12 j s := by
  unfold Cert.LruReferenceIdeal.Step.b12
  rfl
set_option maxRecDepth 8192 in
theorem al_13 (h : Holds V0 s j) : (Host.dynamicUpdateSlice (V0 (Proc.devRef .tc main_v78_4)) (broadcastInDim S1x8x512 ![1, 2] bcast_S8x512_S1x8x512_1_2 (res_main_while0b_v100 V0)) (fun k => (((![V0 (Proc.devRef .tc main_v78_2), constantI S_ 32 0#32, constantI S_ 32 0#32] : Fin 3 → (⟨S_, .i32⟩ : BufTy).Contents (Elt F))) k (Shape.Idx.first h_S_)).toInt) updateFits_S8208x8x512_S1x8x512 : (Proc.devRef .tc main_while0b_v101 : DevRef τ sig).ty.Contents (Elt F)) = Cert.LruReferenceIdeal.Step.b13 j s := by
  unfold Cert.LruReferenceIdeal.Step.b13
  rw [← al_10 h, ← al_11 h, ← al_12 h, h.f_4, h.n_2]
  try rfl

/-! One trip's step of the carried values is `step`, field by field; a counter steps to the next number. -/

theorem step_3 (h : Holds V0 s j) : step_main_v78_3 V0 = (step j s).main_v78_3 := by
  unfold step_main_v78_3 Cert.LruReferenceIdeal.Step.step
  show id (res_main_while0b_v100 V0) = _
  rw [al_9 h]
  try rfl
theorem step_4 (h : Holds V0 s j) : step_main_v78_4 V0 = (step j s).main_v78_4 := by
  unfold step_main_v78_4 Cert.LruReferenceIdeal.Step.step
  show id (Host.dynamicUpdateSlice (V0 (Proc.devRef .tc main_v78_4)) (broadcastInDim S1x8x512 ![1, 2] bcast_S8x512_S1x8x512_1_2 (res_main_while0b_v100 V0)) (fun k => (((![V0 (Proc.devRef .tc main_v78_2), constantI S_ 32 0#32, constantI S_ 32 0#32] : Fin 3 → (⟨S_, .i32⟩ : BufTy).Contents (Elt F))) k (Shape.Idx.first h_S_)).toInt) updateFits_S8208x8x512_S1x8x512) = _
  exact al_13 h
theorem step_2 (h : Holds V0 s j) : step_main_v78_2 V0 = constantI S_ 32 (BitVec.ofNat 32 (j + 1)) := by
  unfold step_main_v78_2
  rw [h.n_2]
  funext i
  show BitVec.ofNat 32 j + 1#32 = BitVec.ofNat 32 (j + 1)
  simp only [BitVec.ofNat_add]

set_option maxRecDepth 8192 in
theorem out_main_v96_holds (h : Holds V0 s j) {x_main_arg1 : (⟨S65664x512, .f32⟩ : BufTy).Contents (Elt F)} (h_main_arg1 : V0 (Proc.devRef .tc main_arg1) = x_main_arg1) : out_main_v96 V0 = Cert.LruReferenceIdeal.Step.R_main_v96 s x_main_arg1 := by
  unfold out_main_v96 Cert.LruReferenceIdeal.Step.R_main_v96
  rw [h.f_4, h_main_arg1]
  try rfl

/-- One trip keeps the valuation holding: `step` of the state, the same set-up values, the next number. -/
theorem holds_step (h : Holds V0 s j) : Holds (STEP V0) (step j s) (j + 1) where
  f_3 := (STEP_main_v78_3 V0).trans (step_3 h)
  f_4 := (STEP_main_v78_4 V0).trans (step_4 h)
  n_2 := (STEP_main_v78_2 V0).trans (step_2 h)
  f_0 := (STEP_main_v78_0 V0).trans h.f_0
  f_1 := (STEP_main_v78_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `LruReferenceIdeal` terminates with each result at its field of state
    number 8208 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v96) = Cert.LruReferenceIdeal.Step.R_main_v96 (it c 8208) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 8208
    ⟨(h c).1.trans (out_main_v96_holds hk (iter_main_arg1 m c 8208)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.LruReferenceIdeal.RefRun

end
-- ==== Proof.LruClaim.lean ====
/- The recurrence's claims: over the reals the kernel computes its reference, and the reference ends quiescent. -/
module

public import proofs.«01_k».proof.Proof.LruValue
public import proofs.«01_k».proof.Proof.LruRefValue
public import proofs.«01_k».proof.Proof.LruRefRun
public import proofs.«01_k».proof.Defs

@[expose] public section

noncomputable section

namespace Cert.Layer

open Idealize.ShloMosaic Idealize.ShloMosaic.TcCoe Idealize.ShloMosaic.ValueIdx Idealize.SL.Sem

/-- The states of the reference's loop, one trip after another. -/
def refIter {F : FTy → Type} [FloatOps F] (s0 : LruReferenceIdeal.Step.State F) : ℕ → LruReferenceIdeal.Step.State F
  | 0 => s0
  | n + 1 => LruReferenceIdeal.Step.step n (refIter s0 n)

/-- Over the reals the recurrence kernel computes its reference. -/
theorem lru_algebraic : Cert.algebraic_LruIdeal_LruReferenceIdeal := by
  intro m ρ m' ρ' _ hagree
  refine ⟨LruReal.result m, LruReal.run m ρ, ?_⟩
  refine (θ_run LruReferenceIdeal.defs _ _).mono (fun r hr c => ⟨(hr c).1.trans ?_, (hr c).2⟩)
    (LruReferenceIdeal.RefRun.run_iter (F := Ideal) m' ρ' (fun c => refIter (LruReferenceIdeal.RefRun.initState m' c)) (fun _ => rfl) (fun _ _ => rfl))
  obtain ⟨a0, a1, a2, a3, a4, a5, a6, a7, a8⟩ := hagree c
  have h0 : refIter (LruReferenceIdeal.RefRun.initState m' c) 0 = LruReferenceIdeal.Step.init (LruReal.args m c).x (LruReal.args m c).cw (LruReal.args m c).cb
      (LruReal.args m c).wa (LruReal.args m c).ba (LruReal.args m c).wx (LruReal.args m c).bx (LruReal.args m c).lam := by
    show LruReferenceIdeal.RefRun.initState m' c = _
    unfold LruReferenceIdeal.RefRun.initState
    rw [a0, a2, a3, a4, a5, a6, a7, a8]
    rfl
  have hi : ∀ i : LruReferenceIdeal.S65664x512.Idx,
      LruReferenceIdeal.Step.R_main_v96 (F := Ideal) (refIter (LruReferenceIdeal.RefRun.initState m' c) 8208) (m ((c : Thread LruIdeal.nD LruIdeal.τ).loc LruIdeal.main_arg1)) i
        = LruReal.result m c i := fun i => by
    rw [eq_ix2 i]
    exact LruRef.result_apply (LruReal.args m c) _ h0 (fun _ => rfl) _ (i 0) (i 1)
  rw [a1]
  exact funext hi

/-- The reference's frame. -/
theorem lruReference_frame : Cert.quiescent_LruReferenceIdeal := fun m ρ _ =>
  (θ_run LruReferenceIdeal.defs _ _).mono
    (fun r h => ⟨fun c => (h c).2, Idealize.ShloMosaic.sem_eq_zero_of_no_sems (by decide) r.2⟩)
    (LruReferenceIdeal.RefRun.run_iter (F := Ideal) m ρ (fun c => refIter (LruReferenceIdeal.RefRun.initState m c)) (fun _ => rfl) (fun _ _ => rfl))

end Cert.Layer

end
-- ==== Proof.FfnOk.lean ====
/- What the precondition of the expert layer gives: every table entry is one of the thirty-two experts, so every block a
   window takes by the table lies inside its array. -/
module

public import proofs.«01_k».proof.Defs
public import proofs.«01_k».proof.Proof.Gen.Ffn.Frame
public import proofs.«01_k».proof.Proof.Gen.FfnIdeal.Frame
public import proofs.«01_k».proof.Proof.Gen.Pre_experts_exist
public import Idealize.ShloMosaic.Lib.StableHlo.Predicate

@[expose] public section

noncomputable section

namespace Cert.Layer

open Idealize.ShloMosaic Idealize.ShloMosaic.TcCoe

/-- A word that is at least zero and below thirty-two as signed numbers is below thirty-two. -/
theorem toNat_lt_of_bits (b : BitVec 32)
    (h : IntOp.andi (IntOp.cmpi .sge b 0#32) (IntOp.cmpi .slt b 32#32) = 1#1) : b.toNat < 32 := by
  have h1 : (0#32).sle b = true ∧ b.slt 32#32 = true := by
    simp only [IntOp.cmpi] at h
    revert h
    cases (0#32).sle b <;> cases b.slt 32#32 <;> decide
  have h2 := h1.1
  have h3 := h1.2
  simp only [BitVec.sle, BitVec.slt, decide_eq_true_eq] at h2 h3
  have e0 : (0#32 : BitVec 32).toInt = 0 := by decide
  have e1 : (32#32 : BitVec 32).toInt = 32 := by decide
  rw [e0, BitVec.toInt_eq_toNat_cond] at h2
  rw [e1, BitVec.toInt_eq_toNat_cond] at h3
  have := b.isLt
  split at h2 <;> split at h3 <;> omega

/-- So the precondition bounds every entry. -/
theorem entry_lt {F : FTy → Type} [FloatOps F] (x0 : IVec Pre_experts_exist.S545 32) (x1 x2 x3 x4 x5)
    (h : Pre_experts_exist.fn (F := F) x0 x1 x2 x3 x4 x5 = fun _ => 1#1) (j : Pre_experts_exist.S545.Idx) : (x0 j).toNat < 32 :=
  toNat_lt_of_bits (x0 j) (congrFun h j)

namespace FfnBits
open Cert.Ffn Cert.Ffn.Gen

variable {F : FTy → Type} [FloatOps F] (m : (ℓ : Loc nD τ sig) → Buf (Elt F) ℓ)

/-- The table the region reads is the first argument. -/
theorem tbl_eq : tbl m 0 = m (((0 : Dev nD).tc : Thread nD τ).loc main_arg0) := V_main_arg0 m 0

/-- The pipeline's side condition, of any memory whose table entries are below thirty-two. -/
theorem ok_of_lt (h : ∀ j : S545.Idx, (m (((0 : Dev nD).tc : Thread nD τ).loc main_arg0) j : BitVec 32).toNat < 32) : Ok m := by
  have hp : ∀ j : S545.Idx, (tbl m 0 j : BitVec 32).toNat < 32 := fun j => by rw [tbl_eq]; exact h j
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    match a with
    | ⟨0, _⟩ =>
      show ((tbl m 0 _ : BitVec 32).toNat + 1) * 1 ≤ 32
      rw [Nat.mul_one]
      exact Nat.succ_le_of_lt (hp _)
    | ⟨1, _⟩ => exact of_decide_eq_true rfl
    | ⟨2, _⟩ => exact of_decide_eq_true rfl

end FfnBits

namespace FfnReal
open Cert.FfnIdeal Cert.FfnIdeal.Gen

variable {F : FTy → Type} [FloatOps F] (m : (ℓ : Loc nD τ sig) → Buf (Elt F) ℓ)

/-- The table the region reads is the first argument. -/
theorem tbl_eq : tbl m 0 = m (((0 : Dev nD).tc : Thread nD τ).loc main_arg0) := V_main_arg0 m 0

/-- The pipeline's side condition, of any memory whose table entries are below thirty-two. -/
theorem ok_of_lt (h : ∀ j : S545.Idx, (m (((0 : Dev nD).tc : Thread nD τ).loc main_arg0) j : BitVec 32).toNat < 32) : Ok m := by
  have hp : ∀ j : S545.Idx, (tbl m 0 j : BitVec 32).toNat < 32 := fun j => by rw [tbl_eq]; exact h j
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    match a with
    | ⟨0, _⟩ =>
      show ((tbl m 0 _ : BitVec 32).toNat + 1) * 1 ≤ 32
      rw [Nat.mul_one]
      exact Nat.succ_le_of_lt (hp _)
    | ⟨1, _⟩ => exact of_decide_eq_true rfl
    | ⟨2, _⟩ => exact of_decide_eq_true rfl

end FfnReal

end Cert.Layer

end
-- ==== Proof.FfnKernel.lean ====
/- The expert kernel at a grid point: its one stored block is the named expert's output of the block's rows. -/
module

public import proofs.«01_k».proof.Proof.Block
public import proofs.«01_k».proof.Proof.FfnOk
public import Idealize.ShloMosaic.Lib.VecWindow

@[expose] public section

noncomputable section

namespace Cert.Layer.FfnReal

open Idealize.ShloMosaic Idealize.ShloMosaic.TcCoe Idealize.ShloMosaic.ValueIdx Cert.FfnIdeal Cert.FfnIdeal.Gen
open scoped BigOperators

/-- The stored block at an index, from the blocks read. -/
theorem pay_apply (v0 : Vec Ideal S256x1024 .f32) (v1 : Vec Ideal S1x1024 .f32) (v16 v19 : Vec Ideal S1x1024x256 .bf16)
    (v32 : Vec Ideal S1x256x1024 .bf16) (r : Fin 256) (d : Fin 1024) :
    k0_pay1 (F := Ideal) v0 v1 v16 v19 v32 (ix2 r d)
      = expert (fun k => rms v0 (fun d => v1 (ix2 (0 : Fin 1) d)) r k) (fun k f => v16 (ix3 (0 : Fin 1) k f))
          (fun k f => v19 (ix3 (0 : Fin 1) k f)) (fun f d => v32 (ix3 (0 : Fin 1) f d)) d := by
  unfold k0_pay1
  refine (matmul_block none _ _ r d).trans ?_
  unfold expert
  refine Finset.sum_congr rfl fun f _ => ?_
  rw [shapeCast_1ab_ab_apply]
  refine congrArg (· * _) ?_
  have hn : ∀ k : Fin 1024, (mulf (mulf v0 (broadcastTo S256x1024 (rsqrt (addf (divf (shapeCast S256x1
        (multiReduction .add [1] S256 (mulf v0 v0) 0x00000000#32 reduces_S256x1024_S256 (.inl rfl) rfl) shapeCasts_S256_S256x1)
        (broadcast S256x1 (Scalar.ofBits .f32 0x44800000#32))) (broadcast S256x1 (Scalar.ofBits .f32 0x358637BD#32)))) broadcasts_S256x1_S256x1024))
        (broadcastTo S256x1024 (shapeCast S1x1024 v1 shapeCasts_S1x1024_S1x1024) broadcasts_S1x1024_S256x1024) : FVec Ideal S256x1024 .f32) (ix2 r k)
      = rms v0 (fun d => v1 (ix2 (0 : Fin 1) d)) r k := fun k => by
    rw [shapeCast_self]
    exact norm_block v0 v1 _ _ _ _ _ _ r k
  have hm : ∀ w : Vec Ideal S1x1024x256 .bf16, FloatOps.matmul (DotDims.plain 256 1024 256) none
        (truncf .bf16 (mulf (mulf v0 (broadcastTo S256x1024 (rsqrt (addf (divf (shapeCast S256x1
        (multiReduction .add [1] S256 (mulf v0 v0) 0x00000000#32 reduces_S256x1024_S256 (.inl rfl) rfl) shapeCasts_S256_S256x1)
        (broadcast S256x1 (Scalar.ofBits .f32 0x44800000#32))) (broadcast S256x1 (Scalar.ofBits .f32 0x358637BD#32)))) broadcasts_S256x1_S256x1024))
        (broadcastTo S256x1024 (shapeCast S1x1024 v1 shapeCasts_S1x1024_S1x1024) broadcasts_S1x1024_S256x1024) : FVec Ideal S256x1024 .f32) bitsLt_bf16_f32)
        (shapeCast S1024x256 w shapeCasts_S1x1024x256_S1024x256) (constant S256x256 .f32 0x00000000#32) (ix2 r f)
      = ∑ k : Fin 1024, rms v0 (fun d => v1 (ix2 (0 : Fin 1) d)) r k * w (ix3 (0 : Fin 1) k f) := fun w => by
    refine (matmul_block none _ _ r f).trans (Finset.sum_congr rfl fun k _ => ?_)
    rw [shapeCast_1ab_ab_apply]
    exact congrArg (· * _) (hn k)
  unfold hidden sigm
  rw [← hm v16, ← hm v19]
  have hz : ∀ z : EReal, -z = Ideal.ofBits .f32 0x00000000#32 - z := fun z => by rw [Ideal.ofBits_zero_f32, zero_sub]
  rw [hz]
  rfl

variable (m : (ℓ : Loc nD τ sig) → Buf (Elt Ideal) ℓ) (hO : Ok m)

theorem hz2 : (![0, 0] : Fin 2 → Nat) = fun _ => 0 := funext fun a => by fin_cases a <;> rfl
theorem hz3 : (![0, 0, 0] : Fin 3 → Nat) = fun _ => 0 := funext fun a => by fin_cases a <;> rfl

/-- What the output window's buffer holds after a point. -/
theorem outs_eq (c : Dev nD) (t : Fin (cfgM m hO).N) :
    outsAt0 m hO c t = k0_pay1 (iblk m hO c 0 t) (iblk m hO c 1 t) (iblk m hO c 2 t) (iblk m hO c 3 t) (iblk m hO c 4 t) := by
  unfold outsAt0 out0_A_5 kernelRun0_A
  refine (View.read_writes_full _ _ _ _ _).trans ?_
  unfold kernelRun0_A.sl.r
  have hcongr : ∀ {a a' : Vec Ideal S256x1024 .f32} {b b' : Vec Ideal S1x1024 .f32} {c c' d d' : Vec Ideal S1x1024x256 .bf16}
      {e e' : Vec Ideal S1x256x1024 .bf16}, a = a' → b = b' → c = c' → d = d' → e = e' → k0_pay1 a b c d e = k0_pay1 a' b' c' d' e' := by
    intro a a' b b' c c' d d' e e' h1 h2 h3 h4 h5
    subst h1 h2 h3 h4 h5
    rfl
  exact hcongr ((View.readAt_full _ _ _).trans (Memref.IsWhole.read_unread _ _)) ((View.readAt_full _ _ _).trans (Memref.IsWhole.read_unread _ _))
    ((View.readAt_full _ _ _).trans (Memref.IsWhole.read_unread _ _)) ((View.readAt_full _ _ _).trans (Memref.IsWhole.read_unread _ _))
    ((View.readAt_full _ _ _).trans (Memref.IsWhole.read_unread _ _))

/-- A grid point's coordinate is its number. -/
theorem coord_val (t : Fin grid0.N) : (grid0.coords t 0).val = t.val := by
  have h := Pipeline.Grid.coords_val (G := grid0) t 0 (S := 1) (B := 545) (by decide) rfl
  have h2 : t.val < 545 := lt_of_lt_of_eq t.isLt N_0
  rw [h]; omega

theorem word_val (t : Fin grid0.N) : (BitVec.ofNat 32 (grid0.coords t 0).val).toNat = t.val := by
  have h2 : t.val < 545 := lt_of_lt_of_eq t.isLt N_0
  rw [BitVec.toNat_ofNat, coord_val, Nat.mod_eq_of_lt (by omega)]

/-- The row of the array that a block's row is. -/
abbrev row (t : Fin grid0.N) (r : Fin 256) : Fin 139520 :=
  ⟨t.val * 256 + r.val, by have h2 : t.val < 545 := lt_of_lt_of_eq t.isLt N_0; have := r.isLt; omega⟩

/-- The block of rows. -/
theorem rows_apply (c : Dev nD) (t : Fin grid0.N) (r : Fin 256) (d : Fin 1024) :
    (iblk m hO c 0 t : Vec Ideal S256x1024 .f32) (ix2 r d) = V m c main_arg1 (ix2 (row t r) d) := by
  refine congrArg (V m c main_arg1) (funext fun a => Fin.ext ?_)
  refine (Pipeline.Window.rect_emb_val (((cfgM m hO).win 0)) t (ix2 r d) a).trans ?_
  match a with
  | ⟨0, _⟩ => exact congrArg (· * 256 + r.val) (word_val t)
  | ⟨1, _⟩ => exact Nat.zero_add _

/-- The gain. -/
theorem gain_apply (c : Dev nD) (t : Fin grid0.N) (d : Fin 1024) :
    (iblk m hO c 1 t : Vec Ideal S1x1024 .f32) (ix2 (0 : Fin 1) d) = V m c main_v0 (ix2 (0 : Fin 1) d) := by
  refine congrArg (V m c main_v0) (funext fun a => Fin.ext ?_)
  refine (Pipeline.Window.rect_emb_val (((cfgM m hO).win 1)) t (ix2 (0 : Fin 1) d) a).trans ?_
  match a with
  | ⟨0, _⟩ => rfl
  | ⟨1, _⟩ => exact Nat.zero_add _

/-- The table entry of a point. -/
abbrev entry (t : Fin grid0.N) : BitVec 32 := tbl m 0 (ix1 ⟨t.val, lt_of_lt_of_eq t.isLt N_0⟩)

theorem at_eq (t : Fin grid0.N) :
    ((tbl m).at 0 (Rect.unit (s := S545) ![(Scalar.indexCast (BitVec.ofNat 32 (grid0.coords t 0).val)).toNat] S1.size (k0_off1_inb (grid0.coords t))) numel1_S1 : BitVec 32)
      = entry m t := by
  refine congrArg (tbl m 0) (funext fun a => Fin.ext ?_)
  match a with
  | ⟨0, _⟩ =>
    refine (Rect.emb_apply _ _ _).trans ?_
    show (Scalar.indexCast (BitVec.ofNat 32 (grid0.coords t 0).val)).toNat + 1 * 0 = t.val
    exact (congrFun (k0_off1_eq (grid0.coords t)) 0).trans (coord_val t)

/-- The gate weights of the point's expert. -/
theorem gateW_apply (c : Dev nD) (t : Fin grid0.N) (e : Fin 32) (he : (entry m t).toNat = e.val) (k : Fin 1024) (f : Fin 256) :
    (iblk m hO c 2 t : Vec Ideal S1x1024x256 .bf16) (ix3 (0 : Fin 1) k f) = V m c main_v1 (ix3 e k f) := by
  refine congrArg (V m c main_v1) (funext fun a => Fin.ext ?_)
  refine (Pipeline.Window.rect_emb_val (((cfgM m hO).win 2)) t (ix3 (0 : Fin 1) k f) a).trans ?_
  match a with
  | ⟨0, _⟩ =>
    rw [← at_eq m t] at he
    exact (congrArg (· * 1 + 0) he).trans (Nat.mul_one _)
  | ⟨1, _⟩ => exact Nat.zero_add _
  | ⟨2, _⟩ => exact Nat.zero_add _

/-- The up weights of the point's expert. -/
theorem upW_apply (c : Dev nD) (t : Fin grid0.N) (e : Fin 32) (he : (entry m t).toNat = e.val) (k : Fin 1024) (f : Fin 256) :
    (iblk m hO c 3 t : Vec Ideal S1x1024x256 .bf16) (ix3 (0 : Fin 1) k f) = V m c main_v2 (ix3 e k f) := by
  refine congrArg (V m c main_v2) (funext fun a => Fin.ext ?_)
  refine (Pipeline.Window.rect_emb_val (((cfgM m hO).win 3)) t (ix3 (0 : Fin 1) k f) a).trans ?_
  match a with
  | ⟨0, _⟩ =>
    rw [← at_eq m t] at he
    exact (congrArg (· * 1 + 0) he).trans (Nat.mul_one _)
  | ⟨1, _⟩ => exact Nat.zero_add _
  | ⟨2, _⟩ => exact Nat.zero_add _

/-- The down weights of the point's expert. -/
theorem downW_apply (c : Dev nD) (t : Fin grid0.N) (e : Fin 32) (he : (entry m t).toNat = e.val) (f : Fin 256) (d : Fin 1024) :
    (iblk m hO c 4 t : Vec Ideal S1x256x1024 .bf16) (ix3 (0 : Fin 1) f d) = V m c main_v3 (ix3 e f d) := by
  refine congrArg (V m c main_v3) (funext fun a => Fin.ext ?_)
  refine (Pipeline.Window.rect_emb_val (((cfgM m hO).win 4)) t (ix3 (0 : Fin 1) f d) a).trans ?_
  match a with
  | ⟨0, _⟩ =>
    rw [← at_eq m t] at he
    exact (congrArg (· * 1 + 0) he).trans (Nat.mul_one _)
  | ⟨1, _⟩ => exact Nat.zero_add _
  | ⟨2, _⟩ => exact Nat.zero_add _

end Cert.Layer.FfnReal

end
-- ==== Proof.FfnRef.lean ====
/- The reference of the expert layer read at an index: of the sum over the thirty-two experts, each weighted by whether the
   row's table entry names it, the one named expert remains. -/
module

public import proofs.«01_k».proof.Proof.Math
public import proofs.«01_k».proof.Proof.Gen.FfnReferenceIdeal.Read
public import Idealize.ShloMosaic.Lib.StableHlo.Predicate

@[expose] public section

noncomputable section

namespace Cert.Layer.FfnRef

open Idealize.ShloMosaic Idealize.ShloMosaic.ValueIdx Cert.FfnReferenceIdeal Cert.FfnReferenceIdeal.Gen Cert.FfnReferenceIdeal.Read
open scoped BigOperators

variable (x0 : (⟨S545, .i32⟩ : BufTy).Contents (Elt Ideal)) (x1 : (⟨S139520x1024, .f32⟩ : BufTy).Contents (Elt Ideal))
  (x2 : (⟨S1024, .f32⟩ : BufTy).Contents (Elt Ideal)) (x3 x4 : (⟨S32x1024x256, .f32⟩ : BufTy).Contents (Elt Ideal))
  (x5 : (⟨S32x256x1024, .f32⟩ : BufTy).Contents (Elt Ideal))

/-- The normalised rows. -/
theorem norm_apply (i : S139520x1024.Idx) :
    val_main_v12 (F := Ideal) x1 x2 i = rms x1 (fun d => x2 (ix1 d)) (i 0) (i 1) := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  simp only [val_main_v0_apply, val_main_cst_apply, val_main_cst_0_apply, val_main_cst_1_apply, Ideal.mulf_def, Ideal.addf_def,
    Ideal.hostDivf_def, Ideal.hostUnary_rsqrt_def, Ideal.ofBits_def, Ideal.ofBits_zero_f32, zero_add]
  unfold rms
  have e2 : ∀ k : Fin 1024, idx_main_v1 (idx_main_v2 (idx_main_v8 i)) k = ix2 (i 0) k := fun k => by
    funext a; match a with
    | ⟨0, _⟩ => rfl
    | ⟨1, _⟩ => rfl
  have e3 : idx_main_v10 (idx_main_v11 i) = ix1 (i 1) := by
    funext a; match a with
    | ⟨0, _⟩ => rfl
  simp only [e2, e3]
  exact congrArg₂ (· * ·) (congrArg₂ (· * ·) (congrArg x1 (eq_ix2 i)) rfl) rfl

/-- The gate projection of expert `i 0` for row `i 1`. -/
theorem gate_apply (i : S32x139520x256.Idx) :
    val_main_v18 (F := Ideal) x1 x2 x3 i
      = ∑ k : Fin 1024, rms x1 (fun d => x2 (ix1 d)) (i 1) k * x3 (ix3 (i 0) k (i 2)) := by
  rw [val_main_v18_apply, val_main_v17_apply]
  refine Finset.sum_congr rfl fun k _ => ?_
  rw [norm_apply, mul_comm]
  have e : lidx_main_v17 (idx_main_v18 i) k = ix3 (i 0) k (i 2) := by
    funext a; match a with
    | ⟨0, _⟩ => rfl
    | ⟨1, _⟩ => rfl
    | ⟨2, _⟩ => rfl
  rw [e]
  rfl

/-- The up projection. -/
theorem up_apply (i : S32x139520x256.Idx) :
    val_main_v21 (F := Ideal) x1 x2 x4 i
      = ∑ k : Fin 1024, rms x1 (fun d => x2 (ix1 d)) (i 1) k * x4 (ix3 (i 0) k (i 2)) := by
  rw [val_main_v21_apply, val_main_v20_apply]
  refine Finset.sum_congr rfl fun k _ => ?_
  rw [norm_apply, mul_comm]
  have e : lidx_main_v20 (idx_main_v21 i) k = ix3 (i 0) k (i 2) := by
    funext a; match a with
    | ⟨0, _⟩ => rfl
    | ⟨1, _⟩ => rfl
    | ⟨2, _⟩ => rfl
  rw [e]
  rfl

/-- The hidden values. -/
theorem hidden_apply (i : S32x139520x256.Idx) :
    val_main_v22 (F := Ideal) x1 x2 x3 x4 i
      = hidden (fun k => rms x1 (fun d => x2 (ix1 d)) (i 1) k) (fun k => x3 (ix3 (i 0) k (i 2))) (fun k => x4 (ix3 (i 0) k (i 2))) := by
  rw [val_main_v22_apply, val_main_v19_apply, val_main_call1_v5_apply, val_main_call1_v4_apply, val_main_call1_v3_apply,
    val_main_call1_v2_apply, val_main_call1_v1_apply, val_main_call1_v0_apply, gate_apply, up_apply]
  simp only [val_main_call1_cst_apply, val_main_call1_cst_0_apply, Ideal.mulf_def, Ideal.addf_def, Ideal.hostDivf_def,
    Ideal.hostUnary_exp_def, Ideal.hostNegf_def, Ideal.negf_def, Ideal.ofBits_def]
  rfl

/-- Every expert's output. -/
theorem out_apply (i : S32x139520x1024.Idx) :
    val_main_v23 (F := Ideal) x1 x2 x3 x4 x5 i
      = expert (fun k => rms x1 (fun d => x2 (ix1 d)) (i 1) k) (fun k f => x3 (ix3 (i 0) k f)) (fun k f => x4 (ix3 (i 0) k f))
          (fun f d => x5 (ix3 (i 0) f d)) (i 2) := by
  rw [val_main_v23_apply]
  unfold expert
  refine Finset.sum_congr rfl fun f _ => ?_
  rw [hidden_apply]
  have e : ridx_main_v23 i f = ix3 (i 0) f (i 2) := by
    funext a; match a with
    | ⟨0, _⟩ => rfl
    | ⟨1, _⟩ => rfl
    | ⟨2, _⟩ => rfl
  rw [e]
  rfl

/-- The weight of expert `i 0` for row `i 1`: one where the row's table entry is that number, zero elsewhere. -/
theorem weight_apply (i : S32x139520x1024.Idx) :
    val_main_v25 (F := Ideal) x0 i
      = if x0 (ix1 ⟨(i 1).val / 256, by have : (i 1).val < 139520 := (i 1).isLt; omega⟩) = BitVec.ofNat 32 (i 0).val then 1 else 0 := by
  rw [val_main_v25_apply, val_main_v24_apply, val_main_v16_apply, val_main_call0_v4_apply, val_main_call0_v2_apply,
    val_main_call0_v0_apply, val_main_v15_apply, val_main_v14_apply, val_main_v13_apply, val_main_call0_v3_apply,
    val_main_call0_v1_apply]
  have e : idx_main_v13 (idx_main_v14 (idx_main_v15 (idx_main_call0_v0 (idx_main_call0_v2 (idx_main_v24 (idx_main_v25 i))))))
      = ix1 ⟨(i 1).val / 256, by have : (i 1).val < 139520 := (i 1).isLt; omega⟩ := by
    funext a; match a with
    | ⟨0, _⟩ => rfl
  rw [e]
  split
  · rename_i h
    rw [StableHlo.Predicate.cmpi_eq_iff.mpr h]
    show (((1#1 : BitVec 1).toNat : ℝ) : EReal) = 1
    simp
  · rename_i h
    rw [eq_zero_of_ne_one fun h' => h (StableHlo.Predicate.cmpi_eq_iff.mp h')]
    show (((0#1 : BitVec 1).toNat : ℝ) : EReal) = 0
    simp

/-- THE REFERENCE AT AN INDEX: the output of the expert the row's table entry names. -/
theorem result_apply (hx : ∀ j, (x0 j).toNat < 32) (i : S139520x1024.Idx) (e : Fin 32)
    (he : (x0 (ix1 ⟨(i 0).val / 256, by have : (i 0).val < 139520 := (i 0).isLt; omega⟩)).toNat = e.val) :
    val_main_v27 (F := Ideal) x0 x1 x2 x3 x4 x5 i
      = expert (fun k => rms x1 (fun d => x2 (ix1 d)) (i 0) k) (fun k f => x3 (ix3 e k f)) (fun k f => x4 (ix3 e k f))
          (fun f d => x5 (ix3 e f d)) (i 1) := by
  rw [val_main_v27_apply, Finset.sum_eq_single e]
  · rw [val_main_v26_apply, out_apply, weight_apply, if_pos]
    · simp only [val_main_cst_2_apply, Ideal.mulf_def, Ideal.ofBits_def, Ideal.ofBits_zero_f32, zero_add, mul_one]
      rfl
    · refine BitVec.eq_of_toNat_eq ?_
      rw [BitVec.toNat_ofNat]
      show _ = e.val % 2 ^ 32
      rw [Nat.mod_eq_of_lt (by omega)]
      exact he
  · intro k _ hk
    rw [val_main_v26_apply, weight_apply, if_neg, Ideal.mulf_def, mul_zero]
    intro h
    refine hk (Fin.ext ?_)
    have h2 := congrArg BitVec.toNat h
    rw [BitVec.toNat_ofNat, Nat.mod_eq_of_lt (show k.val < 2 ^ 32 by omega)] at h2
    exact h2.symm.trans he
  · exact fun h => absurd (Finset.mem_univ e) h

end Cert.Layer.FfnRef

end
-- ==== Proof.FfnValue.lean ====
/- The expert layer's claims: the kernel's result array index by index, and the reference's, both at the named expert. -/
module

public import proofs.«01_k».proof.Proof.FfnKernel
public import proofs.«01_k».proof.Proof.FfnRef
public import proofs.«01_k».proof.Proof.Gen.FfnReferenceIdeal.Run
public import Idealize.ShloMosaic.Lib.Pipeline.Value
public import Idealize.ShloMosaic.Lib.Quiescent

@[expose] public section

noncomputable section

namespace Cert.Layer.FfnReal

open Idealize.ShloMosaic Idealize.ShloMosaic.TcCoe Idealize.ShloMosaic.ValueIdx Idealize.SL.Sem Cert.FfnIdeal Cert.FfnIdeal.Gen
open scoped BigOperators

variable (m : (ℓ : Loc nD τ sig) → Buf (Elt Ideal) ℓ) (ρ : Dev nD → PrngReg)

/-! ## What the region finds in the arrays the host wrote -/

theorem V_gain (c : Dev nD) (d : Fin 1024) :
    V m c main_v0 (ix2 (0 : Fin 1) d) = m ((c : Thread nD τ).loc main_arg2) (ix1 d) := by
  have h : V m c main_v0 = shapeCast S1x1024 (m ((c : Thread nD τ).loc main_arg2)) shapeCasts_S1024_S1x1024 := by
    simp only [V, hostOps0]
    after_results_simp <;> rfl
  rw [h]
  exact shapeCast_a_1a_apply _ _ (0 : Fin 1) d

theorem V_gate (c : Dev nD) (i : S32x1024x256.Idx) : V m c main_v1 i = m ((c : Thread nD τ).loc main_arg3) i := by
  have h : V m c main_v1 = truncf (F := Ideal) .bf16 (m ((c : Thread nD τ).loc main_arg3)) bitsLt_bf16_f32 := by
    simp only [V, hostOps0]
    after_results_simp <;> rfl
  rw [h]
  rfl

theorem V_up (c : Dev nD) (i : S32x1024x256.Idx) : V m c main_v2 i = m ((c : Thread nD τ).loc main_arg4) i := by
  have h : V m c main_v2 = truncf (F := Ideal) .bf16 (m ((c : Thread nD τ).loc main_arg4)) bitsLt_bf16_f32 := by
    simp only [V, hostOps0]
    after_results_simp <;> rfl
  rw [h]
  rfl

theorem V_down (c : Dev nD) (i : S32x256x1024.Idx) : V m c main_v3 i = m ((c : Thread nD τ).loc main_arg5) i := by
  have h : V m c main_v3 = truncf (F := Ideal) .bf16 (m ((c : Thread nD τ).loc main_arg5)) bitsLt_bf16_f32 := by
    simp only [V, hostOps0]
    after_results_simp <;> rfl
  rw [h]
  rfl

/-! ## The result array -/

variable (h : ∀ (c : Dev nD) (j : S545.Idx), (m ((c : Thread nD τ).loc main_arg0) j : BitVec 32).toNat < 32)

/-- The expert row `r` names. -/
def expertOf (c : Dev nD) (r : Fin 139520) : Fin 32 :=
  ⟨(m ((c : Thread nD τ).loc main_arg0) (ix1 ⟨r.val / 256, by have := r.isLt; omega⟩) : BitVec 32).toNat, h c _⟩

/-- The layer: each row through the expert it names. -/
def layer (c : Dev nD) : Buf (Elt Ideal) ((c : Thread nD τ).loc main_v4) := fun i : S139520x1024.Idx =>
  expert (fun k => rms (m ((c : Thread nD τ).loc main_arg1)) (fun d => m ((c : Thread nD τ).loc main_arg2) (ix1 d)) (i 0) k)
    (fun k f => m ((c : Thread nD τ).loc main_arg3) (ix3 (expertOf m h c (i 0)) k f))
    (fun k f => m ((c : Thread nD τ).loc main_arg4) (ix3 (expertOf m h c (i 0)) k f))
    (fun f d => m ((c : Thread nD τ).loc main_arg5) (ix3 (expertOf m h c (i 0)) f d)) (i 1)

/-- The point's table entry names its rows' expert. -/
theorem entry_eq (c : Dev nD) (t : Fin grid0.N) (r : Fin 256) : (entry m t).toNat = (expertOf m h c (row t r)).val := by
  have e : tbl m 0 = m ((c : Thread nD τ).loc main_arg0) := (V_pre m c 0).symm.trans (V_main_arg0 m c)
  show (tbl m 0 _ : BitVec 32).toNat = (m ((c : Thread nD τ).loc main_arg0) _ : BitVec 32).toNat
  rw [e]
  refine congrArg (fun j => (m ((c : Thread nD τ).loc main_arg0) j : BitVec 32).toNat) (congrArg ix1 (Fin.ext ?_))
  show t.val = (t.val * 256 + r.val) / 256
  have := r.isLt; omega

/-- The block a point leaves, at an index. -/
theorem block_apply (hO : Ok m) (c : Dev nD) (t : Fin grid0.N) (r : Fin 256) (d : Fin 1024) :
    (outsAt0 m hO c t : Vec Ideal S256x1024 .f32) (ix2 r d) = layer m h c (ix2 (row t r) d) := by
  refine (congrFun (outs_eq m hO c t) (ix2 r d)).trans ((pay_apply _ _ _ _ _ r d).trans ?_)
  have he := entry_eq m h c t r
  have h0 : ∀ (r : Fin 256) (k : Fin 1024), (iblk m hO c 0 t : Vec Ideal S256x1024 .f32) (ix2 r k)
      = m ((c : Thread nD τ).loc main_arg1) (ix2 (row t r) k) := fun r k => by rw [rows_apply, V_main_arg1]
  have hr : ∀ k, rms (iblk m hO c 0 t) (fun d => (iblk m hO c 1 t : Vec Ideal S1x1024 .f32) (ix2 (0 : Fin 1) d)) r k
      = rms (m ((c : Thread nD τ).loc main_arg1)) (fun d => m ((c : Thread nD τ).loc main_arg2) (ix1 d)) (row t r) k := fun k => by
    unfold rms
    simp only [h0, gain_apply]
    exact congrArg (_ * ·) (V_gain m c k)
  unfold layer
  refine congr (congr (congr (congr (congrArg expert (funext hr)) ?_) ?_) ?_) rfl
  · exact funext fun k => funext fun f => (gateW_apply m hO c t _ he k f).trans (V_gate m c _)
  · exact funext fun k => funext fun f => (upW_apply m hO c t _ he k f).trans (V_up m c _)
  · exact funext fun f => funext fun d => (downW_apply m hO c t _ he f d).trans (V_down m c _)

/-- An element of the output block, placed in the array. -/
theorem out_emb (hO : Ok m) (t : Fin grid0.N) (r : Fin 256) (d : Fin 1024) :
    ((((cfgM m hO).win 5).blk t).view.emb (ix2 r d) : S139520x1024.Idx) = ix2 (row t r) d := by
  refine funext fun a => Fin.ext ((Pipeline.Window.rect_emb_val (((cfgM m hO).win 5)) t (ix2 r d) a).trans ?_)
  match a with
  | ⟨0, _⟩ => exact congrArg (· * 256 + r.val) (word_val t)
  | ⟨1, _⟩ => exact Nat.zero_add _

/-- The output blocks cover the array. -/
theorem cover (hO : Ok m) (i : S139520x1024.Idx) :
    ∃ t : Fin (cfgM m hO).N, ((cfgM m hO).win 5).flush t = true ∧ i ∈ (((cfgM m hO).win 5).blk t).view.set := by
  have hi : (i 0).val < 139520 := (i 0).isLt
  have e : ∃ (t : Fin grid0.N) (r : Fin 256) (d : Fin 1024), i = ix2 (row t r) d :=
    ⟨⟨(i 0).val / 256, by rw [N_0]; omega⟩, ⟨(i 0).val % 256, Nat.mod_lt _ (by decide)⟩, i 1,
      (eq_ix2 i).trans (congrArg (ix2 · (i 1)) (Fin.ext (by
        show (i 0).val = (i 0).val / 256 * 256 + (i 0).val % 256
        omega)))⟩
  obtain ⟨t, r, d, rfl⟩ := e
  exact ⟨t, flush0_5 _ t, Eq.mp (congrArg (fun j => j ∈ (((cfgM m hO).win 5).blk t).view.set) (out_emb m hO t r d))
    (View.emb_mem_set _ _)⟩

/-- The output array after the run. -/
theorem final (hO : Ok m) (c : Dev nD) : (dats m hO 0 c).arrAt 5 (cfgM m hO).N = layer m h c := by
  refine (dats m hO 0 c).arrAt_eq_of_cover 5 (layer m h c) (fun t _ => ?_) (cover m hO)
  funext y
  refine (congrFun (after0_5 m hO c t) y).trans ?_
  have hy : ∀ y : S256x1024.Idx, (outsAt0 m hO c t : Vec Ideal S256x1024 .f32) y = (((cfgM m hO).win 5).blk t).view.read (Elt Ideal) (layer m h c) y := by
    intro y
    rw [eq_ix2 y]
    exact (block_apply m h hO c t (y 0) (y 1)).trans (congrArg (layer m h c) (out_emb m hO t (y 0) (y 1)).symm)
  exact hy y

/-- THE RUN: the result array holds the layer, the arguments as launched. -/
theorem run (hO : Ok m) : θ_run defs (onTc (τ := τ) (main (F := Ideal))) ⟨m, fun _ => 0, ρ⟩ (fun r => ∀ c : Dev nD,
      r.2.mem ((c.tc : Thread nD τ).loc main_v4) = layer m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨((hr.1 c).1 5).trans (final m h hO c), hr.2 c⟩)
    (θ_run_and (run_main m ρ hO) (unchanged m ρ hO))

end Cert.Layer.FfnReal

namespace Cert.Layer

open Idealize.ShloMosaic Idealize.ShloMosaic.TcCoe Idealize.ShloMosaic.ValueIdx Idealize.SL.Sem

/-- Over the reals the expert kernel computes its reference: at every index both are the named expert's output. -/
theorem ffn_algebraic : Cert.algebraic_FfnIdeal_FfnReferenceIdeal := by
  intro m ρ m' ρ' hpre hagree
  have h : ∀ (c : Dev FfnIdeal.nD) (j : FfnIdeal.S545.Idx),
      (m ((c : Thread FfnIdeal.nD FfnIdeal.τ).loc FfnIdeal.main_arg0) j : BitVec 32).toNat < 32 :=
    fun c j => entry_lt _ _ _ _ _ _ (hpre c) j
  refine ⟨FfnReal.layer m h, FfnReal.run m ρ h (FfnReal.ok_of_lt m (h 0)), ?_⟩
  refine (θ_run FfnReferenceIdeal.defs _ _).mono (fun r hr c => ⟨(hr c).1.trans ?_, (hr c).2⟩)
    (FfnReferenceIdeal.Value.run (F := Ideal) m' ρ')
  refine Eq.trans (FfnReferenceIdeal.Read.val_main_v27_eq _ _ _ _ _ _) ?_
  obtain ⟨a0, a1, a2, a3, a4, a5⟩ := hagree c
  rw [a0, a1, a2, a3, a4, a5]
  funext i
  exact FfnRef.result_apply _ _ _ _ _ _ (h c) i (FfnReal.expertOf m h c (i 0)) rfl

/-- The expert kernel's frame, in words. -/
theorem ffn_frame : Cert.quiescent_Ffn := fun m ρ hpre =>
  Ffn.Gen.frame m ρ (FfnBits.ok_of_lt m fun j => entry_lt _ _ _ _ _ _ (hpre 0) j)

/-- The expert kernel's frame, over the reals. -/
theorem ffnIdeal_frame : Cert.quiescent_FfnIdeal := fun m ρ hpre =>
  FfnIdeal.Gen.frame m ρ (FfnReal.ok_of_lt m fun j => entry_lt _ _ _ _ _ _ (hpre 0) j)

/-- The reference's frame. -/
theorem ffnReference_frame (m : (ℓ : Loc FfnReferenceIdeal.nD FfnReferenceIdeal.τ FfnReferenceIdeal.sig) → Buf (Elt Ideal) ℓ)
    (ρ : Dev FfnReferenceIdeal.nD → PrngReg) : θ_run (FfnReferenceIdeal.defs (F := Ideal))
      (onTc (τ := FfnReferenceIdeal.τ) (FfnReferenceIdeal.main (F := Ideal))) ⟨m, fun _ => 0, ρ⟩ (fun r => (∀ c : Dev FfnReferenceIdeal.nD,
      r.2.mem ((c.tc : Thread FfnReferenceIdeal.nD FfnReferenceIdeal.τ).loc FfnReferenceIdeal.main_arg0) = m ((c.tc : Thread FfnReferenceIdeal.nD FfnReferenceIdeal.τ).loc FfnReferenceIdeal.main_arg0)
      ∧ r.2.mem ((c.tc : Thread FfnReferenceIdeal.nD FfnReferenceIdeal.τ).loc FfnReferenceIdeal.main_arg1) = m ((c.tc : Thread FfnReferenceIdeal.nD FfnReferenceIdeal.τ).loc FfnReferenceIdeal.main_arg1)
      ∧ r.2.mem ((c.tc : Thread FfnReferenceIdeal.nD FfnReferenceIdeal.τ).loc FfnReferenceIdeal.main_arg2) = m ((c.tc : Thread FfnReferenceIdeal.nD FfnReferenceIdeal.τ).loc FfnReferenceIdeal.main_arg2)
      ∧ r.2.mem ((c.tc : Thread FfnReferenceIdeal.nD FfnReferenceIdeal.τ).loc FfnReferenceIdeal.main_arg3) = m ((c.tc : Thread FfnReferenceIdeal.nD FfnReferenceIdeal.τ).loc FfnReferenceIdeal.main_arg3)
      ∧ r.2.mem ((c.tc : Thread FfnReferenceIdeal.nD FfnReferenceIdeal.τ).loc FfnReferenceIdeal.main_arg4) = m ((c.tc : Thread FfnReferenceIdeal.nD FfnReferenceIdeal.τ).loc FfnReferenceIdeal.main_arg4)
      ∧ r.2.mem ((c.tc : Thread FfnReferenceIdeal.nD FfnReferenceIdeal.τ).loc FfnReferenceIdeal.main_arg5) = m ((c.tc : Thread FfnReferenceIdeal.nD FfnReferenceIdeal.τ).loc FfnReferenceIdeal.main_arg5))
      ∧ r.2.sem = fun _ => 0) :=
  (θ_run FfnReferenceIdeal.defs _ _).mono
    (fun r h => ⟨fun c => (h c).2, Idealize.ShloMosaic.sem_eq_zero_of_no_sems (by decide) r.2⟩)
    (FfnReferenceIdeal.Value.run (F := Ideal) m ρ)

end Cert.Layer

end
-- ==== Proof.InProj.lean ====
/- The input projection's claim: the normalised rows times the joined weight, in three column ranges, against the product of
   the whole weight cut into the three. -/
module

public import proofs.«01_k».proof.Proof.Block
public import proofs.«01_k».proof.Proof.Gen.InProjIdeal.Value
public import proofs.«01_k».proof.Proof.Gen.InProjReferenceIdeal.Read
public import proofs.«01_k».proof.Proof.Gen.InProjReferenceIdeal.Run
public import proofs.«01_k».proof.Defs

@[expose] public section

noncomputable section

namespace Cert.Layer

open Idealize.ShloMosaic Idealize.ShloMosaic.ValueIdx
open scoped BigOperators

/-- Row `r` normalised, times column `q` of the weight. -/
def inProj (h : (⟨2, ![65664, 1024]⟩ : Shape).Idx → EReal) (g : (⟨1, ![1024]⟩ : Shape).Idx → EReal)
    (w : (⟨2, ![1024, 2816]⟩ : Shape).Idx → EReal) (r : Fin 65664) (q : Fin 2816) : EReal :=
  ∑ k : Fin 1024, rms h (fun d => g (ix1 d)) r k * w (ix2 k q)

namespace InProjRef

open Cert.InProjReferenceIdeal Cert.InProjReferenceIdeal.Gen Cert.InProjReferenceIdeal.Read

variable (x0 : (⟨S65664x1024, .f32⟩ : BufTy).Contents (Elt Ideal)) (x1 : (⟨S1024, .f32⟩ : BufTy).Contents (Elt Ideal))
  (x2 : (⟨S1024x2816, .f32⟩ : BufTy).Contents (Elt Ideal))

/-- The normalised rows. -/
theorem norm_apply (i : S65664x1024.Idx) :
    val_main_v12 (F := Ideal) x0 x1 i = rms x0 (fun d => x1 (ix1 d)) (i 0) (i 1) := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  simp only [val_main_v0_apply, val_main_cst_apply, val_main_cst_0_apply, val_main_cst_1_apply, Ideal.mulf_def, Ideal.addf_def,
    Ideal.hostDivf_def, Ideal.hostUnary_rsqrt_def, Ideal.ofBits_def, Ideal.ofBits_zero_f32, zero_add]
  unfold rms
  have e2 : ∀ k : Fin 1024, idx_main_v1 (idx_main_v2 (idx_main_v8 i)) k = ix2 (i 0) k := fun k => by
    funext a; match a with
    | ⟨0, _⟩ => rfl
    | ⟨1, _⟩ => rfl
  have e3 : idx_main_v10 (idx_main_v11 i) = ix1 (i 1) := by
    funext a; match a with
    | ⟨0, _⟩ => rfl
  simp only [e2, e3]
  exact congrArg₂ (· * ·) (congrArg₂ (· * ·) (congrArg x0 (eq_ix2 i)) rfl) rfl

/-- The whole product. -/
theorem product_apply (i : S65664x2816.Idx) : val_main_v13 (F := Ideal) x0 x1 x2 i = inProj x0 x1 x2 (i 0) (i 1) := by
  rw [val_main_v13_apply]
  unfold inProj
  refine Finset.sum_congr rfl fun k _ => congrArg₂ (· * ·) (norm_apply x0 x1 _) (congrArg x2 (funext fun a => ?_))
  match a with
  | ⟨0, _⟩ => rfl
  | ⟨1, _⟩ => rfl

end InProjRef

namespace InProjReal

open Idealize.ShloMosaic.TcCoe Idealize.SL.Sem Cert.InProjIdeal Cert.InProjIdeal.Gen

variable (m : (ℓ : Loc nD τ sig) → Buf (Elt Ideal) ℓ) (ρ : Dev nD → PrngReg)

/-- The normalised block. -/
theorem norm_apply (x0 : Vec Ideal S384x1024 .f32) (x1 : Vec Ideal S1x1024 .f32) (r : Fin 384) (k : Fin 1024) :
    k0_pay1 x0 x1 (ix2 r k) = rms x0 (fun d => x1 (ix2 (0 : Fin 1) d)) r k := by
  unfold k0_pay1
  rw [shapeCast_self]
  exact norm_block x0 x1 _ _ _ _ _ _ r k

theorem pay2_apply (x0 : Vec Ideal S384x1024 .f32) (x1 : Vec Ideal S1x1024 .f32) (w : Vec Ideal S1024x1792 .bf16) (r : Fin 384) (q : Fin 1792) :
    k0_pay2 x0 x1 w (ix2 r q) = ∑ k : Fin 1024, rms x0 (fun d => x1 (ix2 (0 : Fin 1) d)) r k * w (ix2 k q) := by
  unfold k0_pay2
  rw [shapeCast_self]
  exact (matmul_block none (k0_pay1 x0 x1) w r q).trans (Finset.sum_congr rfl fun k _ => congrArg (· * _) (norm_apply x0 x1 r k))

theorem pay3_apply (x0 : Vec Ideal S384x1024 .f32) (x1 : Vec Ideal S1x1024 .f32) (w : Vec Ideal S1024x512 .bf16) (r : Fin 384) (q : Fin 512) :
    k0_pay3 x0 x1 w (ix2 r q) = ∑ k : Fin 1024, rms x0 (fun d => x1 (ix2 (0 : Fin 1) d)) r k * w (ix2 k q) := by
  unfold k0_pay3
  rw [shapeCast_self]
  exact (matmul_block none (k0_pay1 x0 x1) w r q).trans (Finset.sum_congr rfl fun k _ => congrArg (· * _) (norm_apply x0 x1 r k))

theorem pay4_apply (x0 : Vec Ideal S384x1024 .f32) (x1 : Vec Ideal S1x1024 .f32) (w : Vec Ideal S1024x512 .bf16) (r : Fin 384) (q : Fin 512) :
    k0_pay4 x0 x1 w (ix2 r q) = ∑ k : Fin 1024, rms x0 (fun d => x1 (ix2 (0 : Fin 1) d)) r k * w (ix2 k q) := by
  unfold k0_pay4
  rw [shapeCast_self]
  exact (matmul_block none (k0_pay1 x0 x1) w r q).trans (Finset.sum_congr rfl fun k _ => congrArg (· * _) (norm_apply x0 x1 r k))

/-- A range of columns of the weight's block. -/
theorem cols_apply {M : ℕ} (o : ℕ) (x2 : Vec Ideal S1024x2816 .bf16)
    (inb : ∀ a, (![0, o] : Fin 2 → ℕ) a + (⟨2, ![1024, M]⟩ : Shape).size a ≤ S1024x2816.size a) (k : Fin 1024) (q : Fin M) (q' : Fin 2816)
    (hq : q'.val = o + q.val) :
    View.ld x2 (Rect.unit (s := S1024x2816) ![0, o] (⟨2, ![1024, M]⟩ : Shape).size inb) (ix2 k q) = x2 (ix2 k q') := by
  refine congrArg x2 (funext fun a => Fin.ext ?_)
  match a with
  | ⟨0, _⟩ => show 0 + 1 * k.val = k.val; omega
  | ⟨1, _⟩ => show o + 1 * q.val = q'.val; omega

theorem out3_apply (x0 : Vec Ideal S384x1024 .f32) (x1 : Vec Ideal S1x1024 .f32) (x2 : Vec Ideal S1024x2816 .bf16) (r : Fin 384) (q : Fin 1792)
    (q' : Fin 2816) (hq : q'.val = 0 + q.val) :
    out0_3 x0 x1 x2 (ix2 r q) = ∑ k : Fin 1024, rms x0 (fun d => x1 (ix2 (0 : Fin 1) d)) r k * x2 (ix2 k q') := by
  have hz : (![0, 0] : Fin 2 → Nat) = fun _ => 0 := by decide
  unfold out0_3
  rw [View.canon_unit_zero hz, View.ld_unit_zero hz, View.ld_unit_zero hz]
  exact (pay2_apply x0 x1 _ r q).trans (Finset.sum_congr rfl fun k _ => congrArg (_ * ·) (cols_apply 0 x2 _ k q q' hq))

theorem out4_apply (x0 : Vec Ideal S384x1024 .f32) (x1 : Vec Ideal S1x1024 .f32) (x2 : Vec Ideal S1024x2816 .bf16) (r : Fin 384) (q : Fin 512)
    (q' : Fin 2816) (hq : q'.val = 1792 + q.val) :
    out0_4 x0 x1 x2 (ix2 r q) = ∑ k : Fin 1024, rms x0 (fun d => x1 (ix2 (0 : Fin 1) d)) r k * x2 (ix2 k q') := by
  have hz : (![0, 0] : Fin 2 → Nat) = fun _ => 0 := by decide
  unfold out0_4
  rw [View.canon_unit_zero hz, View.ld_unit_zero hz, View.ld_unit_zero hz]
  exact (pay3_apply x0 x1 _ r q).trans (Finset.sum_congr rfl fun k _ => congrArg (_ * ·) (cols_apply 1792 x2 _ k q q' hq))

theorem out5_apply (x0 : Vec Ideal S384x1024 .f32) (x1 : Vec Ideal S1x1024 .f32) (x2 : Vec Ideal S1024x2816 .bf16) (r : Fin 384) (q : Fin 512)
    (q' : Fin 2816) (hq : q'.val = 2304 + q.val) :
    out0_5 x0 x1 x2 (ix2 r q) = ∑ k : Fin 1024, rms x0 (fun d => x1 (ix2 (0 : Fin 1) d)) r k * x2 (ix2 k q') := by
  have hz : (![0, 0] : Fin 2 → Nat) = fun _ => 0 := by decide
  unfold out0_5
  rw [View.canon_unit_zero hz, View.ld_unit_zero hz, View.ld_unit_zero hz]
  exact (pay4_apply x0 x1 _ r q).trans (Finset.sum_congr rfl fun k _ => congrArg (_ * ·) (cols_apply 2304 x2 _ k q q' hq))

/-- A grid point's coordinate is its number. -/
theorem word_val (t : Fin grid0.N) : (BitVec.ofNat 32 (grid0.coords t 0).val).toNat = t.val := by
  have h := Pipeline.Grid.coords_val (G := grid0) t 0 (S := 1) (B := 171) (by decide) rfl
  have h2 : t.val < 171 := lt_of_lt_of_eq t.isLt N_0
  rw [BitVec.toNat_ofNat, h, Nat.mod_eq_of_lt (by omega)]
  omega

/-- The row of the array that a block's row is. -/
abbrev row (t : Fin grid0.N) (r : Fin 384) : Fin 65664 :=
  ⟨t.val * 384 + r.val, by have h2 : t.val < 171 := lt_of_lt_of_eq t.isLt N_0; have := r.isLt; omega⟩

theorem h_apply (c : Dev nD) (t : Fin grid0.N) (r : Fin 384) (d : Fin 1024) :
    (iblk m c 0 t : Vec Ideal S384x1024 .f32) (ix2 r d) = m ((c : Thread nD τ).loc main_arg0) (ix2 (row t r) d) := by
  refine Eq.trans (congrArg (V m c main_arg0) (funext fun a => Fin.ext ?_)) (congrFun (V_main_arg0 m c) (ix2 (row t r) d))
  refine (Pipeline.Window.rect_emb_val (cfg0.win 0) t (ix2 r d) a).trans ?_
  match a with
  | ⟨0, _⟩ => exact congrArg (· * 384 + r.val) (word_val t)
  | ⟨1, _⟩ => exact Nat.zero_add _

theorem V_gain (c : Dev nD) (d : Fin 1024) : V m c main_v0 (ix2 (0 : Fin 1) d) = m ((c : Thread nD τ).loc main_arg1) (ix1 d) := by
  have h : V m c main_v0 = shapeCast S1x1024 (m ((c : Thread nD τ).loc main_arg1)) shapeCasts_S1024_S1x1024 := by
    simp only [V, hostOps0]
    after_results_simp <;> rfl
  rw [h]
  exact shapeCast_a_1a_apply _ _ (0 : Fin 1) d

theorem gain_apply (c : Dev nD) (t : Fin grid0.N) (d : Fin 1024) :
    (iblk m c 1 t : Vec Ideal S1x1024 .f32) (ix2 (0 : Fin 1) d) = m ((c : Thread nD τ).loc main_arg1) (ix1 d) := by
  refine Eq.trans (congrArg (V m c main_v0) (funext fun a => Fin.ext ?_)) (V_gain m c d)
  refine (Pipeline.Window.rect_emb_val (cfg0.win 1) t (ix2 (0 : Fin 1) d) a).trans ?_
  match a with
  | ⟨0, _⟩ => rfl
  | ⟨1, _⟩ => exact Nat.zero_add _

theorem V_w (c : Dev nD) (i : S1024x2816.Idx) : V m c main_v1 i = m ((c : Thread nD τ).loc main_arg2) i := by
  have h : V m c main_v1 = truncf (F := Ideal) .bf16 (m ((c : Thread nD τ).loc main_arg2)) bitsLt_bf16_f32 := by
    simp only [V, hostOps0]
    after_results_simp <;> rfl
  rw [h]
  rfl

theorem w_apply (c : Dev nD) (t : Fin grid0.N) (k : Fin 1024) (q : Fin 2816) :
    (iblk m c 2 t : Vec Ideal S1024x2816 .bf16) (ix2 k q) = m ((c : Thread nD τ).loc main_arg2) (ix2 k q) := by
  refine Eq.trans (congrArg (V m c main_v1) (funext fun a => Fin.ext ?_)) (V_w m c (ix2 k q))
  refine (Pipeline.Window.rect_emb_val (cfg0.win 2) t (ix2 k q) a).trans ?_
  match a with
  | ⟨0, _⟩ => exact Nat.zero_add _
  | ⟨1, _⟩ => exact (congrArg (· + q.val) (Nat.zero_mul 2816)).trans (Nat.zero_add _)

/-- What a point's blocks give at a row and a column of the weight. -/
theorem blocks_eq (c : Dev nD) (t : Fin grid0.N) (r : Fin 384) (q : Fin 2816) :
    (∑ k : Fin 1024, rms (iblk m c 0 t : Vec Ideal S384x1024 .f32) (fun d => (iblk m c 1 t : Vec Ideal S1x1024 .f32) (ix2 (0 : Fin 1) d)) r k
        * (iblk m c 2 t : Vec Ideal S1024x2816 .bf16) (ix2 k q))
      = inProj (m ((c : Thread nD τ).loc main_arg0)) (m ((c : Thread nD τ).loc main_arg1)) (m ((c : Thread nD τ).loc main_arg2)) (row t r) q := by
  unfold inProj
  refine Finset.sum_congr rfl fun k _ => congrArg₂ (· * ·) ?_ (w_apply m c t k q)
  have h0 := h_apply m c t r
  unfold rms
  simp only [h0]
  exact congrArg (_ * ·) (gain_apply m c t k)

/-- The three result arrays. -/
def result3 (c : Dev nD) : Buf (Elt Ideal) ((c : Thread nD τ).loc main_v2_0) := fun i : S65664x1792.Idx =>
  inProj (m ((c : Thread nD τ).loc main_arg0)) (m ((c : Thread nD τ).loc main_arg1)) (m ((c : Thread nD τ).loc main_arg2)) (i 0)
    ⟨0 + (i 1).val, by have : (i 1).val < 1792 := (i 1).isLt; omega⟩

def result4 (c : Dev nD) : Buf (Elt Ideal) ((c : Thread nD τ).loc main_v2_1) := fun i : S65664x512.Idx =>
  inProj (m ((c : Thread nD τ).loc main_arg0)) (m ((c : Thread nD τ).loc main_arg1)) (m ((c : Thread nD τ).loc main_arg2)) (i 0)
    ⟨1792 + (i 1).val, by have : (i 1).val < 512 := (i 1).isLt; omega⟩

def result5 (c : Dev nD) : Buf (Elt Ideal) ((c : Thread nD τ).loc main_v2_2) := fun i : S65664x512.Idx =>
  inProj (m ((c : Thread nD τ).loc main_arg0)) (m ((c : Thread nD τ).loc main_arg1)) (m ((c : Thread nD τ).loc main_arg2)) (i 0)
    ⟨2304 + (i 1).val, by have : (i 1).val < 512 := (i 1).isLt; omega⟩

theorem row_split (n : Fin 65664) : ∃ (t : Fin grid0.N) (r : Fin 384), n = row t r :=
  ⟨⟨n.val / 384, by have := n.isLt; rw [N_0]; omega⟩, ⟨n.val % 384, Nat.mod_lt _ (by decide)⟩, Fin.ext (by
    show n.val = n.val / 384 * 384 + n.val % 384
    omega)⟩

theorem emb3 (t : Fin grid0.N) (r : Fin 384) (q : Fin 1792) :
    (((cfg0.win 3).blk t).view.emb (ix2 r q) : S65664x1792.Idx) = ix2 (row t r) q := by
  refine funext fun a => Fin.ext ((Pipeline.Window.rect_emb_val (cfg0.win 3) t (ix2 r q) a).trans ?_)
  match a with
  | ⟨0, _⟩ => exact congrArg (· * 384 + r.val) (word_val t)
  | ⟨1, _⟩ => exact Nat.zero_add _

theorem emb4 (t : Fin grid0.N) (r : Fin 384) (q : Fin 512) :
    (((cfg0.win 4).blk t).view.emb (ix2 r q) : S65664x512.Idx) = ix2 (row t r) q := by
  refine funext fun a => Fin.ext ((Pipeline.Window.rect_emb_val (cfg0.win 4) t (ix2 r q) a).trans ?_)
  match a with
  | ⟨0, _⟩ => exact congrArg (· * 384 + r.val) (word_val t)
  | ⟨1, _⟩ => exact Nat.zero_add _

theorem emb5 (t : Fin grid0.N) (r : Fin 384) (q : Fin 512) :
    (((cfg0.win 5).blk t).view.emb (ix2 r q) : S65664x512.Idx) = ix2 (row t r) q := by
  refine funext fun a => Fin.ext ((Pipeline.Window.rect_emb_val (cfg0.win 5) t (ix2 r q) a).trans ?_)
  match a with
  | ⟨0, _⟩ => exact congrArg (· * 384 + r.val) (word_val t)
  | ⟨1, _⟩ => exact Nat.zero_add _

theorem cover3 (i : S65664x1792.Idx) : ∃ t : Fin cfg0.N, (cfg0.win 3).flush t = true ∧ i ∈ ((cfg0.win 3).blk t).view.set := by
  have e : ∃ (t : Fin grid0.N) (r : Fin 384) (q : Fin 1792), i = ix2 (row t r) q := by
    obtain ⟨t, r, h⟩ := row_split (i 0)
    exact ⟨t, r, i 1, (eq_ix2 i).trans (congrArg (ix2 · (i 1)) h)⟩
  obtain ⟨t, r, q, rfl⟩ := e
  exact ⟨t, flush0_3 t, Eq.mp (congrArg (fun j => j ∈ ((cfg0.win 3).blk t).view.set) (emb3 t r q)) (View.emb_mem_set _ _)⟩

theorem cover4 (i : S65664x512.Idx) : ∃ t : Fin cfg0.N, (cfg0.win 4).flush t = true ∧ i ∈ ((cfg0.win 4).blk t).view.set := by
  have e : ∃ (t : Fin grid0.N) (r : Fin 384) (q : Fin 512), i = ix2 (row t r) q := by
    obtain ⟨t, r, h⟩ := row_split (i 0)
    exact ⟨t, r, i 1, (eq_ix2 i).trans (congrArg (ix2 · (i 1)) h)⟩
  obtain ⟨t, r, q, rfl⟩ := e
  exact ⟨t, flush0_4 t, Eq.mp (congrArg (fun j => j ∈ ((cfg0.win 4).blk t).view.set) (emb4 t r q)) (View.emb_mem_set _ _)⟩

theorem cover5 (i : S65664x512.Idx) : ∃ t : Fin cfg0.N, (cfg0.win 5).flush t = true ∧ i ∈ ((cfg0.win 5).blk t).view.set := by
  have e : ∃ (t : Fin grid0.N) (r : Fin 384) (q : Fin 512), i = ix2 (row t r) q := by
    obtain ⟨t, r, h⟩ := row_split (i 0)
    exact ⟨t, r, i 1, (eq_ix2 i).trans (congrArg (ix2 · (i 1)) h)⟩
  obtain ⟨t, r, q, rfl⟩ := e
  exact ⟨t, flush0_5 t, Eq.mp (congrArg (fun j => j ∈ ((cfg0.win 5).blk t).view.set) (emb5 t r q)) (View.emb_mem_set _ _)⟩

theorem final3 (c : Dev nD) : (dats m 0 c).arrAt 3 cfg0.N = result3 m c := by
  refine (dats m 0 c).arrAt_eq_of_cover 3 (result3 m c) (fun t _ => ?_) cover3
  funext y
  refine (congrFun (after0_3 m c t) y).trans ?_
  have hy : ∀ y : S384x1792.Idx, (out0_3 (iblk m c 0 t) (iblk m c 1 t) (iblk m c 2 t) : Vec Ideal S384x1792 .f32) y
      = ((cfg0.win 3).blk t).view.read (Elt Ideal) (result3 m c) y := by
    intro y
    rw [eq_ix2 y]
    exact ((out3_apply _ _ _ (y 0) (y 1) ⟨0 + (y 1).val, by have : (y 1).val < 1792 := (y 1).isLt; omega⟩ rfl).trans (blocks_eq m c t (y 0) _)).trans
      (congrArg (result3 m c) (emb3 t (y 0) (y 1)).symm)
  exact hy y

theorem final4 (c : Dev nD) : (dats m 0 c).arrAt 4 cfg0.N = result4 m c := by
  refine (dats m 0 c).arrAt_eq_of_cover 4 (result4 m c) (fun t _ => ?_) cover4
  funext y
  refine (congrFun (after0_4 m c t) y).trans ?_
  have hy : ∀ y : S384x512.Idx, (out0_4 (iblk m c 0 t) (iblk m c 1 t) (iblk m c 2 t) : Vec Ideal S384x512 .f32) y
      = ((cfg0.win 4).blk t).view.read (Elt Ideal) (result4 m c) y := by
    intro y
    rw [eq_ix2 y]
    exact ((out4_apply _ _ _ (y 0) (y 1) ⟨1792 + (y 1).val, by have : (y 1).val < 512 := (y 1).isLt; omega⟩ rfl).trans (blocks_eq m c t (y 0) _)).trans
      (congrArg (result4 m c) (emb4 t (y 0) (y 1)).symm)
  exact hy y

theorem final5 (c : Dev nD) : (dats m 0 c).arrAt 5 cfg0.N = result5 m c := by
  refine (dats m 0 c).arrAt_eq_of_cover 5 (result5 m c) (fun t _ => ?_) cover5
  funext y
  refine (congrFun (after0_5 m c t) y).trans ?_
  have hy : ∀ y : S384x512.Idx, (out0_5 (iblk m c 0 t) (iblk m c 1 t) (iblk m c 2 t) : Vec Ideal S384x512 .f32) y
      = ((cfg0.win 5).blk t).view.read (Elt Ideal) (result5 m c) y := by
    intro y
    rw [eq_ix2 y]
    exact ((out5_apply _ _ _ (y 0) (y 1) ⟨2304 + (y 1).val, by have : (y 1).val < 512 := (y 1).isLt; omega⟩ rfl).trans (blocks_eq m c t (y 0) _)).trans
      (congrArg (result5 m c) (emb5 t (y 0) (y 1)).symm)
  exact hy y

end InProjReal

open Idealize.SL.Sem Idealize.ShloMosaic.TcCoe

/-- Over the reals the input projection computes its reference. -/
theorem inProj_algebraic : Cert.algebraic_InProjIdeal_InProjReferenceIdeal := by
  intro m ρ m' ρ' _ hagree
  refine ⟨InProjReal.result3 m, InProjReal.result4 m, InProjReal.result5 m, (θ_run InProjIdeal.defs _ _).mono
    (fun r hr c => ⟨(hr c).1.trans (InProjReal.final3 m c), (hr c).2.1.trans (InProjReal.final4 m c), (hr c).2.2.1.trans (InProjReal.final5 m c), (hr c).2.2.2⟩)
    (InProjIdeal.Value.run_blocks m ρ), ?_⟩
  refine (θ_run InProjReferenceIdeal.defs _ _).mono (fun r hr c => ?_) (InProjReferenceIdeal.Value.run (F := Ideal) m' ρ')
  obtain ⟨h0, h1, h2, hk⟩ := hr c
  obtain ⟨a0, a1, a2⟩ := hagree c
  refine ⟨h0.trans ?_, h1.trans ?_, h2.trans ?_, hk⟩
  · refine Eq.trans (InProjReferenceIdeal.Read.val_main_v14_eq _ _ _) ?_
    rw [a0, a1, a2]
    funext i
    refine (InProjReferenceIdeal.Read.val_main_v14_apply _ _ _ i).trans ((InProjRef.product_apply _ _ _ _).trans ?_)
    exact congrArg (inProj _ _ _ _) (Fin.ext (Nat.zero_add _).symm)
  · refine Eq.trans (InProjReferenceIdeal.Read.val_main_v15_eq _ _ _) ?_
    rw [a0, a1, a2]
    funext i
    exact (InProjReferenceIdeal.Read.val_main_v15_apply _ _ _ i).trans (InProjRef.product_apply _ _ _ _)
  · refine Eq.trans (InProjReferenceIdeal.Read.val_main_v16_eq _ _ _) ?_
    rw [a0, a1, a2]
    funext i
    exact (InProjReferenceIdeal.Read.val_main_v16_apply _ _ _ i).trans (InProjRef.product_apply _ _ _ _)

end Cert.Layer

end
-- ==== Proof.OutProj.lean ====
/- The output projection's claim: the residual plus the two heads' outputs times the two halves of the weight, against the
   residual plus the joined outputs times the weight. -/
module

public import proofs.«01_k».proof.Proof.Block
public import proofs.«01_k».proof.Proof.Gen.OutProjIdeal.Value
public import proofs.«01_k».proof.Proof.Gen.OutProjReferenceIdeal.Read
public import proofs.«01_k».proof.Proof.Gen.OutProjReferenceIdeal.Run
public import proofs.«01_k».proof.Defs

@[expose] public section

noncomputable section

namespace Cert.Layer

open Idealize.ShloMosaic Idealize.ShloMosaic.ValueIdx
open scoped BigOperators

/-- The residual plus the projection of the two heads' outputs, at row `i 0` and feature `i 1`. -/
def outProj (h : (⟨2, ![65664, 1024]⟩ : Shape).Idx → EReal) (ya yb : (⟨2, ![65664, 512]⟩ : Shape).Idx → EReal)
    (w : (⟨2, ![1024, 1024]⟩ : Shape).Idx → EReal) (r : Fin 65664) (d : Fin 1024) : EReal :=
  h (ix2 r d) + ((∑ k : Fin 512, ya (ix2 r k) * w (ix2 (Fin.castAdd 512 k) d))
    + ∑ k : Fin 512, yb (ix2 r k) * w (ix2 (Fin.natAdd 512 k) d))

namespace OutProjRef

open Cert.OutProjReferenceIdeal Cert.OutProjReferenceIdeal.Gen Cert.OutProjReferenceIdeal.Read

variable (x0 : (⟨S65664x1024, .f32⟩ : BufTy).Contents (Elt Ideal)) (x1 x2 : (⟨S65664x512, .bf16⟩ : BufTy).Contents (Elt Ideal))
  (x3 : (⟨S1024x1024, .f32⟩ : BufTy).Contents (Elt Ideal))

/-- The reference at an index. -/
theorem result_apply (i : S65664x1024.Idx) : val_main_v3 (F := Ideal) x0 x1 x2 x3 i = outProj x0 x1 x2 x3 (i 0) (i 1) := by
  rw [val_main_v3_apply, val_main_v2_apply, Ideal.addf_def]
  unfold outProj
  refine congrArg₂ (· + ·) (congrArg x0 (eq_ix2 i)) ?_
  refine (Fin.sum_univ_add (a := 512) (b := 512) _).trans ?_
  refine congrArg₂ (· + ·) (Finset.sum_congr rfl fun k _ => congrArg₂ (· * ·) ?_ ?_) (Finset.sum_congr rfl fun k _ => congrArg₂ (· * ·) ?_ ?_)
  · refine concatenate_pair_apply_left (t := S65664x1024) (1 : Fin 2) x1 x2 concatenates_S65664x512_S65664x512_S65664x1024_d1 _ rfl (ix2 (i 0) k) fun b => ?_
    match b with
    | ⟨0, _⟩ => rfl
    | ⟨1, _⟩ => rfl
  · refine congrArg x3 (funext fun a => ?_)
    match a with
    | ⟨0, _⟩ => rfl
    | ⟨1, _⟩ => rfl
  · refine concatenate_pair_apply_right (t := S65664x1024) (1 : Fin 2) x1 x2 concatenates_S65664x512_S65664x512_S65664x1024_d1
      (lidx_main_v2 i (Fin.natAdd 512 k)) rfl rfl (ix2 (i 0) k) (fun b hb => ?_) (Nat.add_comm k.val 512)
    match b with
    | ⟨0, _⟩ => rfl
    | ⟨1, _⟩ => exact absurd rfl hb
  · refine congrArg x3 (funext fun a => ?_)
    match a with
    | ⟨0, _⟩ => rfl
    | ⟨1, _⟩ => rfl

end OutProjRef

namespace OutProjReal

open Idealize.ShloMosaic.TcCoe Idealize.SL.Sem Cert.OutProjIdeal Cert.OutProjIdeal.Gen

variable (m : (ℓ : Loc nD τ sig) → Buf (Elt Ideal) ℓ) (ρ : Dev nD → PrngReg)

/-- The block the kernel stores, at an index. -/
theorem pay_apply (x0 : Vec Ideal S384x1024 .f32) (x1 : Vec Ideal S384x512 .bf16) (x2 : Vec Ideal S512x1024 .bf16)
    (x3 : Vec Ideal S384x512 .bf16) (x4 : Vec Ideal S512x1024 .bf16) (r : Fin 384) (d : Fin 1024) :
    k0_pay1 x0 x1 x2 x3 x4 (ix2 r d)
      = x0 (ix2 r d) + ((∑ k : Fin 512, x1 (ix2 r k) * x2 (ix2 k d)) + ∑ k : Fin 512, x3 (ix2 r k) * x4 (ix2 k d)) := by
  unfold k0_pay1
  rw [shapeCast_self, shapeCast_self]
  exact (congrArg₂ (fun a b : EReal => x0 (ix2 r d) + a + b) (matmul_block none x1 x2 r d) (matmul_block none x3 x4 r d)).trans (add_assoc _ _ _)

theorem out_eq (x0 : Vec Ideal S384x1024 .f32) (x1 : Vec Ideal S384x512 .bf16) (x2 : Vec Ideal S512x1024 .bf16)
    (x3 : Vec Ideal S384x512 .bf16) (x4 : Vec Ideal S512x1024 .bf16) : out0_5 x0 x1 x2 x3 x4 = k0_pay1 x0 x1 x2 x3 x4 := by
  have hz : (![0, 0] : Fin 2 → Nat) = fun _ => 0 := by decide
  unfold out0_5
  rw [View.canon_unit_zero hz, View.ld_unit_zero hz, View.ld_unit_zero hz, View.ld_unit_zero hz, View.ld_unit_zero hz, View.ld_unit_zero hz]

/-- A grid point's coordinate is its number. -/
theorem word_val (t : Fin grid0.N) : (BitVec.ofNat 32 (grid0.coords t 0).val).toNat = t.val := by
  have h := Pipeline.Grid.coords_val (G := grid0) t 0 (S := 1) (B := 171) (by decide) rfl
  have h2 : t.val < 171 := lt_of_lt_of_eq t.isLt N_0
  rw [BitVec.toNat_ofNat, h, Nat.mod_eq_of_lt (by omega)]
  omega

/-- The row of the array that a block's row is. -/
abbrev row (t : Fin grid0.N) (r : Fin 384) : Fin 65664 :=
  ⟨t.val * 384 + r.val, by have h2 : t.val < 171 := lt_of_lt_of_eq t.isLt N_0; have := r.isLt; omega⟩

theorem h_apply (c : Dev nD) (t : Fin grid0.N) (r : Fin 384) (d : Fin 1024) :
    (iblk m c 0 t : Vec Ideal S384x1024 .f32) (ix2 r d) = V m c main_arg0 (ix2 (row t r) d) := by
  refine congrArg (V m c main_arg0) (funext fun a => Fin.ext ?_)
  refine (Pipeline.Window.rect_emb_val (cfg0.win 0) t (ix2 r d) a).trans ?_
  match a with
  | ⟨0, _⟩ => exact congrArg (· * 384 + r.val) (word_val t)
  | ⟨1, _⟩ => exact Nat.zero_add _

theorem ya_apply (c : Dev nD) (t : Fin grid0.N) (r : Fin 384) (k : Fin 512) :
    (iblk m c 1 t : Vec Ideal S384x512 .bf16) (ix2 r k) = V m c main_arg1 (ix2 (row t r) k) := by
  refine congrArg (V m c main_arg1) (funext fun a => Fin.ext ?_)
  refine (Pipeline.Window.rect_emb_val (cfg0.win 1) t (ix2 r k) a).trans ?_
  match a with
  | ⟨0, _⟩ => exact congrArg (· * 384 + r.val) (word_val t)
  | ⟨1, _⟩ => exact Nat.zero_add _

theorem yb_apply (c : Dev nD) (t : Fin grid0.N) (r : Fin 384) (k : Fin 512) :
    (iblk m c 3 t : Vec Ideal S384x512 .bf16) (ix2 r k) = V m c main_arg2 (ix2 (row t r) k) := by
  refine congrArg (V m c main_arg2) (funext fun a => Fin.ext ?_)
  refine (Pipeline.Window.rect_emb_val (cfg0.win 3) t (ix2 r k) a).trans ?_
  match a with
  | ⟨0, _⟩ => exact congrArg (· * 384 + r.val) (word_val t)
  | ⟨1, _⟩ => exact Nat.zero_add _

theorem wa_apply (c : Dev nD) (t : Fin grid0.N) (k : Fin 512) (d : Fin 1024) :
    (iblk m c 2 t : Vec Ideal S512x1024 .bf16) (ix2 k d) = V m c main_v2 (ix2 k d) := by
  refine congrArg (V m c main_v2) (funext fun a => Fin.ext ?_)
  refine (Pipeline.Window.rect_emb_val (cfg0.win 2) t (ix2 k d) a).trans ?_
  match a with
  | ⟨0, _⟩ => exact Nat.zero_add _
  | ⟨1, _⟩ => exact Nat.zero_add _

theorem wb_apply (c : Dev nD) (t : Fin grid0.N) (k : Fin 512) (d : Fin 1024) :
    (iblk m c 4 t : Vec Ideal S512x1024 .bf16) (ix2 k d) = V m c main_v3 (ix2 k d) := by
  refine congrArg (V m c main_v3) (funext fun a => Fin.ext ?_)
  refine (Pipeline.Window.rect_emb_val (cfg0.win 4) t (ix2 k d) a).trans ?_
  match a with
  | ⟨0, _⟩ => exact Nat.zero_add _
  | ⟨1, _⟩ => exact Nat.zero_add _

theorem V_wa (c : Dev nD) (k : Fin 512) (d : Fin 1024) :
    V m c main_v2 (ix2 k d) = m ((c : Thread nD τ).loc main_arg3) (ix2 (Fin.castAdd 512 k) d) := by
  have h : V m c main_v2 = truncf (F := Ideal) .bf16 (extractStridedSlice S512x1024 ![0, 0] (m ((c : Thread nD τ).loc main_arg3)) slices_S1024x1024_S512x1024_0_0) bitsLt_bf16_f32 := by
    simp only [V, hostOps0]
    after_results_simp <;> rfl
  rw [h]
  exact slice2_axis0_apply 0 (m ((c : Thread nD τ).loc main_arg3)) slices_S1024x1024_S512x1024_0_0 k d _ (Nat.zero_add _).symm

theorem V_wb (c : Dev nD) (k : Fin 512) (d : Fin 1024) :
    V m c main_v3 (ix2 k d) = m ((c : Thread nD τ).loc main_arg3) (ix2 (Fin.natAdd 512 k) d) := by
  have h : V m c main_v3 = truncf (F := Ideal) .bf16 (extractStridedSlice S512x1024 ![512, 0] (m ((c : Thread nD τ).loc main_arg3)) slices_S1024x1024_S512x1024_512_0) bitsLt_bf16_f32 := by
    simp only [V, hostOps0]
    after_results_simp <;> rfl
  rw [h]
  exact slice2_axis0_apply 512 (m ((c : Thread nD τ).loc main_arg3)) slices_S1024x1024_S512x1024_512_0 k d _ rfl

/-- The result array. -/
def result (c : Dev nD) : Buf (Elt Ideal) ((c : Thread nD τ).loc main_v4) := fun i : S65664x1024.Idx =>
  outProj (m ((c : Thread nD τ).loc main_arg0)) (m ((c : Thread nD τ).loc main_arg1)) (m ((c : Thread nD τ).loc main_arg2))
    (m ((c : Thread nD τ).loc main_arg3)) (i 0) (i 1)

/-- The block a point leaves, at an index. -/
theorem block_apply (c : Dev nD) (t : Fin grid0.N) (r : Fin 384) (d : Fin 1024) :
    (out0_5 (iblk m c 0 t) (iblk m c 1 t) (iblk m c 2 t) (iblk m c 3 t) (iblk m c 4 t) : Vec Ideal S384x1024 .f32) (ix2 r d)
      = result m c (ix2 (row t r) d) := by
  refine (congrFun (out_eq _ _ _ _ _) (ix2 r d)).trans ((pay_apply _ _ _ _ _ r d).trans ?_)
  unfold result outProj
  refine congrArg₂ (· + ·) ((h_apply m c t r d).trans (congrFun (V_main_arg0 m c) _)) (congrArg₂ (· + ·)
    (Finset.sum_congr rfl fun k _ => congrArg₂ (· * ·) ((ya_apply m c t r k).trans (congrFun (V_main_arg1 m c) _)) ((wa_apply m c t k d).trans (V_wa m c k d)))
    (Finset.sum_congr rfl fun k _ => congrArg₂ (· * ·) ((yb_apply m c t r k).trans (congrFun (V_main_arg2 m c) _)) ((wb_apply m c t k d).trans (V_wb m c k d))))

/-- An element of the output block, placed in the array. -/
theorem out_emb (t : Fin grid0.N) (r : Fin 384) (d : Fin 1024) :
    (((cfg0.win 5).blk t).view.emb (ix2 r d) : S65664x1024.Idx) = ix2 (row t r) d := by
  refine funext fun a => Fin.ext ((Pipeline.Window.rect_emb_val (cfg0.win 5) t (ix2 r d) a).trans ?_)
  match a with
  | ⟨0, _⟩ => exact congrArg (· * 384 + r.val) (word_val t)
  | ⟨1, _⟩ => exact Nat.zero_add _

/-- The output blocks cover the array. -/
theorem cover (i : S65664x1024.Idx) : ∃ t : Fin cfg0.N, (cfg0.win 5).flush t = true ∧ i ∈ ((cfg0.win 5).blk t).view.set := by
  have hi : (i 0).val < 65664 := (i 0).isLt
  have e : ∃ (t : Fin grid0.N) (r : Fin 384) (d : Fin 1024), i = ix2 (row t r) d :=
    ⟨⟨(i 0).val / 384, by rw [N_0]; omega⟩, ⟨(i 0).val % 384, Nat.mod_lt _ (by decide)⟩, i 1,
      (eq_ix2 i).trans (congrArg (ix2 · (i 1)) (Fin.ext (by
        show (i 0).val = (i 0).val / 384 * 384 + (i 0).val % 384
        omega)))⟩
  obtain ⟨t, r, d, rfl⟩ := e
  exact ⟨t, flush0_5 t, Eq.mp (congrArg (fun j => j ∈ ((cfg0.win 5).blk t).view.set) (out_emb t r d)) (View.emb_mem_set _ _)⟩

/-- The output array after the run. -/
theorem final (c : Dev nD) : (dats m 0 c).arrAt 5 cfg0.N = result m c := by
  refine (dats m 0 c).arrAt_eq_of_cover 5 (result m c) (fun t _ => ?_) cover
  funext y
  refine (congrFun (after0_5 m c t) y).trans ?_
  have hy : ∀ y : S384x1024.Idx, (out0_5 (iblk m c 0 t) (iblk m c 1 t) (iblk m c 2 t) (iblk m c 3 t) (iblk m c 4 t) : Vec Ideal S384x1024 .f32) y
      = ((cfg0.win 5).blk t).view.read (Elt Ideal) (result m c) y := by
    intro y
    rw [eq_ix2 y]
    exact (block_apply m c t (y 0) (y 1)).trans (congrArg (result m c) (out_emb t (y 0) (y 1)).symm)
  exact hy y

end OutProjReal

open Idealize.SL.Sem Idealize.ShloMosaic.TcCoe

/-- Over the reals the output projection computes its reference. -/
theorem outProj_algebraic : Cert.algebraic_OutProjIdeal_OutProjReferenceIdeal := by
  intro m ρ m' ρ' _ hagree
  refine ⟨OutProjReal.result m, (θ_run OutProjIdeal.defs _ _).mono (fun r hr c => ⟨(hr c).1.trans (OutProjReal.final m c), (hr c).2⟩)
    (OutProjIdeal.Value.run_blocks m ρ), ?_⟩
  refine (θ_run OutProjReferenceIdeal.defs _ _).mono (fun r hr c => ⟨(hr c).1.trans ?_, (hr c).2⟩)
    (OutProjReferenceIdeal.Value.run (F := Ideal) m' ρ')
  refine Eq.trans (OutProjReferenceIdeal.Read.val_main_v3_eq _ _ _ _) ?_
  obtain ⟨a0, a1, a2, a3⟩ := hagree c
  rw [a0, a1, a2, a3]
  funext i
  exact OutProjRef.result_apply _ _ _ _ i

end Cert.Layer

end
-- ==== Proof.InProjOdd.lean ====
/- The odd layer's input projection: the normalised rows times the weight with its columns reordered and filled up with zero
   columns, in five column ranges, against the product with the weight itself cut into the five. -/
module

public import proofs.«01_k».proof.Proof.Block
public import proofs.«01_k».proof.Proof.Gen.InProjOddIdeal.Value
public import proofs.«01_k».proof.Proof.Gen.InProjOddReferenceIdeal.Read
public import proofs.«01_k».proof.Proof.Gen.InProjOddReferenceIdeal.Run
public import proofs.«01_k».proof.Defs
public import Idealize.ShloMosaic.Lib.KernelVsHost

@[expose] public section

noncomputable section

namespace Cert.Layer

open Idealize.ShloMosaic Idealize.ShloMosaic.ValueIdx
open scoped BigOperators

/-- Row `r` normalised, times column `q` of the weight. -/
def inProjOdd (h : (⟨2, ![65664, 1024]⟩ : Shape).Idx → EReal) (g : (⟨1, ![1024]⟩ : Shape).Idx → EReal)
    (w : (⟨2, ![1024, 3088]⟩ : Shape).Idx → EReal) (r : Fin 65664) (q : Fin 3088) : EReal :=
  ∑ k : Fin 1024, rms h (fun d => g (ix1 d)) r k * w (ix2 k q)

/-- Column `q` of the gate-down range: sixteen columns of the weight, then zeros. -/
def gateDown (h : (⟨2, ![65664, 1024]⟩ : Shape).Idx → EReal) (g : (⟨1, ![1024]⟩ : Shape).Idx → EReal)
    (w : (⟨2, ![1024, 3088]⟩ : Shape).Idx → EReal) (r : Fin 65664) (q : Fin 128) : EReal :=
  if hq : q.val < 16 then inProjOdd h g w r ⟨2048 + q.val, by omega⟩ else 0

theorem sitofp_zero : (FloatOps.sitofp (F := Ideal) .f32 (0#32) : EReal) = 0 := by
  show (((0#32 : BitVec 32).toInt : ℝ) : EReal) = 0
  simp

namespace InProjOddRef

open Cert.InProjOddReferenceIdeal Cert.InProjOddReferenceIdeal.Gen Cert.InProjOddReferenceIdeal.Read

variable (x0 : (⟨S65664x1024, .f32⟩ : BufTy).Contents (Elt Ideal)) (x1 : (⟨S1024, .f32⟩ : BufTy).Contents (Elt Ideal))
  (x2 : (⟨S1024x3088, .f32⟩ : BufTy).Contents (Elt Ideal))

/-- The normalised rows. -/
theorem norm_apply (i : S65664x1024.Idx) :
    val_main_v12 (F := Ideal) x0 x1 i = rms x0 (fun d => x1 (ix1 d)) (i 0) (i 1) := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  simp only [val_main_v0_apply, val_main_cst_apply, val_main_cst_0_apply, val_main_cst_1_apply, Ideal.mulf_def, Ideal.addf_def,
    Ideal.hostDivf_def, Ideal.hostUnary_rsqrt_def, Ideal.ofBits_def, Ideal.ofBits_zero_f32, zero_add]
  unfold rms
  have e2 : ∀ k : Fin 1024, idx_main_v1 (idx_main_v2 (idx_main_v8 i)) k = ix2 (i 0) k := fun k => by
    funext a; match a with
    | ⟨0, _⟩ => rfl
    | ⟨1, _⟩ => rfl
  have e3 : idx_main_v10 (idx_main_v11 i) = ix1 (i 1) := by
    funext a; match a with
    | ⟨0, _⟩ => rfl
  simp only [e2, e3]
  exact congrArg₂ (· * ·) (congrArg₂ (· * ·) (congrArg x0 (eq_ix2 i)) rfl) rfl

/-- The whole product. -/
theorem product_apply (i : S65664x3088.Idx) : val_main_v13 (F := Ideal) x0 x1 x2 i = inProjOdd x0 x1 x2 (i 0) (i 1) := by
  rw [val_main_v13_apply]
  unfold inProjOdd
  refine Finset.sum_congr rfl fun k _ => congrArg₂ (· * ·) (norm_apply x0 x1 _) (congrArg x2 (funext fun a => ?_))
  match a with
  | ⟨0, _⟩ => rfl
  | ⟨1, _⟩ => rfl

/-- The gate-down columns in front of zero columns. -/
theorem padded_apply (i : S65664x128.Idx) : val_main_v19 (F := Ideal) x0 x1 x2 i
    = gateDown x0 x1 x2 (i 0) (i 1) := by
  unfold gateDown val_main_v19
  by_cases h : (i 1).val < 16
  · rw [dif_pos h]
    refine (pad_apply_of_inside _ _ _ _ _ pads_S65664x16_S65664x128_000_01120 h_S_ i (ix2 (i 0) (⟨(i 1).val, h⟩ : Fin 16)) fun a => ?_).trans ?_
    · match a with
      | ⟨0, _⟩ => show (i 0).val = 0 + (i 0).val * (0 + 1); omega
      | ⟨1, _⟩ => show (i 1).val = 0 + (i 1).val * (0 + 1); omega
    · exact (val_main_v17_apply _ _ _ _).trans (product_apply _ _ _ _)
  · rw [dif_neg h]
    refine (pad_apply_of_not_inside _ _ _ _ _ pads_S65664x16_S65664x128_000_01120 h_S_ i (1 : Fin 2) fun hin => h ?_).trans ?_
    · have h3 := hin.2.2
      change ((i 1).val - 0) / (0 + 1) < 16 at h3
      omega
    · rw [val_main_call0_v0_apply, val_main_c_apply]
      exact sitofp_zero

end InProjOddRef

namespace InProjOddReal

open Idealize.ShloMosaic.TcCoe Idealize.SL.Sem Cert.InProjOddIdeal Cert.InProjOddIdeal.Gen

variable (m : (ℓ : Loc nD τ sig) → Buf (Elt Ideal) ℓ) (ρ : Dev nD → PrngReg)

/-- The normalised block. -/
theorem norm_apply (x0 : Vec Ideal S384x1024 .f32) (x1 : Vec Ideal S1x1024 .f32) (r : Fin 384) (k : Fin 1024) :
    k0_pay2 x0 x1 (ix2 r k) = rms x0 (fun d => x1 (ix2 (0 : Fin 1) d)) r k := by
  unfold k0_pay2
  rw [shapeCast_self]
  exact norm_block x0 x1 _ _ _ _ _ _ r k

theorem pay3_apply (x0 : Vec Ideal S384x1024 .f32) (x1 : Vec Ideal S1x1024 .f32) (w : Vec Ideal S1024x512 .bf16) (r : Fin 384) (q : Fin 512) :
    k0_pay3 x0 x1 w (ix2 r q) = ∑ k : Fin 1024, rms x0 (fun d => x1 (ix2 (0 : Fin 1) d)) r k * w (ix2 k q) := by
  unfold k0_pay3
  rw [shapeCast_self]
  exact (matmul_block none (k0_pay2 x0 x1) w r q).trans (Finset.sum_congr rfl fun k _ => congrArg (· * _) (norm_apply x0 x1 r k))

theorem pay4_apply (x0 : Vec Ideal S384x1024 .f32) (x1 : Vec Ideal S1x1024 .f32) (w : Vec Ideal S1024x512 .bf16) (r : Fin 384) (q : Fin 512) :
    k0_pay4 x0 x1 w (ix2 r q) = ∑ k : Fin 1024, rms x0 (fun d => x1 (ix2 (0 : Fin 1) d)) r k * w (ix2 k q) := by
  unfold k0_pay4
  rw [shapeCast_self]
  exact (matmul_block none (k0_pay2 x0 x1) w r q).trans (Finset.sum_congr rfl fun k _ => congrArg (· * _) (norm_apply x0 x1 r k))

theorem pay5_apply (x0 : Vec Ideal S384x1024 .f32) (x1 : Vec Ideal S1x1024 .f32) (w : Vec Ideal S1024x1024 .bf16) (r : Fin 384) (q : Fin 1024) :
    k0_pay5 x0 x1 w (ix2 r q) = ∑ k : Fin 1024, rms x0 (fun d => x1 (ix2 (0 : Fin 1) d)) r k * w (ix2 k q) := by
  unfold k0_pay5
  rw [shapeCast_self]
  exact (matmul_block none (k0_pay2 x0 x1) w r q).trans (Finset.sum_congr rfl fun k _ => congrArg (· * _) (norm_apply x0 x1 r k))

theorem pay6_apply (x0 : Vec Ideal S384x1024 .f32) (x1 : Vec Ideal S1x1024 .f32) (w : Vec Ideal S1024x1024 .bf16) (r : Fin 384) (q : Fin 1024) :
    k0_pay6 x0 x1 w (ix2 r q) = ∑ k : Fin 1024, rms x0 (fun d => x1 (ix2 (0 : Fin 1) d)) r k * w (ix2 k q) := by
  unfold k0_pay6
  rw [shapeCast_self]
  exact (matmul_block none (k0_pay2 x0 x1) w r q).trans (Finset.sum_congr rfl fun k _ => congrArg (· * _) (norm_apply x0 x1 r k))

theorem pay7_apply (x0 : Vec Ideal S384x1024 .f32) (x1 : Vec Ideal S1x1024 .f32) (w : Vec Ideal S1024x128 .bf16) (r : Fin 384) (q : Fin 128) :
    k0_pay1 (k0_pay2 x0 x1) w (ix2 r q) = ∑ k : Fin 1024, rms x0 (fun d => x1 (ix2 (0 : Fin 1) d)) r k * w (ix2 k q) := by
  unfold k0_pay1
  rw [shapeCast_self]
  exact (matmul_block none (k0_pay2 x0 x1) w r q).trans (Finset.sum_congr rfl fun k _ => congrArg (· * _) (norm_apply x0 x1 r k))

/-- A range of columns of the weight's block. -/
theorem cols_apply {M : ℕ} (o : ℕ) (x2 : Vec Ideal S1024x3200 .bf16)
    (inb : ∀ a, (![0, o] : Fin 2 → ℕ) a + (⟨2, ![1024, M]⟩ : Shape).size a ≤ S1024x3200.size a) (k : Fin 1024) (q : Fin M) (q' : Fin 3200)
    (hq : q'.val = o + q.val) :
    View.ld x2 (Rect.unit (s := S1024x3200) ![0, o] (⟨2, ![1024, M]⟩ : Shape).size inb) (ix2 k q) = x2 (ix2 k q') := by
  refine congrArg x2 (funext fun a => Fin.ext ?_)
  match a with
  | ⟨0, _⟩ => show 0 + 1 * k.val = k.val; omega
  | ⟨1, _⟩ => show o + 1 * q.val = q'.val; omega

theorem out3_apply (x0 : Vec Ideal S384x1024 .f32) (x1 : Vec Ideal S1x1024 .f32) (x2 : Vec Ideal S1024x3200 .bf16) (r : Fin 384) (q : Fin 512)
    (q' : Fin 3200) (hq : q'.val = 0 + q.val) :
    out0_3 x0 x1 x2 (ix2 r q) = ∑ k : Fin 1024, rms x0 (fun d => x1 (ix2 (0 : Fin 1) d)) r k * x2 (ix2 k q') := by
  have hz : (![0, 0] : Fin 2 → Nat) = fun _ => 0 := by decide
  unfold out0_3
  rw [View.canon_unit_zero hz, View.ld_unit_zero hz, View.ld_unit_zero hz]
  exact (pay3_apply x0 x1 _ r q).trans (Finset.sum_congr rfl fun k _ => congrArg (_ * ·) (cols_apply 0 x2 _ k q q' hq))

theorem out4_apply (x0 : Vec Ideal S384x1024 .f32) (x1 : Vec Ideal S1x1024 .f32) (x2 : Vec Ideal S1024x3200 .bf16) (r : Fin 384) (q : Fin 512)
    (q' : Fin 3200) (hq : q'.val = 512 + q.val) :
    out0_4 x0 x1 x2 (ix2 r q) = ∑ k : Fin 1024, rms x0 (fun d => x1 (ix2 (0 : Fin 1) d)) r k * x2 (ix2 k q') := by
  have hz : (![0, 0] : Fin 2 → Nat) = fun _ => 0 := by decide
  unfold out0_4
  rw [View.canon_unit_zero hz, View.ld_unit_zero hz, View.ld_unit_zero hz]
  exact (pay4_apply x0 x1 _ r q).trans (Finset.sum_congr rfl fun k _ => congrArg (_ * ·) (cols_apply 512 x2 _ k q q' hq))

theorem out5_apply (x0 : Vec Ideal S384x1024 .f32) (x1 : Vec Ideal S1x1024 .f32) (x2 : Vec Ideal S1024x3200 .bf16) (r : Fin 384) (q : Fin 1024)
    (q' : Fin 3200) (hq : q'.val = 1024 + q.val) :
    out0_5 x0 x1 x2 (ix2 r q) = ∑ k : Fin 1024, rms x0 (fun d => x1 (ix2 (0 : Fin 1) d)) r k * x2 (ix2 k q') := by
  have hz : (![0, 0] : Fin 2 → Nat) = fun _ => 0 := by decide
  unfold out0_5
  rw [View.canon_unit_zero hz, View.ld_unit_zero hz, View.ld_unit_zero hz]
  exact (pay5_apply x0 x1 _ r q).trans (Finset.sum_congr rfl fun k _ => congrArg (_ * ·) (cols_apply 1024 x2 _ k q q' hq))

theorem out6_apply (x0 : Vec Ideal S384x1024 .f32) (x1 : Vec Ideal S1x1024 .f32) (x2 : Vec Ideal S1024x3200 .bf16) (r : Fin 384) (q : Fin 1024)
    (q' : Fin 3200) (hq : q'.val = 2048 + q.val) :
    out0_6 x0 x1 x2 (ix2 r q) = ∑ k : Fin 1024, rms x0 (fun d => x1 (ix2 (0 : Fin 1) d)) r k * x2 (ix2 k q') := by
  have hz : (![0, 0] : Fin 2 → Nat) = fun _ => 0 := by decide
  unfold out0_6
  rw [View.canon_unit_zero hz, View.ld_unit_zero hz, View.ld_unit_zero hz]
  exact (pay6_apply x0 x1 _ r q).trans (Finset.sum_congr rfl fun k _ => congrArg (_ * ·) (cols_apply 2048 x2 _ k q q' hq))

theorem out7_apply (x0 : Vec Ideal S384x1024 .f32) (x1 : Vec Ideal S1x1024 .f32) (x2 : Vec Ideal S1024x3200 .bf16) (r : Fin 384) (q : Fin 128)
    (q' : Fin 3200) (hq : q'.val = 3072 + q.val) :
    out0_7 x0 x1 x2 (ix2 r q) = ∑ k : Fin 1024, rms x0 (fun d => x1 (ix2 (0 : Fin 1) d)) r k * x2 (ix2 k q') := by
  have hz : (![0, 0] : Fin 2 → Nat) = fun _ => 0 := by decide
  unfold out0_7
  rw [View.canon_unit_zero hz, View.ld_unit_zero hz, View.ld_unit_zero hz]
  exact (pay7_apply x0 x1 _ r q).trans (Finset.sum_congr rfl fun k _ => congrArg (_ * ·) (cols_apply 3072 x2 _ k q q' hq))

/-- A grid point's coordinate is its number. -/
theorem word_val (t : Fin grid0.N) : (BitVec.ofNat 32 (grid0.coords t 0).val).toNat = t.val := by
  have h := Pipeline.Grid.coords_val (G := grid0) t 0 (S := 1) (B := 171) (by decide) rfl
  have h2 : t.val < 171 := lt_of_lt_of_eq t.isLt N_0
  rw [BitVec.toNat_ofNat, h, Nat.mod_eq_of_lt (by omega)]
  omega

/-- The row of the array that a block's row is. -/
abbrev row (t : Fin grid0.N) (r : Fin 384) : Fin 65664 :=
  ⟨t.val * 384 + r.val, by have h2 : t.val < 171 := lt_of_lt_of_eq t.isLt N_0; have := r.isLt; omega⟩

theorem h_apply (c : Dev nD) (t : Fin grid0.N) (r : Fin 384) (d : Fin 1024) :
    (iblk m c 0 t : Vec Ideal S384x1024 .f32) (ix2 r d) = m ((c : Thread nD τ).loc main_arg0) (ix2 (row t r) d) := by
  refine Eq.trans (congrArg (V m c main_arg0) (funext fun a => Fin.ext ?_)) (congrFun (V_main_arg0 m c) (ix2 (row t r) d))
  refine (Pipeline.Window.rect_emb_val (cfg0.win 0) t (ix2 r d) a).trans ?_
  match a with
  | ⟨0, _⟩ => exact congrArg (· * 384 + r.val) (word_val t)
  | ⟨1, _⟩ => exact Nat.zero_add _

theorem V_gain (c : Dev nD) (d : Fin 1024) : V m c main_v5 (ix2 (0 : Fin 1) d) = m ((c : Thread nD τ).loc main_arg1) (ix1 d) := by
  have h : V m c main_v5 = shapeCast S1x1024 (m ((c : Thread nD τ).loc main_arg1)) shapeCasts_S1024_S1x1024 := by
    simp only [V, hostOps0]
    after_results_simp <;> rfl
  rw [h]
  exact shapeCast_a_1a_apply _ _ (0 : Fin 1) d

theorem gain_apply (c : Dev nD) (t : Fin grid0.N) (d : Fin 1024) :
    (iblk m c 1 t : Vec Ideal S1x1024 .f32) (ix2 (0 : Fin 1) d) = m ((c : Thread nD τ).loc main_arg1) (ix1 d) := by
  refine Eq.trans (congrArg (V m c main_v5) (funext fun a => Fin.ext ?_)) (V_gain m c d)
  refine (Pipeline.Window.rect_emb_val (cfg0.win 1) t (ix2 (0 : Fin 1) d) a).trans ?_
  match a with
  | ⟨0, _⟩ => rfl
  | ⟨1, _⟩ => exact Nat.zero_add _

/-- The weight's columns in the kernel's order. -/
theorem V_w (c : Dev nD) : V m c main_v6 = truncf (F := Ideal) .bf16 (concatenate S1024x3200 1
    [⟨S1024x2048, extractStridedSlice S1024x2048 ![0, 0] (m ((c : Thread nD τ).loc main_arg2)) slices_S1024x3088_S1024x2048_0_0⟩,
      ⟨S1024x1024, extractStridedSlice S1024x1024 ![0, 2064] (m ((c : Thread nD τ).loc main_arg2)) slices_S1024x3088_S1024x1024_0_2064⟩,
      ⟨S1024x16, extractStridedSlice S1024x16 ![0, 2048] (m ((c : Thread nD τ).loc main_arg2)) slices_S1024x3088_S1024x16_0_2048⟩,
      ⟨S1024x112, broadcastInDim S1024x112 ![] bcast_S_S1024x112 (constant (F := Ideal) S_ .f32 0x00000000#32)⟩]
    concatenates_S1024x2048_S1024x1024_S1024x16_S1024x112_S1024x3200_d1) bitsLt_bf16_f32 := by
  simp only [V, hostOps0]
  after_results_simp <;> rfl

theorem piece_a (A : S1024x2048.Idx → EReal) (B : S1024x1024.Idx → EReal) (C : S1024x16.Idx → EReal) (D : S1024x112.Idx → EReal)
    (k : Fin 1024) (j : Fin 2048) (q' : Fin 3200) (hq' : q'.val = 0 + j.val) :
    concatenate S1024x3200 1 [⟨S1024x2048, A⟩, ⟨S1024x1024, B⟩, ⟨S1024x16, C⟩, ⟨S1024x112, D⟩]
      concatenates_S1024x2048_S1024x1024_S1024x16_S1024x112_S1024x3200_d1 (ix2 k q') = A (ix2 k j) := by
  refine concatenate_apply_piece (t := S1024x3200) (1 : Fin 2) [⟨S1024x2048, A⟩, ⟨S1024x1024, B⟩, ⟨S1024x16, C⟩, ⟨S1024x112, D⟩]
    concatenates_S1024x2048_S1024x1024_S1024x16_S1024x112_S1024x3200_d1 (ix2 k q') 0 (by show 0 < 4; decide) S1024x2048 A rfl rfl
    0 rfl (ix2 k j) (fun b hb => ?_) hq'.symm
  match b with
  | ⟨0, _⟩ => rfl
  | ⟨1, _⟩ => exact absurd rfl hb

theorem V_wa (c : Dev nD) (k : Fin 1024) (j : Fin 2048) (q' : Fin 3200) (hq' : q'.val = 0 + j.val) (q : Fin 3088) (hq : q.val = 0 + j.val) :
    V m c main_v6 (ix2 k q') = m ((c : Thread nD τ).loc main_arg2) (ix2 k q) := by
  rw [V_w]
  refine (piece_a _ _ _ _ k j q' hq').trans ?_
  exact slice2_axis1_apply 0 _ slices_S1024x3088_S1024x2048_0_0 k j q hq

theorem piece_b (A : S1024x2048.Idx → EReal) (B : S1024x1024.Idx → EReal) (C : S1024x16.Idx → EReal) (D : S1024x112.Idx → EReal)
    (k : Fin 1024) (j : Fin 1024) (q' : Fin 3200) (hq' : q'.val = 2048 + j.val) :
    concatenate S1024x3200 1 [⟨S1024x2048, A⟩, ⟨S1024x1024, B⟩, ⟨S1024x16, C⟩, ⟨S1024x112, D⟩]
      concatenates_S1024x2048_S1024x1024_S1024x16_S1024x112_S1024x3200_d1 (ix2 k q') = B (ix2 k j) := by
  refine concatenate_apply_piece (t := S1024x3200) (1 : Fin 2) [⟨S1024x2048, A⟩, ⟨S1024x1024, B⟩, ⟨S1024x16, C⟩, ⟨S1024x112, D⟩]
    concatenates_S1024x2048_S1024x1024_S1024x16_S1024x112_S1024x3200_d1 (ix2 k q') 1 (by show 1 < 4; decide) S1024x1024 B rfl rfl
    2048 rfl (ix2 k j) (fun b hb => ?_) hq'.symm
  match b with
  | ⟨0, _⟩ => rfl
  | ⟨1, _⟩ => exact absurd rfl hb

theorem V_wb (c : Dev nD) (k : Fin 1024) (j : Fin 1024) (q' : Fin 3200) (hq' : q'.val = 2048 + j.val) (q : Fin 3088) (hq : q.val = 2064 + j.val) :
    V m c main_v6 (ix2 k q') = m ((c : Thread nD τ).loc main_arg2) (ix2 k q) := by
  rw [V_w]
  refine (piece_b _ _ _ _ k j q' hq').trans ?_
  exact slice2_axis1_apply 2064 _ slices_S1024x3088_S1024x1024_0_2064 k j q hq

theorem piece_c (A : S1024x2048.Idx → EReal) (B : S1024x1024.Idx → EReal) (C : S1024x16.Idx → EReal) (D : S1024x112.Idx → EReal)
    (k : Fin 1024) (j : Fin 16) (q' : Fin 3200) (hq' : q'.val = 3072 + j.val) :
    concatenate S1024x3200 1 [⟨S1024x2048, A⟩, ⟨S1024x1024, B⟩, ⟨S1024x16, C⟩, ⟨S1024x112, D⟩]
      concatenates_S1024x2048_S1024x1024_S1024x16_S1024x112_S1024x3200_d1 (ix2 k q') = C (ix2 k j) := by
  refine concatenate_apply_piece (t := S1024x3200) (1 : Fin 2) [⟨S1024x2048, A⟩, ⟨S1024x1024, B⟩, ⟨S1024x16, C⟩, ⟨S1024x112, D⟩]
    concatenates_S1024x2048_S1024x1024_S1024x16_S1024x112_S1024x3200_d1 (ix2 k q') 2 (by show 2 < 4; decide) S1024x16 C rfl rfl
    3072 rfl (ix2 k j) (fun b hb => ?_) hq'.symm
  match b with
  | ⟨0, _⟩ => rfl
  | ⟨1, _⟩ => exact absurd rfl hb

theorem V_wc (c : Dev nD) (k : Fin 1024) (j : Fin 16) (q' : Fin 3200) (hq' : q'.val = 3072 + j.val) (q : Fin 3088) (hq : q.val = 2048 + j.val) :
    V m c main_v6 (ix2 k q') = m ((c : Thread nD τ).loc main_arg2) (ix2 k q) := by
  rw [V_w]
  refine (piece_c _ _ _ _ k j q' hq').trans ?_
  exact slice2_axis1_apply 2048 _ slices_S1024x3088_S1024x16_0_2048 k j q hq

theorem piece_d (A : S1024x2048.Idx → EReal) (B : S1024x1024.Idx → EReal) (C : S1024x16.Idx → EReal) (D : S1024x112.Idx → EReal)
    (k : Fin 1024) (j : Fin 112) (q' : Fin 3200) (hq' : q'.val = 3088 + j.val) :
    concatenate S1024x3200 1 [⟨S1024x2048, A⟩, ⟨S1024x1024, B⟩, ⟨S1024x16, C⟩, ⟨S1024x112, D⟩]
      concatenates_S1024x2048_S1024x1024_S1024x16_S1024x112_S1024x3200_d1 (ix2 k q') = D (ix2 k j) := by
  refine concatenate_apply_piece (t := S1024x3200) (1 : Fin 2) [⟨S1024x2048, A⟩, ⟨S1024x1024, B⟩, ⟨S1024x16, C⟩, ⟨S1024x112, D⟩]
    concatenates_S1024x2048_S1024x1024_S1024x16_S1024x112_S1024x3200_d1 (ix2 k q') 3 (by show 3 < 4; decide) S1024x112 D rfl rfl
    3088 rfl (ix2 k j) (fun b hb => ?_) hq'.symm
  match b with
  | ⟨0, _⟩ => rfl
  | ⟨1, _⟩ => exact absurd rfl hb

theorem V_wd (c : Dev nD) (k : Fin 1024) (j : Fin 112) (q' : Fin 3200) (hq' : q'.val = 3088 + j.val) :
    V m c main_v6 (ix2 k q') = (0 : EReal) := by
  rw [V_w]
  refine (piece_d _ _ _ _ k j q' hq').trans ?_
  exact (broadcastInDim_apply _ bcast_S_S1024x112 _ _ ix0 (fun a => a.elim0)).trans Ideal.ofBits_zero_f32

theorem w_apply (c : Dev nD) (t : Fin grid0.N) (k : Fin 1024) (q : Fin 3200) :
    (iblk m c 2 t : Vec Ideal S1024x3200 .bf16) (ix2 k q) = V m c main_v6 (ix2 k q) := by
  refine congrArg (V m c main_v6) (funext fun a => Fin.ext ?_)
  refine (Pipeline.Window.rect_emb_val (cfg0.win 2) t (ix2 k q) a).trans ?_
  match a with
  | ⟨0, _⟩ => exact Nat.zero_add _
  | ⟨1, _⟩ => exact (congrArg (· + q.val) (Nat.zero_mul 3200)).trans (Nat.zero_add _)

/-- What a point's blocks give at a row and a column of the reordered weight that is a column of the weight. -/
theorem blocks_eq (c : Dev nD) (t : Fin grid0.N) (r : Fin 384) (q' : Fin 3200) (q : Fin 3088)
    (hw : ∀ k : Fin 1024, V m c main_v6 (ix2 k q') = m ((c : Thread nD τ).loc main_arg2) (ix2 k q)) :
    (∑ k : Fin 1024, rms (iblk m c 0 t : Vec Ideal S384x1024 .f32) (fun d => (iblk m c 1 t : Vec Ideal S1x1024 .f32) (ix2 (0 : Fin 1) d)) r k
        * (iblk m c 2 t : Vec Ideal S1024x3200 .bf16) (ix2 k q'))
      = inProjOdd (m ((c : Thread nD τ).loc main_arg0)) (m ((c : Thread nD τ).loc main_arg1)) (m ((c : Thread nD τ).loc main_arg2)) (row t r) q := by
  unfold inProjOdd
  refine Finset.sum_congr rfl fun k _ => congrArg₂ (· * ·) ?_ ((w_apply m c t k q').trans (hw k))
  have h0 := h_apply m c t r
  unfold rms
  simp only [h0]
  exact congrArg (_ * ·) (gain_apply m c t k)

/-- At a zero column they give zero. -/
theorem blocks_zero (c : Dev nD) (t : Fin grid0.N) (r : Fin 384) (q' : Fin 3200)
    (hw : ∀ k : Fin 1024, V m c main_v6 (ix2 k q') = (0 : EReal)) :
    (∑ k : Fin 1024, rms (iblk m c 0 t : Vec Ideal S384x1024 .f32) (fun d => (iblk m c 1 t : Vec Ideal S1x1024 .f32) (ix2 (0 : Fin 1) d)) r k
        * (iblk m c 2 t : Vec Ideal S1024x3200 .bf16) (ix2 k q')) = 0 :=
  Finset.sum_eq_zero fun k _ => (congrArg (_ * ·) ((w_apply m c t k q').trans (hw k))).trans (mul_zero _)

/-- The five result arrays. -/
def result3 (c : Dev nD) : Buf (Elt Ideal) ((c : Thread nD τ).loc main_v7_0) := fun i : S65664x512.Idx =>
  inProjOdd (m ((c : Thread nD τ).loc main_arg0)) (m ((c : Thread nD τ).loc main_arg1)) (m ((c : Thread nD τ).loc main_arg2)) (i 0)
    ⟨0 + (i 1).val, by have : (i 1).val < 512 := (i 1).isLt; omega⟩

def result4 (c : Dev nD) : Buf (Elt Ideal) ((c : Thread nD τ).loc main_v7_1) := fun i : S65664x512.Idx =>
  inProjOdd (m ((c : Thread nD τ).loc main_arg0)) (m ((c : Thread nD τ).loc main_arg1)) (m ((c : Thread nD τ).loc main_arg2)) (i 0)
    ⟨512 + (i 1).val, by have : (i 1).val < 512 := (i 1).isLt; omega⟩

def result5 (c : Dev nD) : Buf (Elt Ideal) ((c : Thread nD τ).loc main_v7_2) := fun i : S65664x1024.Idx =>
  inProjOdd (m ((c : Thread nD τ).loc main_arg0)) (m ((c : Thread nD τ).loc main_arg1)) (m ((c : Thread nD τ).loc main_arg2)) (i 0)
    ⟨1024 + (i 1).val, by have : (i 1).val < 1024 := (i 1).isLt; omega⟩

def result6 (c : Dev nD) : Buf (Elt Ideal) ((c : Thread nD τ).loc main_v7_3) := fun i : S65664x1024.Idx =>
  inProjOdd (m ((c : Thread nD τ).loc main_arg0)) (m ((c : Thread nD τ).loc main_arg1)) (m ((c : Thread nD τ).loc main_arg2)) (i 0)
    ⟨2064 + (i 1).val, by have : (i 1).val < 1024 := (i 1).isLt; omega⟩

def result7 (c : Dev nD) : Buf (Elt Ideal) ((c : Thread nD τ).loc main_v7_4) := fun i : S65664x128.Idx =>
  gateDown (m ((c : Thread nD τ).loc main_arg0)) (m ((c : Thread nD τ).loc main_arg1)) (m ((c : Thread nD τ).loc main_arg2)) (i 0) (i 1)

theorem row_split (n : Fin 65664) : ∃ (t : Fin grid0.N) (r : Fin 384), n = row t r :=
  ⟨⟨n.val / 384, by have := n.isLt; rw [N_0]; omega⟩, ⟨n.val % 384, Nat.mod_lt _ (by decide)⟩, Fin.ext (by
    show n.val = n.val / 384 * 384 + n.val % 384
    omega)⟩

theorem emb3 (t : Fin grid0.N) (r : Fin 384) (q : Fin 512) :
    (((cfg0.win 3).blk t).view.emb (ix2 r q) : S65664x512.Idx) = ix2 (row t r) q := by
  refine funext fun a => Fin.ext ((Pipeline.Window.rect_emb_val (cfg0.win 3) t (ix2 r q) a).trans ?_)
  match a with
  | ⟨0, _⟩ => exact congrArg (· * 384 + r.val) (word_val t)
  | ⟨1, _⟩ => exact Nat.zero_add _

theorem cover3 (i : S65664x512.Idx) : ∃ t : Fin cfg0.N, (cfg0.win 3).flush t = true ∧ i ∈ ((cfg0.win 3).blk t).view.set := by
  have e : ∃ (t : Fin grid0.N) (r : Fin 384) (q : Fin 512), i = ix2 (row t r) q := by
    obtain ⟨t, r, h⟩ := row_split (i 0)
    exact ⟨t, r, i 1, (eq_ix2 i).trans (congrArg (ix2 · (i 1)) h)⟩
  obtain ⟨t, r, q, rfl⟩ := e
  exact ⟨t, flush0_3 t, Eq.mp (congrArg (fun j => j ∈ ((cfg0.win 3).blk t).view.set) (emb3 t r q)) (View.emb_mem_set _ _)⟩

/-- What a point stores in result 1. -/
theorem point3 (c : Dev nD) (t : Fin grid0.N) (r : Fin 384) (q : Fin 512) :
    (out0_3 (iblk m c 0 t) (iblk m c 1 t) (iblk m c 2 t) : Vec Ideal S384x512 .f32) (ix2 r q) = result3 m c (ix2 (row t r) q) := by
  have hb := q.isLt
  refine (out3_apply _ _ _ r q ⟨0 + q.val, by omega⟩ rfl).trans ?_
  exact blocks_eq m c t r _ ⟨0 + q.val, by omega⟩ fun k =>
    V_wa m c k ⟨0 + q.val, by omega⟩ _ (Nat.zero_add _).symm _ (Nat.zero_add _).symm

theorem final3 (c : Dev nD) : (dats m 0 c).arrAt 3 cfg0.N = result3 m c := by
  refine (dats m 0 c).arrAt_eq_of_cover 3 (result3 m c) (fun t _ => ?_) cover3
  funext y
  refine (congrFun (after0_3 m c t) y).trans ?_
  have hy : ∀ y : S384x512.Idx, (out0_3 (iblk m c 0 t) (iblk m c 1 t) (iblk m c 2 t) : Vec Ideal S384x512 .f32) y
      = ((cfg0.win 3).blk t).view.read (Elt Ideal) (result3 m c) y := by
    intro y
    rw [eq_ix2 y]
    exact (point3 m c t (y 0) (y 1)).trans (congrArg (result3 m c) (emb3 t (y 0) (y 1)).symm)
  exact hy y

theorem emb4 (t : Fin grid0.N) (r : Fin 384) (q : Fin 512) :
    (((cfg0.win 4).blk t).view.emb (ix2 r q) : S65664x512.Idx) = ix2 (row t r) q := by
  refine funext fun a => Fin.ext ((Pipeline.Window.rect_emb_val (cfg0.win 4) t (ix2 r q) a).trans ?_)
  match a with
  | ⟨0, _⟩ => exact congrArg (· * 384 + r.val) (word_val t)
  | ⟨1, _⟩ => exact Nat.zero_add _

theorem cover4 (i : S65664x512.Idx) : ∃ t : Fin cfg0.N, (cfg0.win 4).flush t = true ∧ i ∈ ((cfg0.win 4).blk t).view.set := by
  have e : ∃ (t : Fin grid0.N) (r : Fin 384) (q : Fin 512), i = ix2 (row t r) q := by
    obtain ⟨t, r, h⟩ := row_split (i 0)
    exact ⟨t, r, i 1, (eq_ix2 i).trans (congrArg (ix2 · (i 1)) h)⟩
  obtain ⟨t, r, q, rfl⟩ := e
  exact ⟨t, flush0_4 t, Eq.mp (congrArg (fun j => j ∈ ((cfg0.win 4).blk t).view.set) (emb4 t r q)) (View.emb_mem_set _ _)⟩

/-- What a point stores in result 2. -/
theorem point4 (c : Dev nD) (t : Fin grid0.N) (r : Fin 384) (q : Fin 512) :
    (out0_4 (iblk m c 0 t) (iblk m c 1 t) (iblk m c 2 t) : Vec Ideal S384x512 .f32) (ix2 r q) = result4 m c (ix2 (row t r) q) := by
  have hb := q.isLt
  refine (out4_apply _ _ _ r q ⟨512 + q.val, by omega⟩ rfl).trans ?_
  exact blocks_eq m c t r _ ⟨512 + q.val, by omega⟩ fun k =>
    V_wa m c k ⟨512 + q.val, by omega⟩ _ (Nat.zero_add _).symm _ (Nat.zero_add _).symm

theorem final4 (c : Dev nD) : (dats m 0 c).arrAt 4 cfg0.N = result4 m c := by
  refine (dats m 0 c).arrAt_eq_of_cover 4 (result4 m c) (fun t _ => ?_) cover4
  funext y
  refine (congrFun (after0_4 m c t) y).trans ?_
  have hy : ∀ y : S384x512.Idx, (out0_4 (iblk m c 0 t) (iblk m c 1 t) (iblk m c 2 t) : Vec Ideal S384x512 .f32) y
      = ((cfg0.win 4).blk t).view.read (Elt Ideal) (result4 m c) y := by
    intro y
    rw [eq_ix2 y]
    exact (point4 m c t (y 0) (y 1)).trans (congrArg (result4 m c) (emb4 t (y 0) (y 1)).symm)
  exact hy y

theorem emb5 (t : Fin grid0.N) (r : Fin 384) (q : Fin 1024) :
    (((cfg0.win 5).blk t).view.emb (ix2 r q) : S65664x1024.Idx) = ix2 (row t r) q := by
  refine funext fun a => Fin.ext ((Pipeline.Window.rect_emb_val (cfg0.win 5) t (ix2 r q) a).trans ?_)
  match a with
  | ⟨0, _⟩ => exact congrArg (· * 384 + r.val) (word_val t)
  | ⟨1, _⟩ => exact Nat.zero_add _

theorem cover5 (i : S65664x1024.Idx) : ∃ t : Fin cfg0.N, (cfg0.win 5).flush t = true ∧ i ∈ ((cfg0.win 5).blk t).view.set := by
  have e : ∃ (t : Fin grid0.N) (r : Fin 384) (q : Fin 1024), i = ix2 (row t r) q := by
    obtain ⟨t, r, h⟩ := row_split (i 0)
    exact ⟨t, r, i 1, (eq_ix2 i).trans (congrArg (ix2 · (i 1)) h)⟩
  obtain ⟨t, r, q, rfl⟩ := e
  exact ⟨t, flush0_5 t, Eq.mp (congrArg (fun j => j ∈ ((cfg0.win 5).blk t).view.set) (emb5 t r q)) (View.emb_mem_set _ _)⟩

/-- What a point stores in result 3. -/
theorem point5 (c : Dev nD) (t : Fin grid0.N) (r : Fin 384) (q : Fin 1024) :
    (out0_5 (iblk m c 0 t) (iblk m c 1 t) (iblk m c 2 t) : Vec Ideal S384x1024 .f32) (ix2 r q) = result5 m c (ix2 (row t r) q) := by
  have hb := q.isLt
  refine (out5_apply _ _ _ r q ⟨1024 + q.val, by omega⟩ rfl).trans ?_
  exact blocks_eq m c t r _ ⟨1024 + q.val, by omega⟩ fun k =>
    V_wa m c k ⟨1024 + q.val, by omega⟩ _ (Nat.zero_add _).symm _ (Nat.zero_add _).symm

theorem final5 (c : Dev nD) : (dats m 0 c).arrAt 5 cfg0.N = result5 m c := by
  refine (dats m 0 c).arrAt_eq_of_cover 5 (result5 m c) (fun t _ => ?_) cover5
  funext y
  refine (congrFun (after0_5 m c t) y).trans ?_
  have hy : ∀ y : S384x1024.Idx, (out0_5 (iblk m c 0 t) (iblk m c 1 t) (iblk m c 2 t) : Vec Ideal S384x1024 .f32) y
      = ((cfg0.win 5).blk t).view.read (Elt Ideal) (result5 m c) y := by
    intro y
    rw [eq_ix2 y]
    exact (point5 m c t (y 0) (y 1)).trans (congrArg (result5 m c) (emb5 t (y 0) (y 1)).symm)
  exact hy y

theorem emb6 (t : Fin grid0.N) (r : Fin 384) (q : Fin 1024) :
    (((cfg0.win 6).blk t).view.emb (ix2 r q) : S65664x1024.Idx) = ix2 (row t r) q := by
  refine funext fun a => Fin.ext ((Pipeline.Window.rect_emb_val (cfg0.win 6) t (ix2 r q) a).trans ?_)
  match a with
  | ⟨0, _⟩ => exact congrArg (· * 384 + r.val) (word_val t)
  | ⟨1, _⟩ => exact Nat.zero_add _

theorem cover6 (i : S65664x1024.Idx) : ∃ t : Fin cfg0.N, (cfg0.win 6).flush t = true ∧ i ∈ ((cfg0.win 6).blk t).view.set := by
  have e : ∃ (t : Fin grid0.N) (r : Fin 384) (q : Fin 1024), i = ix2 (row t r) q := by
    obtain ⟨t, r, h⟩ := row_split (i 0)
    exact ⟨t, r, i 1, (eq_ix2 i).trans (congrArg (ix2 · (i 1)) h)⟩
  obtain ⟨t, r, q, rfl⟩ := e
  exact ⟨t, flush0_6 t, Eq.mp (congrArg (fun j => j ∈ ((cfg0.win 6).blk t).view.set) (emb6 t r q)) (View.emb_mem_set _ _)⟩

/-- What a point stores in result 4. -/
theorem point6 (c : Dev nD) (t : Fin grid0.N) (r : Fin 384) (q : Fin 1024) :
    (out0_6 (iblk m c 0 t) (iblk m c 1 t) (iblk m c 2 t) : Vec Ideal S384x1024 .f32) (ix2 r q) = result6 m c (ix2 (row t r) q) := by
  have hb := q.isLt
  refine (out6_apply _ _ _ r q ⟨2048 + q.val, by omega⟩ rfl).trans ?_
  exact blocks_eq m c t r _ ⟨2064 + q.val, by omega⟩ fun k => V_wb m c k q _ rfl _ rfl

theorem final6 (c : Dev nD) : (dats m 0 c).arrAt 6 cfg0.N = result6 m c := by
  refine (dats m 0 c).arrAt_eq_of_cover 6 (result6 m c) (fun t _ => ?_) cover6
  funext y
  refine (congrFun (after0_6 m c t) y).trans ?_
  have hy : ∀ y : S384x1024.Idx, (out0_6 (iblk m c 0 t) (iblk m c 1 t) (iblk m c 2 t) : Vec Ideal S384x1024 .f32) y
      = ((cfg0.win 6).blk t).view.read (Elt Ideal) (result6 m c) y := by
    intro y
    rw [eq_ix2 y]
    exact (point6 m c t (y 0) (y 1)).trans (congrArg (result6 m c) (emb6 t (y 0) (y 1)).symm)
  exact hy y

theorem emb7 (t : Fin grid0.N) (r : Fin 384) (q : Fin 128) :
    (((cfg0.win 7).blk t).view.emb (ix2 r q) : S65664x128.Idx) = ix2 (row t r) q := by
  refine funext fun a => Fin.ext ((Pipeline.Window.rect_emb_val (cfg0.win 7) t (ix2 r q) a).trans ?_)
  match a with
  | ⟨0, _⟩ => exact congrArg (· * 384 + r.val) (word_val t)
  | ⟨1, _⟩ => exact Nat.zero_add _

theorem cover7 (i : S65664x128.Idx) : ∃ t : Fin cfg0.N, (cfg0.win 7).flush t = true ∧ i ∈ ((cfg0.win 7).blk t).view.set := by
  have e : ∃ (t : Fin grid0.N) (r : Fin 384) (q : Fin 128), i = ix2 (row t r) q := by
    obtain ⟨t, r, h⟩ := row_split (i 0)
    exact ⟨t, r, i 1, (eq_ix2 i).trans (congrArg (ix2 · (i 1)) h)⟩
  obtain ⟨t, r, q, rfl⟩ := e
  exact ⟨t, flush0_7 t, Eq.mp (congrArg (fun j => j ∈ ((cfg0.win 7).blk t).view.set) (emb7 t r q)) (View.emb_mem_set _ _)⟩

/-- What a point stores in result 5. -/
theorem point7 (c : Dev nD) (t : Fin grid0.N) (r : Fin 384) (q : Fin 128) :
    (out0_7 (iblk m c 0 t) (iblk m c 1 t) (iblk m c 2 t) : Vec Ideal S384x128 .f32) (ix2 r q) = result7 m c (ix2 (row t r) q) := by
  have hb := q.isLt
  refine (out7_apply _ _ _ r q ⟨3072 + q.val, by omega⟩ rfl).trans ?_
  show _ = gateDown _ _ _ (row t r) q
  unfold gateDown
  by_cases h : q.val < 16
  · rw [dif_pos h]
    exact blocks_eq m c t r _ ⟨2048 + q.val, by omega⟩ fun k => V_wc m c k ⟨q.val, h⟩ _ rfl _ rfl
  · rw [dif_neg h]
    exact blocks_zero m c t r _ fun k => V_wd m c k ⟨q.val - 16, by omega⟩ _ (by show 3072 + q.val = 3088 + (q.val - 16); omega)

theorem final7 (c : Dev nD) : (dats m 0 c).arrAt 7 cfg0.N = result7 m c := by
  refine (dats m 0 c).arrAt_eq_of_cover 7 (result7 m c) (fun t _ => ?_) cover7
  funext y
  refine (congrFun (after0_7 m c t) y).trans ?_
  have hy : ∀ y : S384x128.Idx, (out0_7 (iblk m c 0 t) (iblk m c 1 t) (iblk m c 2 t) : Vec Ideal S384x128 .f32) y
      = ((cfg0.win 7).blk t).view.read (Elt Ideal) (result7 m c) y := by
    intro y
    rw [eq_ix2 y]
    exact (point7 m c t (y 0) (y 1)).trans (congrArg (result7 m c) (emb7 t (y 0) (y 1)).symm)
  exact hy y

end InProjOddReal

open Idealize.SL.Sem Idealize.ShloMosaic.TcCoe

/-- Over the reals the odd layer's input projection computes its reference. -/
theorem inProjOdd_algebraic : Cert.algebraic_InProjOddIdeal_InProjOddReferenceIdeal := by
  intro m ρ m' ρ' _ hagree
  refine ⟨InProjOddReal.result3 m, InProjOddReal.result4 m, InProjOddReal.result5 m, InProjOddReal.result6 m, InProjOddReal.result7 m,
    (θ_run InProjOddIdeal.defs _ _).mono
    (fun r hr c => ⟨(hr c).1.trans (InProjOddReal.final3 m c), (hr c).2.1.trans (InProjOddReal.final4 m c),
      (hr c).2.2.1.trans (InProjOddReal.final5 m c), (hr c).2.2.2.1.trans (InProjOddReal.final6 m c),
      (hr c).2.2.2.2.1.trans (InProjOddReal.final7 m c), (hr c).2.2.2.2.2⟩)
    (InProjOddIdeal.Value.run_blocks m ρ), ?_⟩
  refine (θ_run InProjOddReferenceIdeal.defs _ _).mono (fun r hr c => ?_) (InProjOddReferenceIdeal.Value.run (F := Ideal) m' ρ')
  obtain ⟨h0, h1, h2, h3, h4, hk⟩ := hr c
  obtain ⟨a0, a1, a2⟩ := hagree c
  refine ⟨h0.trans ?_, h1.trans ?_, h2.trans ?_, h3.trans ?_, h4.trans ?_, hk⟩
  · refine Eq.trans (InProjOddReferenceIdeal.Read.val_main_v14_eq _ _ _) ?_
    rw [a0, a1, a2]
    funext i
    refine (InProjOddReferenceIdeal.Read.val_main_v14_apply _ _ _ i).trans ((InProjOddRef.product_apply _ _ _ _).trans ?_)
    exact congrArg (inProjOdd _ _ _ _) (Fin.ext (Nat.zero_add _).symm)
  · refine Eq.trans (InProjOddReferenceIdeal.Read.val_main_v15_eq _ _ _) ?_
    rw [a0, a1, a2]
    funext i
    exact (InProjOddReferenceIdeal.Read.val_main_v15_apply _ _ _ i).trans (InProjOddRef.product_apply _ _ _ _)
  · refine Eq.trans (InProjOddReferenceIdeal.Read.val_main_v16_eq _ _ _) ?_
    rw [a0, a1, a2]
    funext i
    exact (InProjOddReferenceIdeal.Read.val_main_v16_apply _ _ _ i).trans (InProjOddRef.product_apply _ _ _ _)
  · refine Eq.trans (InProjOddReferenceIdeal.Read.val_main_v18_eq _ _ _) ?_
    rw [a0, a1, a2]
    funext i
    exact (InProjOddReferenceIdeal.Read.val_main_v18_apply _ _ _ i).trans (InProjOddRef.product_apply _ _ _ _)
  · refine Eq.trans (InProjOddReferenceIdeal.Read.val_main_v19_eq _ _ _) ?_
    rw [a0, a1, a2]
    funext i
    exact InProjOddRef.padded_apply _ _ _ i

end Cert.Layer

end
-- ==== Proof.OutProjOdd.lean ====
/- The odd layer's output projection: the residual plus the mixer's output times the weight, as the reference has it. -/
module

public import proofs.«01_k».proof.Proof.Block
public import proofs.«01_k».proof.Proof.Gen.OutProjOddIdeal.Value
public import proofs.«01_k».proof.Proof.Gen.OutProjOddReferenceIdeal.Read
public import proofs.«01_k».proof.Proof.Gen.OutProjOddReferenceIdeal.Run
public import proofs.«01_k».proof.Defs

@[expose] public section

noncomputable section

namespace Cert.Layer

open Idealize.ShloMosaic Idealize.ShloMosaic.ValueIdx
open scoped BigOperators

/-- The residual plus the projection of the mixer's output, at a row and a feature. -/
def outProjOdd (h y : (⟨2, ![65664, 1024]⟩ : Shape).Idx → EReal) (w : (⟨2, ![1024, 1024]⟩ : Shape).Idx → EReal)
    (r : Fin 65664) (d : Fin 1024) : EReal :=
  h (ix2 r d) + ∑ k : Fin 1024, y (ix2 r k) * w (ix2 k d)

namespace OutProjOddRef

open Cert.OutProjOddReferenceIdeal Cert.OutProjOddReferenceIdeal.Gen Cert.OutProjOddReferenceIdeal.Read

variable (x0 : (⟨S65664x1024, .f32⟩ : BufTy).Contents (Elt Ideal)) (x1 : (⟨S65664x1024, .bf16⟩ : BufTy).Contents (Elt Ideal))
  (x2 : (⟨S1024x1024, .f32⟩ : BufTy).Contents (Elt Ideal))

/-- The reference at an index. -/
theorem result_apply (i : S65664x1024.Idx) : val_main_v2 (F := Ideal) x0 x1 x2 i = outProjOdd x0 x1 x2 (i 0) (i 1) := by
  rw [val_main_v2_apply, val_main_v1_apply, Ideal.addf_def]
  unfold outProjOdd
  refine congrArg₂ (· + ·) (congrArg x0 (eq_ix2 i)) (Finset.sum_congr rfl fun k _ => congrArg₂ (· * ·) ?_ ?_)
  · refine congrArg x1 (funext fun a => ?_)
    match a with
    | ⟨0, _⟩ => rfl
    | ⟨1, _⟩ => rfl
  · refine congrArg x2 (funext fun a => ?_)
    match a with
    | ⟨0, _⟩ => rfl
    | ⟨1, _⟩ => rfl

end OutProjOddRef

namespace OutProjOddReal

open Idealize.ShloMosaic.TcCoe Idealize.SL.Sem Cert.OutProjOddIdeal Cert.OutProjOddIdeal.Gen

variable (m : (ℓ : Loc nD τ sig) → Buf (Elt Ideal) ℓ) (ρ : Dev nD → PrngReg)

/-- The block the kernel stores, at an index. -/
theorem pay_apply (x0 : Vec Ideal S384x1024 .f32) (x1 : Vec Ideal S384x1024 .bf16) (x2 : Vec Ideal S1024x1024 .bf16) (r : Fin 384) (d : Fin 1024) :
    k0_pay1 x0 x1 x2 (ix2 r d) = x0 (ix2 r d) + ∑ k : Fin 1024, x1 (ix2 r k) * x2 (ix2 k d) := by
  unfold k0_pay1
  rw [shapeCast_self]
  exact congrArg (x0 (ix2 r d) + ·) (matmul_block none x1 x2 r d)

theorem out_eq (x0 : Vec Ideal S384x1024 .f32) (x1 : Vec Ideal S384x1024 .bf16) (x2 : Vec Ideal S1024x1024 .bf16) :
    out0_3 x0 x1 x2 = k0_pay1 x0 x1 x2 := by
  have hz : (![0, 0] : Fin 2 → Nat) = fun _ => 0 := by decide
  unfold out0_3
  rw [View.canon_unit_zero hz, View.ld_unit_zero hz, View.ld_unit_zero hz, View.ld_unit_zero hz]

/-- A grid point's coordinate is its number. -/
theorem word_val (t : Fin grid0.N) : (BitVec.ofNat 32 (grid0.coords t 0).val).toNat = t.val := by
  have h := Pipeline.Grid.coords_val (G := grid0) t 0 (S := 1) (B := 171) (by decide) rfl
  have h2 : t.val < 171 := lt_of_lt_of_eq t.isLt N_0
  rw [BitVec.toNat_ofNat, h, Nat.mod_eq_of_lt (by omega)]
  omega

/-- The row of the array that a block's row is. -/
abbrev row (t : Fin grid0.N) (r : Fin 384) : Fin 65664 :=
  ⟨t.val * 384 + r.val, by have h2 : t.val < 171 := lt_of_lt_of_eq t.isLt N_0; have := r.isLt; omega⟩

theorem h_apply (c : Dev nD) (t : Fin grid0.N) (r : Fin 384) (d : Fin 1024) :
    (iblk m c 0 t : Vec Ideal S384x1024 .f32) (ix2 r d) = V m c main_arg0 (ix2 (row t r) d) := by
  refine congrArg (V m c main_arg0) (funext fun a => Fin.ext ?_)
  refine (Pipeline.Window.rect_emb_val (cfg0.win 0) t (ix2 r d) a).trans ?_
  match a with
  | ⟨0, _⟩ => exact congrArg (· * 384 + r.val) (word_val t)
  | ⟨1, _⟩ => exact Nat.zero_add _

theorem y_apply (c : Dev nD) (t : Fin grid0.N) (r : Fin 384) (k : Fin 1024) :
    (iblk m c 1 t : Vec Ideal S384x1024 .bf16) (ix2 r k) = V m c main_arg1 (ix2 (row t r) k) := by
  refine congrArg (V m c main_arg1) (funext fun a => Fin.ext ?_)
  refine (Pipeline.Window.rect_emb_val (cfg0.win 1) t (ix2 r k) a).trans ?_
  match a with
  | ⟨0, _⟩ => exact congrArg (· * 384 + r.val) (word_val t)
  | ⟨1, _⟩ => exact Nat.zero_add _

theorem w_apply (c : Dev nD) (t : Fin grid0.N) (k : Fin 1024) (d : Fin 1024) :
    (iblk m c 2 t : Vec Ideal S1024x1024 .bf16) (ix2 k d) = V m c main_v0 (ix2 k d) := by
  refine congrArg (V m c main_v0) (funext fun a => Fin.ext ?_)
  refine (Pipeline.Window.rect_emb_val (cfg0.win 2) t (ix2 k d) a).trans ?_
  match a with
  | ⟨0, _⟩ => exact Nat.zero_add _
  | ⟨1, _⟩ => exact Nat.zero_add _

theorem V_w (c : Dev nD) (i : S1024x1024.Idx) : V m c main_v0 i = m ((c : Thread nD τ).loc main_arg2) i := by
  have h : V m c main_v0 = truncf (F := Ideal) .bf16 (m ((c : Thread nD τ).loc main_arg2)) bitsLt_bf16_f32 := by
    simp only [V, hostOps0]
    after_results_simp <;> rfl
  rw [h]
  rfl

/-- The result array. -/
def result (c : Dev nD) : Buf (Elt Ideal) ((c : Thread nD τ).loc main_v1) := fun i : S65664x1024.Idx =>
  outProjOdd (m ((c : Thread nD τ).loc main_arg0)) (m ((c : Thread nD τ).loc main_arg1)) (m ((c : Thread nD τ).loc main_arg2)) (i 0) (i 1)

/-- The block a point leaves, at an index. -/
theorem block_apply (c : Dev nD) (t : Fin grid0.N) (r : Fin 384) (d : Fin 1024) :
    (out0_3 (iblk m c 0 t) (iblk m c 1 t) (iblk m c 2 t) : Vec Ideal S384x1024 .f32) (ix2 r d) = result m c (ix2 (row t r) d) := by
  refine (congrFun (out_eq _ _ _) (ix2 r d)).trans ((pay_apply _ _ _ r d).trans ?_)
  unfold result outProjOdd
  exact congrArg₂ (· + ·) ((h_apply m c t r d).trans (congrFun (V_main_arg0 m c) _))
    (Finset.sum_congr rfl fun k _ => congrArg₂ (· * ·) ((y_apply m c t r k).trans (congrFun (V_main_arg1 m c) _)) ((w_apply m c t k d).trans (V_w m c _)))

/-- An element of the output block, placed in the array. -/
theorem out_emb (t : Fin grid0.N) (r : Fin 384) (d : Fin 1024) :
    (((cfg0.win 3).blk t).view.emb (ix2 r d) : S65664x1024.Idx) = ix2 (row t r) d := by
  refine funext fun a => Fin.ext ((Pipeline.Window.rect_emb_val (cfg0.win 3) t (ix2 r d) a).trans ?_)
  match a with
  | ⟨0, _⟩ => exact congrArg (· * 384 + r.val) (word_val t)
  | ⟨1, _⟩ => exact Nat.zero_add _

/-- The output blocks cover the array. -/
theorem cover (i : S65664x1024.Idx) : ∃ t : Fin cfg0.N, (cfg0.win 3).flush t = true ∧ i ∈ ((cfg0.win 3).blk t).view.set := by
  have hi : (i 0).val < 65664 := (i 0).isLt
  have e : ∃ (t : Fin grid0.N) (r : Fin 384) (d : Fin 1024), i = ix2 (row t r) d :=
    ⟨⟨(i 0).val / 384, by rw [N_0]; omega⟩, ⟨(i 0).val % 384, Nat.mod_lt _ (by decide)⟩, i 1,
      (eq_ix2 i).trans (congrArg (ix2 · (i 1)) (Fin.ext (by
        show (i 0).val = (i 0).val / 384 * 384 + (i 0).val % 384
        omega)))⟩
  obtain ⟨t, r, d, rfl⟩ := e
  exact ⟨t, flush0_3 t, Eq.mp (congrArg (fun j => j ∈ ((cfg0.win 3).blk t).view.set) (out_emb t r d)) (View.emb_mem_set _ _)⟩

/-- The output array after the run. -/
theorem final (c : Dev nD) : (dats m 0 c).arrAt 3 cfg0.N = result m c := by
  refine (dats m 0 c).arrAt_eq_of_cover 3 (result m c) (fun t _ => ?_) cover
  funext y
  refine (congrFun (after0_3 m c t) y).trans ?_
  have hy : ∀ y : S384x1024.Idx, (out0_3 (iblk m c 0 t) (iblk m c 1 t) (iblk m c 2 t) : Vec Ideal S384x1024 .f32) y
      = ((cfg0.win 3).blk t).view.read (Elt Ideal) (result m c) y := by
    intro y
    rw [eq_ix2 y]
    exact (block_apply m c t (y 0) (y 1)).trans (congrArg (result m c) (out_emb t (y 0) (y 1)).symm)
  exact hy y

end OutProjOddReal

open Idealize.SL.Sem Idealize.ShloMosaic.TcCoe

/-- Over the reals the odd layer's output projection computes its reference. -/
theorem outProjOdd_algebraic : Cert.algebraic_OutProjOddIdeal_OutProjOddReferenceIdeal := by
  intro m ρ m' ρ' _ hagree
  refine ⟨OutProjOddReal.result m, (θ_run OutProjOddIdeal.defs _ _).mono (fun r hr c => ⟨(hr c).1.trans (OutProjOddReal.final m c), (hr c).2⟩)
    (OutProjOddIdeal.Value.run_blocks m ρ), ?_⟩
  refine (θ_run OutProjOddReferenceIdeal.defs _ _).mono (fun r hr c => ⟨(hr c).1.trans ?_, (hr c).2⟩)
    (OutProjOddReferenceIdeal.Value.run (F := Ideal) m' ρ')
  refine Eq.trans (OutProjOddReferenceIdeal.Read.val_main_v2_eq _ _ _) ?_
  obtain ⟨a0, a1, a2⟩ := hagree c
  rw [a0, a1, a2]
  funext i
  exact OutProjOddRef.result_apply _ _ _ i

end Cert.Layer

end
-- ==== Proof.PrepMath.lean ====
/- The mathematics the preparation of the token-mixing recurrence is compared through, over the extended reals: a row
   mixed with the row before it in its sequence, and the eight values computed from the mixed row. -/
module

public import proofs.«01_k».proof.Proof.LruMath

@[expose] public section

noncomputable section

namespace Cert.Layer.Prep

open Idealize.ShloMosaic Idealize.ShloMosaic.ValueIdx Cert.Layer Cert.Layer.Lru
open scoped BigOperators

/-- The arguments of the call. -/
structure Args where
  p : (⟨2, ![65664, 1792]⟩ : Shape).Idx → EReal
  mu : (⟨1, ![1792]⟩ : Shape).Idx → EReal
  d0 : (⟨1, ![512]⟩ : Shape).Idx → EReal
  dup : (⟨2, ![64, 512]⟩ : Shape).Idx → EReal
  i0 : (⟨1, ![512]⟩ : Shape).Idx → EReal
  iup : (⟨2, ![64, 512]⟩ : Shape).Idx → EReal
  gup : (⟨2, ![128, 512]⟩ : Shape).Idx → EReal
  kk : (⟨1, ![512]⟩ : Shape).Idx → EReal
  ka : (⟨1, ![512]⟩ : Shape).Idx → EReal
  rk : (⟨1, ![512]⟩ : Shape).Idx → EReal

/-- The row before row `i` in its sequence of 8208 rows; zero before the first. -/
def prev (A : Args) (i : Fin 65664) (c : Fin 1792) : EReal :=
  if i.val % 8208 = 0 then 0 else A.p (ix2 (⟨i.val - 1, by have := i.isLt; omega⟩ : Fin 65664) c)

/-- A row mixed with the one before it. -/
def mixed (A : Args) (i : Fin 65664) (c : Fin 1792) : EReal :=
  A.p (ix2 i c) + A.mu (ix1 c) * (prev A i c - A.p (ix2 i c))

/-- The features of the mixed row. -/
def cR (d : Fin 512) : Fin 1792 := ⟨d.val, by have := d.isLt; omega⟩
def cK (d : Fin 512) : Fin 1792 := ⟨512 + d.val, by have := d.isLt; omega⟩
def cV (d : Fin 512) : Fin 1792 := ⟨1024 + d.val, by have := d.isLt; omega⟩
def cD (j : Fin 64) : Fin 1792 := ⟨1536 + j.val, by have := j.isLt; omega⟩
def cI (j : Fin 64) : Fin 1792 := ⟨1600 + j.val, by have := j.isLt; omega⟩
def cG (j : Fin 128) : Fin 1792 := ⟨1664 + j.val, by have := j.isLt; omega⟩

variable (A : Args) (X : Fin 1792 → EReal)

/-- The logarithm of the decay: `-exp (-softplus (-z) - 1/2)` of the decay projection `z`. -/
def wS (d : Fin 512) : EReal :=
  -(Ideal.exp (-(sp (A.d0 (ix1 d) + ∑ j : Fin 64, Ideal.tanh (X (cD j)) * A.dup (ix2 j d))) - Ideal.ofBits .f32 0x3F000000#32))

/-- The in-context learning rate. -/
def aS (d : Fin 512) : EReal := sigm (A.i0 (ix1 d) + ∑ j : Fin 64, X (cI j) * A.iup (ix2 j d))

/-- The output gate. -/
def gS (d : Fin 512) : EReal := ∑ j : Fin 128, sigm (X (cG j)) * A.gup (ix2 j d)

/-- The key before its normalisation. -/
def krS (d : Fin 512) : EReal := X (cK d) * A.kk (ix1 d)

/-- The key normalised within its head of 64 features. -/
def nS (d : Fin 512) : EReal :=
  Ideal.div (krS A X d) (max (Ideal.sqrt (∑ j : Fin 64, krS A X (ofGrp (grpOf d) j) * krS A X (ofGrp (grpOf d) j))) (Ideal.ofBits .f32 0x2B8CBCCC#32))

/-- The key scaled by the learning rate. -/
def kmS (d : Fin 512) : EReal :=
  X (cK d) * (Ideal.ofBits .f32 0x3F800000#32 + (aS A X d - Ideal.ofBits .f32 0x3F800000#32) * A.ka (ix1 d))

/-- The bonus of the present position. -/
def bS (d : Fin 512) : EReal :=
  (∑ j : Fin 64, X (cR (ofGrp (grpOf d) j)) * kmS A X (ofGrp (grpOf d) j) * A.rk (ix1 (ofGrp (grpOf d) j))) * X (cV d)

theorem ofGrp_grpOf_inGrp (d : Fin 512) : ofGrp (grpOf d) (inGrp d) = d := Fin.ext (by
  show 64 * (d.val / 64) + d.val % 64 = d.val
  omega)

end Cert.Layer.Prep

end
-- ==== Proof.PrepKernel.lean ====
/- The preparation kernel's blocks read at an index: the mixed rows and the eight blocks computed from them. -/
module

public import proofs.«01_k».proof.Proof.PrepMath
public import proofs.«01_k».proof.Proof.Block
public import proofs.«01_k».proof.Proof.Gen.PrepIdeal.Skeleton
public import Idealize.ShloMosaic.Lib.KernelVsHost

@[expose] public section

set_option maxRecDepth 16384

noncomputable section

namespace Cert.Layer.PrepReal

open Idealize.ShloMosaic Idealize.ShloMosaic.ValueIdx Cert.PrepIdeal Cert.PrepIdeal.Gen
open Cert.Layer Cert.Layer.Lru Cert.Layer.Prep
open scoped BigOperators

/-! ## The mixed rows -/

/-- A block of rows rotated down by one. -/
theorem rot_one (x : FVec Ideal S432x1792 .f32) (h : S432x1792.Rotates 0 none) (r : Fin 432) (c : Fin 1792) :
    dynamicRotate 0 1#32 none x h (ix2 r c) = x (ix2 (⟨(r.val + 432 - 1) % 432, Nat.mod_lt _ (by decide)⟩ : Fin 432) c) := by
  refine dynamicRotate_apply 0 1#32 x h (ix2 r c) _ fun b => ?_
  match b with
  | ⟨0, _⟩ =>
    refine Eq.trans ?_ (if_pos rfl).symm
    rfl
  | ⟨1, _⟩ => exact (if_neg (by show ¬ ((1 : Fin 2) = 0); decide)).symm

theorem first_mask (r : Fin 432) : (IntOp.cmpi .eq (BitVec.ofNat 32 r.val) 0#32 = 1#1) ↔ r.val = 0 := by
  revert r
  decide +kernel

theorem low_mask (k : Fin 128) : (IntOp.cmpi .slt (BitVec.ofNat 32 k.val) 64#32 = 1#1) ↔ k.val < 64 := by
  revert k
  decide +kernel

theorem pay4_apply (x : Vec Ideal S432x1792 .f32) (C mu : Vec Ideal S1x1792 .f32) (r : Fin 432) (c : Fin 1792) :
    k0_pay4 (F := Ideal) x C mu (ix2 r c)
      = x (ix2 r c) + mu (ix2 (0 : Fin 1) c) * ((if r.val = 0 then C (ix2 (0 : Fin 1) c) else x (ix2 (⟨r.val - 1, by have := r.isLt; omega⟩ : Fin 432) c)) - x (ix2 r c)) := by
  unfold k0_pay4
  rw [shapeCast_self, shapeCast_self, shapeCast_self]
  show x (ix2 r c) + broadcastTo S432x1792 mu _ (ix2 r c) * ((if broadcastTo S432x1792 _ _ (ix2 r c) = 1#1 then broadcastTo S432x1792 C _ (ix2 r c) else _) - x (ix2 r c)) = _
  rw [broadcastTo_col_apply, broadcastTo_1b_ab_apply, broadcastTo_1b_ab_apply, rot_one]
  refine congrArg (fun z : EReal => x (ix2 r c) + mu (ix2 (0 : Fin 1) c) * (z - x (ix2 r c))) ?_
  have e : iota .tc S432x1 32 [0] iota_S432x1_d0_w32 (ix2 r (0 : Fin 1)) = BitVec.ofNat 32 r.val := iota_single_apply _ _ _ _ _ _
  have hm : (cmpi .eq (iota .tc S432x1 32 [0] iota_S432x1_d0_w32) (broadcast S432x1 0#32) (ix2 r (0 : Fin 1)) = 1#1) ↔ r.val = 0 := by
    show IntOp.cmpi .eq (iota .tc S432x1 32 [0] iota_S432x1_d0_w32 (ix2 r (0 : Fin 1))) 0#32 = 1#1 ↔ _
    rw [e]
    exact first_mask r
  by_cases hr : r.val = 0
  · rw [if_pos (hm.2 hr), if_pos hr]
  · rw [if_neg (fun h => hr (hm.1 h)), if_neg hr]
    refine congrArg (fun k => x (ix2 k c)) (Fin.ext ?_)
    show (r.val + 432 - 1) % 432 = r.val - 1
    have := r.isLt
    omega

/-- The row carried to the next block is the last. -/
theorem pay3_apply (x : Vec Ideal S432x1792 .f32) (c : Fin 1792) : k0_pay3 (F := Ideal) x (ix2 (0 : Fin 1) c) = x (ix2 (431 : Fin 432) c) := by
  unfold k0_pay3
  rw [shapeCast_self]
  exact slice2_axis0_apply 431 x slices_S432x1792_o431_0_S1x1792 (0 : Fin 1) c (431 : Fin 432) rfl

theorem pay2_apply (c : Fin 1792) : k0_pay2 (F := Ideal) (ix2 (0 : Fin 1) c) = (0 : EReal) := by
  unfold k0_pay2
  rw [shapeCast_self]
  exact Ideal.ofBits_zero_f32

/-! ## The values of a row -/

section Row

variable (x : Vec Ideal S432x1792 .f32) (C mu : Vec Ideal S1x1792 .f32) (r : Fin 432) (X : Fin 1792 → EReal)
  (hX : ∀ c, k0_pay4 (F := Ideal) x C mu (ix2 r c) = X c)

include hX

theorem pay5_apply (d : Fin 512) : k0_pay5 (F := Ideal) x C mu (ix2 r d) = X (cR d) := by
  rw [← hX]
  unfold k0_pay5
  exact slice2_axis1_apply 0 (k0_pay4 (F := Ideal) x C mu) slices_S432x1792_o0_0_S432x512 r d (cR d) (Nat.zero_add _).symm

theorem pay6_apply (d : Fin 512) : k0_pay6 (F := Ideal) x C mu (ix2 r d) = X (cK d) := by
  rw [← hX]
  unfold k0_pay6
  exact slice2_axis1_apply 512 (k0_pay4 (F := Ideal) x C mu) slices_S432x1792_o0_512_S432x512 r d (cK d) rfl

theorem pay7_apply (d : Fin 512) : k0_pay7 (F := Ideal) x C mu (ix2 r d) = X (cV d) := by
  rw [← hX]
  unfold k0_pay7
  exact slice2_axis1_apply 1024 (k0_pay4 (F := Ideal) x C mu) slices_S432x1792_o0_1024_S432x512 r d (cV d) rfl

theorem pay8_apply (d : Fin 128) : k0_pay8 (F := Ideal) x C mu (ix2 r d) = X (cG d) := by
  rw [← hX]
  unfold k0_pay8
  exact slice2_axis1_apply 1664 (k0_pay4 (F := Ideal) x C mu) slices_S432x1792_o0_1664_S432x128 r d (cG d) rfl

/-- The two projections' shared feature `k`. -/
def cL (k : Fin 128) : Fin 1792 := ⟨1536 + k.val, by have := k.isLt; omega⟩

theorem pay9_apply (L : Vec Ideal S128x1024 .bf16) (e : Fin 1024) : k0_pay9 (F := Ideal) x C mu L (ix2 r e)
    = ∑ k : Fin 128, (if k.val < 64 then Ideal.tanh (X (cL k)) else X (cL k)) * L (ix2 k e) := by
  unfold k0_pay9
  rw [shapeCast_self, shapeCast_self]
  refine (matmul_block (φ₁ := .bf16) (φ₂ := .bf16) none _ L r e).trans (Finset.sum_congr rfl fun k _ => congrArg (fun z : EReal => z * L (ix2 k e)) ?_)
  have hs : extractStridedSlice S432x128 ![0, 1536] (k0_pay4 (F := Ideal) x C mu) slices_S432x1792_o0_1536_S432x128 (ix2 r k) = X (cL k) :=
    (slice2_axis1_apply 1536 _ slices_S432x1792_o0_1536_S432x128 r k (cL k) rfl).trans (hX _)
  show (if broadcastTo S432x128 _ _ (ix2 r k) = 1#1 then Ideal.tanh (extractStridedSlice S432x128 ![0, 1536] (k0_pay4 (F := Ideal) x C mu) slices_S432x1792_o0_1536_S432x128 (ix2 r k))
    else extractStridedSlice S432x128 ![0, 1536] (k0_pay4 (F := Ideal) x C mu) slices_S432x1792_o0_1536_S432x128 (ix2 r k)) = _
  rw [hs, broadcastTo_1b_ab_apply]
  refine if_congr ?_ rfl rfl
  have e : iota .tc S1x128 32 [1] iota_S1x128_d1_w32 (ix2 (0 : Fin 1) k) = BitVec.ofNat 32 k.val := iota_single_apply _ _ _ _ _ _
  show IntOp.cmpi .slt (iota .tc S1x128 32 [1] iota_S1x128_d1_w32 (ix2 (0 : Fin 1) k)) 64#32 = 1#1 ↔ _
  rw [e]
  exact low_mask k

variable (A : Prep.Args) (L : Vec Ideal S128x1024 .bf16)

theorem dec_apply (hL : ∀ (k : Fin 128) (d : Fin 512), L (ix2 k (⟨d.val, by have := d.isLt; omega⟩ : Fin 1024)) = if h : k.val < 64 then A.dup (ix2 ⟨k.val, h⟩ d) else (0 : EReal))
    (d : Fin 512) : k0_pay9 (F := Ideal) x C mu L (ix2 r (⟨d.val, by have := d.isLt; omega⟩ : Fin 1024)) = ∑ j : Fin 64, Ideal.tanh (X (cD j)) * A.dup (ix2 j d) := by
  refine (pay9_apply x C mu r X hX L _).trans ?_
  refine (Fin.sum_univ_add (a := 64) (b := 64) _).trans ?_
  refine (congrArg₂ (fun a b : EReal => a + b) (Finset.sum_congr rfl fun j _ => ?_) (Finset.sum_eq_zero fun j _ => ?_)).trans (add_zero _)
  · have hp : (Fin.castAdd 64 j).val < 64 := j.isLt
    rw [hL, dif_pos hp, if_pos hp]
    rfl
  · have hn : ¬ (Fin.natAdd 64 j).val < 64 := by show ¬ 64 + j.val < 64; omega
    rw [hL, dif_neg hn, mul_zero]

theorem icl_apply (hL : ∀ (k : Fin 128) (d : Fin 512), L (ix2 k (⟨512 + d.val, by have := d.isLt; omega⟩ : Fin 1024))
      = if h : 64 ≤ k.val then A.iup (ix2 ⟨k.val - 64, by have := k.isLt; omega⟩ d) else (0 : EReal))
    (d : Fin 512) : k0_pay9 (F := Ideal) x C mu L (ix2 r (⟨512 + d.val, by have := d.isLt; omega⟩ : Fin 1024)) = ∑ j : Fin 64, X (cI j) * A.iup (ix2 j d) := by
  refine (pay9_apply x C mu r X hX L _).trans ?_
  refine (Fin.sum_univ_add (a := 64) (b := 64) _).trans ?_
  refine (congrArg₂ (fun a b : EReal => a + b) (Finset.sum_eq_zero fun j _ => ?_) (Finset.sum_congr rfl fun j _ => ?_)).trans (zero_add _)
  · have hn : ¬ 64 ≤ (Fin.castAdd 64 j).val := by show ¬ 64 ≤ j.val; have := j.isLt; omega
    rw [hL, dif_neg hn, mul_zero]
  · have hp : 64 ≤ (Fin.natAdd 64 j).val := by show 64 ≤ 64 + j.val; omega
    rw [hL, dif_pos hp, if_neg (by omega)]
    refine congrArg₂ (fun a b : EReal => a * b) (congrArg X (Fin.ext ?_)) (congrArg (fun q => A.iup (ix2 q d)) (Fin.ext ?_))
    · show 1536 + (64 + j.val) = 1600 + j.val
      omega
    · show 64 + j.val - 64 = j.val
      omega

end Row

/-! ## The blocks from the projections -/

theorem pay18_apply (P : FVec Ideal S432x1024 .f32) (v : Vec Ideal S1x512 .f32) (r : Fin 432) (d : Fin 512) (z : EReal)
    (hz : v (ix2 (0 : Fin 1) d) + P (ix2 r (⟨d.val, by have := d.isLt; omega⟩ : Fin 1024)) = z) :
    k0_pay18 (F := Ideal) (k0_pay10 P v) (ix2 r d) = -(Ideal.exp (-(sp z) - Ideal.ofBits .f32 0x3F000000#32)) := by
  unfold k0_pay18 k0_pay10
  rw [shapeCast_self]
  have hs : extractStridedSlice S432x512 ![0, 0] P slices_S432x1024_o0_0_S432x512 (ix2 r d) = P (ix2 r (⟨d.val, by have := d.isLt; omega⟩ : Fin 1024)) :=
    slice2_axis1_apply 0 P slices_S432x1024_o0_0_S432x512 r d _ (Nat.zero_add _).symm
  have hb : broadcastTo S432x512 v broadcasts_S1x512_S432x512 (ix2 r d) = v (ix2 (0 : Fin 1) d) := broadcastTo_1b_ab_apply _ _ _ _
  have e : broadcastTo S432x512 v broadcasts_S1x512_S432x512 (ix2 r d) + extractStridedSlice S432x512 ![0, 0] P slices_S432x1024_o0_0_S432x512 (ix2 r d) = z := by
    rw [hs, hb, hz]
  have e0 : (Ideal.ofBits .f32 0x00000000#32 : EReal) - (broadcastTo S432x512 v broadcasts_S1x512_S432x512 (ix2 r d) + extractStridedSlice S432x512 ![0, 0] P slices_S432x1024_o0_0_S432x512 (ix2 r d)) = -z := by
    rw [e, Ideal.ofBits_zero_f32, zero_sub]
  show Ideal.ofBits .f32 0x00000000#32 - Ideal.exp (Ideal.ofBits .f32 0x00000000#32 - (max (Ideal.ofBits .f32 0x00000000#32 - (broadcastTo S432x512 v broadcasts_S1x512_S432x512 (ix2 r d) + extractStridedSlice S432x512 ![0, 0] P slices_S432x1024_o0_0_S432x512 (ix2 r d))) (Ideal.ofBits .f32 0x00000000#32)
    + Ideal.log (Ideal.ofBits .f32 0x3F800000#32 + Ideal.exp (Ideal.ofBits .f32 0x00000000#32
      - max (Ideal.ofBits .f32 0x00000000#32 - (broadcastTo S432x512 v broadcasts_S1x512_S432x512 (ix2 r d) + extractStridedSlice S432x512 ![0, 0] P slices_S432x1024_o0_0_S432x512 (ix2 r d)))
        (-(Ideal.ofBits .f32 0x00000000#32 - (broadcastTo S432x512 v broadcasts_S1x512_S432x512 (ix2 r d) + extractStridedSlice S432x512 ![0, 0] P slices_S432x1024_o0_0_S432x512 (ix2 r d)))))))
      - Ideal.ofBits .f32 0x3F000000#32) = _
  rw [e0, Ideal.ofBits_zero_f32, one_f32, zero_sub, zero_sub, zero_sub]
  rfl

theorem pay11_apply (P : FVec Ideal S432x1024 .f32) (v : Vec Ideal S1x512 .f32) (r : Fin 432) (d : Fin 512) :
    k0_pay11 (F := Ideal) P v (ix2 r d) = sigm (v (ix2 (0 : Fin 1) d) + P (ix2 r (⟨512 + d.val, by have := d.isLt; omega⟩ : Fin 1024))) := by
  unfold k0_pay11
  rw [shapeCast_self]
  have hs : extractStridedSlice S432x512 ![0, 512] P slices_S432x1024_o0_512_S432x512 (ix2 r d) = P (ix2 r (⟨512 + d.val, by have := d.isLt; omega⟩ : Fin 1024)) :=
    slice2_axis1_apply 512 P slices_S432x1024_o0_512_S432x512 r d _ rfl
  have hb : broadcastTo S432x512 v broadcasts_S1x512_S432x512 (ix2 r d) = v (ix2 (0 : Fin 1) d) := broadcastTo_1b_ab_apply _ _ _ _
  show Ideal.div (Ideal.ofBits .f32 0x3F800000#32) (Ideal.ofBits .f32 0x3F800000#32 + Ideal.exp (Ideal.ofBits .f32 0x00000000#32
    - (broadcastTo S432x512 v broadcasts_S1x512_S432x512 (ix2 r d) + extractStridedSlice S432x512 ![0, 512] P slices_S432x1024_o0_512_S432x512 (ix2 r d)))) = _
  rw [hs, hb, Ideal.ofBits_zero_f32, zero_sub]
  rfl

theorem pay13_apply (G : FVec Ideal S432x128 .f32) (W : Vec Ideal S128x512 .bf16) (r : Fin 432) (d : Fin 512) :
    k0_pay13 (F := Ideal) (k0_pay12 G) W (ix2 r d) = ∑ k : Fin 128, sigm (G (ix2 r k)) * W (ix2 k d) := by
  unfold k0_pay13
  rw [shapeCast_self]
  refine (matmul_block (φ₁ := .bf16) (φ₂ := .bf16) none _ W r d).trans (Finset.sum_congr rfl fun k _ => congrArg (fun z : EReal => z * W (ix2 k d)) ?_)
  show Ideal.div (Ideal.ofBits .f32 0x3F800000#32) (Ideal.ofBits .f32 0x3F800000#32 + Ideal.exp (Ideal.ofBits .f32 0x00000000#32 - G (ix2 r k))) = _
  rw [Ideal.ofBits_zero_f32, zero_sub]
  rfl

/-- A product with the ones of a head is the sum within the head. -/
theorem head_sum (v : Fin 512 → EReal) (W : S512x512.Idx → EReal)
    (hW : ∀ k d : Fin 512, W (ix2 k d) = if grpOf k = grpOf d then (1 : EReal) else 0) (d : Fin 512) :
    ∑ k : Fin 512, v k * W (ix2 k d) = ∑ j : Fin 64, v (ofGrp (grpOf d) j) := by
  refine (Finset.sum_of_injOn (ofGrp (grpOf d)) (fun i _ j _ hij => ?_) (fun _ _ => Finset.mem_coe.2 (Finset.mem_univ _)) (fun k _ hk => ?_) (fun j _ => ?_)).symm
  · have := congrArg Fin.val hij
    exact Fin.ext (by simpa [ofGrp] using this)
  · rw [hW, if_neg, mul_zero]
    intro hg
    refine hk ⟨inGrp k, Finset.mem_coe.2 (Finset.mem_univ _), Fin.ext ?_⟩
    show 64 * (grpOf d).val + k.val % 64 = k.val
    rw [← hg]
    show 64 * (k.val / 64) + k.val % 64 = k.val
    omega
  · have e1 : grpOf (ofGrp (grpOf d) j) = grpOf d := Fin.ext (by
      show (64 * (grpOf d).val + j.val) / 64 = (grpOf d).val
      have := j.isLt; omega)
    rw [hW, if_pos e1, mul_one]

section Heads

variable (W : Vec Ideal S512x512 .bf16) (hW : ∀ k d : Fin 512, W (ix2 k d) = if grpOf k = grpOf d then (1 : EReal) else 0)

include hW

theorem pay15_apply (K : FVec Ideal S432x512 .f32) (v : Vec Ideal S1x512 .f32) (r : Fin 432) (f : Fin 512 → EReal)
    (hf : ∀ d, K (ix2 r d) * v (ix2 (0 : Fin 1) d) = f d) (d : Fin 512) :
    k0_pay15 (F := Ideal) K W v (ix2 r d)
      = Ideal.div (f d) (max (Ideal.sqrt (∑ j : Fin 64, f (ofGrp (grpOf d) j) * f (ofGrp (grpOf d) j))) (Ideal.ofBits .f32 0x2B8CBCCC#32)) := by
  unfold k0_pay15 k0_pay14
  rw [shapeCast_self, shapeCast_self]
  have hb : ∀ d, mulf K (broadcastTo S432x512 v broadcasts_S1x512_S432x512) (ix2 r d) = f d := fun d => by
    rw [← hf]
    exact congrArg (fun z : EReal => K (ix2 r d) * z) (broadcastTo_1b_ab_apply _ _ _ _)
  have hm : matmul (F := Ideal) (φ₁ := .bf16) (φ₂ := .bf16) dot_S432x512_S512x512_S432x512_1_0_0_1_n_n none (truncf .bf16 (mulf (mulf K (broadcastTo S432x512 v broadcasts_S1x512_S432x512)) (mulf K (broadcastTo S432x512 v broadcasts_S1x512_S432x512))) bitsLt_bf16_f32) W (constant S432x512 .f32 0x00000000#32) (ix2 r d)
      = ∑ j : Fin 64, f (ofGrp (grpOf d) j) * f (ofGrp (grpOf d) j) := by
    refine (matmul_block (φ₁ := .bf16) (φ₂ := .bf16) none _ W r d).trans ((Finset.sum_congr rfl fun k _ => congrArg (fun z : EReal => z * W (ix2 k d)) ?_).trans (head_sum (fun k => f k * f k) W hW d))
    exact congrArg₂ (fun a b : EReal => a * b) (hb k) (hb k)
  exact congrArg₂ (fun a b : EReal => Ideal.div a (max (Ideal.sqrt b) (Ideal.ofBits .f32 0x2B8CBCCC#32))) (hb d) hm

omit hW in
theorem pay16_apply (K a : FVec Ideal S432x512 .f32) (v : Vec Ideal S1x512 .f32) (r : Fin 432) (d : Fin 512) :
    k0_pay16 (F := Ideal) K a v (ix2 r d)
      = K (ix2 r d) * (Ideal.ofBits .f32 0x3F800000#32 + (a (ix2 r d) - Ideal.ofBits .f32 0x3F800000#32) * v (ix2 (0 : Fin 1) d)) := by
  unfold k0_pay16
  rw [shapeCast_self]
  exact congrArg (fun z : EReal => K (ix2 r d) * (Ideal.ofBits .f32 0x3F800000#32 + (a (ix2 r d) - Ideal.ofBits .f32 0x3F800000#32) * z)) (broadcastTo_1b_ab_apply _ _ _ _)

theorem pay17_apply (R K V a : FVec Ideal S432x512 .f32) (v w : Vec Ideal S1x512 .f32) (r : Fin 432) (d : Fin 512) :
    k0_pay17 (F := Ideal) R K V a W v w (ix2 r d)
      = (∑ j : Fin 64, R (ix2 r (ofGrp (grpOf d) j)) * k0_pay16 (F := Ideal) K a v (ix2 r (ofGrp (grpOf d) j)) * w (ix2 (0 : Fin 1) (ofGrp (grpOf d) j))) * V (ix2 r d) := by
  unfold k0_pay17 k0_pay14
  rw [shapeCast_self, shapeCast_self]
  refine congrArg (fun z : EReal => z * V (ix2 r d)) ?_
  refine (matmul_block (φ₁ := .bf16) (φ₂ := .bf16) none _ W r d).trans ((Finset.sum_congr rfl fun k _ => congrArg (fun z : EReal => z * W (ix2 k d)) ?_).trans
    (head_sum (fun k => R (ix2 r k) * k0_pay16 (F := Ideal) K a v (ix2 r k) * w (ix2 (0 : Fin 1) k)) W hW d))
  exact congrArg (fun z : EReal => R (ix2 r k) * k0_pay16 (F := Ideal) K a v (ix2 r k) * z) (broadcastTo_1b_ab_apply _ _ _ _)

end Heads

end Cert.Layer.PrepReal

end
-- ==== Proof.PrepHost.lean ====
/- The arrays the preparation kernel is handed besides its first argument: the rows, the two projections put side by
   side, and the ones of the heads. -/
module

public import proofs.«01_k».proof.Proof.PrepMath
public import proofs.«01_k».proof.Proof.Gen.PrepIdeal.Frame
public import proofs.«01_k».proof.Proof.Block
public import Idealize.ShloMosaic.Lib.KernelVsHost
public import Idealize.ShloMosaic.Lib.ValueLayout
public import Idealize.ShloMosaic.Lib.Routing.OpsOne

@[expose] public section

set_option maxRecDepth 16384

noncomputable section

namespace Cert.Layer.PrepReal

open Idealize.ShloMosaic Idealize.ShloMosaic.ValueIdx Cert.PrepIdeal Cert.PrepIdeal.Gen
open Cert.Layer Cert.Layer.Lru Cert.Layer.Prep
open Idealize.ShloMosaic.TcCoe Idealize.SL.Sem

/-! ## A projection written into the joint weight -/

abbrev D : ScatterDims S128x1024 S2 S64x512 := scatter_S128x1024_S2_S64x512_01_n_01_0

theorem kept_D : D.sKept = [0, 1] := by decide +kernel

theorem window0 (a : Fin 64) (b : Fin 512) : D.window (ix2 a b) 0 = a.val := by
  unfold ScatterDims.window
  rw [dif_pos (by rw [kept_D]; decide)]
  rfl

theorem window1 (a : Fin 64) (b : Fin 512) : D.window (ix2 a b) 1 = b.val := by
  unfold ScatterDims.window
  rw [dif_pos (by rw [kept_D]; decide)]
  rfl

theorem lands (idx : IVec S2 32) (o q : ℕ) (h0 : (idx (ix1 (0 : Fin 2))).toInt = (o : Int)) (h1 : (idx (ix1 (1 : Fin 2))).toInt = (q : Int))
    (a : Fin 64) (b : Fin 512) (k : Fin 128) (d : Fin 1024) : D.resultIdx? (ix2 a b) idx = some (ix2 k d) ↔ o + a.val = k.val ∧ q + b.val = d.val := by
  rw [Idealize.ShloMosaic.Routing.resultIdx?_ix2, Idealize.ShloMosaic.Routing.start_pair D rfl rfl, Idealize.ShloMosaic.Routing.start_pair D rfl rfl, window0, window1, h0, h1]
  omega

/-- The pair of offsets a projection is written at. -/
def pairOf (w u : BitVec 32) : IVec S2 32 :=
  concatenate S2 0 [⟨S1, broadcastInDim S1 ![] bcast_S_S1 (constantI S_ 32 w)⟩, ⟨S1, broadcastInDim S1 ![] bcast_S_S1 (constantI S_ 32 u)⟩] concatenates_S1_S1_S2_d0

theorem pairOf_apply0 (w u : BitVec 32) : pairOf w u (ix1 (0 : Fin 2)) = w := by
  unfold pairOf
  refine (concatenate_pair_apply_left (t := S2) (0 : Fin 1) _ _ concatenates_S1_S1_S2_d0 _ rfl (ix1 (0 : Fin 1)) fun b => ?_).trans rfl
  match b with
  | ⟨0, _⟩ => rfl

theorem pairOf_apply1 (w u : BitVec 32) : pairOf w u (ix1 (1 : Fin 2)) = u := by
  unfold pairOf
  refine (concatenate_pair_apply_right (t := S2) (0 : Fin 1) _ _ concatenates_S1_S1_S2_d0 _ rfl rfl (ix1 (0 : Fin 1)) (fun b hb => ?_) rfl).trans rfl
  match b with
  | ⟨0, _⟩ => exact absurd rfl hb

/-- A projection written at `(w, u)`. -/
def putP (W : FVec Ideal S128x1024 .f32) (w u : BitVec 32) (x : FVec Ideal S64x512 .f32) : FVec Ideal S128x1024 .f32 :=
  Host.scatter scatter_S128x1024_S2_S64x512_01_n_01_0 (fun _ b => b) W (pairOf w u) x

theorem putP_hit (W : FVec Ideal S128x1024 .f32) (w u : BitVec 32) (o q : ℕ) (hw : w.toInt = (o : Int)) (hu : u.toInt = (q : Int)) (x : FVec Ideal S64x512 .f32)
    (k : Fin 128) (d : Fin 1024) (a : Fin 64) (b : Fin 512) (h0 : o + a.val = k.val) (h1 : q + b.val = d.val) : putP W w u x (ix2 k d) = x (ix2 a b) := by
  have p0 := (congrArg BitVec.toInt (pairOf_apply0 w u)).trans hw
  have p1 := (congrArg BitVec.toInt (pairOf_apply1 w u)).trans hu
  unfold putP
  refine Idealize.ShloMosaic.Routing.scatter_set_hit D W (pairOf w u) x _ _ (fun j hj => (congrArg x (eq_ix2 j)).trans ?_) (ix2 a b) ((lands _ o q p0 p1 _ _ k d).2 ⟨h0, h1⟩)
  have e := (lands _ o q p0 p1 (j 0) (j 1) k d).1 ((congrArg (fun t => D.resultIdx? t (pairOf w u)) (eq_ix2 j).symm).trans hj)
  refine congrArg₂ (fun a b => x (ix2 a b)) (Fin.ext ?_) (Fin.ext ?_)
  · omega
  · omega

theorem putP_miss (W : FVec Ideal S128x1024 .f32) (w u : BitVec 32) (o q : ℕ) (hw : w.toInt = (o : Int)) (hu : u.toInt = (q : Int)) (x : FVec Ideal S64x512 .f32)
    (k : Fin 128) (d : Fin 1024) (h : ∀ (a : Fin 64) (b : Fin 512), ¬ (o + a.val = k.val ∧ q + b.val = d.val)) : putP W w u x (ix2 k d) = W (ix2 k d) := by
  have p0 := (congrArg BitVec.toInt (pairOf_apply0 w u)).trans hw
  have p1 := (congrArg BitVec.toInt (pairOf_apply1 w u)).trans hu
  unfold putP
  refine Idealize.ShloMosaic.Routing.scatter_set_miss D W (pairOf w u) x _ fun j hj => ?_
  exact h (j 0) (j 1) ((lands _ o q p0 p1 (j 0) (j 1) k d).1 ((congrArg (fun t => D.resultIdx? t (pairOf w u)) (eq_ix2 j).symm).trans hj))

/-- The joint weight of the two projections. -/
def joint (x y : FVec Ideal S64x512 .f32) : FVec Ideal S128x1024 .f32 :=
  putP (putP (broadcastInDim S128x1024 ![] bcast_S_S128x1024 (constant (F := Ideal) S_ .f32 0x00000000#32)) 0#32 0#32 x) 64#32 512#32 y

theorem joint_left (x y : FVec Ideal S64x512 .f32) (k : Fin 128) (d : Fin 512) :
    joint x y (ix2 k (⟨d.val, by have := d.isLt; omega⟩ : Fin 1024)) = if h : k.val < 64 then x (ix2 ⟨k.val, h⟩ d) else (0 : EReal) := by
  have hd := d.isLt
  unfold joint
  rw [putP_miss _ 64#32 512#32 64 512 rfl rfl y k _ (fun a b h => by have := h.2; have e : 512 + b.val = d.val := this; omega)]
  by_cases h : k.val < 64
  · rw [dif_pos h]
    exact putP_hit _ 0#32 0#32 0 0 rfl rfl x k _ ⟨k.val, h⟩ d (Nat.zero_add _) (Nat.zero_add _)
  · rw [dif_neg h, putP_miss _ 0#32 0#32 0 0 rfl rfl x k _ (fun a b h' => by have := h'.1; have := a.isLt; omega)]
    exact Ideal.ofBits_zero_f32

theorem joint_right (x y : FVec Ideal S64x512 .f32) (k : Fin 128) (d : Fin 512) :
    joint x y (ix2 k (⟨512 + d.val, by have := d.isLt; omega⟩ : Fin 1024)) = if h : 64 ≤ k.val then y (ix2 ⟨k.val - 64, by have := k.isLt; omega⟩ d) else (0 : EReal) := by
  have hd := d.isLt
  unfold joint
  by_cases h : 64 ≤ k.val
  · rw [dif_pos h]
    exact putP_hit _ 64#32 512#32 64 512 rfl rfl y k _ ⟨k.val - 64, by have := k.isLt; omega⟩ d (by show 64 + (k.val - 64) = k.val; omega) rfl
  · rw [dif_neg h, putP_miss _ 64#32 512#32 64 512 rfl rfl y k _ (fun a b h' => by have := h'.1; omega),
      putP_miss _ 0#32 0#32 0 0 rfl rfl x k _ (fun a b h' => by have := b.isLt; have e : 0 + b.val = 512 + d.val := h'.2; omega)]
    exact Ideal.ofBits_zero_f32

/-! ## The ones of the heads -/

/-- The quotient by 64 rounded down, as the program writes it. -/
def fdiv (x : IVec S512x512 32) (q : IVec S_ 32) : IVec S512x512 32 :=
  select (andi (cmpi .ne (signi x) (broadcastInDim S512x512 ![] bcast_S_S512x512 (signi q)))
      (cmpi .ne (Host.remsi x (broadcastInDim S512x512 ![] bcast_S_S512x512 q)) (broadcastInDim S512x512 ![] bcast_S_S512x512 (constantI S_ 32 0#32))))
    (subi (Host.divsi x (broadcastInDim S512x512 ![] bcast_S_S512x512 q)) (broadcastInDim S512x512 ![] bcast_S_S512x512 (constantI S_ 32 1#32)))
    (Host.divsi x (broadcastInDim S512x512 ![] bcast_S_S512x512 q))

/-- The same of a word. -/
def fdivW (x q : BitVec 32) : BitVec 32 :=
  Scalar.select (IntOp.andi (IntOp.cmpi (w := 32) .ne (if x = 0 then 0 else if x.msb then -1 else 1) (if q = 0 then 0 else if q.msb then -1 else 1))
      (IntOp.cmpi .ne (IntOp.remsi .host x q) 0#32))
    (IntOp.subi (IntOp.divsi .host x q) 1#32) (IntOp.divsi .host x q)

theorem fdivW_val (r : Fin 512) : fdivW (BitVec.ofNat 32 r.val) 64#32 = BitVec.ofNat 32 (r.val / 64) := by
  revert r
  decide +kernel

theorem fdiv_apply (x : IVec S512x512 32) (k d : Fin 512) (r : Fin 512) (hx : x (ix2 k d) = BitVec.ofNat 32 r.val) :
    fdiv x (constantI S_ 32 64#32) (ix2 k d) = BitVec.ofNat 32 (r.val / 64) := by
  rw [← fdivW_val, ← hx]
  rfl

def onesW : FVec Ideal S512x512 .bf16 :=
  uitofp .bf16 (cmpi .eq (fdiv (iotaInDim S512x512 32 0) (constantI S_ 32 64#32)) (fdiv (iotaInDim S512x512 32 1) (constantI S_ 32 64#32)))

theorem eq_word (a b : Fin 8) : IntOp.cmpi .eq (BitVec.ofNat 32 a.val) (BitVec.ofNat 32 b.val) = if a = b then 1#1 else 0#1 := by
  revert a b
  decide +kernel

theorem onesW_apply (k d : Fin 512) : onesW (ix2 k d) = if grpOf k = grpOf d then (1 : EReal) else 0 := by
  have e : cmpi .eq (fdiv (iotaInDim S512x512 32 0) (constantI S_ 32 64#32)) (fdiv (iotaInDim S512x512 32 1) (constantI S_ 32 64#32)) (ix2 k d)
      = if grpOf k = grpOf d then 1#1 else 0#1 := by
    show IntOp.cmpi .eq (fdiv _ _ (ix2 k d)) (fdiv _ _ (ix2 k d)) = _
    rw [fdiv_apply (iotaInDim S512x512 32 0) k d k rfl, fdiv_apply (iotaInDim S512x512 32 1) k d d rfl]
    exact eq_word (grpOf k) (grpOf d)
  show ((((cmpi .eq (fdiv (iotaInDim S512x512 32 0) (constantI S_ 32 64#32)) (fdiv (iotaInDim S512x512 32 1) (constantI S_ 32 64#32)) (ix2 k d)).toNat : ℝ)) : EReal) = _
  rw [e]
  split
  · show (((1 : ℕ) : ℝ) : EReal) = 1
    simp
  · show (((0 : ℕ) : ℝ) : EReal) = 0
    simp

/-! ## What the arrays hold where the grid begins -/

variable (m : (ℓ : Loc nD τ sig) → Buf (Elt Ideal) ℓ)

/-- The arguments as the memory holds them. -/
def argsOf (c : Dev nD) : Prep.Args where
  p := m ((c : Thread nD τ).loc main_arg0)
  mu := m ((c : Thread nD τ).loc main_arg1)
  d0 := m ((c : Thread nD τ).loc main_arg2)
  dup := m ((c : Thread nD τ).loc main_arg3)
  i0 := m ((c : Thread nD τ).loc main_arg4)
  iup := m ((c : Thread nD τ).loc main_arg5)
  gup := m ((c : Thread nD τ).loc main_arg6)
  kk := m ((c : Thread nD τ).loc main_arg7)
  ka := m ((c : Thread nD τ).loc main_arg8)
  rk := m ((c : Thread nD τ).loc main_arg9)

theorem V_p (c : Dev nD) : V m c main_arg0 = m ((c : Thread nD τ).loc main_arg0) := by
  simp only [V, List.flatten_cons, List.flatten_nil, hostOps0, hostOps0_1, hostOps0_2, hostOps0_3, hostOps0_4, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

theorem V_mu (c : Dev nD) (d : Fin 1792) : V m c main_v9 (ix2 (0 : Fin 1) d) = m ((c : Thread nD τ).loc main_arg1) (ix1 d) := by
  have h : V m c main_v9 = shapeCast S1x1792 (m ((c : Thread nD τ).loc main_arg1)) shapeCasts_S1792_S1x1792 := by
    simp only [V, List.flatten_cons, List.flatten_nil, hostOps0, hostOps0_1, hostOps0_2, hostOps0_3, hostOps0_4, List.cons_append, List.nil_append, List.append_nil,
      StableHlo.TRef.binary, StableHlo.TRef.nullary, StableHlo.TRef.ternary, StableHlo.TRef.unary, StableHlo.TRef.toBuf, StableHlo.TRef.ofBuf, cast_eq]
    after_results_simp <;> rfl
  rw [h]
  exact shapeCast_a_1a_apply _ _ _ _

theorem V_joint (c : Dev nD) : V m c main_v10 = truncf (F := Ideal) .bf16 (joint (m ((c : Thread nD τ).loc main_arg3)) (m ((c : Thread nD τ).loc main_arg5))) bitsLt_bf16_f32 := by
  simp only [V, List.flatten_cons, List.flatten_nil, hostOps0, hostOps0_1, hostOps0_2, hostOps0_3, hostOps0_4, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> (unfold joint putP pairOf; rfl)

theorem V_ones (c : Dev nD) : V m c main_v22 = onesW := by
  simp only [V, List.flatten_cons, List.flatten_nil, hostOps0, hostOps0_1, hostOps0_2, hostOps0_3, hostOps0_4, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> (unfold onesW fdiv; rfl)

theorem V_gup (c : Dev nD) : V m c main_v13 = truncf (F := Ideal) .bf16 (m ((c : Thread nD τ).loc main_arg6)) bitsLt_bf16_f32 := by
  simp only [V, List.flatten_cons, List.flatten_nil, hostOps0, hostOps0_1, hostOps0_2, hostOps0_3, hostOps0_4, List.cons_append, List.nil_append, List.append_nil,
    StableHlo.TRef.binary, StableHlo.TRef.nullary, StableHlo.TRef.ternary, StableHlo.TRef.unary, StableHlo.TRef.toBuf, StableHlo.TRef.ofBuf, cast_eq]
  after_results_simp <;> rfl

theorem V_d0 (c : Dev nD) (d : Fin 512) : V m c main_v11 (ix2 (0 : Fin 1) d) = m ((c : Thread nD τ).loc main_arg2) (ix1 d) := by
  have h : V m c main_v11 = shapeCast S1x512 (m ((c : Thread nD τ).loc main_arg2)) shapeCasts_S512_S1x512 := by
    simp only [V, List.flatten_cons, List.flatten_nil, hostOps0, hostOps0_1, hostOps0_2, hostOps0_3, hostOps0_4, List.cons_append, List.nil_append, List.append_nil,
      StableHlo.TRef.binary, StableHlo.TRef.nullary, StableHlo.TRef.ternary, StableHlo.TRef.unary, StableHlo.TRef.toBuf, StableHlo.TRef.ofBuf, cast_eq]
    after_results_simp <;> rfl
  rw [h]
  exact shapeCast_a_1a_apply _ _ _ _

theorem V_i0 (c : Dev nD) (d : Fin 512) : V m c main_v12 (ix2 (0 : Fin 1) d) = m ((c : Thread nD τ).loc main_arg4) (ix1 d) := by
  have h : V m c main_v12 = shapeCast S1x512 (m ((c : Thread nD τ).loc main_arg4)) shapeCasts_S512_S1x512 := by
    simp only [V, List.flatten_cons, List.flatten_nil, hostOps0, hostOps0_1, hostOps0_2, hostOps0_3, hostOps0_4, List.cons_append, List.nil_append, List.append_nil,
      StableHlo.TRef.binary, StableHlo.TRef.nullary, StableHlo.TRef.ternary, StableHlo.TRef.unary, StableHlo.TRef.toBuf, StableHlo.TRef.ofBuf, cast_eq]
    after_results_simp <;> rfl
  rw [h]
  exact shapeCast_a_1a_apply _ _ _ _

theorem V_kk (c : Dev nD) (d : Fin 512) : V m c main_v14 (ix2 (0 : Fin 1) d) = m ((c : Thread nD τ).loc main_arg7) (ix1 d) := by
  have h : V m c main_v14 = shapeCast S1x512 (m ((c : Thread nD τ).loc main_arg7)) shapeCasts_S512_S1x512 := by
    simp only [V, List.flatten_cons, List.flatten_nil, hostOps0, hostOps0_1, hostOps0_2, hostOps0_3, hostOps0_4, List.cons_append, List.nil_append, List.append_nil,
      StableHlo.TRef.binary, StableHlo.TRef.nullary, StableHlo.TRef.ternary, StableHlo.TRef.unary, StableHlo.TRef.toBuf, StableHlo.TRef.ofBuf, cast_eq]
    after_results_simp <;> rfl
  rw [h]
  exact shapeCast_a_1a_apply _ _ _ _

theorem V_ka (c : Dev nD) (d : Fin 512) : V m c main_v15 (ix2 (0 : Fin 1) d) = m ((c : Thread nD τ).loc main_arg8) (ix1 d) := by
  have h : V m c main_v15 = shapeCast S1x512 (m ((c : Thread nD τ).loc main_arg8)) shapeCasts_S512_S1x512 := by
    simp only [V, List.flatten_cons, List.flatten_nil, hostOps0, hostOps0_1, hostOps0_2, hostOps0_3, hostOps0_4, List.cons_append, List.nil_append, List.append_nil,
      StableHlo.TRef.binary, StableHlo.TRef.nullary, StableHlo.TRef.ternary, StableHlo.TRef.unary, StableHlo.TRef.toBuf, StableHlo.TRef.ofBuf, cast_eq]
    after_results_simp <;> rfl
  rw [h]
  exact shapeCast_a_1a_apply _ _ _ _

theorem V_rk (c : Dev nD) (d : Fin 512) : V m c main_v16 (ix2 (0 : Fin 1) d) = m ((c : Thread nD τ).loc main_arg9) (ix1 d) := by
  have h : V m c main_v16 = shapeCast S1x512 (m ((c : Thread nD τ).loc main_arg9)) shapeCasts_S512_S1x512 := by
    simp only [V, List.flatten_cons, List.flatten_nil, hostOps0, hostOps0_1, hostOps0_2, hostOps0_3, hostOps0_4, List.cons_append, List.nil_append, List.append_nil,
      StableHlo.TRef.binary, StableHlo.TRef.nullary, StableHlo.TRef.ternary, StableHlo.TRef.unary, StableHlo.TRef.toBuf, StableHlo.TRef.ofBuf, cast_eq]
    after_results_simp <;> rfl
  rw [h]
  exact shapeCast_a_1a_apply _ _ _ _

end Cert.Layer.PrepReal

end
-- ==== Proof.PrepBody.lean ====
/- What the preparation kernel's body leaves in each result's block and in the carried row: at a sequence's first block
   the carried row read is zero, elsewhere it is what the block before left. -/
module

public import proofs.«01_k».proof.Proof.Gen.PrepIdeal.Frame
public import proofs.«01_k».proof.Proof.Block
public import Idealize.ShloMosaic.Lib.Pipeline.Value

@[expose] public section

set_option maxRecDepth 16384

noncomputable section

namespace Cert.Layer.PrepReal

open Idealize.ShloMosaic Idealize.ShloMosaic.TcCoe Idealize.SL.Sem Cert.PrepIdeal Cert.PrepIdeal.Gen

theorem hz : (![0, 0] : Fin 2 → Nat) = fun _ => 0 := funext fun a => by fin_cases a <;> rfl

variable (c : Dev nD) (i : grid0.Coords) (a2 : Memref sig .tc .vmem S432x1792 .f32) (h2 : a2.IsWhole) (a3 : Memref sig .tc .vmem S1x1792 .f32) (h3 : a3.IsWhole) (a4 : Memref sig .tc .vmem S128x1024 .bf16) (h4 : a4.IsWhole) (a5 : Memref sig .tc .vmem S1x512 .f32) (h5 : a5.IsWhole) (a6 : Memref sig .tc .vmem S1x512 .f32) (h6 : a6.IsWhole) (a7 : Memref sig .tc .vmem S128x512 .bf16) (h7 : a7.IsWhole) (a8 : Memref sig .tc .vmem S1x512 .f32) (h8 : a8.IsWhole) (a9 : Memref sig .tc .vmem S1x512 .f32) (h9 : a9.IsWhole) (a10 : Memref sig .tc .vmem S1x512 .f32) (h10 : a10.IsWhole) (a11 : Memref sig .tc .vmem S512x512 .bf16) (h11 : a11.IsWhole) (a12 : Memref sig .tc .vmem S432x512 .f32) (h12 : a12.IsWhole) (a13 : Memref sig .tc .vmem S432x512 .f32) (h13 : a13.IsWhole) (a14 : Memref sig .tc .vmem S432x512 .f32) (h14 : a14.IsWhole) (a15 : Memref sig .tc .vmem S432x512 .f32) (h15 : a15.IsWhole) (a16 : Memref sig .tc .vmem S432x512 .f32) (h16 : a16.IsWhole) (a17 : Memref sig .tc .vmem S432x512 .f32) (h17 : a17.IsWhole) (a18 : Memref sig .tc .vmem S432x512 .f32) (h18 : a18.IsWhole) (a19 : Memref sig .tc .vmem S432x512 .f32) (h19 : a19.IsWhole) (a20 : Memref sig .tc .vmem S1x1792 .f32) (h20 : a20.IsWhole)

theorem out_A_10 (hc : cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) :
    out0_A_10 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 = k0_pay5 x0 (k0_pay2 (F := Ideal)) x1 := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9)]
  unfold kernelRun0_A
  dsimp only
  sl_unfold_words
  rw [View.canon_unit_zero (S := S432x512) hz]
  simp only [View.readCov_unit_zero (S := S1x1792) _ hz, View.readAt_eq_ld, h2.read_unread, h3.read_unread, h4.read_unread, h5.read_unread, h6.read_unread, h7.read_unread, h8.read_unread, h9.read_unread, h10.read_unread, h11.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_A_11 (hc : cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) :
    out0_A_11 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 = k0_pay18 (k0_pay10 (k0_pay9 x0 (k0_pay2 (F := Ideal)) x1 x2) x3) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9)]
  unfold kernelRun0_A
  dsimp only
  sl_unfold_words
  rw [View.canon_unit_zero (S := S432x512) hz]
  simp only [View.readCov_unit_zero (S := S1x1792) _ hz, View.readAt_eq_ld, h2.read_unread, h3.read_unread, h4.read_unread, h5.read_unread, h6.read_unread, h7.read_unread, h8.read_unread, h9.read_unread, h10.read_unread, h11.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_A_12 (hc : cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) :
    out0_A_12 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 = k0_pay16 (k0_pay6 x0 (k0_pay2 (F := Ideal)) x1) (k0_pay11 (k0_pay9 x0 (k0_pay2 (F := Ideal)) x1 x2) x4) x7 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9)]
  unfold kernelRun0_A
  dsimp only
  sl_unfold_words
  rw [View.canon_unit_zero (S := S432x512) hz]
  simp only [View.readCov_unit_zero (S := S1x1792) _ hz, View.readAt_eq_ld, h2.read_unread, h3.read_unread, h4.read_unread, h5.read_unread, h6.read_unread, h7.read_unread, h8.read_unread, h9.read_unread, h10.read_unread, h11.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_A_13 (hc : cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) :
    out0_A_13 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 = k0_pay7 x0 (k0_pay2 (F := Ideal)) x1 := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9)]
  unfold kernelRun0_A
  dsimp only
  sl_unfold_words
  rw [View.canon_unit_zero (S := S432x512) hz]
  simp only [View.readCov_unit_zero (S := S1x1792) _ hz, View.readAt_eq_ld, h2.read_unread, h3.read_unread, h4.read_unread, h5.read_unread, h6.read_unread, h7.read_unread, h8.read_unread, h9.read_unread, h10.read_unread, h11.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_A_14 (hc : cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) :
    out0_A_14 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 = k0_pay15 (k0_pay6 x0 (k0_pay2 (F := Ideal)) x1) x9 x6 := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9)]
  unfold kernelRun0_A
  dsimp only
  sl_unfold_words
  rw [View.canon_unit_zero (S := S432x512) hz]
  simp only [View.readCov_unit_zero (S := S1x1792) _ hz, View.readAt_eq_ld, h2.read_unread, h3.read_unread, h4.read_unread, h5.read_unread, h6.read_unread, h7.read_unread, h8.read_unread, h9.read_unread, h10.read_unread, h11.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_A_15 (hc : cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) :
    out0_A_15 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 = k0_pay1 (k0_pay11 (k0_pay9 x0 (k0_pay2 (F := Ideal)) x1 x2) x4) (k0_pay15 (k0_pay6 x0 (k0_pay2 (F := Ideal)) x1) x9 x6) := by
  unfold out0_A_15
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9)]
  unfold kernelRun0_A
  dsimp only
  sl_unfold_words
  rw [View.canon_unit_zero (S := S432x512) hz]
  simp only [View.readCov_unit_zero (S := S1x1792) _ hz, View.readAt_eq_ld, h2.read_unread, h3.read_unread, h4.read_unread, h5.read_unread, h6.read_unread, h7.read_unread, h8.read_unread, h9.read_unread, h10.read_unread, h11.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_A_16 (hc : cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) :
    out0_A_16 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 = k0_pay13 (k0_pay12 (k0_pay8 x0 (k0_pay2 (F := Ideal)) x1)) x5 := by
  unfold out0_A_16
  rw [View.read_writes_eq_canon _ _ _ (cover0_A_16 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9)]
  unfold kernelRun0_A
  dsimp only
  sl_unfold_words
  rw [View.canon_unit_zero (S := S432x512) hz]
  simp only [View.readCov_unit_zero (S := S1x1792) _ hz, View.readAt_eq_ld, h2.read_unread, h3.read_unread, h4.read_unread, h5.read_unread, h6.read_unread, h7.read_unread, h8.read_unread, h9.read_unread, h10.read_unread, h11.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_A_17 (hc : cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) :
    out0_A_17 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 = k0_pay17 (k0_pay5 x0 (k0_pay2 (F := Ideal)) x1) (k0_pay6 x0 (k0_pay2 (F := Ideal)) x1) (k0_pay7 x0 (k0_pay2 (F := Ideal)) x1) (k0_pay11 (k0_pay9 x0 (k0_pay2 (F := Ideal)) x1 x2) x4) x9 x7 x8 := by
  unfold out0_A_17
  rw [View.read_writes_eq_canon _ _ _ (cover0_A_17 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9)]
  unfold kernelRun0_A
  dsimp only
  sl_unfold_words
  rw [View.canon_unit_zero (S := S432x512) hz]
  simp only [View.readCov_unit_zero (S := S1x1792) _ hz, View.readAt_eq_ld, h2.read_unread, h3.read_unread, h4.read_unread, h5.read_unread, h6.read_unread, h7.read_unread, h8.read_unread, h9.read_unread, h10.read_unread, h11.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem sout_A_0 (hc : cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) :
    sout0_A_0 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 = k0_pay3 x0 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9)]
  unfold kernelRun0_A
  dsimp only
  sl_unfold_words
  rw [View.canon_cons_unit_zero (S := S1x1792) hz]
  simp only [View.readAt_eq_ld, h2.read_unread, h3.read_unread, h4.read_unread, h5.read_unread, h6.read_unread, h7.read_unread, h8.read_unread, h9.read_unread, h10.read_unread, h11.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_B_10 (hc : ¬cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) (xs : Vec Ideal S1x1792 .f32) :
    out0_B_10 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs = k0_pay5 x0 xs x1 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs)]
  unfold kernelRun0_B
  dsimp only
  sl_unfold_words
  rw [View.canon_unit_zero (S := S432x512) hz]
  simp only [View.readAt_eq_ld, h2.read_unread, h3.read_unread, h4.read_unread, h5.read_unread, h6.read_unread, h7.read_unread, h8.read_unread, h9.read_unread, h10.read_unread, h11.read_unread, h20.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_B_11 (hc : ¬cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) (xs : Vec Ideal S1x1792 .f32) :
    out0_B_11 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs = k0_pay18 (k0_pay10 (k0_pay9 x0 xs x1 x2) x3) := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs)]
  unfold kernelRun0_B
  dsimp only
  sl_unfold_words
  rw [View.canon_unit_zero (S := S432x512) hz]
  simp only [View.readAt_eq_ld, h2.read_unread, h3.read_unread, h4.read_unread, h5.read_unread, h6.read_unread, h7.read_unread, h8.read_unread, h9.read_unread, h10.read_unread, h11.read_unread, h20.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_B_12 (hc : ¬cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) (xs : Vec Ideal S1x1792 .f32) :
    out0_B_12 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs = k0_pay16 (k0_pay6 x0 xs x1) (k0_pay11 (k0_pay9 x0 xs x1 x2) x4) x7 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs)]
  unfold kernelRun0_B
  dsimp only
  sl_unfold_words
  rw [View.canon_unit_zero (S := S432x512) hz]
  simp only [View.readAt_eq_ld, h2.read_unread, h3.read_unread, h4.read_unread, h5.read_unread, h6.read_unread, h7.read_unread, h8.read_unread, h9.read_unread, h10.read_unread, h11.read_unread, h20.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_B_13 (hc : ¬cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) (xs : Vec Ideal S1x1792 .f32) :
    out0_B_13 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs = k0_pay7 x0 xs x1 := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs)]
  unfold kernelRun0_B
  dsimp only
  sl_unfold_words
  rw [View.canon_unit_zero (S := S432x512) hz]
  simp only [View.readAt_eq_ld, h2.read_unread, h3.read_unread, h4.read_unread, h5.read_unread, h6.read_unread, h7.read_unread, h8.read_unread, h9.read_unread, h10.read_unread, h11.read_unread, h20.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_B_14 (hc : ¬cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) (xs : Vec Ideal S1x1792 .f32) :
    out0_B_14 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs = k0_pay15 (k0_pay6 x0 xs x1) x9 x6 := by
  unfold out0_B_14
  rw [View.read_writes_eq_canon _ _ _ (cover0_B_14 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs)]
  unfold kernelRun0_B
  dsimp only
  sl_unfold_words
  rw [View.canon_unit_zero (S := S432x512) hz]
  simp only [View.readAt_eq_ld, h2.read_unread, h3.read_unread, h4.read_unread, h5.read_unread, h6.read_unread, h7.read_unread, h8.read_unread, h9.read_unread, h10.read_unread, h11.read_unread, h20.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_B_15 (hc : ¬cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) (xs : Vec Ideal S1x1792 .f32) :
    out0_B_15 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs = k0_pay1 (k0_pay11 (k0_pay9 x0 xs x1 x2) x4) (k0_pay15 (k0_pay6 x0 xs x1) x9 x6) := by
  unfold out0_B_15
  rw [View.read_writes_eq_canon _ _ _ (cover0_B_15 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs)]
  unfold kernelRun0_B
  dsimp only
  sl_unfold_words
  rw [View.canon_unit_zero (S := S432x512) hz]
  simp only [View.readAt_eq_ld, h2.read_unread, h3.read_unread, h4.read_unread, h5.read_unread, h6.read_unread, h7.read_unread, h8.read_unread, h9.read_unread, h10.read_unread, h11.read_unread, h20.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_B_16 (hc : ¬cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) (xs : Vec Ideal S1x1792 .f32) :
    out0_B_16 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs = k0_pay13 (k0_pay12 (k0_pay8 x0 xs x1)) x5 := by
  unfold out0_B_16
  rw [View.read_writes_eq_canon _ _ _ (cover0_B_16 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs)]
  unfold kernelRun0_B
  dsimp only
  sl_unfold_words
  rw [View.canon_unit_zero (S := S432x512) hz]
  simp only [View.readAt_eq_ld, h2.read_unread, h3.read_unread, h4.read_unread, h5.read_unread, h6.read_unread, h7.read_unread, h8.read_unread, h9.read_unread, h10.read_unread, h11.read_unread, h20.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem out_B_17 (hc : ¬cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) (xs : Vec Ideal S1x1792 .f32) :
    out0_B_17 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs = k0_pay17 (k0_pay5 x0 xs x1) (k0_pay6 x0 xs x1) (k0_pay7 x0 xs x1) (k0_pay11 (k0_pay9 x0 xs x1 x2) x4) x9 x7 x8 := by
  unfold out0_B_17
  rw [View.read_writes_eq_canon _ _ _ (cover0_B_17 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs)]
  unfold kernelRun0_B
  dsimp only
  sl_unfold_words
  rw [View.canon_unit_zero (S := S432x512) hz]
  simp only [View.readAt_eq_ld, h2.read_unread, h3.read_unread, h4.read_unread, h5.read_unread, h6.read_unread, h7.read_unread, h8.read_unread, h9.read_unread, h10.read_unread, h11.read_unread, h20.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

theorem sout_B_0 (hc : ¬cond0_0 i) (x0 : Vec Ideal S432x1792 .f32) (x1 : Vec Ideal S1x1792 .f32) (x2 : Vec Ideal S128x1024 .bf16) (x3 : Vec Ideal S1x512 .f32) (x4 : Vec Ideal S1x512 .f32) (x5 : Vec Ideal S128x512 .bf16) (x6 : Vec Ideal S1x512 .f32) (x7 : Vec Ideal S1x512 .f32) (x8 : Vec Ideal S1x512 .f32) (x9 : Vec Ideal S512x512 .bf16) (xs : Vec Ideal S1x1792 .f32) :
    sout0_B_0 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs = k0_pay3 x0 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 xs)]
  unfold kernelRun0_B
  dsimp only
  sl_unfold_words
  rw [View.canon_unit_zero (S := S1x1792) hz]
  simp only [View.readAt_eq_ld, h2.read_unread, h3.read_unread, h4.read_unread, h5.read_unread, h6.read_unread, h7.read_unread, h8.read_unread, h9.read_unread, h10.read_unread, h11.read_unread, h20.read_unread, View.ld_unit_zero (S := S432x1792) hz, View.ld_unit_zero (S := S1x1792) hz, View.ld_unit_zero (S := S128x1024) hz, View.ld_unit_zero (S := S1x512) hz, View.ld_unit_zero (S := S128x512) hz, View.ld_unit_zero (S := S512x512) hz]

end Cert.Layer.PrepReal

end
-- ==== Proof.PrepValue.lean ====
/- What the preparation kernel leaves: at every grid point the carried row is the one before the block's first, so that
   every block of the eight results holds the values of its rows. -/
module

public import proofs.«01_k».proof.Proof.PrepKernel
public import proofs.«01_k».proof.Proof.PrepHost
public import proofs.«01_k».proof.Proof.PrepBody
public import Idealize.ShloMosaic.Lib.Claim

@[expose] public section

set_option maxRecDepth 16384

noncomputable section

namespace Cert.Layer.PrepReal

open Idealize.ShloMosaic Idealize.ShloMosaic.ValueIdx Cert.PrepIdeal Cert.PrepIdeal.Gen Cert.Layer Cert.Layer.Lru Cert.Layer.Prep
open Idealize.ShloMosaic.TcCoe Idealize.SL.Sem
open scoped BigOperators

/-! ## A block of rows -/

section Block

variable (A : Prep.Args) (i : Fin 432 → Fin 65664)
  (x0 : Vec Ideal S432x1792 .f32) (C x1 : Vec Ideal S1x1792 .f32) (x2 : Vec Ideal S128x1024 .bf16) (x3 x4 : Vec Ideal S1x512 .f32)
  (x5 : Vec Ideal S128x512 .bf16) (x6 x7 x8 : Vec Ideal S1x512 .f32) (x9 : Vec Ideal S512x512 .bf16)

/-- What the kernel reads at the block whose row `r` is the array's row `i r`. -/
structure Blk : Prop where
  hx : ∀ (r : Fin 432) (c : Fin 1792), x0 (ix2 r c) = A.p (ix2 (i r) c)
  hC : ∀ c : Fin 1792, C (ix2 (0 : Fin 1) c) = prev A (i 0) c
  hp : ∀ (r : Fin 432) (h : r.val ≠ 0), (i r).val % 8208 ≠ 0 ∧ (i ⟨r.val - 1, by have := r.isLt; omega⟩).val = (i r).val - 1
  h1 : ∀ c : Fin 1792, x1 (ix2 (0 : Fin 1) c) = A.mu (ix1 c)
  hD : ∀ (k : Fin 128) (d : Fin 512), x2 (ix2 k (⟨d.val, by have := d.isLt; omega⟩ : Fin 1024)) = if h : k.val < 64 then A.dup (ix2 ⟨k.val, h⟩ d) else (0 : EReal)
  hI : ∀ (k : Fin 128) (d : Fin 512), x2 (ix2 k (⟨512 + d.val, by have := d.isLt; omega⟩ : Fin 1024))
    = if h : 64 ≤ k.val then A.iup (ix2 ⟨k.val - 64, by have := k.isLt; omega⟩ d) else (0 : EReal)
  h3 : ∀ d : Fin 512, x3 (ix2 (0 : Fin 1) d) = A.d0 (ix1 d)
  h4 : ∀ d : Fin 512, x4 (ix2 (0 : Fin 1) d) = A.i0 (ix1 d)
  h5 : ∀ (k : Fin 128) (d : Fin 512), x5 (ix2 k d) = A.gup (ix2 k d)
  h6 : ∀ d : Fin 512, x6 (ix2 (0 : Fin 1) d) = A.kk (ix1 d)
  h7 : ∀ d : Fin 512, x7 (ix2 (0 : Fin 1) d) = A.ka (ix1 d)
  h8 : ∀ d : Fin 512, x8 (ix2 (0 : Fin 1) d) = A.rk (ix1 d)
  h9 : ∀ k d : Fin 512, x9 (ix2 k d) = if grpOf k = grpOf d then (1 : EReal) else 0

variable {A i x0 C x1 x2 x3 x4 x5 x6 x7 x8 x9} (H : Blk A i x0 C x1 x2 x3 x4 x5 x6 x7 x8 x9) (r : Fin 432) (d : Fin 512)
include H

theorem Blk.mix (c : Fin 1792) : k0_pay4 (F := Ideal) x0 C x1 (ix2 r c) = mixed A (i r) c := by
  rw [pay4_apply, H.hx, H.h1]
  unfold mixed
  refine congrArg (fun z : EReal => A.p (ix2 (i r) c) + A.mu (ix1 c) * (z - A.p (ix2 (i r) c))) ?_
  by_cases h : r.val = 0
  · rw [if_pos h, H.hC]
    exact congrArg (fun q => prev A (i q) c) (Fin.ext h.symm)
  · rw [if_neg h, H.hx]
    unfold prev
    rw [if_neg (H.hp r h).1]
    exact congrArg (fun q => A.p (ix2 q c)) (Fin.ext (H.hp r h).2)

theorem Blk.r10 : k0_pay5 (F := Ideal) x0 C x1 (ix2 r d) = mixed A (i r) (cR d) := pay5_apply x0 C x1 r _ (H.mix r) d

theorem Blk.key : k0_pay6 (F := Ideal) x0 C x1 (ix2 r d) = mixed A (i r) (cK d) := pay6_apply x0 C x1 r _ (H.mix r) d

theorem Blk.r13 : k0_pay7 (F := Ideal) x0 C x1 (ix2 r d) = mixed A (i r) (cV d) := pay7_apply x0 C x1 r _ (H.mix r) d

theorem Blk.r11 : k0_pay18 (F := Ideal) (k0_pay10 (k0_pay9 x0 C x1 x2) x3) (ix2 r d) = wS A (mixed A (i r)) d := by
  refine pay18_apply _ x3 r d _ ?_
  rw [H.h3]
  exact congrArg (fun z : EReal => A.d0 (ix1 d) + z) (dec_apply x0 C x1 r _ (H.mix r) A x2 H.hD d)

theorem Blk.rate : k0_pay11 (F := Ideal) (k0_pay9 x0 C x1 x2) x4 (ix2 r d) = aS A (mixed A (i r)) d := by
  rw [pay11_apply, H.h4]
  exact congrArg (fun z : EReal => sigm (A.i0 (ix1 d) + z)) (icl_apply x0 C x1 r _ (H.mix r) A x2 H.hI d)

theorem Blk.r12 : k0_pay16 (F := Ideal) (k0_pay6 x0 C x1) (k0_pay11 (k0_pay9 x0 C x1 x2) x4) x7 (ix2 r d) = kmS A (mixed A (i r)) d := by
  rw [pay16_apply, H.key, H.rate, H.h7]
  rfl

theorem Blk.r14 : k0_pay15 (F := Ideal) (k0_pay6 x0 C x1) x9 x6 (ix2 r d) = nS A (mixed A (i r)) d :=
  pay15_apply x9 H.h9 _ x6 r (krS A (mixed A (i r))) (fun d => by rw [H.key, H.h6]; rfl) d

theorem Blk.r15 : k0_pay1 (F := Ideal) (k0_pay11 (k0_pay9 x0 C x1 x2) x4) (k0_pay15 (k0_pay6 x0 C x1) x9 x6) (ix2 r d)
    = nS A (mixed A (i r)) d * aS A (mixed A (i r)) d :=
  congrArg₂ (fun a b : EReal => a * b) (H.r14 r d) (H.rate r d)

theorem Blk.r16 : k0_pay13 (F := Ideal) (k0_pay12 (k0_pay8 x0 C x1)) x5 (ix2 r d) = gS A (mixed A (i r)) d := by
  rw [pay13_apply]
  unfold gS
  exact Finset.sum_congr rfl fun k _ => congrArg₂ (fun a b : EReal => sigm a * b) (pay8_apply x0 C x1 r _ (H.mix r) k) (H.h5 k d)

theorem Blk.r17 : k0_pay17 (F := Ideal) (k0_pay5 x0 C x1) (k0_pay6 x0 C x1) (k0_pay7 x0 C x1) (k0_pay11 (k0_pay9 x0 C x1 x2) x4) x9 x7 x8 (ix2 r d)
    = bS A (mixed A (i r)) d := by
  rw [pay17_apply x9 H.h9, H.r13]
  unfold bS
  refine congrArg (fun z : EReal => z * mixed A (i r) (cV d)) (Finset.sum_congr rfl fun j _ => ?_)
  rw [H.r10, H.r12, H.h8]

end Block

/-! ## The grid points -/

variable (m : (ℓ : Loc nD τ sig) → Buf (Elt Ideal) ℓ) (ρ : Dev nD → PrngReg)

/-- A grid point's block of rows is its number. -/
theorem word_val : ∀ t : Fin grid0.N,
    (Scalar.addi (Scalar.muli (BitVec.ofNat 32 (grid0.coords t 0).val) 19#32) (BitVec.ofNat 32 (grid0.coords t 1).val)).toNat = t.val := by
  decide +kernel

abbrev row (t : Fin grid0.N) (r : Fin 432) : Fin 65664 :=
  ⟨t.val * 432 + r.val, by have h2 : t.val < 152 := lt_of_lt_of_eq t.isLt N_0; have := r.isLt; omega⟩

theorem x_apply (c : Dev nD) (t : Fin grid0.N) (r : Fin 432) (d : Fin 1792) :
    (iblk m c 0 t : Vec Ideal S432x1792 .f32) (ix2 r d) = V m c main_arg0 (ix2 (row t r) d) := by
  refine congrArg (V m c main_arg0) (funext fun a => Fin.ext ?_)
  refine (Pipeline.Window.rect_emb_val (cfg0.win 0) t (ix2 r d) a).trans ?_
  match a with
  | ⟨0, _⟩ => exact congrArg (· * 432 + r.val) (word_val t)
  | ⟨1, _⟩ => exact Nat.zero_add _

theorem w1_apply (c : Dev nD) (t : Fin grid0.N) (k : Fin 1) (d : Fin 1792) :
    (iblk m c 1 t : Vec Ideal S1x1792 .f32) (ix2 k d) = V m c main_v9 (ix2 k d) := by
  refine congrArg (V m c main_v9) (funext fun a => Fin.ext ?_)
  refine (Pipeline.Window.rect_emb_val (cfg0.win 1) t (ix2 k d) a).trans ?_
  match a with
  | ⟨0, _⟩ => exact Nat.zero_add _
  | ⟨1, _⟩ => exact Nat.zero_add _

theorem w2_apply (c : Dev nD) (t : Fin grid0.N) (k : Fin 128) (d : Fin 1024) :
    (iblk m c 2 t : Vec Ideal S128x1024 .bf16) (ix2 k d) = V m c main_v10 (ix2 k d) := by
  refine congrArg (V m c main_v10) (funext fun a => Fin.ext ?_)
  refine (Pipeline.Window.rect_emb_val (cfg0.win 2) t (ix2 k d) a).trans ?_
  match a with
  | ⟨0, _⟩ => exact Nat.zero_add _
  | ⟨1, _⟩ => exact Nat.zero_add _

theorem w3_apply (c : Dev nD) (t : Fin grid0.N) (k : Fin 1) (d : Fin 512) :
    (iblk m c 3 t : Vec Ideal S1x512 .f32) (ix2 k d) = V m c main_v11 (ix2 k d) := by
  refine congrArg (V m c main_v11) (funext fun a => Fin.ext ?_)
  refine (Pipeline.Window.rect_emb_val (cfg0.win 3) t (ix2 k d) a).trans ?_
  match a with
  | ⟨0, _⟩ => exact Nat.zero_add _
  | ⟨1, _⟩ => exact Nat.zero_add _

theorem w4_apply (c : Dev nD) (t : Fin grid0.N) (k : Fin 1) (d : Fin 512) :
    (iblk m c 4 t : Vec Ideal S1x512 .f32) (ix2 k d) = V m c main_v12 (ix2 k d) := by
  refine congrArg (V m c main_v12) (funext fun a => Fin.ext ?_)
  refine (Pipeline.Window.rect_emb_val (cfg0.win 4) t (ix2 k d) a).trans ?_
  match a with
  | ⟨0, _⟩ => exact Nat.zero_add _
  | ⟨1, _⟩ => exact Nat.zero_add _

theorem w5_apply (c : Dev nD) (t : Fin grid0.N) (k : Fin 128) (d : Fin 512) :
    (iblk m c 5 t : Vec Ideal S128x512 .bf16) (ix2 k d) = V m c main_v13 (ix2 k d) := by
  refine congrArg (V m c main_v13) (funext fun a => Fin.ext ?_)
  refine (Pipeline.Window.rect_emb_val (cfg0.win 5) t (ix2 k d) a).trans ?_
  match a with
  | ⟨0, _⟩ => exact Nat.zero_add _
  | ⟨1, _⟩ => exact Nat.zero_add _

theorem w6_apply (c : Dev nD) (t : Fin grid0.N) (k : Fin 1) (d : Fin 512) :
    (iblk m c 6 t : Vec Ideal S1x512 .f32) (ix2 k d) = V m c main_v14 (ix2 k d) := by
  refine congrArg (V m c main_v14) (funext fun a => Fin.ext ?_)
  refine (Pipeline.Window.rect_emb_val (cfg0.win 6) t (ix2 k d) a).trans ?_
  match a with
  | ⟨0, _⟩ => exact Nat.zero_add _
  | ⟨1, _⟩ => exact Nat.zero_add _

theorem w7_apply (c : Dev nD) (t : Fin grid0.N) (k : Fin 1) (d : Fin 512) :
    (iblk m c 7 t : Vec Ideal S1x512 .f32) (ix2 k d) = V m c main_v15 (ix2 k d) := by
  refine congrArg (V m c main_v15) (funext fun a => Fin.ext ?_)
  refine (Pipeline.Window.rect_emb_val (cfg0.win 7) t (ix2 k d) a).trans ?_
  match a with
  | ⟨0, _⟩ => exact Nat.zero_add _
  | ⟨1, _⟩ => exact Nat.zero_add _

theorem w8_apply (c : Dev nD) (t : Fin grid0.N) (k : Fin 1) (d : Fin 512) :
    (iblk m c 8 t : Vec Ideal S1x512 .f32) (ix2 k d) = V m c main_v16 (ix2 k d) := by
  refine congrArg (V m c main_v16) (funext fun a => Fin.ext ?_)
  refine (Pipeline.Window.rect_emb_val (cfg0.win 8) t (ix2 k d) a).trans ?_
  match a with
  | ⟨0, _⟩ => exact Nat.zero_add _
  | ⟨1, _⟩ => exact Nat.zero_add _

theorem w9_apply (c : Dev nD) (t : Fin grid0.N) (k : Fin 512) (d : Fin 512) :
    (iblk m c 9 t : Vec Ideal S512x512 .bf16) (ix2 k d) = V m c main_v22 (ix2 k d) := by
  refine congrArg (V m c main_v22) (funext fun a => Fin.ext ?_)
  refine (Pipeline.Window.rect_emb_val (cfg0.win 9) t (ix2 k d) a).trans ?_
  match a with
  | ⟨0, _⟩ => exact Nat.zero_add _
  | ⟨1, _⟩ => exact Nat.zero_add _

/-- The row a block carries to the next is its last. -/
theorem carried (c : Dev nD) (t : Fin cfg0.N) : (outsAt0 m c t.val t.isLt).2.2.2.2.2.2.2.2 = k0_pay3 (iblk m c 0 t) := by
  by_cases h0 : t.val % 19 = 0
  · rw [outsAt0_A m c t h0]
    dsimp only
    exact sout_A_0 ..
  · rw [outsAt0_B m c t h0]
    dsimp only
    exact sout_B_0 ..

/-- The carried row a block reads. -/
def ent (c : Dev nD) (t : Fin cfg0.N) : Vec Ideal S1x1792 .f32 :=
  if t.val % 19 = 0 then k0_pay2 (F := Ideal) else (outsAt0 m c (t.val - 1) (Nat.lt_of_le_of_lt (Nat.sub_le _ _) t.isLt)).2.2.2.2.2.2.2.2

theorem ent_apply (c : Dev nD) (t : Fin cfg0.N) (d : Fin 1792) : ent m c t (ix2 (0 : Fin 1) d) = prev (argsOf m c) (row t 0) d := by
  have h2 : t.val < 152 := lt_of_lt_of_eq t.isLt N_0
  have hr : (row t 0).val = t.val * 432 := Nat.add_zero _
  unfold ent prev
  by_cases h0 : t.val % 19 = 0
  · rw [if_pos h0, if_pos (show (row t 0).val % 8208 = 0 by omega)]
    exact pay2_apply d
  · rw [if_neg h0, if_neg (show ¬ (row t 0).val % 8208 = 0 by omega)]
    refine (congrFun (carried m c (⟨t.val - 1, Nat.lt_of_le_of_lt (Nat.sub_le _ _) t.isLt⟩ : Fin cfg0.N)) (ix2 (0 : Fin 1) d)).trans ((pay3_apply _ d).trans ((x_apply m c _ 431 d).trans
      ((congrFun (V_p m c) _).trans (congrArg (fun q => (argsOf m c).p (ix2 q d)) (Fin.ext ?_)))))
    show (t.val - 1) * 432 + 431 = (row t 0).val - 1
    omega

theorem rd0 (c : Dev nD) (t : Fin cfg0.N) (r : Fin 432) (d : Fin 1792) :
    (iblk m c 0 t : Vec Ideal S432x1792 .f32) (ix2 r d) = (argsOf m c).p (ix2 (row t r) d) := by
  rw [x_apply m c t r d, V_p m c]
  rfl

theorem trunc_at {S : Shape} (x : FVec Ideal S .f32) (h : FTy.bits .bf16 < FTy.bits .f32) (j : S.Idx) : truncf (F := Ideal) .bf16 x h j = x j := rfl

theorem rd2D (c : Dev nD) (t : Fin cfg0.N) (k : Fin 128) (d : Fin 512) :
    (iblk m c 2 t : Vec Ideal S128x1024 .bf16) (ix2 k (⟨d.val, by have := d.isLt; omega⟩ : Fin 1024))
      = if h : k.val < 64 then (argsOf m c).dup (ix2 ⟨k.val, h⟩ d) else (0 : EReal) := by
  rw [w2_apply m c t k _, V_joint m c, trunc_at, joint_left]
  rfl

theorem rd2I (c : Dev nD) (t : Fin cfg0.N) (k : Fin 128) (d : Fin 512) :
    (iblk m c 2 t : Vec Ideal S128x1024 .bf16) (ix2 k (⟨512 + d.val, by have := d.isLt; omega⟩ : Fin 1024))
      = if h : 64 ≤ k.val then (argsOf m c).iup (ix2 ⟨k.val - 64, by have := k.isLt; omega⟩ d) else (0 : EReal) := by
  rw [w2_apply m c t k _, V_joint m c, trunc_at, joint_right]
  rfl

theorem rd5 (c : Dev nD) (t : Fin cfg0.N) (k : Fin 128) (d : Fin 512) :
    (iblk m c 5 t : Vec Ideal S128x512 .bf16) (ix2 k d) = (argsOf m c).gup (ix2 k d) := by
  rw [w5_apply m c t k d, V_gup m c]
  rfl

theorem rd9 (c : Dev nD) (t : Fin cfg0.N) (k d : Fin 512) :
    (iblk m c 9 t : Vec Ideal S512x512 .bf16) (ix2 k d) = if grpOf k = grpOf d then (1 : EReal) else 0 := by
  rw [w9_apply m c t k d, V_ones m c]
  exact onesW_apply k d

theorem rowPrev (t : Fin grid0.N) (r : Fin 432) (h : r.val ≠ 0) :
    (row t r).val % 8208 ≠ 0 ∧ (row t ⟨r.val - 1, by have := r.isLt; omega⟩).val = (row t r).val - 1 := by
  have h2 : t.val < 152 := lt_of_lt_of_eq t.isLt N_0
  have hr := r.isLt
  have e : (row t r).val = t.val * 432 + r.val := rfl
  have e' : (row t ⟨r.val - 1, by omega⟩).val = t.val * 432 + (r.val - 1) := rfl
  constructor <;> omega

theorem blk_of (c : Dev nD) (t : Fin cfg0.N) : Blk (argsOf m c) (row t) (iblk m c 0 t) (ent m c t) (iblk m c 1 t) (iblk m c 2 t) (iblk m c 3 t) (iblk m c 4 t)
    (iblk m c 5 t) (iblk m c 6 t) (iblk m c 7 t) (iblk m c 8 t) (iblk m c 9 t) :=
  ⟨rd0 m c t, ent_apply m c t, rowPrev t, fun d => (w1_apply m c t 0 d).trans (V_mu m c d), rd2D m c t, rd2I m c t,
    fun d => (w3_apply m c t 0 d).trans (V_d0 m c d), fun d => (w4_apply m c t 0 d).trans (V_i0 m c d), rd5 m c t,
    fun d => (w6_apply m c t 0 d).trans (V_kk m c d), fun d => (w7_apply m c t 0 d).trans (V_ka m c d),
    fun d => (w8_apply m c t 0 d).trans (V_rk m c d), rd9 m c t⟩

/-! ## The eight results -/

/-- Every place of a result is one of a block. -/
theorem place (i : S65664x512.Idx) : ∃ (t : Fin grid0.N) (r : Fin 432) (d : Fin 512), i = ix2 (row t r) d := by
  have hi : (i 0).val < 65664 := (i 0).isLt
  exact ⟨⟨(i 0).val / 432, by rw [N_0]; omega⟩, ⟨(i 0).val % 432, Nat.mod_lt _ (by decide)⟩, i 1,
    (eq_ix2 i).trans (congrArg (ix2 · (i 1)) (Fin.ext (by
      show (i 0).val = (i 0).val / 432 * 432 + (i 0).val % 432
      omega)))⟩

/-- Result 0. -/
def result10 (c : Dev nD) : Buf (Elt Ideal) ((c : Thread nD τ).loc main_v23_0) := fun i : S65664x512.Idx => mixed (argsOf m c) (i 0) (cR (i 1))

theorem at10 (c : Dev nD) (i : Fin 65664) (d : Fin 512) : result10 m c (ix2 i d) = mixed (argsOf m c) i (cR d) := by
  delta result10
  rfl

theorem out10 (c : Dev nD) (t : Fin cfg0.N) : (outsAt0 m c t.val t.isLt).1 = k0_pay5 (iblk m c 0 t) (ent m c t) (iblk m c 1 t) := by
  unfold ent
  by_cases h0 : t.val % 19 = 0
  · rw [outsAt0_A m c t h0, if_pos h0]
    dsimp only
    exact out_A_10 ..
  · rw [outsAt0_B m c t h0, if_neg h0]
    dsimp only
    exact out_B_10 ..

theorem emb10 (t : Fin grid0.N) (r : Fin 432) (d : Fin 512) :
    (((cfg0.win 10).blk t).view.emb (ix2 r d) : S65664x512.Idx) = ix2 (row t r) d := by
  refine funext fun a => Fin.ext ((Pipeline.Window.rect_emb_val (cfg0.win 10) t (ix2 r d) a).trans ?_)
  match a with
  | ⟨0, _⟩ => exact congrArg (· * 432 + r.val) (word_val t)
  | ⟨1, _⟩ => exact Nat.zero_add _

theorem cover10 (i : S65664x512.Idx) : ∃ t : Fin cfg0.N, (cfg0.win 10).flush t = true ∧ i ∈ ((cfg0.win 10).blk t).view.set := by
  obtain ⟨t, r, d, rfl⟩ := place i
  exact ⟨t, flush0_10 t, Eq.mp (congrArg (fun j => j ∈ ((cfg0.win 10).blk t).view.set) (emb10 t r d)) (View.emb_mem_set _ _)⟩

theorem final10 (c : Dev nD) : (dats m 0 c).arrAt 10 cfg0.N = result10 m c := by
  refine (dats m 0 c).arrAt_eq_of_cover 10 (result10 m c) (fun t _ => ?_) cover10
  funext y
  refine (congrFun (after0_10 m c t) y).trans ((congrFun (out10 m c t) y).trans ?_)
  have hy : ∀ y : S432x512.Idx, (k0_pay5 (iblk m c 0 t) (ent m c t) (iblk m c 1 t) : Vec Ideal S432x512 .f32) y = ((cfg0.win 10).blk t).view.read (Elt Ideal) (result10 m c) y := by
    intro y
    rw [eq_ix2 y]
    exact ((blk_of m c t).r10 (y 0) (y 1)).trans ((at10 m c _ _).symm.trans (congrArg (result10 m c) (emb10 t (y 0) (y 1)).symm))
  exact hy y

/-- Result 1. -/
def result11 (c : Dev nD) : Buf (Elt Ideal) ((c : Thread nD τ).loc main_v23_1) := fun i : S65664x512.Idx => wS (argsOf m c) (mixed (argsOf m c) (i 0)) (i 1)

theorem at11 (c : Dev nD) (i : Fin 65664) (d : Fin 512) : result11 m c (ix2 i d) = wS (argsOf m c) (mixed (argsOf m c) i) d := by
  delta result11
  rfl

theorem out11 (c : Dev nD) (t : Fin cfg0.N) : (outsAt0 m c t.val t.isLt).2.1 = k0_pay18 (k0_pay10 (k0_pay9 (iblk m c 0 t) (ent m c t) (iblk m c 1 t) (iblk m c 2 t)) (iblk m c 3 t)) := by
  unfold ent
  by_cases h0 : t.val % 19 = 0
  · rw [outsAt0_A m c t h0, if_pos h0]
    dsimp only
    exact out_A_11 ..
  · rw [outsAt0_B m c t h0, if_neg h0]
    dsimp only
    exact out_B_11 ..

theorem emb11 (t : Fin grid0.N) (r : Fin 432) (d : Fin 512) :
    (((cfg0.win 11).blk t).view.emb (ix2 r d) : S65664x512.Idx) = ix2 (row t r) d := by
  refine funext fun a => Fin.ext ((Pipeline.Window.rect_emb_val (cfg0.win 11) t (ix2 r d) a).trans ?_)
  match a with
  | ⟨0, _⟩ => exact congrArg (· * 432 + r.val) (word_val t)
  | ⟨1, _⟩ => exact Nat.zero_add _

theorem cover11 (i : S65664x512.Idx) : ∃ t : Fin cfg0.N, (cfg0.win 11).flush t = true ∧ i ∈ ((cfg0.win 11).blk t).view.set := by
  obtain ⟨t, r, d, rfl⟩ := place i
  exact ⟨t, flush0_11 t, Eq.mp (congrArg (fun j => j ∈ ((cfg0.win 11).blk t).view.set) (emb11 t r d)) (View.emb_mem_set _ _)⟩

theorem final11 (c : Dev nD) : (dats m 0 c).arrAt 11 cfg0.N = result11 m c := by
  refine (dats m 0 c).arrAt_eq_of_cover 11 (result11 m c) (fun t _ => ?_) cover11
  funext y
  refine (congrFun (after0_11 m c t) y).trans ((congrFun (out11 m c t) y).trans ?_)
  have hy : ∀ y : S432x512.Idx, (k0_pay18 (k0_pay10 (k0_pay9 (iblk m c 0 t) (ent m c t) (iblk m c 1 t) (iblk m c 2 t)) (iblk m c 3 t)) : Vec Ideal S432x512 .f32) y = ((cfg0.win 11).blk t).view.read (Elt Ideal) (result11 m c) y := by
    intro y
    rw [eq_ix2 y]
    exact ((blk_of m c t).r11 (y 0) (y 1)).trans ((at11 m c _ _).symm.trans (congrArg (result11 m c) (emb11 t (y 0) (y 1)).symm))
  exact hy y

/-- Result 2. -/
def result12 (c : Dev nD) : Buf (Elt Ideal) ((c : Thread nD τ).loc main_v23_2) := fun i : S65664x512.Idx => kmS (argsOf m c) (mixed (argsOf m c) (i 0)) (i 1)

theorem at12 (c : Dev nD) (i : Fin 65664) (d : Fin 512) : result12 m c (ix2 i d) = kmS (argsOf m c) (mixed (argsOf m c) i) d := by
  delta result12
  rfl

theorem out12 (c : Dev nD) (t : Fin cfg0.N) : (outsAt0 m c t.val t.isLt).2.2.1 = k0_pay16 (k0_pay6 (iblk m c 0 t) (ent m c t) (iblk m c 1 t)) (k0_pay11 (k0_pay9 (iblk m c 0 t) (ent m c t) (iblk m c 1 t) (iblk m c 2 t)) (iblk m c 4 t)) (iblk m c 7 t) := by
  unfold ent
  by_cases h0 : t.val % 19 = 0
  · rw [outsAt0_A m c t h0, if_pos h0]
    dsimp only
    exact out_A_12 ..
  · rw [outsAt0_B m c t h0, if_neg h0]
    dsimp only
    exact out_B_12 ..

theorem emb12 (t : Fin grid0.N) (r : Fin 432) (d : Fin 512) :
    (((cfg0.win 12).blk t).view.emb (ix2 r d) : S65664x512.Idx) = ix2 (row t r) d := by
  refine funext fun a => Fin.ext ((Pipeline.Window.rect_emb_val (cfg0.win 12) t (ix2 r d) a).trans ?_)
  match a with
  | ⟨0, _⟩ => exact congrArg (· * 432 + r.val) (word_val t)
  | ⟨1, _⟩ => exact Nat.zero_add _

theorem cover12 (i : S65664x512.Idx) : ∃ t : Fin cfg0.N, (cfg0.win 12).flush t = true ∧ i ∈ ((cfg0.win 12).blk t).view.set := by
  obtain ⟨t, r, d, rfl⟩ := place i
  exact ⟨t, flush0_12 t, Eq.mp (congrArg (fun j => j ∈ ((cfg0.win 12).blk t).view.set) (emb12 t r d)) (View.emb_mem_set _ _)⟩

theorem final12 (c : Dev nD) : (dats m 0 c).arrAt 12 cfg0.N = result12 m c := by
  refine (dats m 0 c).arrAt_eq_of_cover 12 (result12 m c) (fun t _ => ?_) cover12
  funext y
  refine (congrFun (after0_12 m c t) y).trans ((congrFun (out12 m c t) y).trans ?_)
  have hy : ∀ y : S432x512.Idx, (k0_pay16 (k0_pay6 (iblk m c 0 t) (ent m c t) (iblk m c 1 t)) (k0_pay11 (k0_pay9 (iblk m c 0 t) (ent m c t) (iblk m c 1 t) (iblk m c 2 t)) (iblk m c 4 t)) (iblk m c 7 t) : Vec Ideal S432x512 .f32) y = ((cfg0.win 12).blk t).view.read (Elt Ideal) (result12 m c) y := by
    intro y
    rw [eq_ix2 y]
    exact ((blk_of m c t).r12 (y 0) (y 1)).trans ((at12 m c _ _).symm.trans (congrArg (result12 m c) (emb12 t (y 0) (y 1)).symm))
  exact hy y

/-- Result 3. -/
def result13 (c : Dev nD) : Buf (Elt Ideal) ((c : Thread nD τ).loc main_v23_3) := fun i : S65664x512.Idx => mixed (argsOf m c) (i 0) (cV (i 1))

theorem at13 (c : Dev nD) (i : Fin 65664) (d : Fin 512) : result13 m c (ix2 i d) = mixed (argsOf m c) i (cV d) := by
  delta result13
  rfl

theorem out13 (c : Dev nD) (t : Fin cfg0.N) : (outsAt0 m c t.val t.isLt).2.2.2.1 = k0_pay7 (iblk m c 0 t) (ent m c t) (iblk m c 1 t) := by
  unfold ent
  by_cases h0 : t.val % 19 = 0
  · rw [outsAt0_A m c t h0, if_pos h0]
    dsimp only
    exact out_A_13 ..
  · rw [outsAt0_B m c t h0, if_neg h0]
    dsimp only
    exact out_B_13 ..

theorem emb13 (t : Fin grid0.N) (r : Fin 432) (d : Fin 512) :
    (((cfg0.win 13).blk t).view.emb (ix2 r d) : S65664x512.Idx) = ix2 (row t r) d := by
  refine funext fun a => Fin.ext ((Pipeline.Window.rect_emb_val (cfg0.win 13) t (ix2 r d) a).trans ?_)
  match a with
  | ⟨0, _⟩ => exact congrArg (· * 432 + r.val) (word_val t)
  | ⟨1, _⟩ => exact Nat.zero_add _

theorem cover13 (i : S65664x512.Idx) : ∃ t : Fin cfg0.N, (cfg0.win 13).flush t = true ∧ i ∈ ((cfg0.win 13).blk t).view.set := by
  obtain ⟨t, r, d, rfl⟩ := place i
  exact ⟨t, flush0_13 t, Eq.mp (congrArg (fun j => j ∈ ((cfg0.win 13).blk t).view.set) (emb13 t r d)) (View.emb_mem_set _ _)⟩

theorem final13 (c : Dev nD) : (dats m 0 c).arrAt 13 cfg0.N = result13 m c := by
  refine (dats m 0 c).arrAt_eq_of_cover 13 (result13 m c) (fun t _ => ?_) cover13
  funext y
  refine (congrFun (after0_13 m c t) y).trans ((congrFun (out13 m c t) y).trans ?_)
  have hy : ∀ y : S432x512.Idx, (k0_pay7 (iblk m c 0 t) (ent m c t) (iblk m c 1 t) : Vec Ideal S432x512 .f32) y = ((cfg0.win 13).blk t).view.read (Elt Ideal) (result13 m c) y := by
    intro y
    rw [eq_ix2 y]
    exact ((blk_of m c t).r13 (y 0) (y 1)).trans ((at13 m c _ _).symm.trans (congrArg (result13 m c) (emb13 t (y 0) (y 1)).symm))
  exact hy y

/-- Result 4. -/
def result14 (c : Dev nD) : Buf (Elt Ideal) ((c : Thread nD τ).loc main_v23_4) := fun i : S65664x512.Idx => nS (argsOf m c) (mixed (argsOf m c) (i 0)) (i 1)

theorem at14 (c : Dev nD) (i : Fin 65664) (d : Fin 512) : result14 m c (ix2 i d) = nS (argsOf m c) (mixed (argsOf m c) i) d := by
  delta result14
  rfl

theorem out14 (c : Dev nD) (t : Fin cfg0.N) : (outsAt0 m c t.val t.isLt).2.2.2.2.1 = k0_pay15 (k0_pay6 (iblk m c 0 t) (ent m c t) (iblk m c 1 t)) (iblk m c 9 t) (iblk m c 6 t) := by
  unfold ent
  by_cases h0 : t.val % 19 = 0
  · rw [outsAt0_A m c t h0, if_pos h0]
    dsimp only
    exact out_A_14 ..
  · rw [outsAt0_B m c t h0, if_neg h0]
    dsimp only
    exact out_B_14 ..

theorem emb14 (t : Fin grid0.N) (r : Fin 432) (d : Fin 512) :
    (((cfg0.win 14).blk t).view.emb (ix2 r d) : S65664x512.Idx) = ix2 (row t r) d := by
  refine funext fun a => Fin.ext ((Pipeline.Window.rect_emb_val (cfg0.win 14) t (ix2 r d) a).trans ?_)
  match a with
  | ⟨0, _⟩ => exact congrArg (· * 432 + r.val) (word_val t)
  | ⟨1, _⟩ => exact Nat.zero_add _

theorem cover14 (i : S65664x512.Idx) : ∃ t : Fin cfg0.N, (cfg0.win 14).flush t = true ∧ i ∈ ((cfg0.win 14).blk t).view.set := by
  obtain ⟨t, r, d, rfl⟩ := place i
  exact ⟨t, flush0_14 t, Eq.mp (congrArg (fun j => j ∈ ((cfg0.win 14).blk t).view.set) (emb14 t r d)) (View.emb_mem_set _ _)⟩

theorem final14 (c : Dev nD) : (dats m 0 c).arrAt 14 cfg0.N = result14 m c := by
  refine (dats m 0 c).arrAt_eq_of_cover 14 (result14 m c) (fun t _ => ?_) cover14
  funext y
  refine (congrFun (after0_14 m c t) y).trans ((congrFun (out14 m c t) y).trans ?_)
  have hy : ∀ y : S432x512.Idx, (k0_pay15 (k0_pay6 (iblk m c 0 t) (ent m c t) (iblk m c 1 t)) (iblk m c 9 t) (iblk m c 6 t) : Vec Ideal S432x512 .f32) y = ((cfg0.win 14).blk t).view.read (Elt Ideal) (result14 m c) y := by
    intro y
    rw [eq_ix2 y]
    exact ((blk_of m c t).r14 (y 0) (y 1)).trans ((at14 m c _ _).symm.trans (congrArg (result14 m c) (emb14 t (y 0) (y 1)).symm))
  exact hy y

/-- Result 5. -/
def result15 (c : Dev nD) : Buf (Elt Ideal) ((c : Thread nD τ).loc main_v23_5) := fun i : S65664x512.Idx => nS (argsOf m c) (mixed (argsOf m c) (i 0)) (i 1) * aS (argsOf m c) (mixed (argsOf m c) (i 0)) (i 1)

theorem at15 (c : Dev nD) (i : Fin 65664) (d : Fin 512) : result15 m c (ix2 i d) = nS (argsOf m c) (mixed (argsOf m c) i) d * aS (argsOf m c) (mixed (argsOf m c) i) d := by
  delta result15
  rfl

theorem out15 (c : Dev nD) (t : Fin cfg0.N) : (outsAt0 m c t.val t.isLt).2.2.2.2.2.1 = k0_pay1 (k0_pay11 (k0_pay9 (iblk m c 0 t) (ent m c t) (iblk m c 1 t) (iblk m c 2 t)) (iblk m c 4 t)) (k0_pay15 (k0_pay6 (iblk m c 0 t) (ent m c t) (iblk m c 1 t)) (iblk m c 9 t) (iblk m c 6 t)) := by
  unfold ent
  by_cases h0 : t.val % 19 = 0
  · rw [outsAt0_A m c t h0, if_pos h0]
    dsimp only
    exact out_A_15 ..
  · rw [outsAt0_B m c t h0, if_neg h0]
    dsimp only
    exact out_B_15 ..

theorem emb15 (t : Fin grid0.N) (r : Fin 432) (d : Fin 512) :
    (((cfg0.win 15).blk t).view.emb (ix2 r d) : S65664x512.Idx) = ix2 (row t r) d := by
  refine funext fun a => Fin.ext ((Pipeline.Window.rect_emb_val (cfg0.win 15) t (ix2 r d) a).trans ?_)
  match a with
  | ⟨0, _⟩ => exact congrArg (· * 432 + r.val) (word_val t)
  | ⟨1, _⟩ => exact Nat.zero_add _

theorem cover15 (i : S65664x512.Idx) : ∃ t : Fin cfg0.N, (cfg0.win 15).flush t = true ∧ i ∈ ((cfg0.win 15).blk t).view.set := by
  obtain ⟨t, r, d, rfl⟩ := place i
  exact ⟨t, flush0_15 t, Eq.mp (congrArg (fun j => j ∈ ((cfg0.win 15).blk t).view.set) (emb15 t r d)) (View.emb_mem_set _ _)⟩

theorem final15 (c : Dev nD) : (dats m 0 c).arrAt 15 cfg0.N = result15 m c := by
  refine (dats m 0 c).arrAt_eq_of_cover 15 (result15 m c) (fun t _ => ?_) cover15
  funext y
  refine (congrFun (after0_15 m c t) y).trans ((congrFun (out15 m c t) y).trans ?_)
  have hy : ∀ y : S432x512.Idx, (k0_pay1 (k0_pay11 (k0_pay9 (iblk m c 0 t) (ent m c t) (iblk m c 1 t) (iblk m c 2 t)) (iblk m c 4 t)) (k0_pay15 (k0_pay6 (iblk m c 0 t) (ent m c t) (iblk m c 1 t)) (iblk m c 9 t) (iblk m c 6 t)) : Vec Ideal S432x512 .f32) y = ((cfg0.win 15).blk t).view.read (Elt Ideal) (result15 m c) y := by
    intro y
    rw [eq_ix2 y]
    exact ((blk_of m c t).r15 (y 0) (y 1)).trans ((at15 m c _ _).symm.trans (congrArg (result15 m c) (emb15 t (y 0) (y 1)).symm))
  exact hy y

/-- Result 6. -/
def result16 (c : Dev nD) : Buf (Elt Ideal) ((c : Thread nD τ).loc main_v23_6) := fun i : S65664x512.Idx => gS (argsOf m c) (mixed (argsOf m c) (i 0)) (i 1)

theorem at16 (c : Dev nD) (i : Fin 65664) (d : Fin 512) : result16 m c (ix2 i d) = gS (argsOf m c) (mixed (argsOf m c) i) d := by
  delta result16
  rfl

theorem out16 (c : Dev nD) (t : Fin cfg0.N) : (outsAt0 m c t.val t.isLt).2.2.2.2.2.2.1 = k0_pay13 (k0_pay12 (k0_pay8 (iblk m c 0 t) (ent m c t) (iblk m c 1 t))) (iblk m c 5 t) := by
  unfold ent
  by_cases h0 : t.val % 19 = 0
  · rw [outsAt0_A m c t h0, if_pos h0]
    dsimp only
    exact out_A_16 ..
  · rw [outsAt0_B m c t h0, if_neg h0]
    dsimp only
    exact out_B_16 ..

theorem emb16 (t : Fin grid0.N) (r : Fin 432) (d : Fin 512) :
    (((cfg0.win 16).blk t).view.emb (ix2 r d) : S65664x512.Idx) = ix2 (row t r) d := by
  refine funext fun a => Fin.ext ((Pipeline.Window.rect_emb_val (cfg0.win 16) t (ix2 r d) a).trans ?_)
  match a with
  | ⟨0, _⟩ => exact congrArg (· * 432 + r.val) (word_val t)
  | ⟨1, _⟩ => exact Nat.zero_add _

theorem cover16 (i : S65664x512.Idx) : ∃ t : Fin cfg0.N, (cfg0.win 16).flush t = true ∧ i ∈ ((cfg0.win 16).blk t).view.set := by
  obtain ⟨t, r, d, rfl⟩ := place i
  exact ⟨t, flush0_16 t, Eq.mp (congrArg (fun j => j ∈ ((cfg0.win 16).blk t).view.set) (emb16 t r d)) (View.emb_mem_set _ _)⟩

theorem final16 (c : Dev nD) : (dats m 0 c).arrAt 16 cfg0.N = result16 m c := by
  refine (dats m 0 c).arrAt_eq_of_cover 16 (result16 m c) (fun t _ => ?_) cover16
  funext y
  refine (congrFun (after0_16 m c t) y).trans ((congrFun (out16 m c t) y).trans ?_)
  have hy : ∀ y : S432x512.Idx, (k0_pay13 (k0_pay12 (k0_pay8 (iblk m c 0 t) (ent m c t) (iblk m c 1 t))) (iblk m c 5 t) : Vec Ideal S432x512 .f32) y = ((cfg0.win 16).blk t).view.read (Elt Ideal) (result16 m c) y := by
    intro y
    rw [eq_ix2 y]
    exact ((blk_of m c t).r16 (y 0) (y 1)).trans ((at16 m c _ _).symm.trans (congrArg (result16 m c) (emb16 t (y 0) (y 1)).symm))
  exact hy y

/-- Result 7. -/
def result17 (c : Dev nD) : Buf (Elt Ideal) ((c : Thread nD τ).loc main_v23_7) := fun i : S65664x512.Idx => bS (argsOf m c) (mixed (argsOf m c) (i 0)) (i 1)

theorem at17 (c : Dev nD) (i : Fin 65664) (d : Fin 512) : result17 m c (ix2 i d) = bS (argsOf m c) (mixed (argsOf m c) i) d := by
  delta result17
  rfl

theorem out17 (c : Dev nD) (t : Fin cfg0.N) : (outsAt0 m c t.val t.isLt).2.2.2.2.2.2.2.1 = k0_pay17 (k0_pay5 (iblk m c 0 t) (ent m c t) (iblk m c 1 t)) (k0_pay6 (iblk m c 0 t) (ent m c t) (iblk m c 1 t)) (k0_pay7 (iblk m c 0 t) (ent m c t) (iblk m c 1 t)) (k0_pay11 (k0_pay9 (iblk m c 0 t) (ent m c t) (iblk m c 1 t) (iblk m c 2 t)) (iblk m c 4 t)) (iblk m c 9 t) (iblk m c 7 t) (iblk m c 8 t) := by
  unfold ent
  by_cases h0 : t.val % 19 = 0
  · rw [outsAt0_A m c t h0, if_pos h0]
    dsimp only
    exact out_A_17 ..
  · rw [outsAt0_B m c t h0, if_neg h0]
    dsimp only
    exact out_B_17 ..

theorem emb17 (t : Fin grid0.N) (r : Fin 432) (d : Fin 512) :
    (((cfg0.win 17).blk t).view.emb (ix2 r d) : S65664x512.Idx) = ix2 (row t r) d := by
  refine funext fun a => Fin.ext ((Pipeline.Window.rect_emb_val (cfg0.win 17) t (ix2 r d) a).trans ?_)
  match a with
  | ⟨0, _⟩ => exact congrArg (· * 432 + r.val) (word_val t)
  | ⟨1, _⟩ => exact Nat.zero_add _

theorem cover17 (i : S65664x512.Idx) : ∃ t : Fin cfg0.N, (cfg0.win 17).flush t = true ∧ i ∈ ((cfg0.win 17).blk t).view.set := by
  obtain ⟨t, r, d, rfl⟩ := place i
  exact ⟨t, flush0_17 t, Eq.mp (congrArg (fun j => j ∈ ((cfg0.win 17).blk t).view.set) (emb17 t r d)) (View.emb_mem_set _ _)⟩

theorem final17 (c : Dev nD) : (dats m 0 c).arrAt 17 cfg0.N = result17 m c := by
  refine (dats m 0 c).arrAt_eq_of_cover 17 (result17 m c) (fun t _ => ?_) cover17
  funext y
  refine (congrFun (after0_17 m c t) y).trans ((congrFun (out17 m c t) y).trans ?_)
  have hy : ∀ y : S432x512.Idx, (k0_pay17 (k0_pay5 (iblk m c 0 t) (ent m c t) (iblk m c 1 t)) (k0_pay6 (iblk m c 0 t) (ent m c t) (iblk m c 1 t)) (k0_pay7 (iblk m c 0 t) (ent m c t) (iblk m c 1 t)) (k0_pay11 (k0_pay9 (iblk m c 0 t) (ent m c t) (iblk m c 1 t) (iblk m c 2 t)) (iblk m c 4 t)) (iblk m c 9 t) (iblk m c 7 t) (iblk m c 8 t) : Vec Ideal S432x512 .f32) y = ((cfg0.win 17).blk t).view.read (Elt Ideal) (result17 m c) y := by
    intro y
    rw [eq_ix2 y]
    exact ((blk_of m c t).r17 (y 0) (y 1)).trans ((at17 m c _ _).symm.trans (congrArg (result17 m c) (emb17 t (y 0) (y 1)).symm))
  exact hy y

end Cert.Layer.PrepReal

end
-- ==== Proof.PrepRef.lean ====
/- The reference of the preparation read at an index. -/
module

public import proofs.«01_k».proof.Proof.PrepMath
public import proofs.«01_k».proof.Proof.Gen.PrepReferenceIdeal.Read
public import Idealize.ShloMosaic.Lib.KernelVsHost

@[expose] public section

noncomputable section

namespace Cert.Layer.PrepRef

open Idealize.ShloMosaic Idealize.ShloMosaic.ValueIdx Cert.PrepReferenceIdeal Cert.PrepReferenceIdeal.Gen Cert.PrepReferenceIdeal.Read
open Cert.Layer Cert.Layer.Lru Cert.Layer.Prep
open scoped BigOperators

variable (A : Prep.Args)

def rowOf (b : Fin 8) (t : Fin 8208) : Fin 65664 := ⟨b.val * 8208 + t.val, by have := b.isLt; have := t.isLt; omega⟩

theorem sitofp_zero : (FloatOps.sitofp (F := Ideal) .f32 (0#32 : BitVec 32)) = (0 : EReal) := by
  show ((((0#32 : BitVec 32).toInt : ℝ)) : EReal) = 0
  simp

/-! ## The mixed row -/

theorem v0_apply (b : Fin 8) (t : Fin 8208) (c : Fin 1792) : val_main_v0 (F := Ideal) A.p (ix3 b t c) = A.p (ix2 (rowOf b t) c) := by
  unfold val_main_v0
  refine shapeCast_apply A.p _ (ix3 b t c) (ix2 (rowOf b t) c) ?_
  rw [Shape.rowMajor_val_two, Shape.rowMajor_val_three]
  rfl

theorem v2_apply (b : Fin 8) (t : Fin 8208) (c : Fin 1792) : val_main_v2 (F := Ideal) A.p (ix3 b t c) = prev A (rowOf b t) c := by
  have ht := t.isLt
  unfold val_main_v2 val_main_v1
  refine (extractStridedSlice_apply ![0, 0, 0] _ slices_S8x8209x1792_S8x8208x1792_0_0_0 (ix3 b t c) (ix3 b (⟨t.val, by omega⟩ : Fin 8209) c) fun a => ?_).trans ?_
  · match a with
    | ⟨0, _⟩ => exact (Nat.zero_add _).symm
    | ⟨1, _⟩ => exact (Nat.zero_add _).symm
    | ⟨2, _⟩ => exact (Nat.zero_add _).symm
  unfold prev
  by_cases hs : t.val = 0
  · rw [if_pos (show (rowOf b t).val % 8208 = 0 by show (b.val * 8208 + t.val) % 8208 = 0; omega)]
    refine (pad_apply_of_not_inside _ _ _ _ _ pads_S8x8208x1792_S8x8209x1792_000_100_000 h_S_ _ (1 : Fin 3) fun hc => ?_).trans sitofp_zero
    have h1 : 1 ≤ t.val := hc.1
    omega
  · rw [if_neg (show ¬ (rowOf b t).val % 8208 = 0 by show ¬ (b.val * 8208 + t.val) % 8208 = 0; omega)]
    refine (pad_apply_of_inside _ _ _ _ _ pads_S8x8208x1792_S8x8209x1792_000_100_000 h_S_ _ (ix3 b (⟨t.val - 1, by omega⟩ : Fin 8208) c) fun a => ?_).trans
      ((v0_apply A b _ c).trans (congrArg (fun k => A.p (ix2 k c)) (Fin.ext ?_)))
    · match a with
      | ⟨0, _⟩ => show b.val = 0 + b.val * (0 + 1); omega
      | ⟨1, _⟩ => show t.val = 1 + (t.val - 1) * (0 + 1); omega
      | ⟨2, _⟩ => show c.val = 0 + c.val * (0 + 1); omega
    · show b.val * 8208 + (t.val - 1) = b.val * 8208 + t.val - 1
      omega

theorem v5_apply (b : Fin 8) (t : Fin 8208) (c : Fin 1792) : val_main_v5 (F := Ideal) A.mu (ix3 b t c) = A.mu (ix1 c) := by
  rw [val_main_v5_apply, val_main_v4_apply]
  exact congrArg A.mu (funext fun a => by match a with | ⟨0, _⟩ => rfl)

theorem v7_apply (b : Fin 8) (t : Fin 8208) (c : Fin 1792) : val_main_v7 (F := Ideal) A.p A.mu (ix3 b t c) = mixed A (rowOf b t) c := by
  rw [val_main_v7_apply, val_main_v6_apply, val_main_v3_apply, v0_apply, v2_apply, v5_apply]
  rfl

theorem v8_apply (b : Fin 8) (t : Fin 8208) (d : Fin 512) : val_main_v8 (F := Ideal) A.p A.mu (ix3 b t d) = mixed A (rowOf b t) (cR d) := by
  rw [val_main_v8_apply, ← v7_apply]
  exact congrArg _ (funext fun a => by match a with | ⟨0, _⟩ => rfl | ⟨1, _⟩ => rfl | ⟨2, _⟩ => rfl)

theorem v9_apply (b : Fin 8) (t : Fin 8208) (d : Fin 512) : val_main_v9 (F := Ideal) A.p A.mu (ix3 b t d) = mixed A (rowOf b t) (cK d) := by
  rw [val_main_v9_apply, ← v7_apply]
  exact congrArg _ (funext fun a => by match a with | ⟨0, _⟩ => rfl | ⟨1, _⟩ => rfl | ⟨2, _⟩ => rfl)

theorem v10_apply (b : Fin 8) (t : Fin 8208) (d : Fin 512) : val_main_v10 (F := Ideal) A.p A.mu (ix3 b t d) = mixed A (rowOf b t) (cV d) := by
  rw [val_main_v10_apply, ← v7_apply]
  exact congrArg _ (funext fun a => by match a with | ⟨0, _⟩ => rfl | ⟨1, _⟩ => rfl | ⟨2, _⟩ => rfl)

theorem v11_apply (b : Fin 8) (t : Fin 8208) (d : Fin 64) : val_main_v11 (F := Ideal) A.p A.mu (ix3 b t d) = mixed A (rowOf b t) (cD d) := by
  rw [val_main_v11_apply, ← v7_apply]
  exact congrArg _ (funext fun a => by match a with | ⟨0, _⟩ => rfl | ⟨1, _⟩ => rfl | ⟨2, _⟩ => rfl)

theorem v12_apply (b : Fin 8) (t : Fin 8208) (d : Fin 64) : val_main_v12 (F := Ideal) A.p A.mu (ix3 b t d) = mixed A (rowOf b t) (cI d) := by
  rw [val_main_v12_apply, ← v7_apply]
  exact congrArg _ (funext fun a => by match a with | ⟨0, _⟩ => rfl | ⟨1, _⟩ => rfl | ⟨2, _⟩ => rfl)

theorem v13_apply (b : Fin 8) (t : Fin 8208) (d : Fin 128) : val_main_v13 (F := Ideal) A.p A.mu (ix3 b t d) = mixed A (rowOf b t) (cG d) := by
  rw [val_main_v13_apply, ← v7_apply]
  exact congrArg _ (funext fun a => by match a with | ⟨0, _⟩ => rfl | ⟨1, _⟩ => rfl | ⟨2, _⟩ => rfl)

/-! ## The decay -/

theorem v18_apply (b : Fin 8) (t : Fin 8208) (d : Fin 512) : val_main_v18 (F := Ideal) A.p A.mu A.d0 A.dup (ix3 b t d)
    = A.d0 (ix1 d) + ∑ j : Fin 64, Ideal.tanh (mixed A (rowOf b t) (cD j)) * A.dup (ix2 j d) := by
  rw [val_main_v18_apply, val_main_v17_apply, val_main_v16_apply, val_main_v15_apply]
  refine congrArg₂ (fun x y : EReal => x + y) (congrArg A.d0 (funext fun a => by match a with | ⟨0, _⟩ => rfl)) (Finset.sum_congr rfl fun j _ => ?_)
  have e : lidx_main_v15 (ix3 b t d) j = ix3 b t j := funext fun a => by match a with | ⟨0, _⟩ => rfl | ⟨1, _⟩ => rfl | ⟨2, _⟩ => rfl
  have e' : ridx_main_v15 (ix3 b t d) j = ix2 j d := funext fun a => by match a with | ⟨0, _⟩ => rfl | ⟨1, _⟩ => rfl
  rw [e, e', val_main_v14_apply, v11_apply]
  rfl

theorem softplus_apply (z : EReal) :
    Scalar.select (Ideal.cmp .une (-z - Ideal.ofBits .f32 0x00000000#32) (-z - Ideal.ofBits .f32 0x00000000#32)) (-z + Ideal.ofBits .f32 0x00000000#32)
      (max (-z) (Ideal.ofBits .f32 0x00000000#32) + Ideal.log (1 + Ideal.exp (-(max (-z - Ideal.ofBits .f32 0x00000000#32) (-(-z - Ideal.ofBits .f32 0x00000000#32)))))) = sp z := by
  rw [Ideal.ofBits_zero_f32, sub_zero]
  have hc : Ideal.cmp .une (-z) (-z) = 0#1 := by simp [Ideal.cmp]
  rw [hc]
  rfl

theorem v20_apply (i : S8x8208x512.Idx) : val_main_v20 (F := Ideal) A.p A.mu A.d0 A.dup i = sp (val_main_v18 (F := Ideal) A.p A.mu A.d0 A.dup i) := by
  rw [val_main_v20_apply, val_main_call1_v4_apply, val_main_call1_v6_apply, val_main_call1_v11_apply, val_main_call1_v1_apply, val_main_call1_v10_apply,
    val_main_call1_v9_apply, val_main_call1_v8_apply, val_main_call1_v7_apply, val_main_call1_v3_apply, val_main_call1_v0_apply, val_main_call1_v2_apply,
    val_main_call1_v5_apply, val_main_v19_apply]
  exact softplus_apply _

theorem v25_apply (b : Fin 8) (t : Fin 8208) (d : Fin 512) : val_main_v25 (F := Ideal) A.p A.mu A.d0 A.dup (ix3 b t d) = wS A (mixed A (rowOf b t)) d := by
  rw [val_main_v25_apply, val_main_v24_apply, val_main_v23_apply, val_main_v21_apply, val_main_v22_apply, v20_apply, v18_apply]
  rfl

/-! ## The learning rate and the gate -/

theorem v35_apply (b : Fin 8) (t : Fin 8208) (d : Fin 512) : val_main_v35 (F := Ideal) A.p A.mu A.i0 A.iup (ix3 b t d) = aS A (mixed A (rowOf b t)) d := by
  have h : val_main_v29 (F := Ideal) A.p A.mu A.i0 A.iup (ix3 b t d) = A.i0 (ix1 d) + ∑ j : Fin 64, mixed A (rowOf b t) (cI j) * A.iup (ix2 j d) := by
    rw [val_main_v29_apply, val_main_v28_apply, val_main_v27_apply, val_main_v26_apply]
    refine congrArg₂ (fun x y : EReal => x + y) (congrArg A.i0 (funext fun a => by match a with | ⟨0, _⟩ => rfl)) (Finset.sum_congr rfl fun j _ => ?_)
    have e : lidx_main_v26 (ix3 b t d) j = ix3 b t j := funext fun a => by match a with | ⟨0, _⟩ => rfl | ⟨1, _⟩ => rfl | ⟨2, _⟩ => rfl
    have e' : ridx_main_v26 (ix3 b t d) j = ix2 j d := funext fun a => by match a with | ⟨0, _⟩ => rfl | ⟨1, _⟩ => rfl
    rw [e, e', v12_apply]
  rw [val_main_v35_apply, val_main_v34_apply, val_main_v33_apply, val_main_v32_apply, val_main_v31_apply, val_main_v30_apply, h]
  rfl

theorem v42_apply (b : Fin 8) (t : Fin 8208) (d : Fin 512) : val_main_v42 (F := Ideal) A.p A.mu A.gup (ix3 b t d) = gS A (mixed A (rowOf b t)) d := by
  rw [val_main_v42_apply]
  refine Finset.sum_congr rfl fun j _ => ?_
  have e : lidx_main_v42 (ix3 b t d) j = ix3 b t j := funext fun a => by match a with | ⟨0, _⟩ => rfl | ⟨1, _⟩ => rfl | ⟨2, _⟩ => rfl
  have e' : ridx_main_v42 (ix3 b t d) j = ix2 j d := funext fun a => by match a with | ⟨0, _⟩ => rfl | ⟨1, _⟩ => rfl
  rw [e, e', val_main_v41_apply, val_main_v40_apply, val_main_v39_apply, val_main_v38_apply, val_main_v37_apply, val_main_v36_apply, v13_apply]
  rfl

/-! ## The keys -/

/-- A feature of a head, in the heads' shape and in the row's. -/
theorem head_idx (b : Fin 8) (t : Fin 8208) (g : Fin 8) (j : Fin 64) (k : S8x8208x512.Idx)
    (h0 : (k 0).val = (((b.val * 8208 + t.val) * 8 + g.val) * 64 + j.val) / 4202496)
    (h1 : (k 1).val = (((b.val * 8208 + t.val) * 8 + g.val) * 64 + j.val) / 512 % 8208)
    (h2 : (k 2).val = (((b.val * 8208 + t.val) * 8 + g.val) * 64 + j.val) % 512) : k = ix3 b t (ofGrp g j) := by
  have hb := b.isLt
  have ht := t.isLt
  have hg := g.isLt
  have hj := j.isLt
  refine funext fun a => Fin.ext ?_
  match a with
  | ⟨0, _⟩ => refine h0.trans ?_; show _ = b.val; omega
  | ⟨1, _⟩ => refine h1.trans ?_; show _ = t.val; omega
  | ⟨2, _⟩ => refine h2.trans ?_; show _ = 64 * g.val + j.val; omega

theorem v46_apply (b : Fin 8) (t : Fin 8208) (g : Fin 8) (j : Fin 64) :
    val_main_v46 (F := Ideal) A.p A.mu A.kk (ix4 b t g j) = krS A (mixed A (rowOf b t)) (ofGrp g j) := by
  rw [val_main_v46_apply, head_idx b t g j (idx_main_v46 (ix4 b t g j)) rfl rfl rfl, val_main_v45_apply, val_main_v44_apply, val_main_v43_apply, v9_apply]
  exact congrArg (fun x : EReal => _ * x) (congrArg A.kk (funext fun a => by match a with | ⟨0, _⟩ => rfl))

theorem v50_apply (b : Fin 8) (t : Fin 8208) (g : Fin 8) (j : Fin 64) : val_main_v50 (F := Ideal) A.p A.mu A.kk (ix4 b t g j)
    = max (Ideal.sqrt (∑ k : Fin 64, krS A (mixed A (rowOf b t)) (ofGrp g k) * krS A (mixed A (rowOf b t)) (ofGrp g k))) (Ideal.ofBits .f32 0x2B8CBCCC#32) := by
  rw [val_main_v50_apply, val_main_v49_apply, val_main_v48_apply, val_main_v47_apply, val_main_call2_v2_apply, val_main_call2_v1_apply]
  refine congrArg (fun x : EReal => max (Ideal.sqrt x) (Ideal.ofBits .f32 0x2B8CBCCC#32)) ?_
  refine (congrArg₂ (fun x y : EReal => x + y) Ideal.ofBits_zero_f32 (Finset.sum_congr rfl fun k _ => ?_)).trans (zero_add _)
  have e : idx_main_call2_v1 (idx_main_call2_v2 (idx_main_v50 (ix4 b t g j))) k = ix4 b t g k :=
    funext fun a => by match a with | ⟨0, _⟩ => rfl | ⟨1, _⟩ => rfl | ⟨2, _⟩ => rfl | ⟨3, _⟩ => rfl
  rw [e, val_main_call2_v0_apply, v46_apply]
  rfl

theorem grpOf_ofGrp (g : Fin 8) (j : Fin 64) : grpOf (ofGrp g j) = g := Fin.ext (by
  show (64 * g.val + j.val) / 64 = g.val
  have := j.isLt; omega)

theorem v51_apply (b : Fin 8) (t : Fin 8208) (g : Fin 8) (j : Fin 64) :
    val_main_v51 (F := Ideal) A.p A.mu A.kk (ix4 b t g j) = nS A (mixed A (rowOf b t)) (ofGrp g j) := by
  rw [val_main_v51_apply, v46_apply, v50_apply]
  unfold nS
  rw [grpOf_ofGrp]
  rfl

theorem v59_apply (b : Fin 8) (t : Fin 8208) (d : Fin 512) : val_main_v59 (F := Ideal) A.p A.mu A.i0 A.iup A.ka (ix3 b t d) = kmS A (mixed A (rowOf b t)) d := by
  rw [val_main_v59_apply, val_main_v58_apply, val_main_v57_apply, val_main_v56_apply, val_main_v55_apply, val_main_v54_apply, val_main_v53_apply, val_main_v52_apply,
    v9_apply, v35_apply]
  have e : A.ka (idx_main_v54 (idx_main_v55 (ix3 b t d))) = A.ka (ix1 d) := congrArg A.ka (funext fun a => by match a with | ⟨0, _⟩ => rfl)
  rw [e]
  rfl

/-! ## The bonus -/

theorem v66_apply (b : Fin 8) (t : Fin 8208) (g : Fin 8) (j : Fin 64) : val_main_v66 (F := Ideal) A.p A.mu A.i0 A.iup A.ka A.rk (ix4 b t g j)
    = mixed A (rowOf b t) (cR (ofGrp g j)) * kmS A (mixed A (rowOf b t)) (ofGrp g j) * A.rk (ix1 (ofGrp g j)) := by
  rw [val_main_v66_apply, val_main_v65_apply, val_main_v64_apply, val_main_v63_apply, val_main_v62_apply, val_main_v61_apply, val_main_v60_apply,
    head_idx b t g j (idx_main_v60 (ix4 b t g j)) rfl rfl rfl, head_idx b t g j (idx_main_v61 (ix4 b t g j)) rfl rfl rfl, v8_apply, v59_apply]
  refine congrArg (fun x : EReal => _ * x) (congrArg A.rk (funext fun a => Fin.ext ?_))
  match a with
  | ⟨0, _⟩ => show g.val * 64 + j.val = 64 * g.val + j.val; omega

theorem v71_apply (b : Fin 8) (t : Fin 8208) (g : Fin 8) (j : Fin 64) : val_main_v71 (F := Ideal) A.p A.mu A.i0 A.iup A.ka A.rk (ix4 b t g j)
    = bS A (mixed A (rowOf b t)) (ofGrp g j) := by
  rw [val_main_v71_apply, val_main_v70_apply, val_main_v69_apply, val_main_v68_apply, val_main_v67_apply, head_idx b t g j (idx_main_v69 (ix4 b t g j)) rfl rfl rfl, v10_apply]
  unfold bS
  rw [grpOf_ofGrp]
  refine congrArg (fun x : EReal => x * mixed A (rowOf b t) (cV (ofGrp g j))) ?_
  refine (congrArg₂ (fun x y : EReal => x + y) Ideal.ofBits_zero_f32 (Finset.sum_congr rfl fun k _ => ?_)).trans (zero_add _)
  have e : idx_main_v67 (idx_main_v68 (idx_main_v70 (ix4 b t g j))) k = ix4 b t g k :=
    funext fun a => by match a with | ⟨0, _⟩ => rfl | ⟨1, _⟩ => rfl | ⟨2, _⟩ => rfl | ⟨3, _⟩ => rfl
  rw [e, v66_apply]

/-! ## The results -/

theorem row_idx (i : Fin 65664) (d : Fin 512) (k : S8x8208x512.Idx) (h0 : (k 0).val = (i.val * 512 + d.val) / 4202496)
    (h1 : (k 1).val = (i.val * 512 + d.val) / 512 % 8208) (h2 : (k 2).val = (i.val * 512 + d.val) % 512) :
    k = ix3 (⟨i.val / 8208, by have := i.isLt; omega⟩ : Fin 8) (⟨i.val % 8208, Nat.mod_lt _ (by decide)⟩ : Fin 8208) d := by
  have hi := i.isLt
  have hd := d.isLt
  refine funext fun a => Fin.ext ?_
  match a with
  | ⟨0, _⟩ => refine h0.trans ?_; show _ = i.val / 8208; omega
  | ⟨1, _⟩ => refine h1.trans ?_; show _ = i.val % 8208; omega
  | ⟨2, _⟩ => refine h2.trans ?_; show _ = d.val; omega

theorem row_head_idx (i : Fin 65664) (d : Fin 512) (k : S8x8208x8x64.Idx) (h0 : (k 0).val = (i.val * 512 + d.val) / 4202496)
    (h1 : (k 1).val = (i.val * 512 + d.val) / 512 % 8208) (h2 : (k 2).val = (i.val * 512 + d.val) / 64 % 8) (h3 : (k 3).val = (i.val * 512 + d.val) % 64) :
    k = ix4 (⟨i.val / 8208, by have := i.isLt; omega⟩ : Fin 8) (⟨i.val % 8208, Nat.mod_lt _ (by decide)⟩ : Fin 8208) (grpOf d) (inGrp d) := by
  have hi := i.isLt
  have hd := d.isLt
  refine funext fun a => Fin.ext ?_
  match a with
  | ⟨0, _⟩ => refine h0.trans ?_; show _ = i.val / 8208; omega
  | ⟨1, _⟩ => refine h1.trans ?_; show _ = i.val % 8208; omega
  | ⟨2, _⟩ => refine h2.trans ?_; show _ = d.val / 64; omega
  | ⟨3, _⟩ => refine h3.trans ?_; show _ = d.val % 64; omega

theorem rowOf_div (i : Fin 65664) (h0 : i.val / 8208 < 8) (h1 : i.val % 8208 < 8208) : rowOf ⟨i.val / 8208, h0⟩ ⟨i.val % 8208, h1⟩ = i := Fin.ext (by
  show i.val / 8208 * 8208 + i.val % 8208 = i.val
  omega)

theorem v72_apply (i : Fin 65664) (d : Fin 512) : val_main_v72 (F := Ideal) A.p A.mu (ix2 i d) = mixed A i (cR d) := by
  rw [val_main_v72_apply, row_idx i d (idx_main_v72 (ix2 i d)) rfl rfl rfl, v8_apply, rowOf_div]

theorem v73_apply (i : Fin 65664) (d : Fin 512) : val_main_v73 (F := Ideal) A.p A.mu A.d0 A.dup (ix2 i d) = wS A (mixed A i) d := by
  rw [val_main_v73_apply, row_idx i d (idx_main_v73 (ix2 i d)) rfl rfl rfl, v25_apply, rowOf_div]

theorem v74_apply (i : Fin 65664) (d : Fin 512) : val_main_v74 (F := Ideal) A.p A.mu A.i0 A.iup A.ka (ix2 i d) = kmS A (mixed A i) d := by
  rw [val_main_v74_apply, row_idx i d (idx_main_v74 (ix2 i d)) rfl rfl rfl, v59_apply, rowOf_div]

theorem v75_apply (i : Fin 65664) (d : Fin 512) : val_main_v75 (F := Ideal) A.p A.mu (ix2 i d) = mixed A i (cV d) := by
  rw [val_main_v75_apply, row_idx i d (idx_main_v75 (ix2 i d)) rfl rfl rfl, v10_apply, rowOf_div]

theorem v76_apply (i : Fin 65664) (d : Fin 512) : val_main_v76 (F := Ideal) A.p A.mu A.kk (ix2 i d) = nS A (mixed A i) d := by
  rw [val_main_v76_apply, row_head_idx i d (idx_main_v76 (ix2 i d)) rfl rfl rfl rfl, v51_apply, rowOf_div, ofGrp_grpOf_inGrp]

theorem v79_apply (i : Fin 65664) (d : Fin 512) : val_main_v79 (F := Ideal) A.p A.mu A.i0 A.iup A.kk (ix2 i d) = nS A (mixed A i) d * aS A (mixed A i) d := by
  rw [val_main_v79_apply, row_head_idx i d (idx_main_v79 (ix2 i d)) rfl rfl rfl rfl, val_main_v78_apply, val_main_v77_apply,
    head_idx _ _ (grpOf d) (inGrp d) (idx_main_v77 (ix4 _ _ (grpOf d) (inGrp d))) rfl rfl rfl, v51_apply, v35_apply, rowOf_div, ofGrp_grpOf_inGrp]
  rfl

theorem v80_apply (i : Fin 65664) (d : Fin 512) : val_main_v80 (F := Ideal) A.p A.mu A.gup (ix2 i d) = gS A (mixed A i) d := by
  rw [val_main_v80_apply, row_idx i d (idx_main_v80 (ix2 i d)) rfl rfl rfl, v42_apply, rowOf_div]

theorem v81_apply (i : Fin 65664) (d : Fin 512) : val_main_v81 (F := Ideal) A.p A.mu A.i0 A.iup A.ka A.rk (ix2 i d) = bS A (mixed A i) d := by
  rw [val_main_v81_apply, row_head_idx i d (idx_main_v81 (ix2 i d)) rfl rfl rfl rfl, v71_apply, rowOf_div, ofGrp_grpOf_inGrp]

end Cert.Layer.PrepRef

end
-- ==== Proof.PrepClaim.lean ====
/- The preparation's claim: over the reals the kernel computes its reference. -/
module

public import proofs.«01_k».proof.Proof.PrepValue
public import proofs.«01_k».proof.Proof.PrepRef
public import proofs.«01_k».proof.Proof.Gen.PrepIdeal.Value
public import proofs.«01_k».proof.Defs

@[expose] public section

set_option maxRecDepth 16384
set_option maxHeartbeats 4000000

noncomputable section

namespace Cert.Layer

open Idealize.ShloMosaic Idealize.ShloMosaic.TcCoe Idealize.ShloMosaic.ValueIdx Idealize.SL.Sem

theorem prep_same (f g : FVec Ideal PrepIdeal.S65664x512 .f32) (h : ∀ (a : Fin 65664) (b : Fin 512), f (ix2 a b) = g (ix2 a b)) : f = g :=
  funext fun i => by
    rw [eq_ix2 i]
    exact h _ _

theorem prep_ref10 (m : (ℓ : Loc PrepIdeal.nD PrepIdeal.τ PrepIdeal.sig) → Buf (Elt Ideal) ℓ) (c : Dev PrepIdeal.nD) :
    (PrepReferenceIdeal.Read.val_main_v72 (F := Ideal) (m ((c : Thread PrepIdeal.nD PrepIdeal.τ).loc PrepIdeal.main_arg0)) (m ((c : Thread PrepIdeal.nD PrepIdeal.τ).loc PrepIdeal.main_arg1)) : FVec Ideal PrepIdeal.S65664x512 .f32) = PrepReal.result10 m c := by
  exact prep_same _ _ fun a b => (PrepRef.v72_apply (PrepReal.argsOf m c) a b).trans (PrepReal.at10 m c a b).symm

theorem prep_ref11 (m : (ℓ : Loc PrepIdeal.nD PrepIdeal.τ PrepIdeal.sig) → Buf (Elt Ideal) ℓ) (c : Dev PrepIdeal.nD) :
    (PrepReferenceIdeal.Read.val_main_v73 (F := Ideal) (m ((c : Thread PrepIdeal.nD PrepIdeal.τ).loc PrepIdeal.main_arg0)) (m ((c : Thread PrepIdeal.nD PrepIdeal.τ).loc PrepIdeal.main_arg1)) (m ((c : Thread PrepIdeal.nD PrepIdeal.τ).loc PrepIdeal.main_arg2)) (m ((c : Thread PrepIdeal.nD PrepIdeal.τ).loc PrepIdeal.main_arg3)) : FVec Ideal PrepIdeal.S65664x512 .f32) = PrepReal.result11 m c := by
  exact prep_same _ _ fun a b => (PrepRef.v73_apply (PrepReal.argsOf m c) a b).trans (PrepReal.at11 m c a b).symm

theorem prep_ref12 (m : (ℓ : Loc PrepIdeal.nD PrepIdeal.τ PrepIdeal.sig) → Buf (Elt Ideal) ℓ) (c : Dev PrepIdeal.nD) :
    (PrepReferenceIdeal.Read.val_main_v74 (F := Ideal) (m ((c : Thread PrepIdeal.nD PrepIdeal.τ).loc PrepIdeal.main_arg0)) (m ((c : Thread PrepIdeal.nD PrepIdeal.τ).loc PrepIdeal.main_arg1)) (m ((c : Thread PrepIdeal.nD PrepIdeal.τ).loc PrepIdeal.main_arg4)) (m ((c : Thread PrepIdeal.nD PrepIdeal.τ).loc PrepIdeal.main_arg5)) (m ((c : Thread PrepIdeal.nD PrepIdeal.τ).loc PrepIdeal.main_arg8)) : FVec Ideal PrepIdeal.S65664x512 .f32) = PrepReal.result12 m c := by
  exact prep_same _ _ fun a b => (PrepRef.v74_apply (PrepReal.argsOf m c) a b).trans (PrepReal.at12 m c a b).symm

theorem prep_ref13 (m : (ℓ : Loc PrepIdeal.nD PrepIdeal.τ PrepIdeal.sig) → Buf (Elt Ideal) ℓ) (c : Dev PrepIdeal.nD) :
    (PrepReferenceIdeal.Read.val_main_v75 (F := Ideal) (m ((c : Thread PrepIdeal.nD PrepIdeal.τ).loc PrepIdeal.main_arg0)) (m ((c : Thread PrepIdeal.nD PrepIdeal.τ).loc PrepIdeal.main_arg1)) : FVec Ideal PrepIdeal.S65664x512 .f32) = PrepReal.result13 m c := by
  exact prep_same _ _ fun a b => (PrepRef.v75_apply (PrepReal.argsOf m c) a b).trans (PrepReal.at13 m c a b).symm

theorem prep_ref14 (m : (ℓ : Loc PrepIdeal.nD PrepIdeal.τ PrepIdeal.sig) → Buf (Elt Ideal) ℓ) (c : Dev PrepIdeal.nD) :
    (PrepReferenceIdeal.Read.val_main_v76 (F := Ideal) (m ((c : Thread PrepIdeal.nD PrepIdeal.τ).loc PrepIdeal.main_arg0)) (m ((c : Thread PrepIdeal.nD PrepIdeal.τ).loc PrepIdeal.main_arg1)) (m ((c : Thread PrepIdeal.nD PrepIdeal.τ).loc PrepIdeal.main_arg7)) : FVec Ideal PrepIdeal.S65664x512 .f32) = PrepReal.result14 m c := by
  exact prep_same _ _ fun a b => (PrepRef.v76_apply (PrepReal.argsOf m c) a b).trans (PrepReal.at14 m c a b).symm

theorem prep_ref15 (m : (ℓ : Loc PrepIdeal.nD PrepIdeal.τ PrepIdeal.sig) → Buf (Elt Ideal) ℓ) (c : Dev PrepIdeal.nD) :
    (PrepReferenceIdeal.Read.val_main_v79 (F := Ideal) (m ((c : Thread PrepIdeal.nD PrepIdeal.τ).loc PrepIdeal.main_arg0)) (m ((c : Thread PrepIdeal.nD PrepIdeal.τ).loc PrepIdeal.main_arg1)) (m ((c : Thread PrepIdeal.nD PrepIdeal.τ).loc PrepIdeal.main_arg4)) (m ((c : Thread PrepIdeal.nD PrepIdeal.τ).loc PrepIdeal.main_arg5)) (m ((c : Thread PrepIdeal.nD PrepIdeal.τ).loc PrepIdeal.main_arg7)) : FVec Ideal PrepIdeal.S65664x512 .f32) = PrepReal.result15 m c := by
  exact prep_same _ _ fun a b => (PrepRef.v79_apply (PrepReal.argsOf m c) a b).trans (PrepReal.at15 m c a b).symm

theorem prep_ref16 (m : (ℓ : Loc PrepIdeal.nD PrepIdeal.τ PrepIdeal.sig) → Buf (Elt Ideal) ℓ) (c : Dev PrepIdeal.nD) :
    (PrepReferenceIdeal.Read.val_main_v80 (F := Ideal) (m ((c : Thread PrepIdeal.nD PrepIdeal.τ).loc PrepIdeal.main_arg0)) (m ((c : Thread PrepIdeal.nD PrepIdeal.τ).loc PrepIdeal.main_arg1)) (m ((c : Thread PrepIdeal.nD PrepIdeal.τ).loc PrepIdeal.main_arg6)) : FVec Ideal PrepIdeal.S65664x512 .f32) = PrepReal.result16 m c := by
  exact prep_same _ _ fun a b => (PrepRef.v80_apply (PrepReal.argsOf m c) a b).trans (PrepReal.at16 m c a b).symm

theorem prep_ref17 (m : (ℓ : Loc PrepIdeal.nD PrepIdeal.τ PrepIdeal.sig) → Buf (Elt Ideal) ℓ) (c : Dev PrepIdeal.nD) :
    (PrepReferenceIdeal.Read.val_main_v81 (F := Ideal) (m ((c : Thread PrepIdeal.nD PrepIdeal.τ).loc PrepIdeal.main_arg0)) (m ((c : Thread PrepIdeal.nD PrepIdeal.τ).loc PrepIdeal.main_arg1)) (m ((c : Thread PrepIdeal.nD PrepIdeal.τ).loc PrepIdeal.main_arg4)) (m ((c : Thread PrepIdeal.nD PrepIdeal.τ).loc PrepIdeal.main_arg5)) (m ((c : Thread PrepIdeal.nD PrepIdeal.τ).loc PrepIdeal.main_arg8)) (m ((c : Thread PrepIdeal.nD PrepIdeal.τ).loc PrepIdeal.main_arg9)) : FVec Ideal PrepIdeal.S65664x512 .f32) = PrepReal.result17 m c := by
  exact prep_same _ _ fun a b => (PrepRef.v81_apply (PrepReal.argsOf m c) a b).trans (PrepReal.at17 m c a b).symm

/-- Over the reals the preparation kernel computes its reference. -/
theorem prep_algebraic : Cert.algebraic_PrepIdeal_PrepReferenceIdeal := by
  intro m ρ m' ρ' _ hagree
  refine ⟨PrepReal.result10 m, PrepReal.result11 m, PrepReal.result12 m, PrepReal.result13 m, PrepReal.result14 m, PrepReal.result15 m, PrepReal.result16 m, PrepReal.result17 m,
    (θ_run PrepIdeal.defs _ _).mono
    (fun r hr c => by
      obtain ⟨h0, h1, h2, h3, h4, h5, h6, h7, hk⟩ := hr c
      exact ⟨h0.trans (PrepReal.final10 m c), h1.trans (PrepReal.final11 m c), h2.trans (PrepReal.final12 m c), h3.trans (PrepReal.final13 m c),
        h4.trans (PrepReal.final14 m c), h5.trans (PrepReal.final15 m c), h6.trans (PrepReal.final16 m c), h7.trans (PrepReal.final17 m c), hk⟩)
    (PrepIdeal.Value.run_blocks m ρ), ?_⟩
  refine (θ_run PrepReferenceIdeal.defs _ _).mono (fun r hr c => ?_) (PrepReferenceIdeal.Value.run (F := Ideal) m' ρ')
  obtain ⟨h0, h1, h2, h3, h4, h5, h6, h7, hk⟩ := hr c
  obtain ⟨a0, a1, a2, a3, a4, a5, a6, a7, a8, a9⟩ := hagree c
  refine ⟨h0.trans ?_, h1.trans ?_, h2.trans ?_, h3.trans ?_, h4.trans ?_, h5.trans ?_, h6.trans ?_, h7.trans ?_, hk⟩
  · refine Eq.trans (PrepReferenceIdeal.Read.val_main_v72_eq _ _) ?_
    rw [a0, a1]
    exact prep_ref10 m c
  · refine Eq.trans (PrepReferenceIdeal.Read.val_main_v73_eq m' c) ?_
    rw [a0, a1, a2, a3]
    exact prep_ref11 m c
  · refine Eq.trans (PrepReferenceIdeal.Read.val_main_v74_eq _ _ _ _ _) ?_
    rw [a0, a1, a4, a5, a8]
    exact prep_ref12 m c
  · refine Eq.trans (PrepReferenceIdeal.Read.val_main_v75_eq _ _) ?_
    rw [a0, a1]
    exact prep_ref13 m c
  · refine Eq.trans (PrepReferenceIdeal.Read.val_main_v76_eq _ _ _) ?_
    rw [a0, a1, a7]
    exact prep_ref14 m c
  · refine Eq.trans (PrepReferenceIdeal.Read.val_main_v79_eq m' c) ?_
    rw [a0, a1, a4, a5, a7]
    exact prep_ref15 m c
  · refine Eq.trans (PrepReferenceIdeal.Read.val_main_v80_eq _ _ _) ?_
    rw [a0, a1, a6]
    exact prep_ref16 m c
  · refine Eq.trans (PrepReferenceIdeal.Read.val_main_v81_eq m' c) ?_
    rw [a0, a1, a4, a5, a8, a9]
    exact prep_ref17 m c

end Cert.Layer

end
-- ==== Proof.lean ====
/- The certificate of seven calls of the two-layer network: the gated linear recurrence, the expert layer (rows through the
   experts that their blocks name), the input and output projections of the even and of the odd layer, and the preparation of
   the even layer's RWKV mixer. Each program runs and leaves its arguments as they were; over the reals each kernel computes
   its reference. The values are proved in Proof/LruClaim.lean, Proof/FfnValue.lean, Proof/InProj.lean, Proof/OutProj.lean,
   Proof/InProjOdd.lean, Proof/OutProjOdd.lean and Proof/PrepClaim.lean; here the claims are put together. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Loops
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Loops
public import proofs.«01_k».proof.Proof.Gen.LruIdeal.Frame
public import proofs.«01_k».proof.Proof.Gen.LruReferenceIdeal
public import proofs.«01_k».proof.Proof.Gen.LruReferenceIdeal.Run
public import proofs.«01_k».proof.Proof.Gen.LruReferenceIdeal.Step
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.InProjOdd
public import proofs.«01_k».proof.Proof.Gen.InProjOdd.Skeleton
public import proofs.«01_k».proof.Proof.Gen.InProjOdd.Launch
public import proofs.«01_k».proof.Proof.Gen.InProjOdd.Points
public import proofs.«01_k».proof.Proof.Gen.InProjOdd.Frame
public import proofs.«01_k».proof.Proof.Gen.InProjOddIdeal
public import proofs.«01_k».proof.Proof.Gen.InProjOddIdeal.Skeleton
public import proofs.«01_k».proof.Proof.Gen.InProjOddIdeal.Launch
public import proofs.«01_k».proof.Proof.Gen.InProjOddIdeal.Points
public import proofs.«01_k».proof.Proof.Gen.InProjOddIdeal.Frame
public import proofs.«01_k».proof.Proof.Gen.InProjOddReferenceIdeal
public import proofs.«01_k».proof.Proof.Gen.InProjOddIdeal.Value
public import proofs.«01_k».proof.Proof.Gen.InProjOddReferenceIdeal.Run
public import proofs.«01_k».proof.Proof.Gen.InProjOddReferenceIdeal.Read
public import proofs.«01_k».proof.Proof.Gen.OutProjOdd
public import proofs.«01_k».proof.Proof.Gen.OutProjOdd.Skeleton
public import proofs.«01_k».proof.Proof.Gen.OutProjOdd.Launch
public import proofs.«01_k».proof.Proof.Gen.OutProjOdd.Points
public import proofs.«01_k».proof.Proof.Gen.OutProjOdd.Frame
public import proofs.«01_k».proof.Proof.Gen.OutProjOddIdeal
public import proofs.«01_k».proof.Proof.Gen.OutProjOddIdeal.Skeleton
public import proofs.«01_k».proof.Proof.Gen.OutProjOddIdeal.Launch
public import proofs.«01_k».proof.Proof.Gen.OutProjOddIdeal.Points
public import proofs.«01_k».proof.Proof.Gen.OutProjOddIdeal.Frame
public import proofs.«01_k».proof.Proof.Gen.OutProjOddReferenceIdeal
public import proofs.«01_k».proof.Proof.Gen.OutProjOddIdeal.Value
public import proofs.«01_k».proof.Proof.Gen.OutProjOddReferenceIdeal.Run
public import proofs.«01_k».proof.Proof.Gen.OutProjOddReferenceIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepReferenceIdeal
public import proofs.«01_k».proof.Proof.Gen.PrepIdeal.Value
public import proofs.«01_k».proof.Proof.Gen.PrepReferenceIdeal.Run
public import proofs.«01_k».proof.Proof.Gen.PrepReferenceIdeal.Read
public import proofs.«01_k».proof.Proof.Gen.Pre_experts_exist
public import proofs.«01_k».proof.Proof.Gen.InProjIdeal.Value
public import proofs.«01_k».proof.Proof.Gen.OutProjIdeal.Value
public import proofs.«01_k».proof.Proof.Gen.FfnReferenceIdeal.Run
public import proofs.«01_k».proof.Proof.Gen.FfnReferenceIdeal.Read
public import proofs.«01_k».proof.Proof.Gen.InProjReferenceIdeal.Run
public import proofs.«01_k».proof.Proof.Gen.InProjReferenceIdeal.Read
public import proofs.«01_k».proof.Proof.Gen.OutProjReferenceIdeal.Run
public import proofs.«01_k».proof.Proof.Gen.OutProjReferenceIdeal.Read
public import Idealize.ShloMosaic.Adequacy
public import Idealize.ShloMosaic.Init
public import proofs.«01_k».proof.Proof.LruBodyFrame
public import proofs.«01_k».proof.Proof.LruClaim
public import proofs.«01_k».proof.Proof.FfnValue
public import proofs.«01_k».proof.Proof.InProj
public import proofs.«01_k».proof.Proof.OutProj
public import proofs.«01_k».proof.Proof.InProjOdd
public import proofs.«01_k».proof.Proof.OutProjOdd
public import proofs.«01_k».proof.Proof.PrepClaim

@[expose] public section

noncomputable section

namespace Cert.Proof

open Idealize.ShloMosaic Idealize.SL.Sem

theorem claim : Cert.Claim := ⟨Cert.Lru.Gen.facts, Cert.LruIdeal.Gen.facts, Cert.LruReferenceIdeal.Gen.facts, Cert.Ffn.Gen.facts, Cert.FfnIdeal.Gen.facts, Cert.FfnReferenceIdeal.Gen.facts, Cert.InProj.Gen.facts, Cert.InProjIdeal.Gen.facts, Cert.InProjReferenceIdeal.Gen.facts, Cert.OutProj.Gen.facts, Cert.OutProjIdeal.Gen.facts, Cert.OutProjReferenceIdeal.Gen.facts, Cert.InProjOdd.Gen.facts, Cert.InProjOddIdeal.Gen.facts, Cert.InProjOddReferenceIdeal.Gen.facts,
  Cert.OutProjOdd.Gen.facts, Cert.OutProjOddIdeal.Gen.facts, Cert.OutProjOddReferenceIdeal.Gen.facts, Cert.Prep.Gen.facts, Cert.PrepIdeal.Gen.facts, Cert.PrepReferenceIdeal.Gen.facts, Cert.Pre_experts_exist.Gen.facts,
  fun m ρ _ => Cert.Lru.Gen.frame m ρ, fun m ρ _ => Cert.LruIdeal.Gen.frame m ρ, Cert.Layer.lruReference_frame,
  Cert.Layer.ffn_frame, Cert.Layer.ffnIdeal_frame, fun m ρ _ => Cert.Layer.ffnReference_frame m ρ, fun m ρ _ => Cert.Layer.ffnReference_frame m ρ,
  fun m ρ _ => Cert.InProj.Gen.frame m ρ, fun m ρ _ => Cert.InProjIdeal.Gen.frame m ρ,
  fun m ρ _ => (θ_run Cert.InProjReferenceIdeal.defs _ _).mono
    (fun r h => ⟨fun c => (h c).2.2.2, sem_eq_zero_of_no_sems (by decide) r.2⟩) (Cert.InProjReferenceIdeal.Value.run (F := Ideal) m ρ),
  fun m ρ _ => Cert.OutProj.Gen.frame m ρ, fun m ρ _ => Cert.OutProjIdeal.Gen.frame m ρ,
  fun m ρ _ => (θ_run Cert.OutProjReferenceIdeal.defs _ _).mono
    (fun r h => ⟨fun c => (h c).2, sem_eq_zero_of_no_sems (by decide) r.2⟩) (Cert.OutProjReferenceIdeal.Value.run (F := Ideal) m ρ),
  fun m ρ _ => Cert.InProjOdd.Gen.frame m ρ, fun m ρ _ => Cert.InProjOddIdeal.Gen.frame m ρ,
  fun m ρ _ => (θ_run Cert.InProjOddReferenceIdeal.defs _ _).mono
    (fun r h => ⟨fun c => (h c).2.2.2.2.2, sem_eq_zero_of_no_sems (by decide) r.2⟩) (Cert.InProjOddReferenceIdeal.Value.run (F := Ideal) m ρ),
  fun m ρ _ => Cert.OutProjOdd.Gen.frame m ρ, fun m ρ _ => Cert.OutProjOddIdeal.Gen.frame m ρ,
  fun m ρ _ => (θ_run Cert.OutProjOddReferenceIdeal.defs _ _).mono
    (fun r h => ⟨fun c => (h c).2, sem_eq_zero_of_no_sems (by decide) r.2⟩) (Cert.OutProjOddReferenceIdeal.Value.run (F := Ideal) m ρ),
  fun m ρ _ => Cert.Prep.Gen.frame m ρ, fun m ρ _ => Cert.PrepIdeal.Gen.frame m ρ,
  fun m ρ _ => (θ_run Cert.PrepReferenceIdeal.defs _ _).mono
    (fun r h => ⟨fun c => (h c).2.2.2.2.2.2.2.2, sem_eq_zero_of_no_sems (by decide) r.2⟩) (Cert.PrepReferenceIdeal.Value.run (F := Ideal) m ρ),
  trivial, Cert.Layer.lru_algebraic, trivial, Cert.Layer.ffn_algebraic, trivial, Cert.Layer.inProj_algebraic, trivial, Cert.Layer.outProj_algebraic,
  trivial, Cert.Layer.inProjOdd_algebraic, trivial, Cert.Layer.outProjOdd_algebraic,
  trivial, Cert.Layer.prep_algebraic⟩

end Cert.Proof

end
